-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Ab (m : (ℓ : Loc Cert.Ab.nD Cert.Ab.τ Cert.Ab.sig) → Buf (Elt Bits) ℓ) : Prop :=
  True

def Pre_AbIdeal (m : (ℓ : Loc Cert.AbIdeal.nD Cert.AbIdeal.τ Cert.AbIdeal.sig) → Buf (Elt Ideal) ℓ) : Prop :=
  True

def Pre_AbRefIdeal (m : (ℓ : Loc Cert.AbRefIdeal.nD Cert.AbRefIdeal.τ Cert.AbRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_CrossO (m : (ℓ : Loc Cert.CrossO.nD Cert.CrossO.τ Cert.CrossO.sig) → Buf (Elt Bits) ℓ) : Prop :=
  True

def Pre_CrossOIdeal (m : (ℓ : Loc Cert.CrossOIdeal.nD Cert.CrossOIdeal.τ Cert.CrossOIdeal.sig) → Buf (Elt Ideal) ℓ) : Prop :=
  True

def Pre_CrossORefIdeal (m : (ℓ : Loc Cert.CrossORefIdeal.nD Cert.CrossORefIdeal.τ Cert.CrossORefIdeal.sig) → Buf (Elt Ideal) ℓ) : Prop :=
  True

def Pre_CrossQ (m : (ℓ : Loc Cert.CrossQ.nD Cert.CrossQ.τ Cert.CrossQ.sig) → Buf (Elt Bits) ℓ) : Prop :=
  True

def Pre_CrossQIdeal (m : (ℓ : Loc Cert.CrossQIdeal.nD Cert.CrossQIdeal.τ Cert.CrossQIdeal.sig) → Buf (Elt Ideal) ℓ) : Prop :=
  True

def Pre_CrossQRefIdeal (m : (ℓ : Loc Cert.CrossQRefIdeal.nD Cert.CrossQRefIdeal.τ Cert.CrossQRefIdeal.sig) → Buf (Elt Ideal) ℓ) : Prop :=
  True

def Pre_CrossKv (m : (ℓ : Loc Cert.CrossKv.nD Cert.CrossKv.τ Cert.CrossKv.sig) → Buf (Elt Bits) ℓ) : Prop :=
  True

def Pre_CrossKvIdeal (m : (ℓ : Loc Cert.CrossKvIdeal.nD Cert.CrossKvIdeal.τ Cert.CrossKvIdeal.sig) → Buf (Elt Ideal) ℓ) : Prop :=
  True

def Pre_CrossKvRefIdeal (m : (ℓ : Loc Cert.CrossKvRefIdeal.nD Cert.CrossKvRefIdeal.τ Cert.CrossKvRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_queries_and_keys_finite [hPre_queries_and_keys_finite : Cert.Pre_queries_and_keys_finite.Facts] (m : (ℓ : Loc Cert.CrossIdeal.nD Cert.CrossIdeal.τ Cert.CrossIdeal.sig) → Buf (Elt Ideal) ℓ) : Prop :=
  ∀ c : Dev Cert.CrossIdeal.nD,
    (Cert.Pre_queries_and_keys_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_queries_and_keys_finite [hPre_queries_and_keys_finite : Cert.Pre_queries_and_keys_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_queries_and_keys_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Moe [hPre_tables_in_range : Cert.Pre_tables_in_range.Facts] (m : (ℓ : Loc Cert.Moe.nD Cert.Moe.τ Cert.Moe.sig) → Buf (Elt Bits) ℓ) : Prop :=
  ∀ c : Dev Cert.Moe.nD,
    (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))).1 = (fun _ => 1#1)
    ∧ (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))).2.1 = (fun _ => 1#1)
    ∧ (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))).2.2 = (fun _ => 1#1)

def Pre_MoeIdeal [hPre_tables_in_range : Cert.Pre_tables_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).1 = (fun _ => 1#1)
    ∧ (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).2.1 = (fun _ => 1#1)
    ∧ (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).2.2 = (fun _ => 1#1)

def Pre_MoeRefIdeal [hPre_tables_in_range : Cert.Pre_tables_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tables_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).1 = (fun _ => 1#1)
    ∧ (Cert.Pre_tables_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).2.1 = (fun _ => 1#1)
    ∧ (Cert.Pre_tables_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).2.2 = (fun _ => 1#1)

def Pre_Combine [hPre_positions_in_range : Cert.Pre_positions_in_range.Facts] (m : (ℓ : Loc Cert.Combine.nD Cert.Combine.τ Cert.Combine.sig) → Buf (Elt Bits) ℓ) : Prop :=
  ∀ c : Dev Cert.Combine.nD,
    (Cert.Pre_positions_in_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4))) = (fun _ => 1#1)

def Pre_CombineIdeal [hPre_positions_in_range : Cert.Pre_positions_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_positions_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_CombineRefIdeal [hPre_positions_in_range : Cert.Pre_positions_in_range.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_positions_in_range.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4))) = (fun _ => 1#1)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1))
      ∧ r.2.sem = fun _ => 0)

def quiescent_Ab [hAb : Cert.Ab.Facts] : Prop :=
  ∀ (m : (ℓ : Loc Cert.Ab.nD Cert.Ab.τ Cert.Ab.sig) → Buf (Elt Bits) ℓ) (g : Dev Cert.Ab.nD → PrngReg), Pre_Ab m →
    θ_run (Cert.Ab.defs (F := Bits)) (onTc (τ := Cert.Ab.τ) (Cert.Ab.main (F := Bits))) ⟨m, fun _ => 0, g⟩ (fun r => (∀ c : Dev Cert.Ab.nD,
      r.2.mem ((c.tc : Thread Cert.Ab.nD Cert.Ab.τ).loc Cert.Ab.main_arg0) = m ((c.tc : Thread Cert.Ab.nD Cert.Ab.τ).loc Cert.Ab.main_arg0)
      ∧ r.2.mem ((c.tc : Thread Cert.Ab.nD Cert.Ab.τ).loc Cert.Ab.main_arg1) = m ((c.tc : Thread Cert.Ab.nD Cert.Ab.τ).loc Cert.Ab.main_arg1))
      ∧ r.2.sem = fun _ => 0)

def quiescent_AbIdeal [hAbIdeal : Cert.AbIdeal.Facts] : Prop :=
  ∀ (m : (ℓ : Loc Cert.AbIdeal.nD Cert.AbIdeal.τ Cert.AbIdeal.sig) → Buf (Elt Ideal) ℓ) (g : Dev Cert.AbIdeal.nD → PrngReg), Pre_AbIdeal m →
    θ_run (Cert.AbIdeal.defs (F := Ideal)) (onTc (τ := Cert.AbIdeal.τ) (Cert.AbIdeal.main (F := Ideal))) ⟨m, fun _ => 0, g⟩ (fun r => (∀ c : Dev Cert.AbIdeal.nD,
      r.2.mem ((c.tc : Thread Cert.AbIdeal.nD Cert.AbIdeal.τ).loc Cert.AbIdeal.main_arg0) = m ((c.tc : Thread Cert.AbIdeal.nD Cert.AbIdeal.τ).loc Cert.AbIdeal.main_arg0)
      ∧ r.2.mem ((c.tc : Thread Cert.AbIdeal.nD Cert.AbIdeal.τ).loc Cert.AbIdeal.main_arg1) = m ((c.tc : Thread Cert.AbIdeal.nD Cert.AbIdeal.τ).loc Cert.AbIdeal.main_arg1))
      ∧ r.2.sem = fun _ => 0)

def quiescent_AbRefIdeal [hAbRefIdeal : Cert.AbRefIdeal.Facts] : Prop :=
  ∀ (m : (ℓ : Loc Cert.AbRefIdeal.nD Cert.AbRefIdeal.τ Cert.AbRefIdeal.sig) → Buf (Elt Ideal) ℓ) (g : Dev Cert.AbRefIdeal.nD → PrngReg), Pre_AbRefIdeal m →
    θ_run (Cert.AbRefIdeal.defs (F := Ideal)) (onTc (τ := Cert.AbRefIdeal.τ) (Cert.AbRefIdeal.main (F := Ideal))) ⟨m, fun _ => 0, g⟩ (fun r => (∀ c : Dev Cert.AbRefIdeal.nD,
      r.2.mem ((c.tc : Thread Cert.AbRefIdeal.nD Cert.AbRefIdeal.τ).loc Cert.AbRefIdeal.main_arg0) = m ((c.tc : Thread Cert.AbRefIdeal.nD Cert.AbRefIdeal.τ).loc Cert.AbRefIdeal.main_arg0)
      ∧ r.2.mem ((c.tc : Thread Cert.AbRefIdeal.nD Cert.AbRefIdeal.τ).loc Cert.AbRefIdeal.main_arg1) = m ((c.tc : Thread Cert.AbRefIdeal.nD Cert.AbRefIdeal.τ).loc Cert.AbRefIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_CrossO [hCrossO : Cert.CrossO.Facts] : Prop :=
  ∀ (m : (ℓ : Loc Cert.CrossO.nD Cert.CrossO.τ Cert.CrossO.sig) → Buf (Elt Bits) ℓ) (g : Dev Cert.CrossO.nD → PrngReg), Pre_CrossO m →
    θ_run (Cert.CrossO.defs (F := Bits)) (onTc (τ := Cert.CrossO.τ) (Cert.CrossO.main (F := Bits))) ⟨m, fun _ => 0, g⟩ (fun r => (∀ c : Dev Cert.CrossO.nD,
      r.2.mem ((c.tc : Thread Cert.CrossO.nD Cert.CrossO.τ).loc Cert.CrossO.main_arg0) = m ((c.tc : Thread Cert.CrossO.nD Cert.CrossO.τ).loc Cert.CrossO.main_arg0)
      ∧ r.2.mem ((c.tc : Thread Cert.CrossO.nD Cert.CrossO.τ).loc Cert.CrossO.main_arg1) = m ((c.tc : Thread Cert.CrossO.nD Cert.CrossO.τ).loc Cert.CrossO.main_arg1)
      ∧ r.2.mem ((c.tc : Thread Cert.CrossO.nD Cert.CrossO.τ).loc Cert.CrossO.main_arg2) = m ((c.tc : Thread Cert.CrossO.nD Cert.CrossO.τ).loc Cert.CrossO.main_arg2))
      ∧ r.2.sem = fun _ => 0)

def quiescent_CrossOIdeal [hCrossOIdeal : Cert.CrossOIdeal.Facts] : Prop :=
  ∀ (m : (ℓ : Loc Cert.CrossOIdeal.nD Cert.CrossOIdeal.τ Cert.CrossOIdeal.sig) → Buf (Elt Ideal) ℓ) (g : Dev Cert.CrossOIdeal.nD → PrngReg), Pre_CrossOIdeal m →
    θ_run (Cert.CrossOIdeal.defs (F := Ideal)) (onTc (τ := Cert.CrossOIdeal.τ) (Cert.CrossOIdeal.main (F := Ideal))) ⟨m, fun _ => 0, g⟩ (fun r => (∀ c : Dev Cert.CrossOIdeal.nD,
      r.2.mem ((c.tc : Thread Cert.CrossOIdeal.nD Cert.CrossOIdeal.τ).loc Cert.CrossOIdeal.main_arg0) = m ((c.tc : Thread Cert.CrossOIdeal.nD Cert.CrossOIdeal.τ).loc Cert.CrossOIdeal.main_arg0)
      ∧ r.2.mem ((c.tc : Thread Cert.CrossOIdeal.nD Cert.CrossOIdeal.τ).loc Cert.CrossOIdeal.main_arg1) = m ((c.tc : Thread Cert.CrossOIdeal.nD Cert.CrossOIdeal.τ).loc Cert.CrossOIdeal.main_arg1)
      ∧ r.2.mem ((c.tc : Thread Cert.CrossOIdeal.nD Cert.CrossOIdeal.τ).loc Cert.CrossOIdeal.main_arg2) = m ((c.tc : Thread Cert.CrossOIdeal.nD Cert.CrossOIdeal.τ).loc Cert.CrossOIdeal.main_arg2))
      ∧ r.2.sem = fun _ => 0)

def quiescent_CrossORefIdeal [hCrossORefIdeal : Cert.CrossORefIdeal.Facts] : Prop :=
  ∀ (m : (ℓ : Loc Cert.CrossORefIdeal.nD Cert.CrossORefIdeal.τ Cert.CrossORefIdeal.sig) → Buf (Elt Ideal) ℓ) (g : Dev Cert.CrossORefIdeal.nD → PrngReg), Pre_CrossORefIdeal m →
    θ_run (Cert.CrossORefIdeal.defs (F := Ideal)) (onTc (τ := Cert.CrossORefIdeal.τ) (Cert.CrossORefIdeal.main (F := Ideal))) ⟨m, fun _ => 0, g⟩ (fun r => (∀ c : Dev Cert.CrossORefIdeal.nD,
      r.2.mem ((c.tc : Thread Cert.CrossORefIdeal.nD Cert.CrossORefIdeal.τ).loc Cert.CrossORefIdeal.main_arg0) = m ((c.tc : Thread Cert.CrossORefIdeal.nD Cert.CrossORefIdeal.τ).loc Cert.CrossORefIdeal.main_arg0)
      ∧ r.2.mem ((c.tc : Thread Cert.CrossORefIdeal.nD Cert.CrossORefIdeal.τ).loc Cert.CrossORefIdeal.main_arg1) = m ((c.tc : Thread Cert.CrossORefIdeal.nD Cert.CrossORefIdeal.τ).loc Cert.CrossORefIdeal.main_arg1)
      ∧ r.2.mem ((c.tc : Thread Cert.CrossORefIdeal.nD Cert.CrossORefIdeal.τ).loc Cert.CrossORefIdeal.main_arg2) = m ((c.tc : Thread Cert.CrossORefIdeal.nD Cert.CrossORefIdeal.τ).loc Cert.CrossORefIdeal.main_arg2))
      ∧ r.2.sem = fun _ => 0)

def quiescent_CrossQ [hCrossQ : Cert.CrossQ.Facts] : Prop :=
  ∀ (m : (ℓ : Loc Cert.CrossQ.nD Cert.CrossQ.τ Cert.CrossQ.sig) → Buf (Elt Bits) ℓ) (g : Dev Cert.CrossQ.nD → PrngReg), Pre_CrossQ m →
    θ_run (Cert.CrossQ.defs (F := Bits)) (onTc (τ := Cert.CrossQ.τ) (Cert.CrossQ.main (F := Bits))) ⟨m, fun _ => 0, g⟩ (fun r => (∀ c : Dev Cert.CrossQ.nD,
      r.2.mem ((c.tc : Thread Cert.CrossQ.nD Cert.CrossQ.τ).loc Cert.CrossQ.main_arg0) = m ((c.tc : Thread Cert.CrossQ.nD Cert.CrossQ.τ).loc Cert.CrossQ.main_arg0)
      ∧ r.2.mem ((c.tc : Thread Cert.CrossQ.nD Cert.CrossQ.τ).loc Cert.CrossQ.main_arg1) = m ((c.tc : Thread Cert.CrossQ.nD Cert.CrossQ.τ).loc Cert.CrossQ.main_arg1))
      ∧ r.2.sem = fun _ => 0)

def quiescent_CrossQIdeal [hCrossQIdeal : Cert.CrossQIdeal.Facts] : Prop :=
  ∀ (m : (ℓ : Loc Cert.CrossQIdeal.nD Cert.CrossQIdeal.τ Cert.CrossQIdeal.sig) → Buf (Elt Ideal) ℓ) (g : Dev Cert.CrossQIdeal.nD → PrngReg), Pre_CrossQIdeal m →
    θ_run (Cert.CrossQIdeal.defs (F := Ideal)) (onTc (τ := Cert.CrossQIdeal.τ) (Cert.CrossQIdeal.main (F := Ideal))) ⟨m, fun _ => 0, g⟩ (fun r => (∀ c : Dev Cert.CrossQIdeal.nD,
      r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
      ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1))
      ∧ r.2.sem = fun _ => 0)

def quiescent_CrossQRefIdeal [hCrossQRefIdeal : Cert.CrossQRefIdeal.Facts] : Prop :=
  ∀ (m : (ℓ : Loc Cert.CrossQRefIdeal.nD Cert.CrossQRefIdeal.τ Cert.CrossQRefIdeal.sig) → Buf (Elt Ideal) ℓ) (g : Dev Cert.CrossQRefIdeal.nD → PrngReg), Pre_CrossQRefIdeal m →
    θ_run (Cert.CrossQRefIdeal.defs (F := Ideal)) (onTc (τ := Cert.CrossQRefIdeal.τ) (Cert.CrossQRefIdeal.main (F := Ideal))) ⟨m, fun _ => 0, g⟩ (fun r => (∀ c : Dev Cert.CrossQRefIdeal.nD,
      r.2.mem ((c.tc : Thread Cert.CrossQRefIdeal.nD Cert.CrossQRefIdeal.τ).loc Cert.CrossQRefIdeal.main_arg0) = m ((c.tc : Thread Cert.CrossQRefIdeal.nD Cert.CrossQRefIdeal.τ).loc Cert.CrossQRefIdeal.main_arg0)
      ∧ r.2.mem ((c.tc : Thread Cert.CrossQRefIdeal.nD Cert.CrossQRefIdeal.τ).loc Cert.CrossQRefIdeal.main_arg1) = m ((c.tc : Thread Cert.CrossQRefIdeal.nD Cert.CrossQRefIdeal.τ).loc Cert.CrossQRefIdeal.main_arg1))
      ∧ r.2.sem = fun _ => 0)

def quiescent_CrossKv [hCrossKv : Cert.CrossKv.Facts] : Prop :=
  ∀ (m : (ℓ : Loc Cert.CrossKv.nD Cert.CrossKv.τ Cert.CrossKv.sig) → Buf (Elt Bits) ℓ) (g : Dev Cert.CrossKv.nD → PrngReg), Pre_CrossKv m →
    θ_run (Cert.CrossKv.defs (F := Bits)) (onTc (τ := Cert.CrossKv.τ) (Cert.CrossKv.main (F := Bits))) ⟨m, fun _ => 0, g⟩ (fun r => (∀ c : Dev Cert.CrossKv.nD,
      r.2.mem ((c.tc : Thread Cert.CrossKv.nD Cert.CrossKv.τ).loc Cert.CrossKv.main_arg0) = m ((c.tc : Thread Cert.CrossKv.nD Cert.CrossKv.τ).loc Cert.CrossKv.main_arg0)
      ∧ r.2.mem ((c.tc : Thread Cert.CrossKv.nD Cert.CrossKv.τ).loc Cert.CrossKv.main_arg1) = m ((c.tc : Thread Cert.CrossKv.nD Cert.CrossKv.τ).loc Cert.CrossKv.main_arg1))
      ∧ r.2.sem = fun _ => 0)

def quiescent_CrossKvIdeal [hCrossKvIdeal : Cert.CrossKvIdeal.Facts] : Prop :=
  ∀ (m : (ℓ : Loc Cert.CrossKvIdeal.nD Cert.CrossKvIdeal.τ Cert.CrossKvIdeal.sig) → Buf (Elt Ideal) ℓ) (g : Dev Cert.CrossKvIdeal.nD → PrngReg), Pre_CrossKvIdeal m →
    θ_run (Cert.CrossKvIdeal.defs (F := Ideal)) (onTc (τ := Cert.CrossKvIdeal.τ) (Cert.CrossKvIdeal.main (F := Ideal))) ⟨m, fun _ => 0, g⟩ (fun r => (∀ c : Dev Cert.CrossKvIdeal.nD,
      r.2.mem ((c.tc : Thread Cert.CrossKvIdeal.nD Cert.CrossKvIdeal.τ).loc Cert.CrossKvIdeal.main_arg0) = m ((c.tc : Thread Cert.CrossKvIdeal.nD Cert.CrossKvIdeal.τ).loc Cert.CrossKvIdeal.main_arg0)
      ∧ r.2.mem ((c.tc : Thread Cert.CrossKvIdeal.nD Cert.CrossKvIdeal.τ).loc Cert.CrossKvIdeal.main_arg1) = m ((c.tc : Thread Cert.CrossKvIdeal.nD Cert.CrossKvIdeal.τ).loc Cert.CrossKvIdeal.main_arg1))
      ∧ r.2.sem = fun _ => 0)

def quiescent_CrossKvRefIdeal [hCrossKvRefIdeal : Cert.CrossKvRefIdeal.Facts] : Prop :=
  ∀ (m : (ℓ : Loc Cert.CrossKvRefIdeal.nD Cert.CrossKvRefIdeal.τ Cert.CrossKvRefIdeal.sig) → Buf (Elt Ideal) ℓ) (g : Dev Cert.CrossKvRefIdeal.nD → PrngReg), Pre_CrossKvRefIdeal m →
    θ_run (Cert.CrossKvRefIdeal.defs (F := Ideal)) (onTc (τ := Cert.CrossKvRefIdeal.τ) (Cert.CrossKvRefIdeal.main (F := Ideal))) ⟨m, fun _ => 0, g⟩ (fun r => (∀ c : Dev Cert.CrossKvRefIdeal.nD,
      r.2.mem ((c.tc : Thread Cert.CrossKvRefIdeal.nD Cert.CrossKvRefIdeal.τ).loc Cert.CrossKvRefIdeal.main_arg0) = m ((c.tc : Thread Cert.CrossKvRefIdeal.nD Cert.CrossKvRefIdeal.τ).loc Cert.CrossKvRefIdeal.main_arg0)
      ∧ r.2.mem ((c.tc : Thread Cert.CrossKvRefIdeal.nD Cert.CrossKvRefIdeal.τ).loc Cert.CrossKvRefIdeal.main_arg1) = m ((c.tc : Thread Cert.CrossKvRefIdeal.nD Cert.CrossKvRefIdeal.τ).loc Cert.CrossKvRefIdeal.main_arg1))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ r.2.sem = fun _ => 0)

def quiescent_CrossIdeal_pre_queries_and_keys_finite [hCrossIdeal : Cert.CrossIdeal.Facts] [hPre_queries_and_keys_finite : Cert.Pre_queries_and_keys_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_queries_and_keys_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1))
      ∧ r.2.sem = fun _ => 0)

def quiescent_CrossRefIdeal_pre_queries_and_keys_finite [hCrossRefIdeal : Cert.CrossRefIdeal.Facts] [hPre_queries_and_keys_finite : Cert.Pre_queries_and_keys_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_queries_and_keys_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Moe [hMoe : Cert.Moe.Facts] [hPre_tables_in_range : Cert.Pre_tables_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] [hPre_tables_in_range : Cert.Pre_tables_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Combine [hCombine : Cert.Combine.Facts] [hPre_positions_in_range : Cert.Pre_positions_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] [hPre_positions_in_range : Cert.Pre_positions_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] [hPre_positions_in_range : Cert.Pre_positions_in_range.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)) →
    ∃ (v0 : (c : Dev Cert.TailIdeal.nD) → Buf (Elt Ideal) ((c.tc : Thread Cert.TailIdeal.nD Cert.TailIdeal.τ).loc Cert.TailIdeal.main_v1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v1) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v4) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1))

def preserves_Ab_AbIdeal : Prop :=
  True

def algebraic_AbIdeal_AbRefIdeal [hAbIdeal : Cert.AbIdeal.Facts] [hAbRefIdeal : Cert.AbRefIdeal.Facts] : Prop :=
  ∀ (m : (ℓ : Loc Cert.AbIdeal.nD Cert.AbIdeal.τ Cert.AbIdeal.sig) → Buf (Elt Ideal) ℓ) (g : Dev Cert.AbIdeal.nD → PrngReg)
    (m' : (ℓ : Loc Cert.AbRefIdeal.nD Cert.AbRefIdeal.τ Cert.AbRefIdeal.sig) → Buf (Elt Ideal) ℓ) (g' : Dev Cert.AbRefIdeal.nD → PrngReg), Pre_AbIdeal m →
    (∀ c : Dev Cert.AbIdeal.nD,
      m' ((c.tc : Thread Cert.AbRefIdeal.nD Cert.AbRefIdeal.τ).loc Cert.AbRefIdeal.main_arg0) = m ((c.tc : Thread Cert.AbIdeal.nD Cert.AbIdeal.τ).loc Cert.AbIdeal.main_arg0)
      ∧ m' ((c.tc : Thread Cert.AbRefIdeal.nD Cert.AbRefIdeal.τ).loc Cert.AbRefIdeal.main_arg1) = m ((c.tc : Thread Cert.AbIdeal.nD Cert.AbIdeal.τ).loc Cert.AbIdeal.main_arg1)) →
    ∃ (v0 : (c : Dev Cert.AbIdeal.nD) → Buf (Elt Ideal) ((c.tc : Thread Cert.AbIdeal.nD Cert.AbIdeal.τ).loc Cert.AbIdeal.main_v1)),
      θ_run (Cert.AbIdeal.defs (F := Ideal)) (onTc (τ := Cert.AbIdeal.τ) (Cert.AbIdeal.main (F := Ideal))) ⟨m, fun _ => 0, g⟩ (fun r => ∀ c : Dev Cert.AbIdeal.nD,
          r.2.mem ((c.tc : Thread Cert.AbIdeal.nD Cert.AbIdeal.τ).loc Cert.AbIdeal.main_v1) = v0 c
          ∧ r.2.mem ((c.tc : Thread Cert.AbIdeal.nD Cert.AbIdeal.τ).loc Cert.AbIdeal.main_arg0) = m ((c.tc : Thread Cert.AbIdeal.nD Cert.AbIdeal.τ).loc Cert.AbIdeal.main_arg0)
          ∧ r.2.mem ((c.tc : Thread Cert.AbIdeal.nD Cert.AbIdeal.τ).loc Cert.AbIdeal.main_arg1) = m ((c.tc : Thread Cert.AbIdeal.nD Cert.AbIdeal.τ).loc Cert.AbIdeal.main_arg1))
      ∧ θ_run (Cert.AbRefIdeal.defs (F := Ideal)) (onTc (τ := Cert.AbRefIdeal.τ) (Cert.AbRefIdeal.main (F := Ideal))) ⟨m', fun _ => 0, g'⟩ (fun r => ∀ c : Dev Cert.AbRefIdeal.nD,
          r.2.mem ((c.tc : Thread Cert.AbRefIdeal.nD Cert.AbRefIdeal.τ).loc Cert.AbRefIdeal.main_v4) = v0 c
          ∧ r.2.mem ((c.tc : Thread Cert.AbRefIdeal.nD Cert.AbRefIdeal.τ).loc Cert.AbRefIdeal.main_arg0) = m' ((c.tc : Thread Cert.AbRefIdeal.nD Cert.AbRefIdeal.τ).loc Cert.AbRefIdeal.main_arg0)
          ∧ r.2.mem ((c.tc : Thread Cert.AbRefIdeal.nD Cert.AbRefIdeal.τ).loc Cert.AbRefIdeal.main_arg1) = m' ((c.tc : Thread Cert.AbRefIdeal.nD Cert.AbRefIdeal.τ).loc Cert.AbRefIdeal.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)) →
    ∃ (v0 : (c : Dev Cert.SmallIdeal.nD) → Buf (Elt Ideal) ((c.tc : Thread Cert.SmallIdeal.nD Cert.SmallIdeal.τ).loc Cert.SmallIdeal.main_v1)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v4) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v9) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_CrossO_CrossOIdeal : Prop :=
  True

def algebraic_CrossOIdeal_CrossORefIdeal [hCrossOIdeal : Cert.CrossOIdeal.Facts] [hCrossORefIdeal : Cert.CrossORefIdeal.Facts] : Prop :=
  ∀ (m : (ℓ : Loc Cert.CrossOIdeal.nD Cert.CrossOIdeal.τ Cert.CrossOIdeal.sig) → Buf (Elt Ideal) ℓ) (g : Dev Cert.CrossOIdeal.nD → PrngReg)
    (m' : (ℓ : Loc Cert.CrossORefIdeal.nD Cert.CrossORefIdeal.τ Cert.CrossORefIdeal.sig) → Buf (Elt Ideal) ℓ) (g' : Dev Cert.CrossORefIdeal.nD → PrngReg), Pre_CrossOIdeal m →
    (∀ c : Dev Cert.CrossOIdeal.nD,
      m' ((c.tc : Thread Cert.CrossORefIdeal.nD Cert.CrossORefIdeal.τ).loc Cert.CrossORefIdeal.main_arg0) = m ((c.tc : Thread Cert.CrossOIdeal.nD Cert.CrossOIdeal.τ).loc Cert.CrossOIdeal.main_arg0)
      ∧ m' ((c.tc : Thread Cert.CrossORefIdeal.nD Cert.CrossORefIdeal.τ).loc Cert.CrossORefIdeal.main_arg1) = m ((c.tc : Thread Cert.CrossOIdeal.nD Cert.CrossOIdeal.τ).loc Cert.CrossOIdeal.main_arg1)
      ∧ m' ((c.tc : Thread Cert.CrossORefIdeal.nD Cert.CrossORefIdeal.τ).loc Cert.CrossORefIdeal.main_arg2) = m ((c.tc : Thread Cert.CrossOIdeal.nD Cert.CrossOIdeal.τ).loc Cert.CrossOIdeal.main_arg2)) →
    ∃ (v0 : (c : Dev Cert.CrossOIdeal.nD) → Buf (Elt Ideal) ((c.tc : Thread Cert.CrossOIdeal.nD Cert.CrossOIdeal.τ).loc Cert.CrossOIdeal.main_v0)),
      θ_run (Cert.CrossOIdeal.defs (F := Ideal)) (onTc (τ := Cert.CrossOIdeal.τ) (Cert.CrossOIdeal.main (F := Ideal))) ⟨m, fun _ => 0, g⟩ (fun r => ∀ c : Dev Cert.CrossOIdeal.nD,
          r.2.mem ((c.tc : Thread Cert.CrossOIdeal.nD Cert.CrossOIdeal.τ).loc Cert.CrossOIdeal.main_v0) = v0 c
          ∧ r.2.mem ((c.tc : Thread Cert.CrossOIdeal.nD Cert.CrossOIdeal.τ).loc Cert.CrossOIdeal.main_arg0) = m ((c.tc : Thread Cert.CrossOIdeal.nD Cert.CrossOIdeal.τ).loc Cert.CrossOIdeal.main_arg0)
          ∧ r.2.mem ((c.tc : Thread Cert.CrossOIdeal.nD Cert.CrossOIdeal.τ).loc Cert.CrossOIdeal.main_arg1) = m ((c.tc : Thread Cert.CrossOIdeal.nD Cert.CrossOIdeal.τ).loc Cert.CrossOIdeal.main_arg1)
          ∧ r.2.mem ((c.tc : Thread Cert.CrossOIdeal.nD Cert.CrossOIdeal.τ).loc Cert.CrossOIdeal.main_arg2) = m ((c.tc : Thread Cert.CrossOIdeal.nD Cert.CrossOIdeal.τ).loc Cert.CrossOIdeal.main_arg2))
      ∧ θ_run (Cert.CrossORefIdeal.defs (F := Ideal)) (onTc (τ := Cert.CrossORefIdeal.τ) (Cert.CrossORefIdeal.main (F := Ideal))) ⟨m', fun _ => 0, g'⟩ (fun r => ∀ c : Dev Cert.CrossORefIdeal.nD,
          r.2.mem ((c.tc : Thread Cert.CrossORefIdeal.nD Cert.CrossORefIdeal.τ).loc Cert.CrossORefIdeal.main_v4) = v0 c
          ∧ r.2.mem ((c.tc : Thread Cert.CrossORefIdeal.nD Cert.CrossORefIdeal.τ).loc Cert.CrossORefIdeal.main_arg0) = m' ((c.tc : Thread Cert.CrossORefIdeal.nD Cert.CrossORefIdeal.τ).loc Cert.CrossORefIdeal.main_arg0)
          ∧ r.2.mem ((c.tc : Thread Cert.CrossORefIdeal.nD Cert.CrossORefIdeal.τ).loc Cert.CrossORefIdeal.main_arg1) = m' ((c.tc : Thread Cert.CrossORefIdeal.nD Cert.CrossORefIdeal.τ).loc Cert.CrossORefIdeal.main_arg1)
          ∧ r.2.mem ((c.tc : Thread Cert.CrossORefIdeal.nD Cert.CrossORefIdeal.τ).loc Cert.CrossORefIdeal.main_arg2) = m' ((c.tc : Thread Cert.CrossORefIdeal.nD Cert.CrossORefIdeal.τ).loc Cert.CrossORefIdeal.main_arg2))

def preserves_CrossQ_CrossQIdeal : Prop :=
  True

def algebraic_CrossQIdeal_CrossQRefIdeal [hCrossQIdeal : Cert.CrossQIdeal.Facts] [hCrossQRefIdeal : Cert.CrossQRefIdeal.Facts] : Prop :=
  ∀ (m : (ℓ : Loc Cert.CrossQIdeal.nD Cert.CrossQIdeal.τ Cert.CrossQIdeal.sig) → Buf (Elt Ideal) ℓ) (g : Dev Cert.CrossQIdeal.nD → PrngReg)
    (m' : (ℓ : Loc Cert.CrossQRefIdeal.nD Cert.CrossQRefIdeal.τ Cert.CrossQRefIdeal.sig) → Buf (Elt Ideal) ℓ) (g' : Dev Cert.CrossQRefIdeal.nD → PrngReg), Pre_CrossQIdeal m →
    (∀ c : Dev Cert.CrossQIdeal.nD,
      m' ((c.tc : Thread Cert.CrossQRefIdeal.nD Cert.CrossQRefIdeal.τ).loc Cert.CrossQRefIdeal.main_arg0) = m ((c.tc : Thread Cert.CrossQIdeal.nD Cert.CrossQIdeal.τ).loc Cert.CrossQIdeal.main_arg0)
      ∧ m' ((c.tc : Thread Cert.CrossQRefIdeal.nD Cert.CrossQRefIdeal.τ).loc Cert.CrossQRefIdeal.main_arg1) = m ((c.tc : Thread Cert.CrossQIdeal.nD Cert.CrossQIdeal.τ).loc Cert.CrossQIdeal.main_arg1)) →
    ∃ (v0 : (c : Dev Cert.CrossQIdeal.nD) → Buf (Elt Ideal) ((c.tc : Thread Cert.CrossQIdeal.nD Cert.CrossQIdeal.τ).loc Cert.CrossQIdeal.main_v0)),
      θ_run (Cert.CrossQIdeal.defs (F := Ideal)) (onTc (τ := Cert.CrossQIdeal.τ) (Cert.CrossQIdeal.main (F := Ideal))) ⟨m, fun _ => 0, g⟩ (fun r => ∀ c : Dev Cert.CrossQIdeal.nD,
          r.2.mem ((c.tc : Thread Cert.CrossQIdeal.nD Cert.CrossQIdeal.τ).loc Cert.CrossQIdeal.main_v0) = v0 c
          ∧ r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
          ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1))
      ∧ θ_run (Cert.CrossQRefIdeal.defs (F := Ideal)) (onTc (τ := Cert.CrossQRefIdeal.τ) (Cert.CrossQRefIdeal.main (F := Ideal))) ⟨m', fun _ => 0, g'⟩ (fun r => ∀ c : Dev Cert.CrossQRefIdeal.nD,
          r.2.mem ((c.tc : Thread Cert.CrossQRefIdeal.nD Cert.CrossQRefIdeal.τ).loc Cert.CrossQRefIdeal.main_v4) = v0 c
          ∧ r.2.mem ((c.tc : Thread Cert.CrossQRefIdeal.nD Cert.CrossQRefIdeal.τ).loc Cert.CrossQRefIdeal.main_arg0) = m' ((c.tc : Thread Cert.CrossQRefIdeal.nD Cert.CrossQRefIdeal.τ).loc Cert.CrossQRefIdeal.main_arg0)
          ∧ r.2.mem ((c.tc : Thread Cert.CrossQRefIdeal.nD Cert.CrossQRefIdeal.τ).loc Cert.CrossQRefIdeal.main_arg1) = m' ((c.tc : Thread Cert.CrossQRefIdeal.nD Cert.CrossQRefIdeal.τ).loc Cert.CrossQRefIdeal.main_arg1))

def preserves_CrossKv_CrossKvIdeal : Prop :=
  True

def algebraic_CrossKvIdeal_CrossKvRefIdeal [hCrossKvIdeal : Cert.CrossKvIdeal.Facts] [hCrossKvRefIdeal : Cert.CrossKvRefIdeal.Facts] : Prop :=
  ∀ (m : (ℓ : Loc Cert.CrossKvIdeal.nD Cert.CrossKvIdeal.τ Cert.CrossKvIdeal.sig) → Buf (Elt Ideal) ℓ) (g : Dev Cert.CrossKvIdeal.nD → PrngReg)
    (m' : (ℓ : Loc Cert.CrossKvRefIdeal.nD Cert.CrossKvRefIdeal.τ Cert.CrossKvRefIdeal.sig) → Buf (Elt Ideal) ℓ) (g' : Dev Cert.CrossKvRefIdeal.nD → PrngReg), Pre_CrossKvIdeal m →
    (∀ c : Dev Cert.CrossKvIdeal.nD,
      m' ((c.tc : Thread Cert.CrossKvRefIdeal.nD Cert.CrossKvRefIdeal.τ).loc Cert.CrossKvRefIdeal.main_arg0) = m ((c.tc : Thread Cert.CrossKvIdeal.nD Cert.CrossKvIdeal.τ).loc Cert.CrossKvIdeal.main_arg0)
      ∧ m' ((c.tc : Thread Cert.CrossKvRefIdeal.nD Cert.CrossKvRefIdeal.τ).loc Cert.CrossKvRefIdeal.main_arg1) = m ((c.tc : Thread Cert.CrossKvIdeal.nD Cert.CrossKvIdeal.τ).loc Cert.CrossKvIdeal.main_arg1)) →
    ∃ (v0 : (c : Dev Cert.CrossKvIdeal.nD) → Buf (Elt Ideal) ((c.tc : Thread Cert.CrossKvIdeal.nD Cert.CrossKvIdeal.τ).loc Cert.CrossKvIdeal.main_v0)),
      θ_run (Cert.CrossKvIdeal.defs (F := Ideal)) (onTc (τ := Cert.CrossKvIdeal.τ) (Cert.CrossKvIdeal.main (F := Ideal))) ⟨m, fun _ => 0, g⟩ (fun r => ∀ c : Dev Cert.CrossKvIdeal.nD,
          r.2.mem ((c.tc : Thread Cert.CrossKvIdeal.nD Cert.CrossKvIdeal.τ).loc Cert.CrossKvIdeal.main_v0) = v0 c
          ∧ r.2.mem ((c.tc : Thread Cert.CrossKvIdeal.nD Cert.CrossKvIdeal.τ).loc Cert.CrossKvIdeal.main_arg0) = m ((c.tc : Thread Cert.CrossKvIdeal.nD Cert.CrossKvIdeal.τ).loc Cert.CrossKvIdeal.main_arg0)
          ∧ r.2.mem ((c.tc : Thread Cert.CrossKvIdeal.nD Cert.CrossKvIdeal.τ).loc Cert.CrossKvIdeal.main_arg1) = m ((c.tc : Thread Cert.CrossKvIdeal.nD Cert.CrossKvIdeal.τ).loc Cert.CrossKvIdeal.main_arg1))
      ∧ θ_run (Cert.CrossKvRefIdeal.defs (F := Ideal)) (onTc (τ := Cert.CrossKvRefIdeal.τ) (Cert.CrossKvRefIdeal.main (F := Ideal))) ⟨m', fun _ => 0, g'⟩ (fun r => ∀ c : Dev Cert.CrossKvRefIdeal.nD,
          r.2.mem ((c.tc : Thread Cert.CrossKvRefIdeal.nD Cert.CrossKvRefIdeal.τ).loc Cert.CrossKvRefIdeal.main_v4) = v0 c
          ∧ r.2.mem ((c.tc : Thread Cert.CrossKvRefIdeal.nD Cert.CrossKvRefIdeal.τ).loc Cert.CrossKvRefIdeal.main_arg0) = m' ((c.tc : Thread Cert.CrossKvRefIdeal.nD Cert.CrossKvRefIdeal.τ).loc Cert.CrossKvRefIdeal.main_arg0)
          ∧ r.2.mem ((c.tc : Thread Cert.CrossKvRefIdeal.nD Cert.CrossKvRefIdeal.τ).loc Cert.CrossKvRefIdeal.main_arg1) = m' ((c.tc : Thread Cert.CrossKvRefIdeal.nD Cert.CrossKvRefIdeal.τ).loc Cert.CrossKvRefIdeal.main_arg1))

def preserves_Cross_CrossIdeal : Prop :=
  True

def algebraic_CrossIdeal_CrossRefIdeal_pre_queries_and_keys_finite [hCrossIdeal : Cert.CrossIdeal.Facts] [hCrossRefIdeal : Cert.CrossRefIdeal.Facts] [hPre_queries_and_keys_finite : Cert.Pre_queries_and_keys_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_queries_and_keys_finite m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v30) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Moe_MoeIdeal : Prop :=
  True

def algebraic_MoeIdeal_MoeRefIdeal_on_rows_in_use [hMoeIdeal : Cert.MoeIdeal.Facts] [hMoeRefIdeal : Cert.MoeRefIdeal.Facts] [hPre_tables_in_range : Cert.Pre_tables_in_range.Facts] [hOn_rows_in_use : Cert.On_rows_in_use.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          (∀ i : (⟨2, ![24576, 2048]⟩ : Shape).Idx, (Cert.On_rows_in_use.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) i = 1#1 → r.2.mem ((c.tc : Thread Cert.MoeIdeal.nD Cert.MoeIdeal.τ).loc Cert.MoeIdeal.main_v0) i = v0 c i)
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          (∀ i : (⟨2, ![24576, 2048]⟩ : Shape).Idx, (Cert.On_rows_in_use.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) i = 1#1 → r.2.mem ((c.tc : Thread Cert.MoeRefIdeal.nD Cert.MoeRefIdeal.τ).loc Cert.MoeRefIdeal.main_v31) i = v0 c i)
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Combine_CombineIdeal : Prop :=
  True

def algebraic_CombineIdeal_CombineRefIdeal [hCombineIdeal : Cert.CombineIdeal.Facts] [hCombineRefIdeal : Cert.CombineRefIdeal.Facts] [hPre_positions_in_range : Cert.Pre_positions_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v42) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def Claim : Prop :=
  ∃ (hTail : Cert.Tail.Facts) (hTailIdeal : Cert.TailIdeal.Facts) (hTailRefIdeal : Cert.TailRefIdeal.Facts) (hAb : Cert.Ab.Facts) (hAbIdeal : Cert.AbIdeal.Facts) (hAbRefIdeal : Cert.AbRefIdeal.Facts) (hSmall : Cert.Small.Facts) (hSmallIdeal : Cert.SmallIdeal.Facts) (hSmallRefIdeal : Cert.SmallRefIdeal.Facts) (hDense : Cert.Dense.Facts) (hDenseIdeal : Cert.DenseIdeal.Facts) (hDenseRefIdeal : Cert.DenseRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hCrossO : Cert.CrossO.Facts) (hCrossOIdeal : Cert.CrossOIdeal.Facts) (hCrossORefIdeal : Cert.CrossORefIdeal.Facts) (hCrossQ : Cert.CrossQ.Facts) (hCrossQIdeal : Cert.CrossQIdeal.Facts) (hCrossQRefIdeal : Cert.CrossQRefIdeal.Facts) (hCrossKv : Cert.CrossKv.Facts) (hCrossKvIdeal : Cert.CrossKvIdeal.Facts) (hCrossKvRefIdeal : Cert.CrossKvRefIdeal.Facts) (hCross : Cert.Cross.Facts) (hCrossIdeal : Cert.CrossIdeal.Facts) (hCrossRefIdeal : Cert.CrossRefIdeal.Facts) (hNorm : Cert.Norm.Facts) (hNormIdeal : Cert.NormIdeal.Facts) (hNormRefIdeal : Cert.NormRefIdeal.Facts) (hMoe : Cert.Moe.Facts) (hMoeIdeal : Cert.MoeIdeal.Facts) (hMoeRefIdeal : Cert.MoeRefIdeal.Facts) (hCombine : Cert.Combine.Facts) (hCombineIdeal : Cert.CombineIdeal.Facts) (hCombineRefIdeal : Cert.CombineRefIdeal.Facts) (hPre_queries_and_keys_finite : Cert.Pre_queries_and_keys_finite.Facts) (hPre_tables_in_range : Cert.Pre_tables_in_range.Facts) (hPre_positions_in_range : Cert.Pre_positions_in_range.Facts) (hOn_rows_in_use : Cert.On_rows_in_use.Facts),
    quiescent_Tail (hTail := hTail)
    ∧ quiescent_TailIdeal (hTailIdeal := hTailIdeal)
    ∧ quiescent_TailRefIdeal (hTailRefIdeal := hTailRefIdeal)
    ∧ quiescent_Ab (hAb := hAb)
    ∧ quiescent_AbIdeal (hAbIdeal := hAbIdeal)
    ∧ quiescent_AbRefIdeal (hAbRefIdeal := hAbRefIdeal)
    ∧ quiescent_Small (hSmall := hSmall)
    ∧ quiescent_SmallIdeal (hSmallIdeal := hSmallIdeal)
    ∧ quiescent_SmallRefIdeal (hSmallRefIdeal := hSmallRefIdeal)
    ∧ quiescent_Dense (hDense := hDense)
    ∧ quiescent_DenseIdeal (hDenseIdeal := hDenseIdeal)
    ∧ quiescent_DenseRefIdeal (hDenseRefIdeal := hDenseRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_CrossO (hCrossO := hCrossO)
    ∧ quiescent_CrossOIdeal (hCrossOIdeal := hCrossOIdeal)
    ∧ quiescent_CrossORefIdeal (hCrossORefIdeal := hCrossORefIdeal)
    ∧ quiescent_CrossQ (hCrossQ := hCrossQ)
    ∧ quiescent_CrossQIdeal (hCrossQIdeal := hCrossQIdeal)
    ∧ quiescent_CrossQRefIdeal (hCrossQRefIdeal := hCrossQRefIdeal)
    ∧ quiescent_CrossKv (hCrossKv := hCrossKv)
    ∧ quiescent_CrossKvIdeal (hCrossKvIdeal := hCrossKvIdeal)
    ∧ quiescent_CrossKvRefIdeal (hCrossKvRefIdeal := hCrossKvRefIdeal)
    ∧ quiescent_Cross (hCross := hCross)
    ∧ quiescent_CrossIdeal (hCrossIdeal := hCrossIdeal)
    ∧ quiescent_CrossIdeal_pre_queries_and_keys_finite (hCrossIdeal := hCrossIdeal) (hPre_queries_and_keys_finite := hPre_queries_and_keys_finite)
    ∧ quiescent_CrossRefIdeal (hCrossRefIdeal := hCrossRefIdeal)
    ∧ quiescent_CrossRefIdeal_pre_queries_and_keys_finite (hCrossRefIdeal := hCrossRefIdeal) (hPre_queries_and_keys_finite := hPre_queries_and_keys_finite)
    ∧ quiescent_Norm (hNorm := hNorm)
    ∧ quiescent_NormIdeal (hNormIdeal := hNormIdeal)
    ∧ quiescent_NormRefIdeal (hNormRefIdeal := hNormRefIdeal)
    ∧ quiescent_Moe (hMoe := hMoe) (hPre_tables_in_range := hPre_tables_in_range)
    ∧ quiescent_MoeIdeal (hMoeIdeal := hMoeIdeal) (hPre_tables_in_range := hPre_tables_in_range)
    ∧ quiescent_MoeRefIdeal (hMoeRefIdeal := hMoeRefIdeal) (hPre_tables_in_range := hPre_tables_in_range)
    ∧ quiescent_Combine (hCombine := hCombine) (hPre_positions_in_range := hPre_positions_in_range)
    ∧ quiescent_CombineIdeal (hCombineIdeal := hCombineIdeal) (hPre_positions_in_range := hPre_positions_in_range)
    ∧ quiescent_CombineRefIdeal (hCombineRefIdeal := hCombineRefIdeal) (hPre_positions_in_range := hPre_positions_in_range)
    ∧ preserves_Tail_TailIdeal
    ∧ algebraic_TailIdeal_TailRefIdeal (hTailIdeal := hTailIdeal) (hTailRefIdeal := hTailRefIdeal)
    ∧ preserves_Ab_AbIdeal
    ∧ algebraic_AbIdeal_AbRefIdeal (hAbIdeal := hAbIdeal) (hAbRefIdeal := hAbRefIdeal)
    ∧ preserves_Small_SmallIdeal
    ∧ algebraic_SmallIdeal_SmallRefIdeal (hSmallIdeal := hSmallIdeal) (hSmallRefIdeal := hSmallRefIdeal)
    ∧ preserves_Dense_DenseIdeal
    ∧ algebraic_DenseIdeal_DenseRefIdeal (hDenseIdeal := hDenseIdeal) (hDenseRefIdeal := hDenseRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_CrossO_CrossOIdeal
    ∧ algebraic_CrossOIdeal_CrossORefIdeal (hCrossOIdeal := hCrossOIdeal) (hCrossORefIdeal := hCrossORefIdeal)
    ∧ preserves_CrossQ_CrossQIdeal
    ∧ algebraic_CrossQIdeal_CrossQRefIdeal (hCrossQIdeal := hCrossQIdeal) (hCrossQRefIdeal := hCrossQRefIdeal)
    ∧ preserves_CrossKv_CrossKvIdeal
    ∧ algebraic_CrossKvIdeal_CrossKvRefIdeal (hCrossKvIdeal := hCrossKvIdeal) (hCrossKvRefIdeal := hCrossKvRefIdeal)
    ∧ preserves_Cross_CrossIdeal
    ∧ algebraic_CrossIdeal_CrossRefIdeal_pre_queries_and_keys_finite (hCrossIdeal := hCrossIdeal) (hCrossRefIdeal := hCrossRefIdeal) (hPre_queries_and_keys_finite := hPre_queries_and_keys_finite)
    ∧ preserves_Norm_NormIdeal
    ∧ algebraic_NormIdeal_NormRefIdeal (hNormIdeal := hNormIdeal) (hNormRefIdeal := hNormRefIdeal)
    ∧ preserves_Moe_MoeIdeal
    ∧ algebraic_MoeIdeal_MoeRefIdeal_on_rows_in_use (hMoeIdeal := hMoeIdeal) (hMoeRefIdeal := hMoeRefIdeal) (hPre_tables_in_range := hPre_tables_in_range) (hOn_rows_in_use := hOn_rows_in_use)
    ∧ preserves_Combine_CombineIdeal
    ∧ algebraic_CombineIdeal_CombineRefIdeal (hCombineIdeal := hCombineIdeal) (hCombineRefIdeal := hCombineRefIdeal) (hPre_positions_in_range := hPre_positions_in_range)
-- ==== On_rows_in_use.lean ====
abbrev S24576x2048 : Shape := ⟨2, ![24576, 2048]⟩
abbrev S1x8x2048x14336 : Shape := ⟨4, ![1, 8, 2048, 14336]⟩
abbrev S1x8x7168x2048 : Shape := ⟨4, ![1, 8, 7168, 2048]⟩
abbrev S24 : Shape := ⟨1, ![24]⟩
abbrev S1024 : Shape := ⟨1, ![1024]⟩
abbrev S1x1024 : Shape := ⟨2, ![1, 1024]⟩
abbrev S24x1 : Shape := ⟨2, ![24, 1]⟩
abbrev S24x1024 : Shape := ⟨2, ![24, 1024]⟩
abbrev S24x1024x1 : Shape := ⟨3, ![24, 1024, 1]⟩
abbrev S24x1024x2048 : Shape := ⟨3, ![24, 1024, 2048]⟩

class Facts : Prop where
  bcast_S1024_S1x1024_1 : S1024.BroadcastsInDim S1x1024 (![1] : Fin 1 → Fin S1x1024.rank)
  bcast_S24_S24x1_0 : S24.BroadcastsInDim S24x1 (![0] : Fin 1 → Fin S24x1.rank)
  bcast_S1x1024_S24x1024_0_1 : S1x1024.BroadcastsInDim S24x1024 (![0, 1] : Fin 2 → Fin S24x1024.rank)
  bcast_S24x1_S24x1024_0_1 : S24x1.BroadcastsInDim S24x1024 (![0, 1] : Fin 2 → Fin S24x1024.rank)
  bcast_S24x1024_S24x1024x1_0_1 : S24x1024.BroadcastsInDim S24x1024x1 (![0, 1] : Fin 2 → Fin S24x1024x1.rank)
  bcast_S24x1024x1_S24x1024x2048_0_1_2 : S24x1024x1.BroadcastsInDim S24x1024x2048 (![0, 1, 2] : Fin 3 → Fin S24x1024x2048.rank)
  shapeCasts_S24x1024x2048_S24576x2048 : S24x1024x2048.ShapeCasts S24576x2048

variable [Facts]

def fn {F : FTy → Type} [FloatOps F] (main_arg0 : FVec F S24576x2048 .bf16) (main_arg1 : FVec F S1x8x2048x14336 .f32) (main_arg2 : FVec F S1x8x7168x2048 .f32) (main_arg3 : IVec S24 32) (main_arg4 : IVec S24 32) (main_arg5 : IVec S24 32) : IVec S24576x2048 1 :=
  let main_v0 : IVec S1024 32 := iotaInDim S1024 32 0
  let main_v1 : IVec S1x1024 32 := broadcastInDim S1x1024 ![1] bcast_S1024_S1x1024_1 main_v0
  let main_v2 : IVec S24x1 32 := broadcastInDim S24x1 ![0] bcast_S24_S24x1_0 main_arg5
  let main_v3 : IVec S24x1024 32 := broadcastInDim S24x1024 ![0, 1] bcast_S1x1024_S24x1024_0_1 main_v1
  let main_v4 : IVec S24x1024 32 := broadcastInDim S24x1024 ![0, 1] bcast_S24x1_S24x1024_0_1 main_v2
  let main_v5 : IVec S24x1024 1 := cmpi .slt main_v3 main_v4
  let main_v6 : IVec S24x1024x1 1 := broadcastInDim S24x1024x1 ![0, 1] bcast_S24x1024_S24x1024x1_0_1 main_v5
  let main_v7 : IVec S24x1024x2048 1 := broadcastInDim S24x1024x2048 ![0, 1, 2] bcast_S24x1024x1_S24x1024x2048_0_1_2 main_v6
  let main_v8 : IVec S24576x2048 1 := shapeCast S24576x2048 main_v7 shapeCasts_S24x1024x2048_S24576x2048
  main_v8
-- ==== Pre_positions_in_range.lean ====
abbrev S16384 : Shape := ⟨1, ![16384]⟩
abbrev S8192x2048 : Shape := ⟨2, ![8192, 2048]⟩
abbrev S8192x128 : Shape := ⟨2, ![8192, 128]⟩
abbrev S24576x2048 : Shape := ⟨2, ![24576, 2048]⟩
abbrev S2048 : Shape := ⟨1, ![2048]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : FVec F S8192x2048 .f32) (main_arg2 : FVec F S8192x128 .f32) (main_arg3 : FVec F S24576x2048 .f32) (main_arg4 : FVec F S2048 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 24576#32
  let main_v2 : IVec S16384 32 := broadcastInDim S16384 ![] bcast_S_S16384 main_c_0
  let main_v3 : IVec S16384 1 := cmpi .slt main_arg0 main_v2
  let main_v4 : IVec S16384 1 := andi main_v1 main_v3
  main_v4
-- ==== Pre_queries_and_keys_finite.lean ====
abbrev S8192x512 : Shape := ⟨2, ![8192, 512]⟩
abbrev S1024x1024 : Shape := ⟨2, ![1024, 1024]⟩
abbrev S1024x512 : Shape := ⟨2, ![1024, 512]⟩
abbrev S9216x512 : Shape := ⟨2, ![9216, 512]⟩
abbrev S_ : Shape := ⟨0, ![]⟩

class Facts : Prop where
  slices_S1024x1024_S1024x512_0_0 : S1024x1024.Slices ![0, 0] S1024x512
  concatenates_S8192x512_S1024x512_S9216x512_d0 : Shape.Concatenates [S8192x512, S1024x512] S9216x512 0
  bitsLt_bf16_f32 : FTy.bits .bf16 < FTy.bits .f32
  bcast_S_S9216x512 : S_.BroadcastsInDim S9216x512 (![] : Fin 0 → Fin S9216x512.rank)

variable [Facts]

def fn {F : FTy → Type} [FloatOps F] (main_arg0 : FVec F S8192x512 .bf16) (main_arg1 : FVec F S1024x1024 .bf16) : IVec S9216x512 1 :=
  let main_v0 : FVec F S1024x512 .bf16 := (extractStridedSlice S1024x512 ![0, 0] · slices_S1024x1024_S1024x512_0_0) main_arg1
  let main_v1 : FVec F S9216x512 .bf16 := (fun a b => concatenate S9216x512 0 [⟨S8192x512, a⟩, ⟨S1024x512, b⟩] concatenates_S8192x512_S1024x512_S9216x512_d0) main_arg0 main_v0
  let main_v2 : FVec F S9216x512 .f32 := (extf .f32 · bitsLt_bf16_f32) main_v1
  let main_v3 : FVec F S9216x512 .f32 := Host.absf main_v2
  let main_cst : FVec F S_ .f32 := constant S_ .f32 0x7F800000#32
  let main_v4 : FVec F S9216x512 .f32 := broadcastInDim S9216x512 ![] bcast_S_S9216x512 main_cst
  let main_v5 : IVec S9216x512 1 := cmpf .olt main_v3 main_v4
  main_v5
-- ==== Pre_tables_in_range.lean ====
abbrev S24576x2048 : Shape := ⟨2, ![24576, 2048]⟩
abbrev S1x8x2048x14336 : Shape := ⟨4, ![1, 8, 2048, 14336]⟩
abbrev S1x8x7168x2048 : Shape := ⟨4, ![1, 8, 7168, 2048]⟩
abbrev S24 : Shape := ⟨1, ![24]⟩
abbrev S_ : Shape := ⟨0, ![]⟩

class Facts : Prop where
  bcast_S_S24 : S_.BroadcastsInDim S24 (![] : Fin 0 → Fin S24.rank)

variable [Facts]

def fn {F : FTy → Type} [FloatOps F] (main_arg0 : FVec F S24576x2048 .bf16) (main_arg1 : FVec F S1x8x2048x14336 .f32) (main_arg2 : FVec F S1x8x7168x2048 .f32) (main_arg3 : IVec S24 32) (main_arg4 : IVec S24 32) (main_arg5 : IVec S24 32) : IVec S24 1 × IVec S24 1 × IVec S24 1 :=
  let main_c : IVec S_ 32 := constantI S_ 32 0#32
  let main_v0 : IVec S24 32 := broadcastInDim S24 ![] bcast_S_S24 main_c
  let main_v1 : IVec S24 1 := cmpi .sge main_arg3 main_v0
  let main_c_0 : IVec S_ 32 := constantI S_ 32 8#32
  let main_v2 : IVec S24 32 := broadcastInDim S24 ![] bcast_S_S24 main_c_0
  let main_v3 : IVec S24 1 := cmpi .slt main_arg3 main_v2
  let main_v4 : IVec S24 1 := andi main_v1 main_v3
  let main_c_1 : IVec S_ 32 := constantI S_ 32 0#32
  let main_v5 : IVec S24 32 := broadcastInDim S24 ![] bcast_S_S24 main_c_1
  let main_v6 : IVec S24 1 := cmpi .sge main_arg4 main_v5
  let main_c_2 : IVec S_ 32 := constantI S_ 32 24#32
  let main_v7 : IVec S24 32 := broadcastInDim S24 ![] bcast_S_S24 main_c_2
  let main_v8 : IVec S24 1 := cmpi .slt main_arg4 main_v7
  let main_v9 : IVec S24 1 := andi main_v6 main_v8
  let main_c_3 : IVec S_ 32 := constantI S_ 32 1024#32
  let main_v10 : IVec S24 32 := broadcastInDim S24 ![] bcast_S_S24 main_c_3
  let main_v11 : IVec S24 1 := cmpi .sle main_arg5 main_v10
  (main_v4, main_v9, main_v11)
-- ==== Tail.lean ====
abbrev S8192x2048 : Shape := ⟨2, ![8192, 2048]⟩
abbrev S2x2048x17424 : Shape := ⟨3, ![2, 2048, 17424]⟩
abbrev S2x17424x2048 : Shape := ⟨3, ![2, 17424, 2048]⟩
abbrev S8192x9216 : Shape := ⟨2, ![8192, 9216]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x17424, .f32⟩
  | .hbm, ⟨2, _⟩ => ⟨S2x17424x2048, .f32⟩
  | .hbm, ⟨3, _⟩ => ⟨S8192x9216, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

def k0_mult1 (i : grid0.Coords) : BitVec 32 :=
  let c8208_i32 : BitVec 32 := 8208#32
  let arg0 : BitVec 32 := BitVec.ofNat 32 (i 0).val
  let c1024_i32 : BitVec 32 := 1024#32
  let v0 : BitVec 32 := Scalar.muli arg0 c1024_i32
  let v1 : BitVec 32 := Scalar.addi c8208_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8208_i32 : BitVec 32 := 8208#32
  let v1 : BitVec 32 := Scalar.addi c8208_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TailRefIdeal.lean ====
abbrev S8192x2048 : Shape := ⟨2, ![8192, 2048]⟩
abbrev S2x2048x17424 : Shape := ⟨3, ![2, 2048, 17424]⟩
abbrev S1x2048x17424 : Shape := ⟨3, ![1, 2048, 17424]⟩
abbrev S2048x17424 : Shape := ⟨2, ![2048, 17424]⟩
abbrev S8192x17424 : Shape := ⟨2, ![8192, 17424]⟩
abbrev S8192x9216 : Shape := ⟨2, ![8192, 9216]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x17424, .f32⟩
  | .hbm, ⟨2, _⟩ => ⟨S8192x2048, .f32⟩
  | .hbm, ⟨3, _⟩ => ⟨S1x2048x17424, .f32⟩
  | .hbm, ⟨4, _⟩ => ⟨S2048x17424, .f32⟩
  | .hbm, ⟨5, _⟩ => ⟨S8192x17424, .f32⟩
  | .hbm, ⟨6, _⟩ => ⟨S8192x9216, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Ab.lean ====
abbrev S8192x2048 : Shape := ⟨2, ![8192, 2048]⟩
abbrev S2x2048x17424 : Shape := ⟨3, ![2, 2048, 17424]⟩
abbrev S2x17424x2048 : Shape := ⟨3, ![2, 17424, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x17424, .f32⟩
  | .hbm, ⟨2, _⟩ => ⟨S2x17424x2048, .f32⟩
  | .hbm, ⟨3, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AbRefIdeal.lean ====
abbrev S8192x2048 : Shape := ⟨2, ![8192, 2048]⟩
abbrev S2x2048x17424 : Shape := ⟨3, ![2, 2048, 17424]⟩
abbrev S1x2048x17424 : Shape := ⟨3, ![1, 2048, 17424]⟩
abbrev S2048x17424 : Shape := ⟨2, ![2048, 17424]⟩
abbrev S8192x17424 : Shape := ⟨2, ![8192, 17424]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x17424, .f32⟩
  | .hbm, ⟨2, _⟩ => ⟨S8192x2048, .f32⟩
  | .hbm, ⟨3, _⟩ => ⟨S1x2048x17424, .f32⟩
  | .hbm, ⟨4, _⟩ => ⟨S2048x17424, .f32⟩
  | .hbm, ⟨5, _⟩ => ⟨S8192x17424, .f32⟩
  | .hbm, ⟨6, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Small.lean ====
abbrev S8192x2048 : Shape := ⟨2, ![8192, 2048]⟩
abbrev S2x2048x17424 : Shape := ⟨3, ![2, 2048, 17424]⟩
abbrev S2x17424x2048 : Shape := ⟨3, ![2, 17424, 2048]⟩
abbrev S8192x128 : Shape := ⟨2, ![8192, 128]⟩
abbrev S1024x2048 : Shape := ⟨2, ![1024, 2048]⟩
abbrev S1x128x2048 : Shape := ⟨3, ![1, 128, 2048]⟩
abbrev S1024x128 : Shape := ⟨2, ![1024, 128]⟩
abbrev S128x2048 : Shape := ⟨2, ![128, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x17424, .f32⟩
  | .hbm, ⟨2, _⟩ => ⟨S2x17424x2048, .f32⟩
  | .hbm, ⟨3, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S1x128x2048, .f32⟩
  | .local _ .vmem, ⟨3, _⟩ => ⟨S1024x128, .f32⟩
  | .local _ .vmem, ⟨4, _⟩ => ⟨S1024x128, .f32⟩
  | .local _ .vmem, ⟨5, _⟩ => ⟨S128x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let c8192_i32 : BitVec 32 := 8192#32
  let arg0 : BitVec 32 := BitVec.ofNat 32 (i 0).val
  let c128_i32 : BitVec 32 := 128#32
  let v0 : BitVec 32 := Scalar.muli arg0 c128_i32
  let v1 : BitVec 32 := Scalar.addi c8192_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c8192_i32 : BitVec 32 := 8192#32
  let v1 : BitVec 32 := Scalar.addi c8192_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SmallRefIdeal.lean ====
abbrev S8192x2048 : Shape := ⟨2, ![8192, 2048]⟩
abbrev S2x2048x17424 : Shape := ⟨3, ![2, 2048, 17424]⟩
abbrev S1x2048x17424 : Shape := ⟨3, ![1, 2048, 17424]⟩
abbrev S2048x17424 : Shape := ⟨2, ![2048, 17424]⟩
abbrev S8192x17424 : Shape := ⟨2, ![8192, 17424]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x17424, .f32⟩
  | .hbm, ⟨2, _⟩ => ⟨S8192x2048, .f32⟩
  | .hbm, ⟨3, _⟩ => ⟨S1x2048x17424, .f32⟩
  | .hbm, ⟨4, _⟩ => ⟨S2048x17424, .f32⟩
  | .hbm, ⟨5, _⟩ => ⟨S8192x17424, .f32⟩
  | .hbm, ⟨6, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dense.lean ====
abbrev S8192x2048 : Shape := ⟨2, ![8192, 2048]⟩
abbrev S1x2048x11264 : Shape := ⟨3, ![1, 2048, 11264]⟩
abbrev S1x5632x2048 : Shape := ⟨3, ![1, 5632, 2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x5632x2048, .f32⟩
  | .hbm, ⟨3, _⟩ => ⟨S8192x2048, .f32⟩
  | .hbm, ⟨4, _⟩ => ⟨S2048x11264, .f32⟩
  | .hbm, ⟨5, _⟩ => ⟨S2048x11264, .bf16⟩
  | .hbm, ⟨6, _⟩ => ⟨S5632x2048, .f32⟩
  | .hbm, ⟨7, _⟩ => ⟨S5632x2048, .bf16⟩
  | .hbm, ⟨8, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseRefIdeal.lean ====
abbrev S8192x2048 : Shape := ⟨2, ![8192, 2048]⟩
abbrev S1x2048x11264 : Shape := ⟨3, ![1, 2048, 11264]⟩
abbrev S1x5632x2048 : Shape := ⟨3, ![1, 5632, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11264, .f32⟩
  | .hbm, ⟨2, _⟩ => ⟨S1x5632x2048, .f32⟩
  | .hbm, ⟨3, _⟩ => ⟨S8192x2048, .f32⟩
  | .hbm, ⟨4, _⟩ => ⟨S8192x2048, .f32⟩
  | .hbm, ⟨5, _⟩ => ⟨S2048x11264, .f32⟩
  | .hbm, ⟨6, _⟩ => ⟨S5632x2048, .f32⟩
  | .hbm, ⟨7, _⟩ => ⟨S8192x11264, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x2048, .f32⟩
  | .hbm, ⟨21, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Merge.lean ====
abbrev S8192x1024 : Shape := ⟨2, ![8192, 1024]⟩
abbrev S2x3072x2048 : Shape := ⟨3, ![2, 3072, 2048]⟩
abbrev S8192x9216 : Shape := ⟨2, ![8192, 9216]⟩
abbrev S8192x2048 : Shape := ⟨2, ![8192, 2048]⟩
abbrev S1024x1024 : Shape := ⟨2, ![1024, 1024]⟩
abbrev S1x1024x512 : Shape := ⟨3, ![1, 1024, 512]⟩
abbrev S1024x512 : Shape := ⟨2, ![1024, 512]⟩
abbrev S3x1024x512 : Shape := ⟨3, ![3, 1024, 512]⟩

abbrev nBuf : Space → Nat
  | .hbm => 6
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S2x3072x2048, .f32⟩
  | .hbm, ⟨4, _⟩ => ⟨S8192x9216, .f32⟩
  | .hbm, ⟨5, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | .local _ .vmem, ⟨20, _⟩ => ⟨S3x1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg0.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8192x1024 : Shape := ⟨2, ![8192, 1024]⟩
abbrev S2x3072x2048 : Shape := ⟨3, ![2, 3072, 2048]⟩
abbrev S8192x9216 : Shape := ⟨2, ![8192, 9216]⟩
abbrev S8192x6144 : Shape := ⟨2, ![8192, 6144]⟩
abbrev S_ : Shape := ⟨0, ![]⟩
abbrev S8192x2048 : Shape := ⟨2, ![8192, 2048]⟩
abbrev S1x3072x2048 : Shape := ⟨3, ![1, 3072, 2048]⟩
abbrev S3072x2048 : Shape := ⟨2, ![3072, 2048]⟩
abbrev S1024x2048 : Shape := ⟨2, ![1024, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S2x3072x2048, .f32⟩
  | .hbm, ⟨4, _⟩ => ⟨S8192x9216, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x6144, .f32⟩
  | .hbm, ⟨9, _⟩ => ⟨S8192x6144, .f32⟩
  | .hbm, ⟨10, _⟩ => ⟨S8192x6144, .f32⟩
  | .hbm, ⟨11, _⟩ => ⟨S_, .f32⟩
  | .hbm, ⟨12, _⟩ => ⟨S8192x6144, .f32⟩
  | .hbm, ⟨13, _⟩ => ⟨S8192x6144, .f32⟩
  | .hbm, ⟨14, _⟩ => ⟨S_, .f32⟩
  | .hbm, ⟨15, _⟩ => ⟨S8192x6144, .f32⟩
  | .hbm, ⟨16, _⟩ => ⟨S8192x6144, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x3072x2048, .f32⟩
  | .hbm, ⟨21, _⟩ => ⟨S3072x2048, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Out.lean ====
abbrev S8192x2048 : Shape := ⟨2, ![8192, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== CrossO.lean ====
abbrev S8192x512 : Shape := ⟨2, ![8192, 512]⟩
abbrev S2x512x2048 : Shape := ⟨3, ![2, 512, 2048]⟩
abbrev S8192x2048 : Shape := ⟨2, ![8192, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x512, .bf16⟩
  | .hbm, ⟨1, _⟩ => ⟨S2x512x2048, .f32⟩
  | .hbm, ⟨2, _⟩ => ⟨S8192x2048, .f32⟩
  | .hbm, ⟨3, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossORefIdeal.lean ====
abbrev S8192x512 : Shape := ⟨2, ![8192, 512]⟩
abbrev S2x512x2048 : Shape := ⟨3, ![2, 512, 2048]⟩
abbrev S8192x2048 : Shape := ⟨2, ![8192, 2048]⟩
abbrev S1x512x2048 : Shape := ⟨3, ![1, 512, 2048]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2x512x2048, .f32⟩
  | .hbm, ⟨2, _⟩ => ⟨S8192x2048, .f32⟩
  | .hbm, ⟨3, _⟩ => ⟨S8192x512, .f32⟩
  | .hbm, ⟨4, _⟩ => ⟨S1x512x2048, .f32⟩
  | .hbm, ⟨5, _⟩ => ⟨S512x2048, .f32⟩
  | .hbm, ⟨6, _⟩ => ⟨S8192x2048, .f32⟩
  | .hbm, ⟨7, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== CrossQ.lean ====
abbrev S8192x2048 : Shape := ⟨2, ![8192, 2048]⟩
abbrev S2x2048x512 : Shape := ⟨3, ![2, 2048, 512]⟩
abbrev S8192x512 : Shape := ⟨2, ![8192, 512]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x512, .f32⟩
  | .hbm, ⟨2, _⟩ => ⟨S8192x512, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1024x512, .bf16⟩
  | .local _ .vmem, ⟨4, _⟩ => ⟨S1024x512, .bf16⟩
  | .local _ .vmem, ⟨5, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CrossQRefIdeal.lean ====
abbrev S8192x2048 : Shape := ⟨2, ![8192, 2048]⟩
abbrev S2x2048x512 : Shape := ⟨3, ![2, 2048, 512]⟩
abbrev S1x2048x512 : Shape := ⟨3, ![1, 2048, 512]⟩
abbrev S2048x512 : Shape := ⟨2, ![2048, 512]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x512, .f32⟩
  | .hbm, ⟨2, _⟩ => ⟨S8192x2048, .f32⟩
  | .hbm, ⟨3, _⟩ => ⟨S1x2048x512, .f32⟩
  | .hbm, ⟨4, _⟩ => ⟨S2048x512, .f32⟩
  | .hbm, ⟨5, _⟩ => ⟨S8192x512, .f32⟩
  | .hbm, ⟨6, _⟩ => ⟨S8192x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== CrossKv.lean ====
abbrev S1024x2048 : Shape := ⟨2, ![1024, 2048]⟩
abbrev S2x2048x1024 : Shape := ⟨3, ![2, 2048, 1024]⟩
abbrev S1024x1024 : Shape := ⟨2, ![1024, 1024]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .bf16⟩
  | .hbm, ⟨1, _⟩ => ⟨S2x2048x1024, .f32⟩
  | .hbm, ⟨2, _⟩ => ⟨S1024x1024, .bf16⟩
  | .local _ .vmem, ⟨0, _⟩ => ⟨S1024x2048, .bf16⟩
  | .local _ .vmem, ⟨1, _⟩ => ⟨S1x2048x512, .f32⟩
  | .local _ .vmem, ⟨2, _⟩ => ⟨S1x2048x512, .f32⟩
  | .local _ .vmem, ⟨3, _⟩ => ⟨S1024x512, .bf16⟩
  | .local _ .vmem, ⟨4, _⟩ => ⟨S1024x512, .bf16⟩
  | .local _ .vmem, ⟨5, _⟩ => ⟨S2048x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CrossKvRefIdeal.lean ====
abbrev S1024x2048 : Shape := ⟨2, ![1024, 2048]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2x2048x1024, .f32⟩
  | .hbm, ⟨2, _⟩ => ⟨S1024x2048, .f32⟩
  | .hbm, ⟨3, _⟩ => ⟨S1x2048x1024, .f32⟩
  | .hbm, ⟨4, _⟩ => ⟨S2048x1024, .f32⟩
  | .hbm, ⟨5, _⟩ => ⟨S1024x1024, .f32⟩
  | .hbm, ⟨6, _⟩ => ⟨S1024x1024, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Cross.lean ====
abbrev S8192x512 : Shape := ⟨2, ![8192, 512]⟩
abbrev S1024x1024 : Shape := ⟨2, ![1024, 1024]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S1024x1024, .bf16⟩
  | .hbm, ⟨2, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossRefIdeal.lean ====
abbrev S8192x512 : Shape := ⟨2, ![8192, 512]⟩
abbrev S1024x1024 : Shape := ⟨2, ![1024, 1024]⟩
abbrev S4x2048x512 : Shape := ⟨3, ![4, 2048, 512]⟩
abbrev S4x2048x4x128 : Shape := ⟨4, ![4, 2048, 4, 128]⟩
abbrev S4x4x2048x128 : Shape := ⟨4, ![4, 4, 2048, 128]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S4x4x256x128 : Shape := ⟨4, ![4, 4, 256, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x1024, .bf16⟩
  | .hbm, ⟨2, _⟩ => ⟨S8192x512, .f32⟩
  | .hbm, ⟨3, _⟩ => ⟨S4x2048x512, .f32⟩
  | .hbm, ⟨4, _⟩ => ⟨S4x2048x4x128, .f32⟩
  | .hbm, ⟨5, _⟩ => ⟨S4x4x2048x128, .f32⟩
  | .hbm, ⟨6, _⟩ => ⟨S1024x1024, .f32⟩
  | .hbm, ⟨7, _⟩ => ⟨S4x256x1024, .f32⟩
  | .hbm, ⟨8, _⟩ => ⟨S4x256x512, .f32⟩
  | .hbm, ⟨9, _⟩ => ⟨S4x256x512, .f32⟩
  | .hbm, ⟨10, _⟩ => ⟨S4x256x4x128, .f32⟩
  | .hbm, ⟨11, _⟩ => ⟨S4x4x256x128, .f32⟩
  | .hbm, ⟨12, _⟩ => ⟨S4x256x4x128, .f32⟩
  | .hbm, ⟨13, _⟩ => ⟨S4x4x256x128, .f32⟩
  | .hbm, ⟨14, _⟩ => ⟨S4x4x2048x256, .f32⟩
  | .hbm, ⟨15, _⟩ => ⟨S_, .f32⟩
  | .hbm, ⟨16, _⟩ => ⟨S4x4x2048x256, .f32⟩
  | .hbm, ⟨17, _⟩ => ⟨S4x4x2048x256, .f32⟩
  | .hbm, ⟨18, _⟩ => ⟨S_, .f32⟩
  | .hbm, ⟨19, _⟩ => ⟨S4x4x2048, .f32⟩
  | .hbm, ⟨20, _⟩ => ⟨S_, .f32⟩
  | .hbm, ⟨21, _⟩ => ⟨S4x4x2048, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x2048x256, .f32⟩
  | .hbm, ⟨27, _⟩ => ⟨S_, .f32⟩
  | .hbm, ⟨28, _⟩ => ⟨S4x4x2048, .f32⟩
  | .hbm, ⟨29, _⟩ => ⟨S4x4x2048x1, .f32⟩
  | .hbm, ⟨30, _⟩ => ⟨S4x4x2048x256, .f32⟩
  | .hbm, ⟨31, _⟩ => ⟨S4x4x2048x256, .f32⟩
  | .hbm, ⟨32, _⟩ => ⟨S4x4x2048x128, .f32⟩
  | .hbm, ⟨33, _⟩ => ⟨S4x2048x4x128, .f32⟩
  | .hbm, ⟨34, _⟩ => ⟨S4x2048x512, .f32⟩
  | .hbm, ⟨35, _⟩ => ⟨S8192x512, .f32⟩
  | .hbm, ⟨36, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Norm.lean ====
abbrev S8192x2048 : Shape := ⟨2, ![8192, 2048]⟩
abbrev S2x2048 : Shape := ⟨2, ![2, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S2x2048 : Shape := ⟨2, ![2, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Moe.lean ====
abbrev S24576x2048 : Shape := ⟨2, ![24576, 2048]⟩
abbrev S1x8x2048x14336 : Shape := ⟨4, ![1, 8, 2048, 14336]⟩
abbrev S1x8x7168x2048 : Shape := ⟨4, ![1, 8, 7168, 2048]⟩
abbrev S24 : Shape := ⟨1, ![24]⟩
abbrev S1024x2048 : Shape := ⟨2, ![1024, 2048]⟩
abbrev S1 : Shape := ⟨1, ![1]⟩
abbrev S1x1x2048x256 : Shape := ⟨4, ![1, 1, 2048, 256]⟩
abbrev S1x1x256x2048 : Shape := ⟨4, ![1, 1, 256, 2048]⟩
abbrev S128x2048 : Shape := ⟨2, ![128, 2048]⟩
abbrev S2048x256 : Shape := ⟨2, ![2048, 256]⟩
abbrev S128x256 : Shape := ⟨2, ![128, 256]⟩
abbrev S256x2048 : Shape := ⟨2, ![256, 2048]⟩
abbrev S256x256 : Shape := ⟨2, ![256, 256]⟩
abbrev S512x2048 : Shape := ⟨2, ![512, 2048]⟩
abbrev S512x256 : Shape := ⟨2, ![512, 256]⟩
abbrev S1024x256 : Shape := ⟨2, ![1024, 256]⟩

abbrev nBuf : Space → Nat
  | .hbm => 4
  | .vmem => 10
  | .smem => 3
  | _ => 0

abbrev bufTy : (tb : Table) → Fin (tcTables nBuf tb) → BufTy
  | .hbm, ⟨0, _⟩ => ⟨S24576x2048, .bf16⟩
  | .hbm, ⟨1, _⟩ => ⟨S1x8x2048x14336, .f32⟩
  | .hbm, ⟨2, _⟩ => ⟨S1x8x7168x2048, .f32⟩
  | .hbm, ⟨3, _⟩ => ⟨S24576x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1024x2048, .f32⟩
  | .local _ .vmem, ⟨9, _⟩ => ⟨S1024x2048, .f32⟩
  | .local _ .smem, ⟨0, _⟩ => ⟨S24, .i32⟩
  | .local _ .smem, ⟨1, _⟩ => ⟨S24, .i32⟩
  | .local _ .smem, ⟨2, _⟩ => ⟨S24, .i32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 28], ![false, false]⟩

abbrev pre0 : Pipeline.Prefetch sig := ⟨3, ![main_arg3.idx, main_arg4.idx, main_arg5.idx], fun | 0 => main_arg3.names | 1 => main_arg4.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let c128_i32 : BitVec 32 := 128#32
  let v6 : BitVec 1 := Scalar.cmpi .sle v1 c128_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (v1 : BitVec 32) : BitVec 1 :=
  let c128_i32_3 : BitVec 32 := 128#32
  let v10 : BitVec 1 := Scalar.cmpi .sgt v1 c128_i32_3
  let c256_i32 : BitVec 32 := 256#32
  let v11 : BitVec 1 := Scalar.cmpi .sle v1 c256_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (v1 : BitVec 32) : BitVec 1 :=
  let c256_i32_5 : BitVec 32 := 256#32
  let v15 : BitVec 1 := Scalar.cmpi .sgt v1 c256_i32_5
  let c512_i32 : BitVec 32 := 512#32
  let v16 : BitVec 1 := Scalar.cmpi .sle v1 c512_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (v1 : BitVec 32) : BitVec 1 :=
  let c512_i32_7 : BitVec 32 := 512#32
  let v20 : BitVec 1 := Scalar.cmpi .sgt v1 c512_i32_7
  let c1024_i32 : BitVec 32 := 1024#32
  let v21 : BitVec 1 := Scalar.cmpi .sle v1 c1024_i32
  let v22 : BitVec 1 := Scalar.andi v20 v21
  let v23 : BitVec 32 := Scalar.extui v22
  let c0_i32_8 : BitVec 32 := 0#32
  let v24 : BitVec 1 := Scalar.cmpi .ne v23 c0_i32_8
  v24

def cc0_transform_0 (k0_off1_inb : ∀ i : grid0.Coords, ∀ a, (k0_off1 i) a + S1.size a ≤ S24.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S24) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let v2 : Index := Scalar.indexCast arg0
  let v3 : BitVec 32 := pf.at 2 (Rect.unit (s := S24) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let v2 : Index := Scalar.indexCast arg0
  let v3 : BitVec 32 := pf.at 2 (Rect.unit (s := S24) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c28_i32 : BitVec 32 := 28#32
  let v6 : BitVec 32 := Scalar.addi c28_i32 v5
  let c0_i32_0 : BitVec 32 := 0#32
  let c0_i32_1 : BitVec 32 := 0#32
  let c0_i32_2 : BitVec 32 := 0#32
  ![c0_i32_0.toNat, v1.toNat, c0_i32_1.toNat, v6.toNat]

def cc0_transform_3 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let v2 : Index := Scalar.indexCast arg0
  let v3 : BitVec 32 := pf.at 2 (Rect.unit (s := S24) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  let c0_i32_2 : BitVec 32 := 0#32
  ![c0_i32_0.toNat, v1.toNat, v5.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S24576x2048 : Shape := ⟨2, ![24576, 2048]⟩
abbrev S1x8x2048x14336 : Shape := ⟨4, ![1, 8, 2048, 14336]⟩
abbrev S1x8x7168x2048 : Shape := ⟨4, ![1, 8, 7168, 2048]⟩
abbrev S24 : Shape := ⟨1, ![24]⟩
abbrev S24x1024x2048 : Shape := ⟨3, ![24, 1024, 2048]⟩
abbrev S_ : Shape := ⟨0, ![]⟩
abbrev S24x1 : Shape := ⟨2, ![24, 1]⟩
abbrev S8x2048x14336 : Shape := ⟨3, ![8, 2048, 14336]⟩
abbrev S24x2048x14336 : Shape := ⟨3, ![24, 2048, 14336]⟩
abbrev S8x7168x2048 : Shape := ⟨3, ![8, 7168, 2048]⟩
abbrev S24x7168x2048 : Shape := ⟨3, ![24, 7168, 2048]⟩
abbrev S24x1024x14336 : Shape := ⟨3, ![24, 1024, 14336]⟩
abbrev S24x1024x7168 : Shape := ⟨3, ![24, 1024, 7168]⟩

abbrev nBuf : Space → Nat
  | .hbm => 52
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S1x8x2048x14336, .f32⟩
  | .hbm, ⟨2, _⟩ => ⟨S1x8x7168x2048, .f32⟩
  | .hbm, ⟨3, _⟩ => ⟨S24, .i32⟩
  | .hbm, ⟨4, _⟩ => ⟨S24, .i32⟩
  | .hbm, ⟨5, _⟩ => ⟨S24, .i32⟩
  | .hbm, ⟨6, _⟩ => ⟨S24x1024x2048, .bf16⟩
  | .hbm, ⟨7, _⟩ => ⟨S_, .i32⟩
  | .hbm, ⟨8, _⟩ => ⟨S24, .i32⟩
  | .hbm, ⟨9, _⟩ => ⟨S24, .i1⟩
  | .hbm, ⟨10, _⟩ => ⟨S_, .i32⟩
  | .hbm, ⟨11, _⟩ => ⟨S24, .i32⟩
  | .hbm, ⟨12, _⟩ => ⟨S24, .i32⟩
  | .hbm, ⟨13, _⟩ => ⟨S24, .i32⟩
  | .hbm, ⟨14, _⟩ => ⟨S24x1, .i32⟩
  | .hbm, ⟨15, _⟩ => ⟨S24x1024x2048, .bf16⟩
  | .hbm, ⟨16, _⟩ => ⟨S24x1024x2048, .f32⟩
  | .hbm, ⟨17, _⟩ => ⟨S8x2048x14336, .f32⟩
  | .hbm, ⟨18, _⟩ => ⟨S_, .i32⟩
  | .hbm, ⟨19, _⟩ => ⟨S24, .i32⟩
  | .hbm, ⟨20, _⟩ => ⟨S24, .i1⟩
  | .hbm, ⟨21, _⟩ => ⟨S_, .i32⟩
  | .hbm, ⟨22, _⟩ => ⟨S24, .i32⟩
  | .hbm, ⟨23, _⟩ => ⟨S24, .i32⟩
  | .hbm, ⟨24, _⟩ => ⟨S24, .i32⟩
  | .hbm, ⟨25, _⟩ => ⟨S24x1, .i32⟩
  | .hbm, ⟨26, _⟩ => ⟨S24x2048x14336, .f32⟩
  | .hbm, ⟨27, _⟩ => ⟨S8x7168x2048, .f32⟩
  | .hbm, ⟨28, _⟩ => ⟨S_, .i32⟩
  | .hbm, ⟨29, _⟩ => ⟨S24, .i32⟩
  | .hbm, ⟨30, _⟩ => ⟨S24, .i1⟩
  | .hbm, ⟨31, _⟩ => ⟨S_, .i32⟩
  | .hbm, ⟨32, _⟩ => ⟨S24, .i32⟩
  | .hbm, ⟨33, _⟩ => ⟨S24, .i32⟩
  | .hbm, ⟨34, _⟩ => ⟨S24, .i32⟩
  | .hbm, ⟨35, _⟩ => ⟨S24x1, .i32⟩
  | .hbm, ⟨36, _⟩ => ⟨S24x7168x2048, .f32⟩
  | .hbm, ⟨37, _⟩ => ⟨S24x1024x14336, .f32⟩
  | .hbm, ⟨38, _⟩ => ⟨S24x1024x7168, .f32⟩
  | .hbm, ⟨39, _⟩ => ⟨S24x1024x7168, .f32⟩
  | .hbm, ⟨40, _⟩ => ⟨S24x1024x7168, .f32⟩
  | .hbm, ⟨41, _⟩ => ⟨S24x1024x7168, .f32⟩
  | .hbm, ⟨42, _⟩ => ⟨S_, .f32⟩
  | .hbm, ⟨43, _⟩ => ⟨S24x1024x7168, .f32⟩
  | .hbm, ⟨44, _⟩ => ⟨S24x1024x7168, .f32⟩
  | .hbm, ⟨45, _⟩ => ⟨S_, .f32⟩
  | .hbm, ⟨46, _⟩ => ⟨S24x1024x7168, .f32⟩
  | .hbm, ⟨47, _⟩ => ⟨S24x1024x7168, .f32⟩
  | .hbm, ⟨48, _⟩ => ⟨S24x1024x7168, .f32⟩
  | .hbm, ⟨49, _⟩ => ⟨S24x1024x7168, .f32⟩
  | .hbm, ⟨50, _⟩ => ⟨S24x1024x2048, .f32⟩
  | .hbm, ⟨51, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Combine.lean ====
abbrev S16384 : Shape := ⟨1, ![16384]⟩
abbrev S8192x2048 : Shape := ⟨2, ![8192, 2048]⟩
abbrev S8192x128 : Shape := ⟨2, ![8192, 128]⟩
abbrev S24576x2048 : Shape := ⟨2, ![24576, 2048]⟩
abbrev S2048 : Shape := ⟨1, ![2048]⟩
abbrev S1x2048 : Shape := ⟨2, ![1, 2048]⟩
abbrev S512x2048 : Shape := ⟨2, ![512, 2048]⟩
abbrev S512x128 : Shape := ⟨2, ![512, 128]⟩
abbrev S2x512x2048 : Shape := ⟨3, ![2, 512, 2048]⟩
abbrev S_ : Shape := ⟨0, ![]⟩
abbrev S1 : Shape := ⟨1, ![1]⟩
abbrev S1x1x2048 : Shape := ⟨3, ![1, 1, 2048]⟩
abbrev S512x1 : Shape := ⟨2, ![512, 1]⟩
abbrev S1x512x2048 : Shape := ⟨3, ![1, 512, 2048]⟩
abbrev S512 : Shape := ⟨1, ![512]⟩

abbrev nBuf : Space → Nat
  | .hbm => 6
  | .vmem => 8
  | .smem => 1
  | _ => 0

abbrev bufTy : (tb : Table) → Fin (tcTables nBuf tb) → BufTy
  | .hbm, ⟨0, _⟩ => ⟨S8192x2048, .f32⟩
  | .hbm, ⟨1, _⟩ => ⟨S8192x128, .f32⟩
  | .hbm, ⟨2, _⟩ => ⟨S24576x2048, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x128, .f32⟩
  | .local _ .vmem, ⟨3, _⟩ => ⟨S512x128, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S2x512x2048, .f32⟩
  | .local _ .smem, ⟨0, _⟩ => ⟨S16384, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c512_i32_0 : BitVec 32 := 512#32
  let v1 : BitVec 32 := Scalar.addi c0_i32 c512_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg9 : BitVec 32 := Scf.iv c0_i32 c1_i32 k0_t1
  let v32 : BitVec 32 := Scalar.addi v0 arg9
  let c2_i32 : BitVec 32 := 2#32
  let v33 : BitVec 32 := Scalar.muli v32 c2_i32
  let c0_i32_20 : BitVec 32 := 0#32
  let v34 : BitVec 32 := Scalar.addi v33 c0_i32_20
  let v35 : Index := Scalar.indexCast v34
  ![v35.toNat]
def k0_off2 (k0_t1 : Fin k0_t1_loop.trips) : Fin 3 → Nat :=
  let c0_i32_21 : BitVec 32 := 0#32
  let c0_i32 : BitVec 32 := 0#32
  let c1_i32 : BitVec 32 := 1#32
  let arg9 : BitVec 32 := Scf.iv c0_i32 c1_i32 k0_t1
  let c0_i32_22 : BitVec 32 := 0#32
  ![0, arg9.toNat, 0]
def k0_off3 (v36 : BitVec 32) : Fin 2 → Nat :=
  let c0_i32_23 : BitVec 32 := 0#32
  ![v36.toNat, 0]

def k0_chk1 (v36 : BitVec 32) : Prop :=
  (∀ a, (k0_off3 v36) a + S1x2048.size a ≤ S24576x2048.size a)
theorem k0_off3_inb : ∀ (v36 : BitVec 32) (k0_hw1 : k0_chk1 v36), ∀ a, (k0_off3 v36) a + S1x2048.size a ≤ S24576x2048.size a := fun v36 k0_hw1 => k0_hw1

def k0_off4 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg9 : BitVec 32 := Scf.iv c0_i32 c1_i32 k0_t1
  let v40 : BitVec 32 := Scalar.addi v0 arg9
  let c2_i32_24 : BitVec 32 := 2#32
  let v41 : BitVec 32 := Scalar.muli v40 c2_i32_24
  let c1_i32_25 : BitVec 32 := 1#32
  let v42 : BitVec 32 := Scalar.addi v41 c1_i32_25
  let v43 : Index := Scalar.indexCast v42
  ![v43.toNat]
def k0_off5 (k0_t1 : Fin k0_t1_loop.trips) : Fin 3 → Nat :=
  let c1_i32_26 : BitVec 32 := 1#32
  let c0_i32 : BitVec 32 := 0#32
  let c1_i32 : BitVec 32 := 1#32
  let arg9 : BitVec 32 := Scf.iv c0_i32 c1_i32 k0_t1
  let c0_i32_27 : BitVec 32 := 0#32
  ![1, arg9.toNat, 0]
def k0_off6 (v44 : BitVec 32) : Fin 2 → Nat :=
  let c0_i32_28 : BitVec 32 := 0#32
  ![v44.toNat, 0]

def k0_chk2 (v44 : BitVec 32) : Prop :=
  (∀ a, (k0_off6 v44) a + S1x2048.size a ≤ S24576x2048.size a)
theorem k0_off6_inb : ∀ (v44 : BitVec 32) (k0_hw2 : k0_chk2 v44), ∀ a, (k0_off6 v44) a + S1x2048.size a ≤ S24576x2048.size a := fun v44 k0_hw2 => k0_hw2

@[reducible] def k0_t2_loop : Scf.Loop 32 :=
  let c0_i32_2 : BitVec 32 := 0#32
  let c512_i32_3 : BitVec 32 := 512#32
  let v2 : BitVec 32 := Scalar.addi c0_i32_2 c512_i32_3
  let c1_i32_4 : BitVec 32 := 1#32
  ⟨c0_i32_2, v2, c1_i32_4⟩
def k0_off7 (i : grid0.Coords) (k0_t2 : Fin k0_t2_loop.trips) : Fin 1 → Nat :=
  let arg0 : BitVec 32 := BitVec.ofNat 32 (i 0).val
  let c512_i32 : BitVec 32 := 512#32
  let v0 : BitVec 32 := Scalar.muli arg0 c512_i32
  let c0_i32_2 : BitVec 32 := 0#32
  let c1_i32_4 : BitVec 32 := 1#32
  let arg9 : BitVec 32 := Scf.iv c0_i32_2 c1_i32_4 k0_t2
  let v32 : BitVec 32 := Scalar.addi v0 arg9
  let c2_i32 : BitVec 32 := 2#32
  let v33 : BitVec 32 := Scalar.muli v32 c2_i32
  let c0_i32_20 : BitVec 32 := 0#32
  let v34 : BitVec 32 := Scalar.addi v33 c0_i32_20
  let v35 : Index := Scalar.indexCast v34
  ![v35.toNat]
def k0_off8 (k0_t2 : Fin k0_t2_loop.trips) : Fin 3 → Nat :=
  let c0_i32_21 : BitVec 32 := 0#32
  let c0_i32_2 : BitVec 32 := 0#32
  let c1_i32_4 : BitVec 32 := 1#32
  let arg9 : BitVec 32 := Scf.iv c0_i32_2 c1_i32_4 k0_t2
  let c0_i32_22 : BitVec 32 := 0#32
  ![0, arg9.toNat, 0]
def k0_off9 (v36 : BitVec 32) : Fin 2 → Nat :=
  let c0_i32_23 : BitVec 32 := 0#32
  ![v36.toNat, 0]

def k0_chk3 (v36 : BitVec 32) : Prop :=
  (∀ a, (k0_off9 v36) a + S1x2048.size a ≤ S24576x2048.size a)
theorem k0_off9_inb : ∀ (v36 : BitVec 32) (k0_hw3 : k0_chk3 v36), ∀ a, (k0_off9 v36) a + S1x2048.size a ≤ S24576x2048.size a := fun v36 k0_hw3 => k0_hw3

def k0_off10 (i : grid0.Coords) (k0_t2 : Fin k0_t2_loop.trips) : Fin 1 → Nat :=
  let arg0 : BitVec 32 := BitVec.ofNat 32 (i 0).val
  let c512_i32 : BitVec 32 := 512#32
  let v0 : BitVec 32 := Scalar.muli arg0 c512_i32
  let c0_i32_2 : BitVec 32 := 0#32
  let c1_i32_4 : BitVec 32 := 1#32
  let arg9 : BitVec 32 := Scf.iv c0_i32_2 c1_i32_4 k0_t2
  let v40 : BitVec 32 := Scalar.addi v0 arg9
  let c2_i32_24 : BitVec 32 := 2#32
  let v41 : BitVec 32 := Scalar.muli v40 c2_i32_24
  let c1_i32_25 : BitVec 32 := 1#32
  let v42 : BitVec 32 := Scalar.addi v41 c1_i32_25
  let v43 : Index := Scalar.indexCast v42
  ![v43.toNat]
def k0_off11 (k0_t2 : Fin k0_t2_loop.trips) : Fin 3 → Nat :=
  let c1_i32_26 : BitVec 32 := 1#32
  let c0_i32_2 : BitVec 32 := 0#32
  let c1_i32_4 : BitVec 32 := 1#32
  let arg9 : BitVec 32 := Scf.iv c0_i32_2 c1_i32_4 k0_t2
  let c0_i32_27 : BitVec 32 := 0#32
  ![1, arg9.toNat, 0]
def k0_off12 (v44 : BitVec 32) : Fin 2 → Nat :=
  let c0_i32_28 : BitVec 32 := 0#32
  ![v44.toNat, 0]

def k0_chk4 (v44 : BitVec 32) : Prop :=
  (∀ a, (k0_off12 v44) a + S1x2048.size a ≤ S24576x2048.size a)
theorem k0_off12_inb : ∀ (v44 : BitVec 32) (k0_hw4 : k0_chk4 v44), ∀ a, (k0_off12 v44) a + S1x2048.size a ≤ S24576x2048.size a := fun v44 k0_hw4 => k0_hw4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineRefIdeal.lean ====
abbrev S16384 : Shape := ⟨1, ![16384]⟩
abbrev S8192x2048 : Shape := ⟨2, ![8192, 2048]⟩
abbrev S8192x128 : Shape := ⟨2, ![8192, 128]⟩
abbrev S24576x2048 : Shape := ⟨2, ![24576, 2048]⟩
abbrev S2048 : Shape := ⟨1, ![2048]⟩
abbrev S8192x2 : Shape := ⟨2, ![8192, 2]⟩
abbrev S_ : Shape := ⟨0, ![]⟩
abbrev S8192x1 : Shape := ⟨2, ![8192, 1]⟩
abbrev S8192 : Shape := ⟨1, ![8192]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16384, .i32⟩
  | .hbm, ⟨1, _⟩ => ⟨S8192x2048, .f32⟩
  | .hbm, ⟨2, _⟩ => ⟨S8192x128, .f32⟩
  | .hbm, ⟨3, _⟩ => ⟨S24576x2048, .f32⟩
  | .hbm, ⟨4, _⟩ => ⟨S2048, .f32⟩
  | .hbm, ⟨5, _⟩ => ⟨S8192x2, .i32⟩
  | .hbm, ⟨6, _⟩ => ⟨S8192x2, .f32⟩
  | .hbm, ⟨7, _⟩ => ⟨S_, .f32⟩
  | .hbm, ⟨8, _⟩ => ⟨S8192x2048, .f32⟩
  | .hbm, ⟨9, _⟩ => ⟨S8192x1, .f32⟩
  | .hbm, ⟨10, _⟩ => ⟨S8192x1, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S8192x1, .i32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x1, .f32⟩
  | .hbm, ⟨25, _⟩ => ⟨S8192x1, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Proof.Tail.lean ====
/-
  The projection's last columns, one grid point at a time: what the body computes from its blocks, which part of the arrays those blocks are,
  what the output block and the carried weight tile hold after each point, what the whole array holds after the run, and
  the claim that it is the reference's result.
-/
module

public import proofs.«01_k».proof.Defs
public import proofs.«01_k».proof.Proof.Gen.TailIdeal.Value
public import proofs.«01_k».proof.Proof.Gen.TailRefIdeal.Run
public import Idealize.ShloMosaic.Init
public import Idealize.ShloMosaic.Lib.Quiescent
public import Idealize.ShloMosaic.Lib.Pointwise
public import Idealize.ShloMosaic.Lib.Tactic
public import Idealize.ShloMosaic.Lib.Tactic.ValueTie

@[expose] public section

noncomputable section

namespace Cert.TailIdeal.Block

open Cert.TailIdeal Cert.TailIdeal.Gen Idealize.ShloMosaic Idealize.ShloMosaic.TcCoe Idealize.SL.Sem
open Idealize.ShloMosaic.Pointwise

theorem hz2 : (![0, 0] : Fin 2 → Nat) = fun _ => 0 := funext fun a => by fin_cases a <;> rfl
theorem hz3 : (![0, 0, 0] : Fin 3 → Nat) = fun _ => 0 := funext fun a => by fin_cases a <;> rfl

/-- A later point of a column block leaves the product of its row block and the kept weight tile. -/
theorem out_B (c : Dev nD) (i : grid0.Coords) (a2 : Memref sig .tc .vmem S1024x2048 .bf16) (h2 : a2.IsWhole)
    (a3 : Memref sig .tc .vmem S1x1024x2048 .f32) (h3 : a3.IsWhole) (a4 : Memref sig .tc .vmem S1024x1024 .f32) (h4 : a4.IsWhole)
    (a5 : Memref sig .tc .vmem S1024x2048 .bf16) (h5 : a5.IsWhole) (hc : ¬cond0_0 i)
    (x0 : Vec Ideal S1024x2048 .bf16) (x1 : Vec Ideal S1x1024x2048 .f32) (xs : Vec Ideal S1024x2048 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  rw [View.canon_unit_zero hz2]
  simp only [View.readAt_eq_ld, h2.read_unread, h5.read_unread, View.ld_unit_zero (S := S1024x2048) hz2]

/-- The first point of a column block leaves its weight block, rounded to the narrow format, in the kept tile. -/
theorem sout_A (c : Dev nD) (i : grid0.Coords) (a2 : Memref sig .tc .vmem S1024x2048 .bf16) (h2 : a2.IsWhole)
    (a3 : Memref sig .tc .vmem S1x1024x2048 .f32) (h3 : a3.IsWhole) (a4 : Memref sig .tc .vmem S1024x1024 .f32) (h4 : a4.IsWhole)
    (a5 : Memref sig .tc .vmem S1024x2048 .bf16) (h5 : a5.IsWhole) (hc : cond0_0 i)
    (x0 : Vec Ideal S1024x2048 .bf16) (x1 : Vec Ideal S1x1024x2048 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x1024x2048) hz3]

/-- … and the product of its row block and that tile in the output block. -/
theorem out_A (c : Dev nD) (i : grid0.Coords) (a2 : Memref sig .tc .vmem S1024x2048 .bf16) (h2 : a2.IsWhole)
    (a3 : Memref sig .tc .vmem S1x1024x2048 .f32) (h3 : a3.IsWhole) (a4 : Memref sig .tc .vmem S1024x1024 .f32) (h4 : a4.IsWhole)
    (a5 : Memref sig .tc .vmem S1024x2048 .bf16) (h5 : a5.IsWhole) (hc : cond0_0 i)
    (x0 : Vec Ideal S1024x2048 .bf16) (x1 : Vec Ideal S1x1024x2048 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S1024x2048) _ hz2]
  simp only [View.readAt_eq_ld, h2.read_unread, h3.read_unread, View.ld_unit_zero (S := S1024x2048) hz2,
    View.ld_unit_zero (S := S1x1024x2048) hz3]

/-- Any other point leaves the kept tile as it found it. -/
theorem sout_B (c : Dev nD) (i : grid0.Coords) (a2 : Memref sig .tc .vmem S1024x2048 .bf16) (h2 : a2.IsWhole)
    (a3 : Memref sig .tc .vmem S1x1024x2048 .f32) (h3 : a3.IsWhole) (a4 : Memref sig .tc .vmem S1024x1024 .f32) (h4 : a4.IsWhole)
    (a5 : Memref sig .tc .vmem S1024x2048 .bf16) (h5 : a5.IsWhole) (hc : ¬cond0_0 i)
    (x0 : Vec Ideal S1024x2048 .bf16) (x1 : Vec Ideal S1x1024x2048 .f32) (xs : Vec Ideal S1024x2048 .bf16) :
    sout0_B_0 c i a2 h2 a3 h3 a4 h4 a5 h5 hc x0 x1 xs = xs := rfl

/-- The rounded weight block at an index: over the extended reals the block itself. -/
theorem pay1_apply (x1 : Vec Ideal S1x1024x2048 .f32) (l : Fin 1024) (k : Fin 2048) :
    k0_pay1 (F := Ideal) x1 (ix2 l k) = x1 (ix3 0 l k) := by
  pointwise [k0_pay1]

/-- The block product at an index: the row of the activations against the column of the weight tile. -/
theorem pay2_apply (x0 : Vec Ideal S1024x2048 .bf16) (xs : Vec Ideal S1024x2048 .bf16) (r : Fin 1024) (l : Fin 1024) :
    k0_pay2 (F := Ideal) x0 xs (ix2 r l) = ∑ k : Fin 2048, x0 (ix2 r k) * xs (ix2 l k) := by
  pointwise [k0_pay2]

/-- The launch's memory as the call's arrays: the activations … -/
abbrev act (m : (ℓ : Loc nD τ sig) → Buf (Elt Ideal) ℓ) (c : Dev nD) : Vec Ideal S8192x2048 .bf16 := m ((c : Thread nD τ).loc main_arg0)
/-- … the stacked weights -/
abbrev wgt (m : (ℓ : Loc nD τ sig) → Buf (Elt Ideal) ℓ) (c : Dev nD) : Vec Ideal S2x2048x17424 .f32 := m ((c : Thread nD τ).loc main_arg1)

variable (m : (ℓ : Loc nD τ sig) → Buf (Elt Ideal) ℓ)

/-- Which rows of the activations and which part of the weights a point reads. -/
theorem ix_facts : ∀ t : Fin cfg0.N, win0_0.index t (0 : Fin 2) = t.val % 8 ∧ win0_0.index t (1 : Fin 2) = 0
    ∧ win0_1.index t (0 : Fin 3) = 0 ∧ win0_1.index t (1 : Fin 3) = 8208 + 1024 * (t.val / 8) ∧ win0_1.index t (2 : Fin 3) = 0 :=
  (by decide +kernel : ∀ t : Fin grid0.N, _)

theorem ltN (t : Fin cfg0.N) : t.val < 72 := lt_of_lt_of_eq t.isLt N_0

/-- The host's transposed weights, read back as the weights. -/
theorem v0_apply (c : Dev nD) (a : Fin 2) (r : Fin 17424) (k : Fin 2048) :
    V m c main_v0 (ix3 a r k) = wgt m c (ix3 a k r) := by
  have h : V m c main_v0 = transpose S2x17424x2048 [0, 2, 1] (m ((c : Thread nD τ).loc main_arg1)) transposes_S2x2048x17424_S2x17424x2048_0_2_1 := by
    dsimp only [V, hostOps0]
    after_results
  rw [h]
  pointwise [wgt]

/-- Point `t`'s block of the activations: rows `1024·(t mod 8)` on. -/
theorem blk0_apply (c : Dev nD) (t : Fin cfg0.N) (r : Fin 1024) (k : Fin 2048) :
    iblk m c 0 t (ix2 r k) = act m c (ix2 ⟨1024 * (t.val % 8) + r.val, by omega⟩ k) := by
  obtain ⟨e0, e1, -⟩ := ix_facts t
  unfold iblk
  rw [View.read_apply]
  show V m c main_arg0 _ = _
  rw [V_main_arg0]
  show act m c _ = act m c _
  congr 1; funext a; apply Fin.ext
  match a with
  | ⟨0, _⟩ => show win0_0.index t (0 : Fin 2) * 1024 + 1 * r.val = 1024 * (t.val % 8) + r.val; omega
  | ⟨1, _⟩ => show win0_0.index t (1 : Fin 2) * 2048 + 1 * k.val = k.val; omega

/-- Point `t`'s element-indexed block of the transposed weights: rows `8208 + 1024·(t / 8)` on, so the weights' columns
    from there. -/
theorem blk1_apply (c : Dev nD) (t : Fin cfg0.N) (l : Fin 1024) (k : Fin 2048) :
    iblk m c 1 t (ix3 0 l k) = wgt m c (ix3 0 k ⟨8208 + 1024 * (t.val / 8) + l.val, by have := ltN t; omega⟩) := by
  have := ltN t
  obtain ⟨-, -, e0, e1, e2⟩ := ix_facts t
  unfold iblk
  rw [View.read_apply, ← v0_apply]
  show V m c main_v0 _ = V m c main_v0 _
  congr 1; funext a; apply Fin.ext
  match a with
  | ⟨0, _⟩ => show win0_1.index t (0 : Fin 3) + 1 * 0 = 0; omega
  | ⟨1, _⟩ => show win0_1.index t (1 : Fin 3) + 1 * l.val = 8208 + 1024 * (t.val / 8) + l.val; omega
  | ⟨2, _⟩ => show win0_1.index t (2 : Fin 3) + 1 * k.val = k.val; omega

/-- The weight tile kept after point `n` is column block `n / 8` of the weights: stored at the block's first point and
    carried through the others. -/
theorem kept (c : Dev nD) : ∀ (n : ℕ) (hn : n < cfg0.N) (l : Fin 1024) (k : Fin 2048),
    (outsAt0 m c n hn).2 (ix2 l k)
      = wgt m c (ix3 0 k ⟨8208 + 1024 * (n / 8) + l.val, by have := ltN ⟨n, hn⟩; dsimp only at this; omega⟩) := by
  intro n
  induction n with
  | zero =>
    intro hn l k
    rw [outsAt0_A m c ⟨0, hn⟩ rfl]; dsimp only
    rw [sout_A, pay1_apply, blk1_apply]
  | succ n ih =>
    intro hn l k
    by_cases h0 : (n + 1) % 8 = 0
    · rw [outsAt0_A m c ⟨n + 1, hn⟩ h0]; dsimp only
      rw [sout_A, pay1_apply, blk1_apply]
    · rw [outsAt0_B m c ⟨n + 1, hn⟩ h0]
      dsimp only
      rw [sout_B]
      simp only [Nat.add_sub_cancel]
      rw [ih]
      refine congrArg (fun q => wgt m c (ix3 0 k q)) (Fin.ext ?_)
      show 8208 + 1024 * (n / 8) + l.val = 8208 + 1024 * ((n + 1) / 8) + l.val
      omega

/-- What point `n` leaves in the output block: rows `1024·(n mod 8)` on of the activations against columns
    `8208 + 1024·(n / 8)` on of the weights. -/
theorem left_ (c : Dev nD) (n : ℕ) (hn : n < cfg0.N) (r : Fin 1024) (l : Fin 1024) :
    (outsAt0 m c n hn).1 (ix2 r l)
      = ∑ k : Fin 2048, act m c (ix2 ⟨1024 * (n % 8) + r.val, by omega⟩ k)
          * wgt m c (ix3 0 k ⟨8208 + 1024 * (n / 8) + l.val, by have := ltN ⟨n, hn⟩; dsimp only at this; omega⟩) := by
  by_cases h0 : n % 8 = 0
  · rw [outsAt0_A m c ⟨n, hn⟩ h0]; dsimp only
    rw [out_A, pay2_apply]
    refine Finset.sum_congr rfl fun k _ => ?_
    rw [pay1_apply, blk0_apply, blk1_apply]
  · rw [outsAt0_B m c ⟨n, hn⟩ h0]; dsimp only
    rw [out_B, pay2_apply]
    refine Finset.sum_congr rfl fun k _ => ?_
    rw [blk0_apply, kept]
    refine congrArg₂ (fun p q => act m c (ix2 p k) * wgt m c (ix3 0 k q)) rfl (Fin.ext ?_)
    show 8208 + 1024 * ((n - 1) / 8) + l.val = 8208 + 1024 * (n / 8) + l.val
    omega

/-- The result array after the run. -/
abbrev out (c : Dev nD) : Vec Ideal S8192x9216 .f32 := Value.G2 m c

/-- THE WHOLE ARRAY after the run: the product of the activations and the weights' columns from 8208 on. -/
theorem result (c : Dev nD) (r : Fin 8192) (q : Fin 9216) :
    out m c (ix2 r q) = ∑ k : Fin 2048, act m c (ix2 r k) * wgt m c (ix3 0 k ⟨8208 + q.val, by omega⟩) := by
  have hN : cfg0.N = 72 := N_0
  have hp : Value.pt2Of (ix2 r q) = r.val / 1024 + 8 * (q.val / 1024) := by
    show 1 * (r.val / 1024 - 0) + 8 * (q.val / 1024 - 0) = _; omega
  have hlt : Value.pt2Of (ix2 r q) < cfg0.N := by omega
  unfold out Value.G2
  rw [dif_pos hlt, ← Value.outsAt0_sweep m c _ hlt]
  have hl : Value.loc2Of (ix2 r q) = ix2 ⟨r.val % 1024, Nat.mod_lt _ (by decide)⟩ ⟨q.val % 1024, Nat.mod_lt _ (by decide)⟩ := by
    funext a; apply Fin.ext
    match a with
    | ⟨0, _⟩ => rfl
    | ⟨1, _⟩ => rfl
  have hr : 1024 * (Value.pt2Of (ix2 r q) % 8) + r.val % 1024 = r.val := by omega
  have hq : 1024 * (Value.pt2Of (ix2 r q) / 8) + q.val % 1024 = q.val := by omega
  rw [hl, left_]

  refine Finset.sum_congr rfl fun k _ => congrArg₂ (fun p q => act m c (ix2 p k) * wgt m c (ix3 0 k q)) (Fin.ext hr) (Fin.ext ?_)
  show 8208 + 1024 * (Value.pt2Of (ix2 r q) / 8) + q.val % 1024 = 8208 + q.val
  omega

end Cert.TailIdeal.Block

namespace Cert.Proof

open Idealize.ShloMosaic Idealize.SL.Sem

/-- The reference's run leaves its arguments alone and no semaphore raised. -/
theorem quiescent_TailRefIdeal : quiescent_TailRefIdeal := fun m ρ _ =>
  (θ_run Cert.TailRefIdeal.defs _ _).mono (fun r h => ⟨fun c => (h c).2, sem_eq_zero_of_no_sems (by decide) r.2⟩)
    (Cert.TailRefIdeal.Value.run (F := Ideal) m ρ)

/-- The call's result array is the reference's. -/
theorem algebraic_TailIdeal_TailRefIdeal : algebraic_TailIdeal_TailRefIdeal := by
  intro m ρ m' ρ' _ hagree
  refine ⟨_, Cert.TailIdeal.Value.run (F := Ideal) m ρ, ?_⟩
  refine (θ_run Cert.TailRefIdeal.defs _ _).mono (fun _ h c => ⟨?_, (h c).2⟩) (Cert.TailRefIdeal.Value.run (F := Ideal) m' ρ')
  rw [(h c).1]
  simp only [hagree c]
  clean_types
  funext i
  obtain ⟨r, q, rfl⟩ : ∃ (r : Fin 8192) (q : Fin 9216), i = Idealize.ShloMosaic.ix2 r q := ⟨i 0, i 1, Idealize.ShloMosaic.eq_ix2 i⟩
  refine Eq.trans ?_ (Cert.TailIdeal.Block.result m c r q).symm
  pointwise [Cert.TailIdeal.Block.act, Cert.TailIdeal.Block.wgt]

end Cert.Proof

end
-- ==== Proof.Ab.lean ====
/-
  The projection's first columns, one grid point at a time: what the body computes from its blocks, which part of the arrays those blocks are,
  what the output block and the carried weight tile hold after each point, what the whole array holds after the run, and
  the claim that it is the reference's result.
-/
module

public import proofs.«01_k».proof.Defs
public import proofs.«01_k».proof.Proof.Gen.AbIdeal.Value
public import proofs.«01_k».proof.Proof.Gen.AbRefIdeal.Run
public import Idealize.ShloMosaic.Init
public import Idealize.ShloMosaic.Lib.Quiescent
public import Idealize.ShloMosaic.Lib.Pointwise
public import Idealize.ShloMosaic.Lib.Tactic
public import Idealize.ShloMosaic.Lib.Tactic.ValueTie

@[expose] public section

noncomputable section

namespace Cert.AbIdeal.Block

open Cert.AbIdeal Cert.AbIdeal.Gen Idealize.ShloMosaic Idealize.ShloMosaic.TcCoe Idealize.SL.Sem
open Idealize.ShloMosaic.Pointwise

theorem hz2 : (![0, 0] : Fin 2 → Nat) = fun _ => 0 := funext fun a => by fin_cases a <;> rfl
theorem hz3 : (![0, 0, 0] : Fin 3 → Nat) = fun _ => 0 := funext fun a => by fin_cases a <;> rfl

/-- A later point of a column block leaves the product of its row block and the kept weight tile. -/
theorem out_B (c : Dev nD) (i : grid0.Coords) (a2 : Memref sig .tc .vmem S1024x2048 .bf16) (h2 : a2.IsWhole)
    (a3 : Memref sig .tc .vmem S1x1024x2048 .f32) (h3 : a3.IsWhole) (a4 : Memref sig .tc .vmem S1024x1024 .f32) (h4 : a4.IsWhole)
    (a5 : Memref sig .tc .vmem S1024x2048 .bf16) (h5 : a5.IsWhole) (hc : ¬cond0_0 i)
    (x0 : Vec Ideal S1024x2048 .bf16) (x1 : Vec Ideal S1x1024x2048 .f32) (xs : Vec Ideal S1024x2048 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  rw [View.canon_unit_zero hz2]
  simp only [View.readAt_eq_ld, h2.read_unread, h5.read_unread, View.ld_unit_zero (S := S1024x2048) hz2]

/-- The first point of a column block leaves its weight block, rounded to the narrow format, in the kept tile. -/
theorem sout_A (c : Dev nD) (i : grid0.Coords) (a2 : Memref sig .tc .vmem S1024x2048 .bf16) (h2 : a2.IsWhole)
    (a3 : Memref sig .tc .vmem S1x1024x2048 .f32) (h3 : a3.IsWhole) (a4 : Memref sig .tc .vmem S1024x1024 .f32) (h4 : a4.IsWhole)
    (a5 : Memref sig .tc .vmem S1024x2048 .bf16) (h5 : a5.IsWhole) (hc : cond0_0 i)
    (x0 : Vec Ideal S1024x2048 .bf16) (x1 : Vec Ideal S1x1024x2048 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x1024x2048) hz3]

/-- … and the product of its row block and that tile in the output block. -/
theorem out_A (c : Dev nD) (i : grid0.Coords) (a2 : Memref sig .tc .vmem S1024x2048 .bf16) (h2 : a2.IsWhole)
    (a3 : Memref sig .tc .vmem S1x1024x2048 .f32) (h3 : a3.IsWhole) (a4 : Memref sig .tc .vmem S1024x1024 .f32) (h4 : a4.IsWhole)
    (a5 : Memref sig .tc .vmem S1024x2048 .bf16) (h5 : a5.IsWhole) (hc : cond0_0 i)
    (x0 : Vec Ideal S1024x2048 .bf16) (x1 : Vec Ideal S1x1024x2048 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S1024x2048) _ hz2]
  simp only [View.readAt_eq_ld, h2.read_unread, h3.read_unread, View.ld_unit_zero (S := S1024x2048) hz2,
    View.ld_unit_zero (S := S1x1024x2048) hz3]

/-- Any other point leaves the kept tile as it found it. -/
theorem sout_B (c : Dev nD) (i : grid0.Coords) (a2 : Memref sig .tc .vmem S1024x2048 .bf16) (h2 : a2.IsWhole)
    (a3 : Memref sig .tc .vmem S1x1024x2048 .f32) (h3 : a3.IsWhole) (a4 : Memref sig .tc .vmem S1024x1024 .f32) (h4 : a4.IsWhole)
    (a5 : Memref sig .tc .vmem S1024x2048 .bf16) (h5 : a5.IsWhole) (hc : ¬cond0_0 i)
    (x0 : Vec Ideal S1024x2048 .bf16) (x1 : Vec Ideal S1x1024x2048 .f32) (xs : Vec Ideal S1024x2048 .bf16) :
    sout0_B_0 c i a2 h2 a3 h3 a4 h4 a5 h5 hc x0 x1 xs = xs := rfl

/-- The rounded weight block at an index: over the extended reals the block itself. -/
theorem pay1_apply (x1 : Vec Ideal S1x1024x2048 .f32) (l : Fin 1024) (k : Fin 2048) :
    k0_pay1 (F := Ideal) x1 (ix2 l k) = x1 (ix3 0 l k) := by
  pointwise [k0_pay1]

/-- The block product at an index: the row of the activations against the column of the weight tile. -/
theorem pay2_apply (x0 : Vec Ideal S1024x2048 .bf16) (xs : Vec Ideal S1024x2048 .bf16) (r : Fin 1024) (l : Fin 1024) :
    k0_pay2 (F := Ideal) x0 xs (ix2 r l) = ∑ k : Fin 2048, x0 (ix2 r k) * xs (ix2 l k) := by
  pointwise [k0_pay2]

/-- The launch's memory as the call's arrays: the activations … -/
abbrev act (m : (ℓ : Loc nD τ sig) → Buf (Elt Ideal) ℓ) (c : Dev nD) : Vec Ideal S8192x2048 .bf16 := m ((c : Thread nD τ).loc main_arg0)
/-- … the stacked weights -/
abbrev wgt (m : (ℓ : Loc nD τ sig) → Buf (Elt Ideal) ℓ) (c : Dev nD) : Vec Ideal S2x2048x17424 .f32 := m ((c : Thread nD τ).loc main_arg1)

variable (m : (ℓ : Loc nD τ sig) → Buf (Elt Ideal) ℓ)

/-- Which rows of the activations and which part of the weights a point reads. -/
theorem ix_facts : ∀ t : Fin cfg0.N, win0_0.index t (0 : Fin 2) = t.val % 8 ∧ win0_0.index t (1 : Fin 2) = 0
    ∧ win0_1.index t (0 : Fin 3) = 0 ∧ win0_1.index t (1 : Fin 3) = 1024 * (t.val / 8) ∧ win0_1.index t (2 : Fin 3) = 0 :=
  (by decide +kernel : ∀ t : Fin grid0.N, _)

theorem ltN (t : Fin cfg0.N) : t.val < 64 := lt_of_lt_of_eq t.isLt N_0

/-- The host's transposed weights, read back as the weights. -/
theorem v0_apply (c : Dev nD) (a : Fin 2) (r : Fin 17424) (k : Fin 2048) :
    V m c main_v0 (ix3 a r k) = wgt m c (ix3 a k r) := by
  have h : V m c main_v0 = transpose S2x17424x2048 [0, 2, 1] (m ((c : Thread nD τ).loc main_arg1)) transposes_S2x2048x17424_S2x17424x2048_0_2_1 := by
    dsimp only [V, hostOps0]
    after_results
  rw [h]
  pointwise [wgt]

/-- Point `t`'s block of the activations: rows `1024·(t mod 8)` on. -/
theorem blk0_apply (c : Dev nD) (t : Fin cfg0.N) (r : Fin 1024) (k : Fin 2048) :
    iblk m c 0 t (ix2 r k) = act m c (ix2 ⟨1024 * (t.val % 8) + r.val, by omega⟩ k) := by
  obtain ⟨e0, e1, -⟩ := ix_facts t
  unfold iblk
  rw [View.read_apply]
  show V m c main_arg0 _ = _
  rw [V_main_arg0]
  show act m c _ = act m c _
  congr 1; funext a; apply Fin.ext
  match a with
  | ⟨0, _⟩ => show win0_0.index t (0 : Fin 2) * 1024 + 1 * r.val = 1024 * (t.val % 8) + r.val; omega
  | ⟨1, _⟩ => show win0_0.index t (1 : Fin 2) * 2048 + 1 * k.val = k.val; omega

/-- Point `t`'s element-indexed block of the transposed weights: rows `1024·(t / 8)` on, so the weights' columns
    from there. -/
theorem blk1_apply (c : Dev nD) (t : Fin cfg0.N) (l : Fin 1024) (k : Fin 2048) :
    iblk m c 1 t (ix3 0 l k) = wgt m c (ix3 0 k ⟨1024 * (t.val / 8) + l.val, by have := ltN t; omega⟩) := by
  have := ltN t
  obtain ⟨-, -, e0, e1, e2⟩ := ix_facts t
  unfold iblk
  rw [View.read_apply, ← v0_apply]
  show V m c main_v0 _ = V m c main_v0 _
  congr 1; funext a; apply Fin.ext
  match a with
  | ⟨0, _⟩ => show win0_1.index t (0 : Fin 3) + 1 * 0 = 0; omega
  | ⟨1, _⟩ => show win0_1.index t (1 : Fin 3) + 1 * l.val = 1024 * (t.val / 8) + l.val; omega
  | ⟨2, _⟩ => show win0_1.index t (2 : Fin 3) + 1 * k.val = k.val; omega

/-- The weight tile kept after point `n` is column block `n / 8` of the weights: stored at the block's first point and
    carried through the others. -/
theorem kept (c : Dev nD) : ∀ (n : ℕ) (hn : n < cfg0.N) (l : Fin 1024) (k : Fin 2048),
    (outsAt0 m c n hn).2 (ix2 l k)
      = wgt m c (ix3 0 k ⟨1024 * (n / 8) + l.val, by have := ltN ⟨n, hn⟩; dsimp only at this; omega⟩) := by
  intro n
  induction n with
  | zero =>
    intro hn l k
    rw [outsAt0_A m c ⟨0, hn⟩ rfl]; dsimp only
    rw [sout_A, pay1_apply, blk1_apply]
  | succ n ih =>
    intro hn l k
    by_cases h0 : (n + 1) % 8 = 0
    · rw [outsAt0_A m c ⟨n + 1, hn⟩ h0]; dsimp only
      rw [sout_A, pay1_apply, blk1_apply]
    · rw [outsAt0_B m c ⟨n + 1, hn⟩ h0]
      dsimp only
      rw [sout_B]
      simp only [Nat.add_sub_cancel]
      rw [ih]
      refine congrArg (fun q => wgt m c (ix3 0 k q)) (Fin.ext ?_)
      show 1024 * (n / 8) + l.val = 1024 * ((n + 1) / 8) + l.val
      omega

/-- What point `n` leaves in the output block: rows `1024·(n mod 8)` on of the activations against columns
    `1024·(n / 8)` on of the weights. -/
theorem left_ (c : Dev nD) (n : ℕ) (hn : n < cfg0.N) (r : Fin 1024) (l : Fin 1024) :
    (outsAt0 m c n hn).1 (ix2 r l)
      = ∑ k : Fin 2048, act m c (ix2 ⟨1024 * (n % 8) + r.val, by omega⟩ k)
          * wgt m c (ix3 0 k ⟨1024 * (n / 8) + l.val, by have := ltN ⟨n, hn⟩; dsimp only at this; omega⟩) := by
  by_cases h0 : n % 8 = 0
  · rw [outsAt0_A m c ⟨n, hn⟩ h0]; dsimp only
    rw [out_A, pay2_apply]
    refine Finset.sum_congr rfl fun k _ => ?_
    rw [pay1_apply, blk0_apply, blk1_apply]
  · rw [outsAt0_B m c ⟨n, hn⟩ h0]; dsimp only
    rw [out_B, pay2_apply]
    refine Finset.sum_congr rfl fun k _ => ?_
    rw [blk0_apply, kept]
    refine congrArg₂ (fun p q => act m c (ix2 p k) * wgt m c (ix3 0 k q)) rfl (Fin.ext ?_)
    show 1024 * ((n - 1) / 8) + l.val = 1024 * (n / 8) + l.val
    omega

/-- The result array after the run. -/
abbrev out (c : Dev nD) : Vec Ideal S8192x8192 .f32 := Value.G2 m c

/-- THE WHOLE ARRAY after the run: the product of the activations and the weights' columns. -/
theorem result (c : Dev nD) (r : Fin 8192) (q : Fin 8192) :
    out m c (ix2 r q) = ∑ k : Fin 2048, act m c (ix2 r k) * wgt m c (ix3 0 k ⟨q.val, by omega⟩) := by
  have hN : cfg0.N = 64 := N_0
  have hp : Value.pt2Of (ix2 r q) = r.val / 1024 + 8 * (q.val / 1024) := by
    show 1 * (r.val / 1024 - 0) + 8 * (q.val / 1024 - 0) = _; omega
  have hlt : Value.pt2Of (ix2 r q) < cfg0.N := by omega
  unfold out Value.G2
  rw [dif_pos hlt, ← Value.outsAt0_sweep m c _ hlt]
  have hl : Value.loc2Of (ix2 r q) = ix2 ⟨r.val % 1024, Nat.mod_lt _ (by decide)⟩ ⟨q.val % 1024, Nat.mod_lt _ (by decide)⟩ := by
    funext a; apply Fin.ext
    match a with
    | ⟨0, _⟩ => rfl
    | ⟨1, _⟩ => rfl
  have hr : 1024 * (Value.pt2Of (ix2 r q) % 8) + r.val % 1024 = r.val := by omega
  have hq : 1024 * (Value.pt2Of (ix2 r q) / 8) + q.val % 1024 = q.val := by omega
  rw [hl, left_]

  refine Finset.sum_congr rfl fun k _ => congrArg₂ (fun p q => act m c (ix2 p k) * wgt m c (ix3 0 k q)) (Fin.ext hr) (Fin.ext ?_)
  show 1024 * (Value.pt2Of (ix2 r q) / 8) + q.val % 1024 = q.val
  omega

end Cert.AbIdeal.Block

namespace Cert.Proof

open Idealize.ShloMosaic Idealize.SL.Sem

/-- The reference's run leaves its arguments alone and no semaphore raised. -/
theorem quiescent_AbRefIdeal : quiescent_AbRefIdeal := fun m ρ _ =>
  (θ_run Cert.AbRefIdeal.defs _ _).mono (fun r h => ⟨fun c => (h c).2, sem_eq_zero_of_no_sems (by decide) r.2⟩)
    (Cert.AbRefIdeal.Value.run (F := Ideal) m ρ)

/-- The call's result array is the reference's. -/
theorem algebraic_AbIdeal_AbRefIdeal : algebraic_AbIdeal_AbRefIdeal := by
  intro m ρ m' ρ' _ hagree
  refine ⟨_, Cert.AbIdeal.Value.run (F := Ideal) m ρ, ?_⟩
  refine (θ_run Cert.AbRefIdeal.defs _ _).mono (fun _ h c => ⟨?_, (h c).2⟩) (Cert.AbRefIdeal.Value.run (F := Ideal) m' ρ')
  rw [(h c).1]
  simp only [hagree c]
  clean_types
  funext i
  obtain ⟨r, q, rfl⟩ : ∃ (r : Fin 8192) (q : Fin 8192), i = Idealize.ShloMosaic.ix2 r q := ⟨i 0, i 1, Idealize.ShloMosaic.eq_ix2 i⟩
  refine Eq.trans ?_ (Cert.AbIdeal.Block.result m c r q).symm
  pointwise [Cert.AbIdeal.Block.act, Cert.AbIdeal.Block.wgt]

end Cert.Proof

end
-- ==== Proof.Small.lean ====
/-
  The projection's narrow columns, one grid point at a time: what the body computes from its blocks, which part of the arrays those blocks are,
  what the output block and the carried weight tile hold after each point, what the whole array holds after the run, and
  the claim that it is the reference's result.
-/
module

public import proofs.«01_k».proof.Defs
public import proofs.«01_k».proof.Proof.Gen.SmallIdeal.Value
public import proofs.«01_k».proof.Proof.Gen.SmallRefIdeal.Run
public import Idealize.ShloMosaic.Init
public import Idealize.ShloMosaic.Lib.Quiescent
public import Idealize.ShloMosaic.Lib.Pointwise
public import Idealize.ShloMosaic.Lib.Tactic
public import Idealize.ShloMosaic.Lib.Tactic.ValueTie

@[expose] public section

noncomputable section

namespace Cert.SmallIdeal.Block

open Cert.SmallIdeal Cert.SmallIdeal.Gen Idealize.ShloMosaic Idealize.ShloMosaic.TcCoe Idealize.SL.Sem
open Idealize.ShloMosaic.Pointwise

theorem hz2 : (![0, 0] : Fin 2 → Nat) = fun _ => 0 := funext fun a => by fin_cases a <;> rfl
theorem hz3 : (![0, 0, 0] : Fin 3 → Nat) = fun _ => 0 := funext fun a => by fin_cases a <;> rfl

/-- A later point of a column block leaves the product of its row block and the kept weight tile. -/
theorem out_B (c : Dev nD) (i : grid0.Coords) (a2 : Memref sig .tc .vmem S1024x2048 .bf16) (h2 : a2.IsWhole)
    (a3 : Memref sig .tc .vmem S1x128x2048 .f32) (h3 : a3.IsWhole) (a4 : Memref sig .tc .vmem S1024x128 .f32) (h4 : a4.IsWhole)
    (a5 : Memref sig .tc .vmem S128x2048 .bf16) (h5 : a5.IsWhole) (hc : ¬cond0_0 i)
    (x0 : Vec Ideal S1024x2048 .bf16) (x1 : Vec Ideal S1x128x2048 .f32) (xs : Vec Ideal S128x2048 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  rw [View.canon_unit_zero hz2]
  simp only [View.readAt_eq_ld, h2.read_unread, h5.read_unread, View.ld_unit_zero (S := S1024x2048) hz2, View.ld_unit_zero (S := S128x2048) hz2]

/-- The first point of a column block leaves its weight block, rounded to the narrow format, in the kept tile. -/
theorem sout_A (c : Dev nD) (i : grid0.Coords) (a2 : Memref sig .tc .vmem S1024x2048 .bf16) (h2 : a2.IsWhole)
    (a3 : Memref sig .tc .vmem S1x128x2048 .f32) (h3 : a3.IsWhole) (a4 : Memref sig .tc .vmem S1024x128 .f32) (h4 : a4.IsWhole)
    (a5 : Memref sig .tc .vmem S128x2048 .bf16) (h5 : a5.IsWhole) (hc : cond0_0 i)
    (x0 : Vec Ideal S1024x2048 .bf16) (x1 : Vec Ideal S1x128x2048 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x128x2048) hz3]

/-- … and the product of its row block and that tile in the output block. -/
theorem out_A (c : Dev nD) (i : grid0.Coords) (a2 : Memref sig .tc .vmem S1024x2048 .bf16) (h2 : a2.IsWhole)
    (a3 : Memref sig .tc .vmem S1x128x2048 .f32) (h3 : a3.IsWhole) (a4 : Memref sig .tc .vmem S1024x128 .f32) (h4 : a4.IsWhole)
    (a5 : Memref sig .tc .vmem S128x2048 .bf16) (h5 : a5.IsWhole) (hc : cond0_0 i)
    (x0 : Vec Ideal S1024x2048 .bf16) (x1 : Vec Ideal S1x128x2048 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S128x2048) _ hz2]
  simp only [View.readAt_eq_ld, h2.read_unread, h3.read_unread, View.ld_unit_zero (S := S1024x2048) hz2,
    View.ld_unit_zero (S := S1x128x2048) hz3]

/-- Any other point leaves the kept tile as it found it. -/
theorem sout_B (c : Dev nD) (i : grid0.Coords) (a2 : Memref sig .tc .vmem S1024x2048 .bf16) (h2 : a2.IsWhole)
    (a3 : Memref sig .tc .vmem S1x128x2048 .f32) (h3 : a3.IsWhole) (a4 : Memref sig .tc .vmem S1024x128 .f32) (h4 : a4.IsWhole)
    (a5 : Memref sig .tc .vmem S128x2048 .bf16) (h5 : a5.IsWhole) (hc : ¬cond0_0 i)
    (x0 : Vec Ideal S1024x2048 .bf16) (x1 : Vec Ideal S1x128x2048 .f32) (xs : Vec Ideal S128x2048 .bf16) :
    sout0_B_0 c i a2 h2 a3 h3 a4 h4 a5 h5 hc x0 x1 xs = xs := rfl

/-- The rounded weight block at an index: over the extended reals the block itself. -/
theorem pay1_apply (x1 : Vec Ideal S1x128x2048 .f32) (l : Fin 128) (k : Fin 2048) :
    k0_pay1 (F := Ideal) x1 (ix2 l k) = x1 (ix3 0 l k) := by
  pointwise [k0_pay1]

/-- The block product at an index: the row of the activations against the column of the weight tile. -/
theorem pay2_apply (x0 : Vec Ideal S1024x2048 .bf16) (xs : Vec Ideal S128x2048 .bf16) (r : Fin 1024) (l : Fin 128) :
    k0_pay2 (F := Ideal) x0 xs (ix2 r l) = ∑ k : Fin 2048, x0 (ix2 r k) * xs (ix2 l k) := by
  pointwise [k0_pay2]

/-- The launch's memory as the call's arrays: the activations … -/
abbrev act (m : (ℓ : Loc nD τ sig) → Buf (Elt Ideal) ℓ) (c : Dev nD) : Vec Ideal S8192x2048 .bf16 := m ((c : Thread nD τ).loc main_arg0)
/-- … the stacked weights -/
abbrev wgt (m : (ℓ : Loc nD τ sig) → Buf (Elt Ideal) ℓ) (c : Dev nD) : Vec Ideal S2x2048x17424 .f32 := m ((c : Thread nD τ).loc main_arg1)

variable (m : (ℓ : Loc nD τ sig) → Buf (Elt Ideal) ℓ)

/-- Which rows of the activations and which part of the weights a point reads. -/
theorem ix_facts : ∀ t : Fin cfg0.N, win0_0.index t (0 : Fin 2) = t.val % 8 ∧ win0_0.index t (1 : Fin 2) = 0
    ∧ win0_1.index t (0 : Fin 3) = 0 ∧ win0_1.index t (1 : Fin 3) = 8192 + 128 * (t.val / 8) ∧ win0_1.index t (2 : Fin 3) = 0 :=
  (by decide +kernel : ∀ t : Fin grid0.N, _)

theorem ltN (t : Fin cfg0.N) : t.val < 8 := lt_of_lt_of_eq t.isLt N_0

/-- The host's transposed weights, read back as the weights. -/
theorem v0_apply (c : Dev nD) (a : Fin 2) (r : Fin 17424) (k : Fin 2048) :
    V m c main_v0 (ix3 a r k) = wgt m c (ix3 a k r) := by
  have h : V m c main_v0 = transpose S2x17424x2048 [0, 2, 1] (m ((c : Thread nD τ).loc main_arg1)) transposes_S2x2048x17424_S2x17424x2048_0_2_1 := by
    dsimp only [V, hostOps0]
    after_results
  rw [h]
  pointwise [wgt]

/-- Point `t`'s block of the activations: rows `1024·(t mod 8)` on. -/
theorem blk0_apply (c : Dev nD) (t : Fin cfg0.N) (r : Fin 1024) (k : Fin 2048) :
    iblk m c 0 t (ix2 r k) = act m c (ix2 ⟨1024 * (t.val % 8) + r.val, by omega⟩ k) := by
  obtain ⟨e0, e1, -⟩ := ix_facts t
  unfold iblk
  rw [View.read_apply]
  show V m c main_arg0 _ = _
  rw [V_main_arg0]
  show act m c _ = act m c _
  congr 1; funext a; apply Fin.ext
  match a with
  | ⟨0, _⟩ => show win0_0.index t (0 : Fin 2) * 1024 + 1 * r.val = 1024 * (t.val % 8) + r.val; omega
  | ⟨1, _⟩ => show win0_0.index t (1 : Fin 2) * 2048 + 1 * k.val = k.val; omega

/-- Point `t`'s element-indexed block of the transposed weights: rows `8192 + 128·(t / 8)` on, so the weights' columns
    from there. -/
theorem blk1_apply (c : Dev nD) (t : Fin cfg0.N) (l : Fin 128) (k : Fin 2048) :
    iblk m c 1 t (ix3 0 l k) = wgt m c (ix3 0 k ⟨8192 + 128 * (t.val / 8) + l.val, by have := ltN t; omega⟩) := by
  have := ltN t
  obtain ⟨-, -, e0, e1, e2⟩ := ix_facts t
  unfold iblk
  rw [View.read_apply, ← v0_apply]
  show V m c main_v0 _ = V m c main_v0 _
  congr 1; funext a; apply Fin.ext
  match a with
  | ⟨0, _⟩ => show win0_1.index t (0 : Fin 3) + 1 * 0 = 0; omega
  | ⟨1, _⟩ => show win0_1.index t (1 : Fin 3) + 1 * l.val = 8192 + 128 * (t.val / 8) + l.val; omega
  | ⟨2, _⟩ => show win0_1.index t (2 : Fin 3) + 1 * k.val = k.val; omega

/-- The weight tile kept after point `n` is column block `n / 8` of the weights: stored at the block's first point and
    carried through the others. -/
theorem kept (c : Dev nD) : ∀ (n : ℕ) (hn : n < cfg0.N) (l : Fin 128) (k : Fin 2048),
    (outsAt0 m c n hn).2 (ix2 l k)
      = wgt m c (ix3 0 k ⟨8192 + 128 * (n / 8) + l.val, by have := ltN ⟨n, hn⟩; dsimp only at this; omega⟩) := by
  intro n
  induction n with
  | zero =>
    intro hn l k
    rw [outsAt0_A m c ⟨0, hn⟩ rfl]; dsimp only
    rw [sout_A, pay1_apply, blk1_apply]
  | succ n ih =>
    intro hn l k
    by_cases h0 : (n + 1) % 8 = 0
    · rw [outsAt0_A m c ⟨n + 1, hn⟩ h0]; dsimp only
      rw [sout_A, pay1_apply, blk1_apply]
    · rw [outsAt0_B m c ⟨n + 1, hn⟩ h0]
      dsimp only
      rw [sout_B]
      simp only [Nat.add_sub_cancel]
      rw [ih]
      refine congrArg (fun q => wgt m c (ix3 0 k q)) (Fin.ext ?_)
      show 8192 + 128 * (n / 8) + l.val = 8192 + 128 * ((n + 1) / 8) + l.val
      omega

/-- What point `n` leaves in the output block: rows `1024·(n mod 8)` on of the activations against columns
    `8192 + 128·(n / 8)` on of the weights. -/
theorem left_ (c : Dev nD) (n : ℕ) (hn : n < cfg0.N) (r : Fin 1024) (l : Fin 128) :
    (outsAt0 m c n hn).1 (ix2 r l)
      = ∑ k : Fin 2048, act m c (ix2 ⟨1024 * (n % 8) + r.val, by omega⟩ k)
          * wgt m c (ix3 0 k ⟨8192 + 128 * (n / 8) + l.val, by have := ltN ⟨n, hn⟩; dsimp only at this; omega⟩) := by
  by_cases h0 : n % 8 = 0
  · rw [outsAt0_A m c ⟨n, hn⟩ h0]; dsimp only
    rw [out_A, pay2_apply]
    refine Finset.sum_congr rfl fun k _ => ?_
    rw [pay1_apply, blk0_apply, blk1_apply]
  · rw [outsAt0_B m c ⟨n, hn⟩ h0]; dsimp only
    rw [out_B, pay2_apply]
    refine Finset.sum_congr rfl fun k _ => ?_
    rw [blk0_apply, kept]
    refine congrArg₂ (fun p q => act m c (ix2 p k) * wgt m c (ix3 0 k q)) rfl (Fin.ext ?_)
    show 8192 + 128 * ((n - 1) / 8) + l.val = 8192 + 128 * (n / 8) + l.val
    omega

/-- The result array after the run. -/
abbrev out (c : Dev nD) : Vec Ideal S8192x128 .f32 := Value.G2 m c

/-- THE WHOLE ARRAY after the run: the product of the activations and the weights' columns from 8192 on. -/
theorem result (c : Dev nD) (r : Fin 8192) (q : Fin 128) :
    out m c (ix2 r q) = ∑ k : Fin 2048, act m c (ix2 r k) * wgt m c (ix3 0 k ⟨8192 + q.val, by omega⟩) := by
  have hN : cfg0.N = 8 := N_0
  have hp : Value.pt2Of (ix2 r q) = r.val / 1024 + 8 * (q.val / 128) := by
    show 1 * (r.val / 1024 - 0) + 1 * (q.val / 128 - 0) = _; omega
  have hlt : Value.pt2Of (ix2 r q) < cfg0.N := by omega
  unfold out Value.G2
  rw [dif_pos hlt, ← Value.outsAt0_sweep m c _ hlt]
  have hl : Value.loc2Of (ix2 r q) = ix2 ⟨r.val % 1024, Nat.mod_lt _ (by decide)⟩ ⟨q.val % 128, Nat.mod_lt _ (by decide)⟩ := by
    funext a; apply Fin.ext
    match a with
    | ⟨0, _⟩ => rfl
    | ⟨1, _⟩ => rfl
  have hr : 1024 * (Value.pt2Of (ix2 r q) % 8) + r.val % 1024 = r.val := by omega
  have hq : 128 * (Value.pt2Of (ix2 r q) / 8) + q.val % 128 = q.val := by omega
  rw [hl, left_]

  refine Finset.sum_congr rfl fun k _ => congrArg₂ (fun p q => act m c (ix2 p k) * wgt m c (ix3 0 k q)) (Fin.ext hr) (Fin.ext ?_)
  show 8192 + 128 * (Value.pt2Of (ix2 r q) / 8) + q.val % 128 = 8192 + q.val
  omega

end Cert.SmallIdeal.Block

namespace Cert.Proof

open Idealize.ShloMosaic Idealize.SL.Sem

/-- The reference's run leaves its arguments alone and no semaphore raised. -/
theorem quiescent_SmallRefIdeal : quiescent_SmallRefIdeal := fun m ρ _ =>
  (θ_run Cert.SmallRefIdeal.defs _ _).mono (fun r h => ⟨fun c => (h c).2, sem_eq_zero_of_no_sems (by decide) r.2⟩)
    (Cert.SmallRefIdeal.Value.run (F := Ideal) m ρ)

/-- The call's result array is the reference's. -/
theorem algebraic_SmallIdeal_SmallRefIdeal : algebraic_SmallIdeal_SmallRefIdeal := by
  intro m ρ m' ρ' _ hagree
  refine ⟨_, Cert.SmallIdeal.Value.run (F := Ideal) m ρ, ?_⟩
  refine (θ_run Cert.SmallRefIdeal.defs _ _).mono (fun _ h c => ⟨?_, (h c).2⟩) (Cert.SmallRefIdeal.Value.run (F := Ideal) m' ρ')
  rw [(h c).1]
  simp only [hagree c]
  clean_types
  funext i
  obtain ⟨r, q, rfl⟩ : ∃ (r : Fin 8192) (q : Fin 128), i = Idealize.ShloMosaic.ix2 r q := ⟨i 0, i 1, Idealize.ShloMosaic.eq_ix2 i⟩
  refine Eq.trans ?_ (Cert.SmallIdeal.Block.result m c r q).symm
  pointwise [Cert.SmallIdeal.Block.act, Cert.SmallIdeal.Block.wgt]

end Cert.Proof

end
-- ==== Proof.Dense.lean ====
/-
  The dense feed-forward layer: what the body adds to its output block from one block of 512 hidden columns, what the
  output block holds after each point of a row block's sweep, what the whole array holds after the run, and the claim
  that it is the reference's result.
-/
module

public import proofs.«01_k».proof.Defs
public import proofs.«01_k».proof.Proof.Gen.DenseIdeal.Value
public import proofs.«01_k».proof.Proof.Gen.DenseRefIdeal.Run
public import Idealize.ShloMosaic.Init
public import Idealize.ShloMosaic.Lib.Quiescent
public import Idealize.ShloMosaic.Lib.Pointwise
public import Idealize.ShloMosaic.Lib.Tactic
public import Idealize.ShloMosaic.Lib.Tactic.ValueTie

@[expose] public section

set_option maxRecDepth 16384

noncomputable section

namespace Cert.DenseMath

open Idealize.ShloMosaic

/-- A number times its logistic. -/
def silu (x : EReal) : EReal := x * Ideal.div 1 (1 + Ideal.exp (-x))

/-- One hidden column of a row: the gate's product through `silu`, times the other product. -/
def hid (x g u : Fin 2048 → EReal) : EReal := silu (∑ k : Fin 2048, x k * g k) * ∑ k : Fin 2048, x k * u k

/-- The part of a row's result that comes from hidden column `n`: the row `x` through column `n` of the gate and of the
    other half of the first matrix `G`, and row `n` of the second matrix `D`, at column `l`. -/
def part (x : Fin 2048 → EReal) (G : Fin 2048 → Fin 11264 → EReal) (D : Fin 5632 → Fin 2048 → EReal) (l : Fin 2048) (n : ℕ) : EReal :=
  if h : n < 5632 then hid x (fun k => G k ⟨n, by omega⟩) (fun k => G k ⟨5632 + n, by omega⟩) * D ⟨n, h⟩ l else 0

/-- All the hidden columns' parts, as the sum over the columns. -/
theorem parts_all (x : Fin 2048 → EReal) (G : Fin 2048 → Fin 11264 → EReal) (D : Fin 5632 → Fin 2048 → EReal) (l : Fin 2048) :
    ∑ n ∈ Finset.range 5632, part x G D l n
      = ∑ f : Fin 5632, hid x (fun k => G k ⟨f.val, by omega⟩) (fun k => G k ⟨5632 + f.val, by omega⟩) * D f l := by
  rw [Finset.sum_range]
  refine Finset.sum_congr rfl fun f _ => ?_
  unfold part
  rw [dif_pos f.isLt]

/-- One more column block's parts. -/
theorem parts_succ (p : ℕ → EReal) (j : ℕ) :
    ∑ n ∈ Finset.range (512 * (j + 1)), p n = ∑ n ∈ Finset.range (512 * j), p n + ∑ f : Fin 512, p (512 * j + f.val) := by
  rw [Nat.mul_succ, Finset.sum_range_add, Finset.sum_range (fun x => p (512 * j + x))]

end Cert.DenseMath

namespace Cert.DenseIdeal.Block

open Cert.DenseIdeal Cert.DenseIdeal.Gen Idealize.ShloMosaic Idealize.ShloMosaic.TcCoe Idealize.SL.Sem
open Idealize.ShloMosaic.Pointwise
open Cert.DenseMath

/-- The body's update at an index: what was there plus the parts of the point's 512 hidden columns. -/
theorem pay1_apply (x : Vec Ideal S512x2048 .bf16) (g u : Vec Ideal S2048x512 .bf16) (b : Vec Ideal S512x2048 .f32)
    (d : Vec Ideal S512x2048 .bf16) (r : Fin 512) (l : Fin 2048) :
    k0_pay1 (F := Ideal) x g u b d (ix2 r l)
      = b (ix2 r l) + ∑ f : Fin 512, hid (fun k => x (ix2 r k)) (fun k => g (ix2 k f)) (fun k => u (ix2 k f)) * d (ix2 f l) := by
  pointwise [k0_pay1]
  simp only [hid, silu, zero_sub]

/-- The launch's memory as the call's arrays: the normalised activations … -/
abbrev act (m : (ℓ : Loc nD τ sig) → Buf (Elt Ideal) ℓ) (c : Dev nD) : Vec Ideal S8192x2048 .bf16 := m ((c : Thread nD τ).loc main_arg0)
/-- … the first matrix, both halves … -/
abbrev wgt (m : (ℓ : Loc nD τ sig) → Buf (Elt Ideal) ℓ) (c : Dev nD) : Vec Ideal S1x2048x11264 .f32 := m ((c : Thread nD τ).loc main_arg1)
/-- … the second matrix … -/
abbrev dwn (m : (ℓ : Loc nD τ sig) → Buf (Elt Ideal) ℓ) (c : Dev nD) : Vec Ideal S1x5632x2048 .f32 := m ((c : Thread nD τ).loc main_arg2)
/-- … and the rows the result is added to. -/
abbrev res (m : (ℓ : Loc nD τ sig) → Buf (Elt Ideal) ℓ) (c : Dev nD) : Vec Ideal S8192x2048 .f32 := m ((c : Thread nD τ).loc main_arg3)

variable (m : (ℓ : Loc nD τ sig) → Buf (Elt Ideal) ℓ)

/-- Which block of each array a point reads. -/
theorem ix_facts : ∀ t : Fin cfg0.N, win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = 0 ∧ win0_2.index t (1 : Fin 2) = 11 + t.val % 11
    ∧ win0_3.index t (0 : Fin 2) = t.val % 11 ∧ win0_3.index t (1 : Fin 2) = 0
    ∧ win0_4.index t (0 : Fin 2) = t.val / 11 ∧ win0_4.index t (1 : Fin 2) = 0 :=
  (by decide +kernel : ∀ t : Fin grid0.N, _)

theorem ltN (t : Fin cfg0.N) : t.val < 176 := lt_of_lt_of_eq t.isLt N_0

/-- The host's rounded first matrix: over the extended reals the matrix itself. -/
theorem v1_apply (c : Dev nD) (k : Fin 2048) (q : Fin 11264) : V m c main_v1 (ix2 k q) = wgt m c (ix3 0 k q) := by
  have h : (V m c main_v1 : Vec Ideal S2048x11264 .bf16) = truncf (F := Ideal) (φ := .f32) .bf16 (shapeCast S2048x11264 (wgt m c) shapeCasts_S1x2048x11264_S2048x11264) bitsLt_bf16_f32 := by
    dsimp only [V, hostOps0]
    after_results <;> rfl
  rw [h]
  pointwise []

/-- The host's rounded second matrix: the same. -/
theorem v3_apply (c : Dev nD) (k : Fin 5632) (q : Fin 2048) : V m c main_v3 (ix2 k q) = dwn m c (ix3 0 k q) := by
  have h : (V m c main_v3 : Vec Ideal S5632x2048 .bf16) = truncf (F := Ideal) (φ := .f32) .bf16 (shapeCast S5632x2048 (dwn m c) shapeCasts_S1x5632x2048_S5632x2048) bitsLt_bf16_f32 := by
    dsimp only [V, hostOps0]
    after_results <;> rfl
  rw [h]
  pointwise []

/-- Point `t`'s block of the activations: rows `512·(t / 11)` on. -/
theorem blk0_apply (c : Dev nD) (t : Fin cfg0.N) (r : Fin 512) (k : Fin 2048) :
    iblk m c 0 t (ix2 r k) = act m c (ix2 ⟨512 * (t.val / 11) + r.val, by have := ltN t; omega⟩ k) := by
  obtain ⟨e0, e1, -⟩ := ix_facts t
  unfold iblk
  rw [View.read_apply]
  show V m c main_arg0 _ = _
  rw [V_main_arg0]
  show act m c _ = act m c _
  congr 1; funext a; apply Fin.ext
  match a with
  | ⟨0, _⟩ => show win0_0.index t (0 : Fin 2) * 512 + 1 * r.val = 512 * (t.val / 11) + r.val; omega
  | ⟨1, _⟩ => show win0_0.index t (1 : Fin 2) * 2048 + 1 * k.val = k.val; omega

/-- Point `t`'s block of the gate half: columns `512·(t mod 11)` on. -/
theorem blk1_apply (c : Dev nD) (t : Fin cfg0.N) (k : Fin 2048) (f : Fin 512) :
    iblk m c 1 t (ix2 k f) = wgt m c (ix3 0 k ⟨512 * (t.val % 11) + f.val, by omega⟩) := by
  obtain ⟨-, -, e0, e1, -⟩ := ix_facts t
  unfold iblk
  rw [View.read_apply, ← v1_apply]
  show V m c main_v1 _ = V m c main_v1 _
  congr 1; funext a; apply Fin.ext
  match a with
  | ⟨0, _⟩ => show win0_1.index t (0 : Fin 2) * 2048 + 1 * k.val = k.val; omega
  | ⟨1, _⟩ => show win0_1.index t (1 : Fin 2) * 512 + 1 * f.val = 512 * (t.val % 11) + f.val; omega

/-- Point `t`'s block of the other half: the same columns, 5632 further on. -/
theorem blk2_apply (c : Dev nD) (t : Fin cfg0.N) (k : Fin 2048) (f : Fin 512) :
    iblk m c 2 t (ix2 k f) = wgt m c (ix3 0 k ⟨5632 + (512 * (t.val % 11) + f.val), by omega⟩) := by
  obtain ⟨-, -, -, -, e0, e1, -⟩ := ix_facts t
  unfold iblk
  rw [View.read_apply, ← v1_apply]
  show V m c main_v1 _ = V m c main_v1 _
  congr 1; funext a; apply Fin.ext
  match a with
  | ⟨0, _⟩ => show win0_2.index t (0 : Fin 2) * 2048 + 1 * k.val = k.val; omega
  | ⟨1, _⟩ => show win0_2.index t (1 : Fin 2) * 512 + 1 * f.val = 5632 + (512 * (t.val % 11) + f.val); omega

/-- Point `t`'s block of the second matrix: rows `512·(t mod 11)` on. -/
theorem blk3_apply (c : Dev nD) (t : Fin cfg0.N) (f : Fin 512) (l : Fin 2048) :
    iblk m c 3 t (ix2 f l) = dwn m c (ix3 0 ⟨512 * (t.val % 11) + f.val, by omega⟩ l) := by
  obtain ⟨-, -, -, -, -, -, e0, e1, -⟩ := ix_facts t
  unfold iblk
  rw [View.read_apply, ← v3_apply]
  show V m c main_v3 _ = V m c main_v3 _
  congr 1; funext a; apply Fin.ext
  match a with
  | ⟨0, _⟩ => show win0_3.index t (0 : Fin 2) * 512 + 1 * f.val = 512 * (t.val % 11) + f.val; omega
  | ⟨1, _⟩ => show win0_3.index t (1 : Fin 2) * 2048 + 1 * l.val = l.val; omega

/-- Point `t`'s block of the rows added to: rows `512·(t / 11)` on. -/
theorem blk4_apply (c : Dev nD) (t : Fin cfg0.N) (r : Fin 512) (l : Fin 2048) :
    iblk m c 4 t (ix2 r l) = res m c (ix2 ⟨512 * (t.val / 11) + r.val, by have := ltN t; omega⟩ l) := by
  obtain ⟨-, -, -, -, -, -, -, -, e0, e1⟩ := ix_facts t
  unfold iblk
  rw [View.read_apply]
  show V m c main_arg3 _ = _
  rw [V_main_arg3]
  show res m c _ = res m c _
  congr 1; funext a; apply Fin.ext
  match a with
  | ⟨0, _⟩ => show win0_4.index t (0 : Fin 2) * 512 + 1 * r.val = 512 * (t.val / 11) + r.val; omega
  | ⟨1, _⟩ => show win0_4.index t (1 : Fin 2) * 2048 + 1 * l.val = l.val; omega

/-- The part of row `R`'s result at column `l` from hidden column `n`, over the launch's arrays. -/
abbrev prt (c : Dev nD) (R : Fin 8192) (l : Fin 2048) (n : ℕ) : EReal :=
  part (fun k => act m c (ix2 R k)) (fun k q => wgt m c (ix3 0 k q)) (fun f q => dwn m c (ix3 0 f q)) l n

/-- A point's update at an index: what was there plus its 512 columns' parts. -/
theorem step_apply (c : Dev nD) (t : Fin cfg0.N) (b : Vec Ideal S512x2048 .f32) (r : Fin 512) (l : Fin 2048) :
    k0_pay1 (F := Ideal) (iblk m c 0 t) (iblk m c 1 t) (iblk m c 2 t) b (iblk m c 3 t) (ix2 r l)
      = b (ix2 r l) + ∑ f : Fin 512, prt m c ⟨512 * (t.val / 11) + r.val, by have := ltN t; omega⟩ l (512 * (t.val % 11) + f.val) := by
  refine (pay1_apply (iblk m c 0 t) (iblk m c 1 t) (iblk m c 2 t) b (iblk m c 3 t) r l).trans ?_
  refine congrArg (fun p : EReal => b (ix2 r l) + p) (Finset.sum_congr rfl fun f _ => ?_)
  unfold prt part
  rw [dif_pos (by omega)]
  simp only [blk0_apply, blk1_apply, blk2_apply, blk3_apply]

/-- What point `n` leaves in the output block: the rows added to plus the parts of the hidden columns met so far. -/
theorem left_ (c : Dev nD) : ∀ (n : ℕ) (hn : n < cfg0.N) (r : Fin 512) (l : Fin 2048),
    outsAt0 m c n hn (ix2 r l)
      = res m c (ix2 ⟨512 * (n / 11) + r.val, by have := ltN ⟨n, hn⟩; dsimp only at this; omega⟩ l)
        + ∑ x ∈ Finset.range (512 * (n % 11 + 1)),
            prt m c ⟨512 * (n / 11) + r.val, by have := ltN ⟨n, hn⟩; dsimp only at this; omega⟩ l x := by
  intro n
  induction n with
  | zero =>
    intro hn r l
    rw [outsAt0_A m c ⟨0, hn⟩ rfl, Value.out_A_5_eq, step_apply, blk4_apply, parts_succ]
    simp
  | succ n ih =>
    intro hn r l
    by_cases h0 : (n + 1) % 11 = 0
    · rw [outsAt0_A m c ⟨n + 1, hn⟩ h0, Value.out_A_5_eq, step_apply, blk4_apply, parts_succ]
      simp [h0]
    · rw [outsAt0_B m c ⟨n + 1, hn⟩ h0, Value.out_B_5_eq, step_apply]
      simp only [Nat.add_sub_cancel]
      rw [ih, parts_succ _ ((n + 1) % 11), add_assoc]
      have hd : n / 11 = (n + 1) / 11 := by omega
      have hm : n % 11 + 1 = (n + 1) % 11 := by omega
      simp only [hd, hm]

/-- The result array after the run. -/
abbrev out (c : Dev nD) : Vec Ideal S8192x2048 .f32 := Value.G5 m c

/-- THE WHOLE ARRAY after the run: the rows added to plus all the hidden columns' parts. -/
theorem result (c : Dev nD) (R : Fin 8192) (l : Fin 2048) :
    out m c (ix2 R l) = res m c (ix2 R l) + ∑ f : Fin 5632,
      hid (fun k => act m c (ix2 R k)) (fun k => wgt m c (ix3 0 k ⟨f.val, by omega⟩)) (fun k => wgt m c (ix3 0 k ⟨5632 + f.val, by omega⟩))
        * dwn m c (ix3 0 f l) := by
  have hN : cfg0.N = 176 := N_0
  have hp : Value.run5Of (ix2 R l) = R.val / 512 := by
    show 1 * (R.val / 512 - 0) + 1 * (l.val / 2048 - 0) = _; omega
  have hlt : 11 * Value.run5Of (ix2 R l) + 10 < cfg0.N := by omega
  unfold out Value.G5
  rw [dif_pos hlt]
  have hl : Value.loc5Of (ix2 R l) = ix2 ⟨R.val % 512, Nat.mod_lt _ (by decide)⟩ l := by
    funext a; apply Fin.ext
    match a with
    | ⟨0, _⟩ => rfl
    | ⟨1, _⟩ => show l.val % 2048 = l.val; omega
  have e : ∀ (b j : ℕ) (h : b + j < cfg0.N) (b' j' : ℕ) (h' : b' + j' < cfg0.N), b = b' → j = j' →
      Pipeline.accAt (Value.reset5 m c) (Value.step5 m c) b j h = Pipeline.accAt (Value.reset5 m c) (Value.step5 m c) b' j' h' := by
    intro b j h b' j' h' hb hj; subst hb; subst hj; rfl
  have ho := Value.outsAt_5_eq m c ⟨11 * Value.run5Of (ix2 R l) + 10, hlt⟩
  rw [e _ _ _ (11 * Value.run5Of (ix2 R l)) 10 hlt (by dsimp only; omega) (by dsimp only; omega)] at ho
  rw [← ho, hl, left_]
  have hR : 512 * ((11 * Value.run5Of (ix2 R l) + 10) / 11) + R.val % 512 = R.val := by omega
  have hm : 512 * ((11 * Value.run5Of (ix2 R l) + 10) % 11 + 1) = 5632 := by omega
  dsimp only
  rw [hm]
  simp only [hR]
  exact congrArg (fun p : EReal => res m c (ix2 R l) + p) (parts_all _ _ _ l)

end Cert.DenseIdeal.Block

namespace Cert.Proof

open Idealize.ShloMosaic Idealize.SL.Sem

/-- The reference's run leaves its arguments alone and no semaphore raised. -/
theorem quiescent_DenseRefIdeal : quiescent_DenseRefIdeal := fun m ρ _ =>
  (θ_run Cert.DenseRefIdeal.defs _ _).mono (fun r h => ⟨fun c => (h c).2, sem_eq_zero_of_no_sems (by decide) r.2⟩)
    (Cert.DenseRefIdeal.Value.run (F := Ideal) m ρ)

/-- The layer's result array is the reference's. -/
theorem algebraic_DenseIdeal_DenseRefIdeal : algebraic_DenseIdeal_DenseRefIdeal := by
  intro m ρ m' ρ' _ hagree
  refine ⟨_, Cert.DenseIdeal.Value.run (F := Ideal) m ρ, ?_⟩
  refine (θ_run Cert.DenseRefIdeal.defs _ _).mono (fun _ h c => ⟨?_, (h c).2⟩) (Cert.DenseRefIdeal.Value.run (F := Ideal) m' ρ')
  rw [(h c).1]
  simp only [hagree c]
  clean_types
  funext i
  obtain ⟨r, q, rfl⟩ : ∃ (r : Fin 8192) (q : Fin 2048), i = Idealize.ShloMosaic.ix2 r q := ⟨i 0, i 1, Idealize.ShloMosaic.eq_ix2 i⟩
  refine Eq.trans ?_ (Cert.DenseIdeal.Block.result m c r q).symm
  pointwise [Cert.DenseIdeal.Block.act, Cert.DenseIdeal.Block.wgt, Cert.DenseIdeal.Block.dwn, Cert.DenseIdeal.Block.res]
  simp only [Cert.DenseMath.hid, Cert.DenseMath.silu]

end Cert.Proof

end
-- ==== Proof.Merge.lean ====
/-
  The merge of the three mixing branches: what the body computes from its blocks, which part of the arrays those blocks
  are, what the output block and the three carried weight tiles hold after each point, what the whole array holds after
  the run, and the claim that it is the reference's result.
-/
module

public import proofs.«01_k».proof.Defs
public import proofs.«01_k».proof.Proof.Gen.MergeIdeal.Value
public import proofs.«01_k».proof.Proof.Gen.MergeRefIdeal.Run
public import Idealize.ShloMosaic.Init
public import Idealize.ShloMosaic.Lib.Quiescent
public import Idealize.ShloMosaic.Lib.Pointwise
public import Idealize.ShloMosaic.Lib.Tactic
public import Idealize.ShloMosaic.Lib.Tactic.ValueTie

@[expose] public section

set_option maxRecDepth 16384

noncomputable section

namespace Cert.MergeIdeal.Block

open Cert.MergeIdeal Cert.MergeIdeal.Gen Idealize.ShloMosaic Idealize.ShloMosaic.TcCoe Idealize.SL.Sem
open Idealize.ShloMosaic.Pointwise

theorem hz2 : (![0, 0] : Fin 2 → Nat) = fun _ => 0 := funext fun a => by fin_cases a <;> rfl
theorem hz3 : (![0, 0, 0] : Fin 3 → Nat) = fun _ => 0 := funext fun a => by fin_cases a <;> rfl

/-- The logistic of a number. -/
def sg (x : EReal) : EReal := Ideal.div 1 (1 + Ideal.exp (-x))

/-! ## The kept weight tiles -/

/-- Three tiles stacked. -/
def tile (w0 w1 w2 : S1x1024x512.Idx → Elt Ideal .bf16) : S3x1024x512.Idx → Elt Ideal .bf16 := fun y =>
  if (y 0).val = 0 then w0 (ix3 0 (y 1) (y 2)) else if (y 0).val = 1 then w1 (ix3 0 (y 1) (y 2)) else w2 (ix3 0 (y 1) (y 2))

/-- The three stores of a column block's first point. -/
abbrev stores (w0 w1 w2 : S1x1024x512.Idx → Elt Ideal .bf16) : List (View.Piece (Elt Ideal) S3x1024x512 .bf16) :=
  [⟨(Rect.unit (s := S3x1024x512) ![2, 0, 0] S1x1024x512.size inb_S3x1024x512_S1x1024x512_2_0_0), w2⟩,
   ⟨(Rect.unit (s := S3x1024x512) ![1, 0, 0] S1x1024x512.size inb_S3x1024x512_S1x1024x512_1_0_0), w1⟩,
   ⟨(Rect.unit (s := S3x1024x512) ![0, 0, 0] S1x1024x512.size inb_S3x1024x512_S1x1024x512_0_0_0), w0⟩]

/-- The kept tiles read at tile 0. -/
theorem tile_0 (w0 w1 w2 : S1x1024x512.Idx → Elt Ideal .bf16) (x : S1x1024x512.Idx) :
    tile w0 w1 w2 ((Rect.unit (s := S3x1024x512) ![0, 0, 0] S1x1024x512.size inb_S3x1024x512_S1x1024x512_0_0_0).emb x) = w0 x := by
  have h0 : ((Rect.unit (s := S3x1024x512) ![0, 0, 0] S1x1024x512.size inb_S3x1024x512_S1x1024x512_0_0_0).emb x 0).val = 0 := by
    have := (x 0).isLt
    show 0 + 1 * (x 0).val = 0
    have h1 : (x 0).val < 1 := this
    omega
  have hx : (ix3 0 ((Rect.unit (s := S3x1024x512) ![0, 0, 0] S1x1024x512.size inb_S3x1024x512_S1x1024x512_0_0_0).emb x 1) ((Rect.unit (s := S3x1024x512) ![0, 0, 0] S1x1024x512.size inb_S3x1024x512_S1x1024x512_0_0_0).emb x 2) : S1x1024x512.Idx) = x := by
    funext a; apply Fin.ext
    match a with
    | ⟨0, _⟩ => show 0 = (x 0).val; have h1 : (x 0).val < 1 := (x 0).isLt; omega
    | ⟨1, _⟩ => show 0 + 1 * (x 1).val = (x 1).val; omega
    | ⟨2, _⟩ => show 0 + 1 * (x 2).val = (x 2).val; omega
  unfold tile
  rw [h0, hx]
  rfl

/-- The kept tiles read at tile 1. -/
theorem tile_1 (w0 w1 w2 : S1x1024x512.Idx → Elt Ideal .bf16) (x : S1x1024x512.Idx) :
    tile w0 w1 w2 ((Rect.unit (s := S3x1024x512) ![1, 0, 0] S1x1024x512.size inb_S3x1024x512_S1x1024x512_1_0_0).emb x) = w1 x := by
  have h0 : ((Rect.unit (s := S3x1024x512) ![1, 0, 0] S1x1024x512.size inb_S3x1024x512_S1x1024x512_1_0_0).emb x 0).val = 1 := by
    have := (x 0).isLt
    show 1 + 1 * (x 0).val = 1
    have h1 : (x 0).val < 1 := this
    omega
  have hx : (ix3 0 ((Rect.unit (s := S3x1024x512) ![1, 0, 0] S1x1024x512.size inb_S3x1024x512_S1x1024x512_1_0_0).emb x 1) ((Rect.unit (s := S3x1024x512) ![1, 0, 0] S1x1024x512.size inb_S3x1024x512_S1x1024x512_1_0_0).emb x 2) : S1x1024x512.Idx) = x := by
    funext a; apply Fin.ext
    match a with
    | ⟨0, _⟩ => show 0 = (x 0).val; have h1 : (x 0).val < 1 := (x 0).isLt; omega
    | ⟨1, _⟩ => show 0 + 1 * (x 1).val = (x 1).val; omega
    | ⟨2, _⟩ => show 0 + 1 * (x 2).val = (x 2).val; omega
  unfold tile
  rw [h0, hx]
  rfl

/-- The kept tiles read at tile 2. -/
theorem tile_2 (w0 w1 w2 : S1x1024x512.Idx → Elt Ideal .bf16) (x : S1x1024x512.Idx) :
    tile w0 w1 w2 ((Rect.unit (s := S3x1024x512) ![2, 0, 0] S1x1024x512.size inb_S3x1024x512_S1x1024x512_2_0_0).emb x) = w2 x := by
  have h0 : ((Rect.unit (s := S3x1024x512) ![2, 0, 0] S1x1024x512.size inb_S3x1024x512_S1x1024x512_2_0_0).emb x 0).val = 2 := by
    have := (x 0).isLt
    show 2 + 1 * (x 0).val = 2
    have h1 : (x 0).val < 1 := this
    omega
  have hx : (ix3 0 ((Rect.unit (s := S3x1024x512) ![2, 0, 0] S1x1024x512.size inb_S3x1024x512_S1x1024x512_2_0_0).emb x 1) ((Rect.unit (s := S3x1024x512) ![2, 0, 0] S1x1024x512.size inb_S3x1024x512_S1x1024x512_2_0_0).emb x 2) : S1x1024x512.Idx) = x := by
    funext a; apply Fin.ext
    match a with
    | ⟨0, _⟩ => show 0 = (x 0).val; have h1 : (x 0).val < 1 := (x 0).isLt; omega
    | ⟨1, _⟩ => show 0 + 1 * (x 1).val = (x 1).val; omega
    | ⟨2, _⟩ => show 0 + 1 * (x 2).val = (x 2).val; omega
  unfold tile
  rw [h0, hx]
  rfl

/-- The stores cover the kept tiles. -/
theorem stores_cover (w0 w1 w2 : S1x1024x512.Idx → Elt Ideal .bf16) (y : S3x1024x512.Idx) :
    ∃ p ∈ stores w0 w1 w2, y ∈ p.1.set := by
  have h0 : (y 0).val < 3 := (y 0).isLt
  have h1 : (y 1).val < 1024 := (y 1).isLt
  have h2 : (y 2).val < 512 := (y 2).isLt
  rcases (by omega : (y 0).val = 0 ∨ (y 0).val = 1 ∨ (y 0).val = 2) with e | e | e
  · refine ⟨_, by simp only [stores, List.mem_cons]; exact .inr (.inr (.inl rfl)), ?_⟩
    rw [Rect.mem_set_unit]
    intro a
    match a with
    | ⟨0, _⟩ => show 0 ≤ (y 0).val ∧ (y 0).val < 0 + 1; omega
    | ⟨1, _⟩ => show 0 ≤ (y 1).val ∧ (y 1).val < 0 + 1024; omega
    | ⟨2, _⟩ => show 0 ≤ (y 2).val ∧ (y 2).val < 0 + 512; omega
  · refine ⟨_, by simp only [stores, List.mem_cons]; exact .inr (.inl rfl), ?_⟩
    rw [Rect.mem_set_unit]
    intro a
    match a with
    | ⟨0, _⟩ => show 1 ≤ (y 0).val ∧ (y 0).val < 1 + 1; omega
    | ⟨1, _⟩ => show 0 ≤ (y 1).val ∧ (y 1).val < 0 + 1024; omega
    | ⟨2, _⟩ => show 0 ≤ (y 2).val ∧ (y 2).val < 0 + 512; omega
  · refine ⟨_, by simp only [stores, List.mem_cons]; exact .inl rfl, ?_⟩
    rw [Rect.mem_set_unit]
    intro a
    match a with
    | ⟨0, _⟩ => show 2 ≤ (y 0).val ∧ (y 0).val < 2 + 1; omega
    | ⟨1, _⟩ => show 0 ≤ (y 1).val ∧ (y 1).val < 0 + 1024; omega
    | ⟨2, _⟩ => show 0 ≤ (y 2).val ∧ (y 2).val < 0 + 512; omega

/-- What the stores leave. -/
theorem canon_stores (w0 w1 w2 : S1x1024x512.Idx → Elt Ideal .bf16) : View.canon (stores w0 w1 w2) = tile w0 w1 w2 := by
  funext y
  refine View.canon_apply_of_pieces (tile w0 w1 w2) _ ?_ y (stores_cover w0 w1 w2 y)
  intro p hp x
  rcases List.mem_cons.mp hp with rfl | hp
  · exact (tile_2 w0 w1 w2 x).symm
  rcases List.mem_cons.mp hp with rfl | hp
  · exact (tile_1 w0 w1 w2 x).symm
  rcases List.mem_cons.mp hp with rfl | hp
  · exact (tile_0 w0 w1 w2 x).symm
  · exact absurd hp List.not_mem_nil

/-- A tile loaded after the stores. -/
theorem load_stores (w0 w1 w2 : S1x1024x512.Idx → Elt Ideal .bf16) (v : View sig .tc .vmem S3x1024x512 .bf16) (r : Rect S3x1024x512) :
    v.readCov (stores w0 w1 w2) r.toLoadRect = View.ld (tile w0 w1 w2) r := by
  rw [View.readCov_eq_canon']
  funext j
  exact congrFun (canon_stores w0 w1 w2) _

/-! ## What one point leaves -/

/-- The body's output block from its blocks and the kept tiles. -/
def body (x0 x1 x2 : Vec Ideal S1024x1024 .bf16) (x6 x7 x8 : Vec Ideal S1024x512 .f32) (xs : Vec Ideal S3x1024x512 .bf16) : Vec Ideal S1024x512 .bf16 :=
  k0_pay1 (k0_pay5 x6 x0 (View.ld xs (Rect.unit (s := S3x1024x512) ![0, 0, 0] S1x1024x512.size inb_S3x1024x512_S1x1024x512_0_0_0))
    x7 x1 (View.ld xs (Rect.unit (s := S3x1024x512) ![1, 0, 0] S1x1024x512.size inb_S3x1024x512_S1x1024x512_1_0_0)))
    x8 x2 (View.ld xs (Rect.unit (s := S3x1024x512) ![2, 0, 0] S1x1024x512.size inb_S3x1024x512_S1x1024x512_2_0_0))

/-- A later point of a column block leaves the gated products of its row blocks and the kept tiles. -/
theorem out_B (c : Dev nD) (i : grid0.Coords) (a2 : Memref sig .tc .vmem S1024x1024 .bf16) (h2 : a2.IsWhole)
    (a3 : Memref sig .tc .vmem S1024x1024 .bf16) (h3 : a3.IsWhole)
    (a4 : Memref sig .tc .vmem S1024x1024 .bf16) (h4 : a4.IsWhole)
    (a5 : Memref sig .tc .vmem S1x1024x512 .f32) (h5 : a5.IsWhole)
    (a6 : Memref sig .tc .vmem S1x1024x512 .f32) (h6 : a6.IsWhole)
    (a7 : Memref sig .tc .vmem S1x1024x512 .f32) (h7 : a7.IsWhole)
    (a8 : Memref sig .tc .vmem S1024x512 .f32) (h8 : a8.IsWhole)
    (a9 : Memref sig .tc .vmem S1024x512 .f32) (h9 : a9.IsWhole)
    (a10 : Memref sig .tc .vmem S1024x512 .f32) (h10 : a10.IsWhole)
    (a11 : Memref sig .tc .vmem S1024x512 .bf16) (h11 : a11.IsWhole)
    (a12 : Memref sig .tc .vmem S3x1024x512 .bf16) (h12 : a12.IsWhole)
    (hc : ¬cond0_0 i) (x0 x1 x2 : Vec Ideal S1024x1024 .bf16) (x3 x4 x5 : Vec Ideal S1x1024x512 .f32) (x6 x7 x8 : Vec Ideal S1024x512 .f32)
    (xs : Vec Ideal S3x1024x512 .bf16) :
    out0_B_9 c i a2 h2 a3 h3 a4 h4 a5 h5 a6 h6 a7 h7 a8 h8 a9 h9 a10 h10 a11 h11 a12 h12 hc x0 x1 x2 x3 x4 x5 x6 x7 x8 xs = body x0 x1 x2 x6 x7 x8 xs := by
  unfold out0_B_9
  rw [View.read_writes_eq_canon _ _ _ (cover0_B_9 c i a2 h2 a3 h3 a4 h4 a5 h5 a6 h6 a7 h7 a8 h8 a9 h9 a10 h10 a11 h11 a12 h12 hc x0 x1 x2 x3 x4 x5 x6 x7 x8 xs)]
  unfold kernelRun0_B
  dsimp only
  try sl_unfold_words
  rw [View.canon_unit_zero hz2]
  simp only [View.readAt_eq_ld, h2.read_unread, h3.read_unread, h4.read_unread, h5.read_unread, h6.read_unread, h7.read_unread, h8.read_unread, h9.read_unread, h10.read_unread, h12.read_unread, View.ld_unit_zero (S := S1024x1024) hz2, View.ld_unit_zero (S := S1024x512) hz2, View.ld_unit_zero (S := S1x1024x512) hz3]
  rfl

/-- The first point of a column block leaves its three weight blocks, rounded to the narrow format, in the kept tiles. -/
theorem sout_A (c : Dev nD) (i : grid0.Coords) (a2 : Memref sig .tc .vmem S1024x1024 .bf16) (h2 : a2.IsWhole)
    (a3 : Memref sig .tc .vmem S1024x1024 .bf16) (h3 : a3.IsWhole)
    (a4 : Memref sig .tc .vmem S1024x1024 .bf16) (h4 : a4.IsWhole)
    (a5 : Memref sig .tc .vmem S1x1024x512 .f32) (h5 : a5.IsWhole)
    (a6 : Memref sig .tc .vmem S1x1024x512 .f32) (h6 : a6.IsWhole)
    (a7 : Memref sig .tc .vmem S1x1024x512 .f32) (h7 : a7.IsWhole)
    (a8 : Memref sig .tc .vmem S1024x512 .f32) (h8 : a8.IsWhole)
    (a9 : Memref sig .tc .vmem S1024x512 .f32) (h9 : a9.IsWhole)
    (a10 : Memref sig .tc .vmem S1024x512 .f32) (h10 : a10.IsWhole)
    (a11 : Memref sig .tc .vmem S1024x512 .bf16) (h11 : a11.IsWhole)
    (a12 : Memref sig .tc .vmem S3x1024x512 .bf16) (h12 : a12.IsWhole)
    (hc : cond0_0 i) (x0 x1 x2 : Vec Ideal S1024x1024 .bf16) (x3 x4 x5 : Vec Ideal S1x1024x512 .f32) (x6 x7 x8 : Vec Ideal S1024x512 .f32) :
    sout0_A_0 c i a2 h2 a3 h3 a4 h4 a5 h5 a6 h6 a7 h7 a8 h8 a9 h9 a10 h10 a11 h11 a12 h12 hc x0 x1 x2 x3 x4 x5 x6 x7 x8 = tile (k0_pay2 x3) (k0_pay3 x4) (k0_pay4 x5) := by
  unfold sout0_A_0
  rw [View.read_writes_eq_canon _ _ _ (scover0_A_0 c i a2 h2 a3 h3 a4 h4 a5 h5 a6 h6 a7 h7 a8 h8 a9 h9 a10 h10 a11 h11 a12 h12 hc x0 x1 x2 x3 x4 x5 x6 x7 x8)]
  unfold kernelRun0_A
  dsimp only
  try sl_unfold_words
  simp only [View.readAt_eq_ld, h2.read_unread, h3.read_unread, h4.read_unread, h5.read_unread, h6.read_unread, h7.read_unread, h8.read_unread, h9.read_unread, h10.read_unread, View.ld_unit_zero (S := S1024x1024) hz2, View.ld_unit_zero (S := S1024x512) hz2, View.ld_unit_zero (S := S1x1024x512) hz3]
  exact canon_stores _ _ _

/-- … and the gated products of its row blocks and those tiles in the output block. -/
theorem out_A (c : Dev nD) (i : grid0.Coords) (a2 : Memref sig .tc .vmem S1024x1024 .bf16) (h2 : a2.IsWhole)
    (a3 : Memref sig .tc .vmem S1024x1024 .bf16) (h3 : a3.IsWhole)
    (a4 : Memref sig .tc .vmem S1024x1024 .bf16) (h4 : a4.IsWhole)
    (a5 : Memref sig .tc .vmem S1x1024x512 .f32) (h5 : a5.IsWhole)
    (a6 : Memref sig .tc .vmem S1x1024x512 .f32) (h6 : a6.IsWhole)
    (a7 : Memref sig .tc .vmem S1x1024x512 .f32) (h7 : a7.IsWhole)
    (a8 : Memref sig .tc .vmem S1024x512 .f32) (h8 : a8.IsWhole)
    (a9 : Memref sig .tc .vmem S1024x512 .f32) (h9 : a9.IsWhole)
    (a10 : Memref sig .tc .vmem S1024x512 .f32) (h10 : a10.IsWhole)
    (a11 : Memref sig .tc .vmem S1024x512 .bf16) (h11 : a11.IsWhole)
    (a12 : Memref sig .tc .vmem S3x1024x512 .bf16) (h12 : a12.IsWhole)
    (hc : cond0_0 i) (x0 x1 x2 : Vec Ideal S1024x1024 .bf16) (x3 x4 x5 : Vec Ideal S1x1024x512 .f32) (x6 x7 x8 : Vec Ideal S1024x512 .f32) :
    out0_A_9 c i a2 h2 a3 h3 a4 h4 a5 h5 a6 h6 a7 h7 a8 h8 a9 h9 a10 h10 a11 h11 a12 h12 hc x0 x1 x2 x3 x4 x5 x6 x7 x8 = body x0 x1 x2 x6 x7 x8 (tile (k0_pay2 x3) (k0_pay3 x4) (k0_pay4 x5)) := by
  unfold out0_A_9
  rw [View.read_writes_eq_canon _ _ _ (cover0_A_9 c i a2 h2 a3 h3 a4 h4 a5 h5 a6 h6 a7 h7 a8 h8 a9 h9 a10 h10 a11 h11 a12 h12 hc x0 x1 x2 x3 x4 x5 x6 x7 x8)]
  unfold kernelRun0_A
  dsimp only
  try sl_unfold_words
  rw [View.canon_unit_zero hz2]
  simp only [View.readAt_eq_ld, h2.read_unread, h3.read_unread, h4.read_unread, h5.read_unread, h6.read_unread, h7.read_unread, h8.read_unread, h9.read_unread, h10.read_unread, View.ld_unit_zero (S := S1024x1024) hz2, View.ld_unit_zero (S := S1024x512) hz2, View.ld_unit_zero (S := S1x1024x512) hz3]
  unfold body
  rw [← load_stores _ _ _ a12.view (Rect.unit (s := S3x1024x512) ![0, 0, 0] S1x1024x512.size inb_S3x1024x512_S1x1024x512_0_0_0), ← load_stores _ _ _ a12.view (Rect.unit (s := S3x1024x512) ![1, 0, 0] S1x1024x512.size inb_S3x1024x512_S1x1024x512_1_0_0), ← load_stores _ _ _ a12.view (Rect.unit (s := S3x1024x512) ![2, 0, 0] S1x1024x512.size inb_S3x1024x512_S1x1024x512_2_0_0)]

/-- Any other point leaves the kept tiles as it found them. -/
theorem sout_B (c : Dev nD) (i : grid0.Coords) (a2 : Memref sig .tc .vmem S1024x1024 .bf16) (h2 : a2.IsWhole)
    (a3 : Memref sig .tc .vmem S1024x1024 .bf16) (h3 : a3.IsWhole)
    (a4 : Memref sig .tc .vmem S1024x1024 .bf16) (h4 : a4.IsWhole)
    (a5 : Memref sig .tc .vmem S1x1024x512 .f32) (h5 : a5.IsWhole)
    (a6 : Memref sig .tc .vmem S1x1024x512 .f32) (h6 : a6.IsWhole)
    (a7 : Memref sig .tc .vmem S1x1024x512 .f32) (h7 : a7.IsWhole)
    (a8 : Memref sig .tc .vmem S1024x512 .f32) (h8 : a8.IsWhole)
    (a9 : Memref sig .tc .vmem S1024x512 .f32) (h9 : a9.IsWhole)
    (a10 : Memref sig .tc .vmem S1024x512 .f32) (h10 : a10.IsWhole)
    (a11 : Memref sig .tc .vmem S1024x512 .bf16) (h11 : a11.IsWhole)
    (a12 : Memref sig .tc .vmem S3x1024x512 .bf16) (h12 : a12.IsWhole)
    (hc : ¬cond0_0 i) (x0 x1 x2 : Vec Ideal S1024x1024 .bf16) (x3 x4 x5 : Vec Ideal S1x1024x512 .f32) (x6 x7 x8 : Vec Ideal S1024x512 .f32)
    (xs : Vec Ideal S3x1024x512 .bf16) :
    sout0_B_0 c i a2 h2 a3 h3 a4 h4 a5 h5 a6 h6 a7 h7 a8 h8 a9 h9 a10 h10 a11 h11 a12 h12 hc x0 x1 x2 x3 x4 x5 x6 x7 x8 xs = xs := rfl

/-- Weight block 0, rounded: over the extended reals the block itself. -/
theorem pay2_apply (x : Vec Ideal S1x1024x512 .f32) (k : Fin 1024) (l : Fin 512) : k0_pay2 (F := Ideal) x (ix3 0 k l) = x (ix3 0 k l) := by
  pointwise [k0_pay2]

/-- Weight block 1, rounded: over the extended reals the block itself. -/
theorem pay3_apply (x : Vec Ideal S1x1024x512 .f32) (k : Fin 1024) (l : Fin 512) : k0_pay3 (F := Ideal) x (ix3 0 k l) = x (ix3 0 k l) := by
  pointwise [k0_pay3]

/-- Weight block 2, rounded: over the extended reals the block itself. -/
theorem pay4_apply (x : Vec Ideal S1x1024x512 .f32) (k : Fin 1024) (l : Fin 512) : k0_pay4 (F := Ideal) x (ix3 0 k l) = x (ix3 0 k l) := by
  pointwise [k0_pay4]

/-- The kept tiles loaded at tile 0. -/
theorem ld_0 (xs : Vec Ideal S3x1024x512 .bf16) (k : Fin 1024) (l : Fin 512) :
    View.ld xs (Rect.unit (s := S3x1024x512) ![0, 0, 0] S1x1024x512.size inb_S3x1024x512_S1x1024x512_0_0_0) (ix3 0 k l) = xs (ix3 0 k l) := by
  refine congrArg xs (funext fun a => Fin.ext ?_)
  match a with
  | ⟨0, _⟩ => rfl
  | ⟨1, _⟩ => show 0 + 1 * k.val = k.val; omega
  | ⟨2, _⟩ => show 0 + 1 * l.val = l.val; omega

/-- The kept tiles loaded at tile 1. -/
theorem ld_1 (xs : Vec Ideal S3x1024x512 .bf16) (k : Fin 1024) (l : Fin 512) :
    View.ld xs (Rect.unit (s := S3x1024x512) ![1, 0, 0] S1x1024x512.size inb_S3x1024x512_S1x1024x512_1_0_0) (ix3 0 k l) = xs (ix3 1 k l) := by
  refine congrArg xs (funext fun a => Fin.ext ?_)
  match a with
  | ⟨0, _⟩ => rfl
  | ⟨1, _⟩ => show 0 + 1 * k.val = k.val; omega
  | ⟨2, _⟩ => show 0 + 1 * l.val = l.val; omega

/-- The kept tiles loaded at tile 2. -/
theorem ld_2 (xs : Vec Ideal S3x1024x512 .bf16) (k : Fin 1024) (l : Fin 512) :
    View.ld xs (Rect.unit (s := S3x1024x512) ![2, 0, 0] S1x1024x512.size inb_S3x1024x512_S1x1024x512_2_0_0) (ix3 0 k l) = xs (ix3 2 k l) := by
  refine congrArg xs (funext fun a => Fin.ext ?_)
  match a with
  | ⟨0, _⟩ => rfl
  | ⟨1, _⟩ => show 0 + 1 * k.val = k.val; omega
  | ⟨2, _⟩ => show 0 + 1 * l.val = l.val; omega

/-- The third branch's update at an index. -/
theorem pay1_apply (v : Vec Ideal S1024x512 .f32) (g : Vec Ideal S1024x512 .f32) (x : Vec Ideal S1024x1024 .bf16) (w : Vec Ideal S1x1024x512 .bf16)
    (r : Fin 1024) (l : Fin 512) :
    k0_pay1 (F := Ideal) v g x w (ix2 r l) = v (ix2 r l) + sg (g (ix2 r l)) * ∑ k : Fin 1024, x (ix2 r k) * w (ix3 0 k l) := by
  pointwise [k0_pay1]
  simp only [sg, zero_sub]

/-- The first two branches at an index. -/
theorem pay5_apply (g g' : Vec Ideal S1024x512 .f32) (x x' : Vec Ideal S1024x1024 .bf16) (w w' : Vec Ideal S1x1024x512 .bf16)
    (r : Fin 1024) (l : Fin 512) :
    k0_pay5 (F := Ideal) g x w g' x' w' (ix2 r l) = sg (g (ix2 r l)) * (∑ k : Fin 1024, x (ix2 r k) * w (ix3 0 k l))
      + sg (g' (ix2 r l)) * ∑ k : Fin 1024, x' (ix2 r k) * w' (ix3 0 k l) := by
  pointwise [k0_pay5]
  simp only [sg, zero_sub]

/-- The body's output block at an index: the three branches' products, each times its gate's logistic. -/
theorem body_apply (x0 x1 x2 : Vec Ideal S1024x1024 .bf16) (x6 x7 x8 : Vec Ideal S1024x512 .f32) (xs : Vec Ideal S3x1024x512 .bf16)
    (r : Fin 1024) (l : Fin 512) :
    body x0 x1 x2 x6 x7 x8 xs (ix2 r l) = sg (x6 (ix2 r l)) * (∑ k : Fin 1024, x0 (ix2 r k) * xs (ix3 0 k l))
      + sg (x7 (ix2 r l)) * (∑ k : Fin 1024, x1 (ix2 r k) * xs (ix3 1 k l))
      + sg (x8 (ix2 r l)) * ∑ k : Fin 1024, x2 (ix2 r k) * xs (ix3 2 k l) := by
  unfold body
  refine (pay1_apply _ x8 x2 _ r l).trans ?_
  refine congrArg₂ (fun p q : EReal => p + sg (x8 (ix2 r l)) * q) ((pay5_apply x6 x7 x0 x1 _ _ r l).trans ?_)
    (Finset.sum_congr rfl fun k _ => congrArg (fun p : EReal => x2 (ix2 r k) * p) (ld_2 xs k l))
  exact congrArg₂ (fun p q : EReal => sg (x6 (ix2 r l)) * p + sg (x7 (ix2 r l)) * q)
    (Finset.sum_congr rfl fun k _ => congrArg (fun p : EReal => x0 (ix2 r k) * p) (ld_0 xs k l))
    (Finset.sum_congr rfl fun k _ => congrArg (fun p : EReal => x1 (ix2 r k) * p) (ld_1 xs k l))

/-! ## The blocks -/

/-- The launch's memory as the call's arrays: the three branches' outputs … -/
abbrev act0 (m : (ℓ : Loc nD τ sig) → Buf (Elt Ideal) ℓ) (c : Dev nD) : Vec Ideal S8192x1024 .bf16 := m ((c : Thread nD τ).loc main_arg0)
/-- (the second) -/
abbrev act1 (m : (ℓ : Loc nD τ sig) → Buf (Elt Ideal) ℓ) (c : Dev nD) : Vec Ideal S8192x1024 .bf16 := m ((c : Thread nD τ).loc main_arg1)
/-- (the third) -/
abbrev act2 (m : (ℓ : Loc nD τ sig) → Buf (Elt Ideal) ℓ) (c : Dev nD) : Vec Ideal S8192x1024 .bf16 := m ((c : Thread nD τ).loc main_arg2)
/-- … the stacked weights … -/
abbrev wgt (m : (ℓ : Loc nD τ sig) → Buf (Elt Ideal) ℓ) (c : Dev nD) : Vec Ideal S2x3072x2048 .f32 := m ((c : Thread nD τ).loc main_arg3)
/-- … and the projection's last columns, the gates from column 3072 on. -/
abbrev gat (m : (ℓ : Loc nD τ sig) → Buf (Elt Ideal) ℓ) (c : Dev nD) : Vec Ideal S8192x9216 .f32 := m ((c : Thread nD τ).loc main_arg4)

variable (m : (ℓ : Loc nD τ sig) → Buf (Elt Ideal) ℓ)

/-- Which block of each array a point reads. -/
theorem ix_facts : ∀ t : Fin cfg0.N, win0_0.index t (0 : Fin 2) = t.val % 8
    ∧ win0_0.index t (1 : Fin 2) = 0
    ∧ win0_1.index t (0 : Fin 2) = t.val % 8
    ∧ win0_1.index t (1 : Fin 2) = 0
    ∧ win0_2.index t (0 : Fin 2) = t.val % 8
    ∧ win0_2.index t (1 : Fin 2) = 0
    ∧ win0_3.index t (0 : Fin 3) = 0
    ∧ win0_3.index t (1 : Fin 3) = 0
    ∧ win0_3.index t (2 : Fin 3) = t.val / 8
    ∧ win0_4.index t (0 : Fin 3) = 0
    ∧ win0_4.index t (1 : Fin 3) = 1
    ∧ win0_4.index t (2 : Fin 3) = t.val / 8
    ∧ win0_5.index t (0 : Fin 3) = 0
    ∧ win0_5.index t (1 : Fin 3) = 2
    ∧ win0_5.index t (2 : Fin 3) = t.val / 8
    ∧ win0_6.index t (0 : Fin 2) = t.val % 8
    ∧ win0_6.index t (1 : Fin 2) = 6 + t.val / 8
    ∧ win0_7.index t (0 : Fin 2) = t.val % 8
    ∧ win0_7.index t (1 : Fin 2) = 10 + t.val / 8
    ∧ win0_8.index t (0 : Fin 2) = t.val % 8
    ∧ win0_8.index t (1 : Fin 2) = 14 + t.val / 8 :=
  (by decide +kernel : ∀ t : Fin grid0.N, _)

theorem ltN (t : Fin cfg0.N) : t.val < 32 := lt_of_lt_of_eq t.isLt N_0

/-- Point `t`'s block of branch 0: rows `1024·(t mod 8)` on. -/
theorem blk0_apply (c : Dev nD) (t : Fin cfg0.N) (r : Fin 1024) (k : Fin 1024) :
    iblk m c 0 t (ix2 r k) = act0 m c (ix2 ⟨1024 * (t.val % 8) + r.val, by omega⟩ k) := by
  obtain ⟨e0, e1, -⟩ := ix_facts t
  unfold iblk
  rw [View.read_apply]
  show V m c main_arg0 _ = _
  rw [V_main_arg0]
  show act0 m c _ = act0 m c _
  congr 1; funext a; apply Fin.ext
  match a with
  | ⟨0, _⟩ => show win0_0.index t (0 : Fin 2) * 1024 + 1 * r.val = 1024 * (t.val % 8) + r.val; omega
  | ⟨1, _⟩ => show win0_0.index t (1 : Fin 2) * 1024 + 1 * k.val = k.val; omega

/-- Point `t`'s block of branch 1: rows `1024·(t mod 8)` on. -/
theorem blk1_apply (c : Dev nD) (t : Fin cfg0.N) (r : Fin 1024) (k : Fin 1024) :
    iblk m c 1 t (ix2 r k) = act1 m c (ix2 ⟨1024 * (t.val % 8) + r.val, by omega⟩ k) := by
  obtain ⟨-, -, e0, e1, -⟩ := ix_facts t
  unfold iblk
  rw [View.read_apply]
  show V m c main_arg1 _ = _
  rw [V_main_arg1]
  show act1 m c _ = act1 m c _
  congr 1; funext a; apply Fin.ext
  match a with
  | ⟨0, _⟩ => show win0_1.index t (0 : Fin 2) * 1024 + 1 * r.val = 1024 * (t.val % 8) + r.val; omega
  | ⟨1, _⟩ => show win0_1.index t (1 : Fin 2) * 1024 + 1 * k.val = k.val; omega

/-- Point `t`'s block of branch 2: rows `1024·(t mod 8)` on. -/
theorem blk2_apply (c : Dev nD) (t : Fin cfg0.N) (r : Fin 1024) (k : Fin 1024) :
    iblk m c 2 t (ix2 r k) = act2 m c (ix2 ⟨1024 * (t.val % 8) + r.val, by omega⟩ k) := by
  obtain ⟨-, -, -, -, e0, e1, -⟩ := ix_facts t
  unfold iblk
  rw [View.read_apply]
  show V m c main_arg2 _ = _
  rw [V_main_arg2]
  show act2 m c _ = act2 m c _
  congr 1; funext a; apply Fin.ext
  match a with
  | ⟨0, _⟩ => show win0_2.index t (0 : Fin 2) * 1024 + 1 * r.val = 1024 * (t.val % 8) + r.val; omega
  | ⟨1, _⟩ => show win0_2.index t (1 : Fin 2) * 1024 + 1 * k.val = k.val; omega

/-- Point `t`'s weight block 0: rows `0` on and columns `512·(t / 8)` on of the first layer's weights. -/
theorem blk3_apply (c : Dev nD) (t : Fin cfg0.N) (k : Fin 1024) (l : Fin 512) :
    iblk m c 3 t (ix3 0 k l) = wgt m c (ix3 0 ⟨0 + k.val, by omega⟩ ⟨512 * (t.val / 8) + l.val, by have := ltN t; omega⟩) := by
  obtain ⟨-, -, -, -, -, -, e0, e1, e2, -⟩ := ix_facts t
  unfold iblk
  rw [View.read_apply]
  show V m c main_arg3 _ = _
  rw [V_main_arg3]
  show wgt m c _ = wgt m c _
  congr 1; funext a; apply Fin.ext
  match a with
  | ⟨0, _⟩ => show win0_3.index t (0 : Fin 3) * 1 + 1 * 0 = 0; omega
  | ⟨1, _⟩ => show win0_3.index t (1 : Fin 3) * 1024 + 1 * k.val = 0 + k.val; omega
  | ⟨2, _⟩ => show win0_3.index t (2 : Fin 3) * 512 + 1 * l.val = 512 * (t.val / 8) + l.val; omega

/-- Point `t`'s weight block 1: rows `1024` on and columns `512·(t / 8)` on of the first layer's weights. -/
theorem blk4_apply (c : Dev nD) (t : Fin cfg0.N) (k : Fin 1024) (l : Fin 512) :
    iblk m c 4 t (ix3 0 k l) = wgt m c (ix3 0 ⟨1024 + k.val, by omega⟩ ⟨512 * (t.val / 8) + l.val, by have := ltN t; omega⟩) := by
  obtain ⟨-, -, -, -, -, -, -, -, -, e0, e1, e2, -⟩ := ix_facts t
  unfold iblk
  rw [View.read_apply]
  show V m c main_arg3 _ = _
  rw [V_main_arg3]
  show wgt m c _ = wgt m c _
  congr 1; funext a; apply Fin.ext
  match a with
  | ⟨0, _⟩ => show win0_4.index t (0 : Fin 3) * 1 + 1 * 0 = 0; omega
  | ⟨1, _⟩ => show win0_4.index t (1 : Fin 3) * 1024 + 1 * k.val = 1024 + k.val; omega
  | ⟨2, _⟩ => show win0_4.index t (2 : Fin 3) * 512 + 1 * l.val = 512 * (t.val / 8) + l.val; omega

/-- Point `t`'s weight block 2: rows `2048` on and columns `512·(t / 8)` on of the first layer's weights. -/
theorem blk5_apply (c : Dev nD) (t : Fin cfg0.N) (k : Fin 1024) (l : Fin 512) :
    iblk m c 5 t (ix3 0 k l) = wgt m c (ix3 0 ⟨2048 + k.val, by omega⟩ ⟨512 * (t.val / 8) + l.val, by have := ltN t; omega⟩) := by
  obtain ⟨-, -, -, -, -, -, -, -, -, -, -, -, e0, e1, e2, -⟩ := ix_facts t
  unfold iblk
  rw [View.read_apply]
  show V m c main_arg3 _ = _
  rw [V_main_arg3]
  show wgt m c _ = wgt m c _
  congr 1; funext a; apply Fin.ext
  match a with
  | ⟨0, _⟩ => show win0_5.index t (0 : Fin 3) * 1 + 1 * 0 = 0; omega
  | ⟨1, _⟩ => show win0_5.index t (1 : Fin 3) * 1024 + 1 * k.val = 2048 + k.val; omega
  | ⟨2, _⟩ => show win0_5.index t (2 : Fin 3) * 512 + 1 * l.val = 512 * (t.val / 8) + l.val; omega

/-- Point `t`'s block of gate 0: rows `1024·(t mod 8)` on, columns `3072 + 512·(t / 8)` on. -/
theorem blk6_apply (c : Dev nD) (t : Fin cfg0.N) (r : Fin 1024) (l : Fin 512) :
    iblk m c 6 t (ix2 r l) = gat m c (ix2 ⟨1024 * (t.val % 8) + r.val, by omega⟩ ⟨3072 + (0 + (512 * (t.val / 8) + l.val)), by have := ltN t; omega⟩) := by
  obtain ⟨-, -, -, -, -, -, -, -, -, -, -, -, -, -, -, e0, e1, -⟩ := ix_facts t
  unfold iblk
  rw [View.read_apply]
  show V m c main_arg4 _ = _
  rw [V_main_arg4]
  show gat m c _ = gat m c _
  congr 1; funext a; apply Fin.ext
  match a with
  | ⟨0, _⟩ => show win0_6.index t (0 : Fin 2) * 1024 + 1 * r.val = 1024 * (t.val % 8) + r.val; omega
  | ⟨1, _⟩ => show win0_6.index t (1 : Fin 2) * 512 + 1 * l.val = 3072 + (0 + (512 * (t.val / 8) + l.val)); omega

/-- Point `t`'s block of gate 1: rows `1024·(t mod 8)` on, columns `5120 + 512·(t / 8)` on. -/
theorem blk7_apply (c : Dev nD) (t : Fin cfg0.N) (r : Fin 1024) (l : Fin 512) :
    iblk m c 7 t (ix2 r l) = gat m c (ix2 ⟨1024 * (t.val % 8) + r.val, by omega⟩ ⟨3072 + (2048 + (512 * (t.val / 8) + l.val)), by have := ltN t; omega⟩) := by
  obtain ⟨-, -, -, -, -, -, -, -, -, -, -, -, -, -, -, -, -, e0, e1, -⟩ := ix_facts t
  unfold iblk
  rw [View.read_apply]
  show V m c main_arg4 _ = _
  rw [V_main_arg4]
  show gat m c _ = gat m c _
  congr 1; funext a; apply Fin.ext
  match a with
  | ⟨0, _⟩ => show win0_7.index t (0 : Fin 2) * 1024 + 1 * r.val = 1024 * (t.val % 8) + r.val; omega
  | ⟨1, _⟩ => show win0_7.index t (1 : Fin 2) * 512 + 1 * l.val = 3072 + (2048 + (512 * (t.val / 8) + l.val)); omega

/-- Point `t`'s block of gate 2: rows `1024·(t mod 8)` on, columns `7168 + 512·(t / 8)` on. -/
theorem blk8_apply (c : Dev nD) (t : Fin cfg0.N) (r : Fin 1024) (l : Fin 512) :
    iblk m c 8 t (ix2 r l) = gat m c (ix2 ⟨1024 * (t.val % 8) + r.val, by omega⟩ ⟨3072 + (4096 + (512 * (t.val / 8) + l.val)), by have := ltN t; omega⟩) := by
  obtain ⟨-, -, -, -, -, -, -, -, -, -, -, -, -, -, -, -, -, -, -, e0, e1⟩ := ix_facts t
  unfold iblk
  rw [View.read_apply]
  show V m c main_arg4 _ = _
  rw [V_main_arg4]
  show gat m c _ = gat m c _
  congr 1; funext a; apply Fin.ext
  match a with
  | ⟨0, _⟩ => show win0_8.index t (0 : Fin 2) * 1024 + 1 * r.val = 1024 * (t.val % 8) + r.val; omega
  | ⟨1, _⟩ => show win0_8.index t (1 : Fin 2) * 512 + 1 * l.val = 3072 + (4096 + (512 * (t.val / 8) + l.val)); omega

/-! ## The kept tiles and the output block after each point -/

/-- The tiles stored at the first point of column block `q`, at an index. -/
theorem stored (c : Dev nD) (t : Fin cfg0.N) (p : Fin 3) (k : Fin 1024) (l : Fin 512) :
    tile (k0_pay2 (iblk m c 3 t)) (k0_pay3 (iblk m c 4 t)) (k0_pay4 (iblk m c 5 t)) (ix3 p k l)
      = wgt m c (ix3 0 ⟨1024 * p.val + k.val, by omega⟩ ⟨512 * (t.val / 8) + l.val, by have := ltN t; omega⟩) := by
  match p with
  | ⟨0, _⟩ => exact (pay2_apply (iblk m c 3 t) k l).trans (blk3_apply m c t k l)
  | ⟨1, _⟩ => exact (pay3_apply (iblk m c 4 t) k l).trans (blk4_apply m c t k l)
  | ⟨2, _⟩ => exact (pay4_apply (iblk m c 5 t) k l).trans (blk5_apply m c t k l)

/-- The tiles kept after point `n` are column block `n / 8` of the three parts of the weights: stored at the block's first
    point and carried through the others. -/
theorem kept (c : Dev nD) : ∀ (n : ℕ) (hn : n < cfg0.N) (p : Fin 3) (k : Fin 1024) (l : Fin 512),
    (outsAt0 m c n hn).2 (ix3 p k l)
      = wgt m c (ix3 0 ⟨1024 * p.val + k.val, by omega⟩ ⟨512 * (n / 8) + l.val, by have := ltN ⟨n, hn⟩; dsimp only at this; omega⟩) := by
  intro n
  induction n with
  | zero =>
    intro hn p k l
    rw [outsAt0_A m c ⟨0, hn⟩ rfl]; dsimp only
    rw [sout_A, stored]
  | succ n ih =>
    intro hn p k l
    by_cases h0 : (n + 1) % 8 = 0
    · rw [outsAt0_A m c ⟨n + 1, hn⟩ h0]; dsimp only
      rw [sout_A, stored]
    · rw [outsAt0_B m c ⟨n + 1, hn⟩ h0]
      dsimp only
      rw [sout_B]
      simp only [Nat.add_sub_cancel]
      rw [ih]
      refine congrArg (fun q => wgt m c (ix3 0 _ q)) (Fin.ext ?_)
      show 512 * (n / 8) + l.val = 512 * ((n + 1) / 8) + l.val
      omega

/-- The merged value of row `R` and column `q`: the three branches' products, each times its gate's logistic. -/
def merged (c : Dev nD) (R : Fin 8192) (q : Fin 2048) : EReal :=
  sg (gat m c (ix2 R ⟨3072 + (0 + q.val), by omega⟩)) * (∑ k : Fin 1024, act0 m c (ix2 R k) * wgt m c (ix3 0 ⟨0 + k.val, by omega⟩ q))
    + sg (gat m c (ix2 R ⟨3072 + (2048 + q.val), by omega⟩)) * (∑ k : Fin 1024, act1 m c (ix2 R k) * wgt m c (ix3 0 ⟨1024 + k.val, by omega⟩ q))
    + sg (gat m c (ix2 R ⟨3072 + (4096 + q.val), by omega⟩)) * ∑ k : Fin 1024, act2 m c (ix2 R k) * wgt m c (ix3 0 ⟨2048 + k.val, by omega⟩ q)

/-- The body at point `t` over kept tiles that hold the point's column block. -/
theorem body_at (c : Dev nD) (t : Fin cfg0.N) (xs : Vec Ideal S3x1024x512 .bf16)
    (hx : ∀ (p : Fin 3) (k : Fin 1024) (l : Fin 512), xs (ix3 p k l)
      = wgt m c (ix3 0 ⟨1024 * p.val + k.val, by omega⟩ ⟨512 * (t.val / 8) + l.val, by have := ltN t; omega⟩)) (r : Fin 1024) (l : Fin 512) :
    body (iblk m c 0 t) (iblk m c 1 t) (iblk m c 2 t) (iblk m c 6 t) (iblk m c 7 t) (iblk m c 8 t) xs (ix2 r l)
      = merged m c ⟨1024 * (t.val % 8) + r.val, by omega⟩ ⟨512 * (t.val / 8) + l.val, by have := ltN t; omega⟩ := by
  refine (body_apply (iblk m c 0 t) (iblk m c 1 t) (iblk m c 2 t) (iblk m c 6 t) (iblk m c 7 t) (iblk m c 8 t) xs r l).trans ?_
  simp only [blk0_apply, blk1_apply, blk2_apply, blk6_apply, blk7_apply, blk8_apply, hx]
  rfl

/-- What point `n` leaves in the output block: rows `1024·(n mod 8)` on and columns `512·(n / 8)` on of the merge. -/
theorem left_ (c : Dev nD) (n : ℕ) (hn : n < cfg0.N) (r : Fin 1024) (l : Fin 512) :
    (outsAt0 m c n hn).1 (ix2 r l)
      = merged m c ⟨1024 * (n % 8) + r.val, by omega⟩ ⟨512 * (n / 8) + l.val, by have := ltN ⟨n, hn⟩; dsimp only at this; omega⟩ := by
  by_cases h0 : n % 8 = 0
  · rw [outsAt0_A m c ⟨n, hn⟩ h0]; dsimp only
    rw [out_A]
    exact body_at m c ⟨n, hn⟩ _ (stored m c ⟨n, hn⟩) r l
  · rw [outsAt0_B m c ⟨n, hn⟩ h0]; dsimp only
    rw [out_B]
    refine body_at m c ⟨n, hn⟩ _ (fun p k l => (kept m c (n - 1) _ p k l).trans ?_) r l
    refine congrArg (fun q => wgt m c (ix3 0 _ q)) (Fin.ext ?_)
    show 512 * ((n - 1) / 8) + l.val = 512 * (n / 8) + l.val
    omega

/-- The result array after the run. -/
abbrev out (c : Dev nD) : Vec Ideal S8192x2048 .bf16 := Value.G9 m c

/-- THE WHOLE ARRAY after the run: the merge. -/
theorem result (c : Dev nD) (r : Fin 8192) (q : Fin 2048) : out m c (ix2 r q) = merged m c r q := by
  have hN : cfg0.N = 32 := N_0
  have hp : Value.pt9Of (ix2 r q) = r.val / 1024 + 8 * (q.val / 512) := by
    show 1 * (r.val / 1024 - 0) + 8 * (q.val / 512 - 0) = _; omega
  have hlt : Value.pt9Of (ix2 r q) < cfg0.N := by omega
  unfold out Value.G9
  rw [dif_pos hlt, ← Value.outsAt0_sweep m c _ hlt]
  have hl : Value.loc9Of (ix2 r q) = ix2 ⟨r.val % 1024, Nat.mod_lt _ (by decide)⟩ ⟨q.val % 512, Nat.mod_lt _ (by decide)⟩ := by
    funext a; apply Fin.ext
    match a with
    | ⟨0, _⟩ => rfl
    | ⟨1, _⟩ => rfl
  have hr : 1024 * (Value.pt9Of (ix2 r q) % 8) + r.val % 1024 = r.val := by omega
  have hq : 512 * (Value.pt9Of (ix2 r q) / 8) + q.val % 512 = q.val := by omega
  rw [hl, left_]
  exact congrArg₂ (merged m c) (Fin.ext hr) (Fin.ext hq)

end Cert.MergeIdeal.Block

namespace Cert.Proof

open Idealize.ShloMosaic Idealize.SL.Sem

/-- The reference's run leaves its arguments alone and no semaphore raised. -/
theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The call's result array is the reference's. -/
theorem algebraic_MergeIdeal_MergeRefIdeal : algebraic_MergeIdeal_MergeRefIdeal := by
  intro m ρ m' ρ' _ hagree
  refine ⟨_, Cert.MergeIdeal.Value.run (F := Ideal) m ρ, ?_⟩
  refine (θ_run Cert.MergeRefIdeal.defs _ _).mono (fun _ h c => ⟨?_, (h c).2⟩) (Cert.MergeRefIdeal.Value.run (F := Ideal) m' ρ')
  rw [(h c).1]
  simp only [hagree c]
  clean_types
  funext i
  obtain ⟨r, q, rfl⟩ : ∃ (r : Fin 8192) (q : Fin 2048), i = Idealize.ShloMosaic.ix2 r q := ⟨i 0, i 1, Idealize.ShloMosaic.eq_ix2 i⟩
  refine Eq.trans ?_ (Cert.MergeIdeal.Block.result m c r q).symm
  unfold Cert.MergeIdeal.Block.merged
  pointwise [Cert.MergeIdeal.Block.act0, Cert.MergeIdeal.Block.act1, Cert.MergeIdeal.Block.act2, Cert.MergeIdeal.Block.wgt, Cert.MergeIdeal.Block.gat]
  simp only [Cert.MergeIdeal.Block.sg]

end Cert.Proof

end
-- ==== Proof.Out.lean ====
/-
  The mixers' output projection, one grid point at a time: what the body computes from its blocks, which part of the arrays those blocks are,
  what the output block and the carried weight tile hold after each point, what the whole array holds after the run, and
  the claim that it is the reference's result.
-/
module

public import proofs.«01_k».proof.Defs
public import proofs.«01_k».proof.Proof.Gen.OutIdeal.Value
public import proofs.«01_k».proof.Proof.Gen.OutRefIdeal.Run
public import Idealize.ShloMosaic.Init
public import Idealize.ShloMosaic.Lib.Quiescent
public import Idealize.ShloMosaic.Lib.Pointwise
public import Idealize.ShloMosaic.Lib.Tactic
public import Idealize.ShloMosaic.Lib.Tactic.ValueTie

@[expose] public section

noncomputable section

namespace Cert.OutIdeal.Block

open Cert.OutIdeal Cert.OutIdeal.Gen Idealize.ShloMosaic Idealize.ShloMosaic.TcCoe Idealize.SL.Sem
open Idealize.ShloMosaic.Pointwise

theorem hz2 : (![0, 0] : Fin 2 → Nat) = fun _ => 0 := funext fun a => by fin_cases a <;> rfl
theorem hz3 : (![0, 0, 0] : Fin 3 → Nat) = fun _ => 0 := funext fun a => by fin_cases a <;> rfl

/-- A later point of a column block leaves the product of its row block and the kept weight tile. -/
theorem out_B (c : Dev nD) (i : grid0.Coords) (a2 : Memref sig .tc .vmem S1024x2048 .bf16) (h2 : a2.IsWhole)
    (a3 : Memref sig .tc .vmem S1x2048x1024 .f32) (h3 : a3.IsWhole) (a4 : Memref sig .tc .vmem S1024x1024 .f32) (h4 : a4.IsWhole) (a5 : Memref sig .tc .vmem S1024x1024 .f32) (h5 : a5.IsWhole)
    (a6 : Memref sig .tc .vmem S2048x1024 .bf16) (h6 : a6.IsWhole) (hc : ¬cond0_0 i)
    (x0 : Vec Ideal S1024x2048 .bf16) (x1 : Vec Ideal S1x2048x1024 .f32) (x2 : Vec Ideal S1024x1024 .f32) (xs : Vec Ideal S2048x1024 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz2]
  simp only [View.readAt_eq_ld, h2.read_unread, h4.read_unread, h6.read_unread, View.ld_unit_zero (S := S1024x2048) hz2, View.ld_unit_zero (S := S2048x1024) hz2, View.ld_unit_zero (S := S1024x1024) hz2]

/-- The first point of a column block leaves its weight block, rounded to the narrow format, in the kept tile. -/
theorem sout_A (c : Dev nD) (i : grid0.Coords) (a2 : Memref sig .tc .vmem S1024x2048 .bf16) (h2 : a2.IsWhole)
    (a3 : Memref sig .tc .vmem S1x2048x1024 .f32) (h3 : a3.IsWhole) (a4 : Memref sig .tc .vmem S1024x1024 .f32) (h4 : a4.IsWhole) (a5 : Memref sig .tc .vmem S1024x1024 .f32) (h5 : a5.IsWhole)
    (a6 : Memref sig .tc .vmem S2048x1024 .bf16) (h6 : a6.IsWhole) (hc : cond0_0 i)
    (x0 : Vec Ideal S1024x2048 .bf16) (x1 : Vec Ideal S1x2048x1024 .f32) (x2 : Vec Ideal S1024x1024 .f32) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h3.read_unread, View.ld_unit_zero (S := S1x2048x1024) hz3]

/-- … and the product of its row block and that tile in the output block. -/
theorem out_A (c : Dev nD) (i : grid0.Coords) (a2 : Memref sig .tc .vmem S1024x2048 .bf16) (h2 : a2.IsWhole)
    (a3 : Memref sig .tc .vmem S1x2048x1024 .f32) (h3 : a3.IsWhole) (a4 : Memref sig .tc .vmem S1024x1024 .f32) (h4 : a4.IsWhole) (a5 : Memref sig .tc .vmem S1024x1024 .f32) (h5 : a5.IsWhole)
    (a6 : Memref sig .tc .vmem S2048x1024 .bf16) (h6 : a6.IsWhole) (hc : cond0_0 i)
    (x0 : Vec Ideal S1024x2048 .bf16) (x1 : Vec Ideal S1x2048x1024 .f32) (x2 : Vec Ideal S1024x1024 .f32) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2, View.readCov_unit_zero (S := S2048x1024) _ hz2]
  simp only [View.readAt_eq_ld, h2.read_unread, h3.read_unread, h4.read_unread, View.ld_unit_zero (S := S1024x2048) hz2, View.ld_unit_zero (S := S1024x1024) hz2,
    View.ld_unit_zero (S := S1x2048x1024) hz3]

/-- Any other point leaves the kept tile as it found it. -/
theorem sout_B (c : Dev nD) (i : grid0.Coords) (a2 : Memref sig .tc .vmem S1024x2048 .bf16) (h2 : a2.IsWhole)
    (a3 : Memref sig .tc .vmem S1x2048x1024 .f32) (h3 : a3.IsWhole) (a4 : Memref sig .tc .vmem S1024x1024 .f32) (h4 : a4.IsWhole) (a5 : Memref sig .tc .vmem S1024x1024 .f32) (h5 : a5.IsWhole)
    (a6 : Memref sig .tc .vmem S2048x1024 .bf16) (h6 : a6.IsWhole) (hc : ¬cond0_0 i)
    (x0 : Vec Ideal S1024x2048 .bf16) (x1 : Vec Ideal S1x2048x1024 .f32) (x2 : Vec Ideal S1024x1024 .f32) (xs : Vec Ideal S2048x1024 .bf16) :
    sout0_B_0 c i a2 h2 a3 h3 a4 h4 a5 h5 a6 h6 hc x0 x1 x2 xs = xs := rfl

/-- The rounded weight block at an index: over the extended reals the block itself. -/
theorem pay1_apply (x1 : Vec Ideal S1x2048x1024 .f32) (l : Fin 1024) (k : Fin 2048) :
    k0_pay1 (F := Ideal) x1 (ix2 k l) = x1 (ix3 0 k l) := by
  pointwise [k0_pay1]

/-- The block product at an index, with the residual: the row of the activations against the column of the weight tile. -/
theorem pay2_apply (x0 : Vec Ideal S1024x2048 .bf16) (xs : Vec Ideal S2048x1024 .bf16) (x2 : Vec Ideal S1024x1024 .f32) (r : Fin 1024) (l : Fin 1024) :
    k0_pay2 (F := Ideal) x0 xs x2 (ix2 r l) = (∑ k : Fin 2048, x0 (ix2 r k) * xs (ix2 k l)) + x2 (ix2 r l) := by
  pointwise [k0_pay2]

/-- The launch's memory as the call's arrays: the activations … -/
abbrev act (m : (ℓ : Loc nD τ sig) → Buf (Elt Ideal) ℓ) (c : Dev nD) : Vec Ideal S8192x2048 .bf16 := m ((c : Thread nD τ).loc main_arg0)
/-- … the stacked weights … -/
abbrev wgt (m : (ℓ : Loc nD τ sig) → Buf (Elt Ideal) ℓ) (c : Dev nD) : Vec Ideal S2x2048x2048 .f32 := m ((c : Thread nD τ).loc main_arg1)

/-- … and the residual. -/
abbrev rsd (m : (ℓ : Loc nD τ sig) → Buf (Elt Ideal) ℓ) (c : Dev nD) : Vec Ideal S8192x2048 .f32 := m ((c : Thread nD τ).loc main_arg2)

variable (m : (ℓ : Loc nD τ sig) → Buf (Elt Ideal) ℓ)

/-- Which rows of the activations and which part of the weights a point reads. -/
theorem ix_facts : ∀ t : Fin cfg0.N, win0_0.index t (0 : Fin 2) = t.val % 8 ∧ win0_0.index t (1 : Fin 2) = 0
    ∧ win0_1.index t (0 : Fin 3) = 0 ∧ win0_1.index t (1 : Fin 3) = 0 ∧ win0_1.index t (2 : Fin 3) = t.val / 8
    ∧ win0_2.index t (0 : Fin 2) = t.val % 8 ∧ win0_2.index t (1 : Fin 2) = t.val / 8 :=
  (by decide +kernel : ∀ t : Fin grid0.N, _)

theorem ltN (t : Fin cfg0.N) : t.val < 16 := lt_of_lt_of_eq t.isLt N_0

/-- Point `t`'s block of the activations: rows `1024·(t mod 8)` on. -/
theorem blk0_apply (c : Dev nD) (t : Fin cfg0.N) (r : Fin 1024) (k : Fin 2048) :
    iblk m c 0 t (ix2 r k) = act m c (ix2 ⟨1024 * (t.val % 8) + r.val, by omega⟩ k) := by
  obtain ⟨e0, e1, -⟩ := ix_facts t
  unfold iblk
  rw [View.read_apply]
  show V m c main_arg0 _ = _
  rw [V_main_arg0]
  show act m c _ = act m c _
  congr 1; funext a; apply Fin.ext
  match a with
  | ⟨0, _⟩ => show win0_0.index t (0 : Fin 2) * 1024 + 1 * r.val = 1024 * (t.val % 8) + r.val; omega
  | ⟨1, _⟩ => show win0_0.index t (1 : Fin 2) * 2048 + 1 * k.val = k.val; omega

/-- Point `t`'s block of the weights: columns `1024·(t / 8)` on. -/
theorem blk1_apply (c : Dev nD) (t : Fin cfg0.N) (l : Fin 1024) (k : Fin 2048) :
    iblk m c 1 t (ix3 0 k l) = wgt m c (ix3 0 k ⟨1024 * (t.val / 8) + l.val, by have := ltN t; omega⟩) := by
  have := ltN t
  obtain ⟨-, -, e0, e1, e2, -⟩ := ix_facts t
  unfold iblk
  rw [View.read_apply]
  show V m c main_arg1 _ = _
  rw [V_main_arg1]
  show wgt m c _ = wgt m c _
  congr 1; funext a; apply Fin.ext
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 1024 + 1 * l.val = 1024 * (t.val / 8) + l.val; omega

/-- Point `t`'s block of the residual. -/
theorem blk2_apply (c : Dev nD) (t : Fin cfg0.N) (r : Fin 1024) (l : Fin 1024) :
    iblk m c 2 t (ix2 r l) = rsd m c (ix2 ⟨1024 * (t.val % 8) + r.val, by omega⟩ ⟨1024 * (t.val / 8) + l.val, by have := ltN t; omega⟩) := by
  have := ltN t
  obtain ⟨-, -, -, -, -, e0, e1⟩ := ix_facts t
  unfold iblk
  rw [View.read_apply]
  show V m c main_arg2 _ = _
  rw [V_main_arg2]
  show rsd m c _ = rsd m c _
  congr 1; funext a; apply Fin.ext
  match a with
  | ⟨0, _⟩ => show win0_2.index t (0 : Fin 2) * 1024 + 1 * r.val = 1024 * (t.val % 8) + r.val; omega
  | ⟨1, _⟩ => show win0_2.index t (1 : Fin 2) * 1024 + 1 * l.val = 1024 * (t.val / 8) + l.val; omega

/-- The weight tile kept after point `n` is column block `n / 8` of the weights: stored at the block's first point and
    carried through the others. -/
theorem kept (c : Dev nD) : ∀ (n : ℕ) (hn : n < cfg0.N) (l : Fin 1024) (k : Fin 2048),
    (outsAt0 m c n hn).2 (ix2 k l)
      = wgt m c (ix3 0 k ⟨1024 * (n / 8) + l.val, by have := ltN ⟨n, hn⟩; dsimp only at this; omega⟩) := by
  intro n
  induction n with
  | zero =>
    intro hn l k
    rw [outsAt0_A m c ⟨0, hn⟩ rfl]; dsimp only
    rw [sout_A, pay1_apply, blk1_apply]
  | succ n ih =>
    intro hn l k
    by_cases h0 : (n + 1) % 8 = 0
    · rw [outsAt0_A m c ⟨n + 1, hn⟩ h0]; dsimp only
      rw [sout_A, pay1_apply, blk1_apply]
    · rw [outsAt0_B m c ⟨n + 1, hn⟩ h0]
      dsimp only
      rw [sout_B]
      simp only [Nat.add_sub_cancel]
      rw [ih]
      refine congrArg (fun q => wgt m c (ix3 0 k q)) (Fin.ext ?_)
      show 1024 * (n / 8) + l.val = 1024 * ((n + 1) / 8) + l.val
      omega

/-- What point `n` leaves in the output block: rows `1024·(n mod 8)` on of the activations against columns
    `1024·(n / 8)` on of the weights, and the residual. -/
theorem left_ (c : Dev nD) (n : ℕ) (hn : n < cfg0.N) (r : Fin 1024) (l : Fin 1024) :
    (outsAt0 m c n hn).1 (ix2 r l)
      = (∑ k : Fin 2048, act m c (ix2 ⟨1024 * (n % 8) + r.val, by omega⟩ k)
          * wgt m c (ix3 0 k ⟨1024 * (n / 8) + l.val, by have := ltN ⟨n, hn⟩; dsimp only at this; omega⟩))
        + rsd m c (ix2 ⟨1024 * (n % 8) + r.val, by omega⟩ ⟨1024 * (n / 8) + l.val, by have := ltN ⟨n, hn⟩; dsimp only at this; omega⟩) := by
  by_cases h0 : n % 8 = 0
  · rw [outsAt0_A m c ⟨n, hn⟩ h0]; dsimp only
    rw [out_A, pay2_apply]
    refine congrArg₂ (· + ·) (Finset.sum_congr rfl fun k _ => ?_) (blk2_apply m c ⟨n, hn⟩ r l)
    rw [pay1_apply, blk0_apply, blk1_apply]
  · rw [outsAt0_B m c ⟨n, hn⟩ h0]; dsimp only
    rw [out_B, pay2_apply]
    refine congrArg₂ (· + ·) (Finset.sum_congr rfl fun k _ => ?_) (blk2_apply m c ⟨n, hn⟩ r l)
    rw [blk0_apply, kept]
    refine congrArg₂ (fun p q => act m c (ix2 p k) * wgt m c (ix3 0 k q)) rfl (Fin.ext ?_)
    show 1024 * ((n - 1) / 8) + l.val = 1024 * (n / 8) + l.val
    omega

/-- The result array after the run. -/
abbrev out (c : Dev nD) : Vec Ideal S8192x2048 .f32 := Value.G3 m c

/-- THE WHOLE ARRAY after the run: the product of the activations and the weights' columns, plus the residual. -/
theorem result (c : Dev nD) (r : Fin 8192) (q : Fin 2048) :
    out m c (ix2 r q) = (∑ k : Fin 2048, act m c (ix2 r k) * wgt m c (ix3 0 k ⟨q.val, by omega⟩)) + rsd m c (ix2 r q) := by
  have hN : cfg0.N = 16 := N_0
  have hp : Value.pt3Of (ix2 r q) = r.val / 1024 + 8 * (q.val / 1024) := by
    show 1 * (r.val / 1024 - 0) + 8 * (q.val / 1024 - 0) = _; omega
  have hlt : Value.pt3Of (ix2 r q) < cfg0.N := by omega
  unfold out Value.G3
  rw [dif_pos hlt, ← Value.outsAt0_sweep m c _ hlt]
  have hl : Value.loc3Of (ix2 r q) = ix2 ⟨r.val % 1024, Nat.mod_lt _ (by decide)⟩ ⟨q.val % 1024, Nat.mod_lt _ (by decide)⟩ := by
    funext a; apply Fin.ext
    match a with
    | ⟨0, _⟩ => rfl
    | ⟨1, _⟩ => rfl
  have hr : 1024 * (Value.pt3Of (ix2 r q) % 8) + r.val % 1024 = r.val := by omega
  have hq : 1024 * (Value.pt3Of (ix2 r q) / 8) + q.val % 1024 = q.val := by omega
  rw [hl, left_]

  refine congrArg₂ (· + ·) (Finset.sum_congr rfl fun k _ => congrArg₂ (fun p q => act m c (ix2 p k) * wgt m c (ix3 0 k q)) (Fin.ext hr) (Fin.ext ?_))
    (congrArg₂ (fun p q => rsd m c (ix2 p q)) (Fin.ext hr) (Fin.ext hq))
  show 1024 * (Value.pt3Of (ix2 r q) / 8) + q.val % 1024 = q.val
  omega

end Cert.OutIdeal.Block

namespace Cert.Proof

open Idealize.ShloMosaic Idealize.SL.Sem

/-- The reference's run leaves its arguments alone and no semaphore raised. -/
theorem quiescent_OutRefIdeal : quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The call's result array is the reference's. -/
theorem algebraic_OutIdeal_OutRefIdeal : algebraic_OutIdeal_OutRefIdeal := by
  intro m ρ m' ρ' _ hagree
  refine ⟨_, Cert.OutIdeal.Value.run (F := Ideal) m ρ, ?_⟩
  refine (θ_run Cert.OutRefIdeal.defs _ _).mono (fun _ h c => ⟨?_, (h c).2⟩) (Cert.OutRefIdeal.Value.run (F := Ideal) m' ρ')
  rw [(h c).1]
  simp only [hagree c]
  clean_types
  funext i
  obtain ⟨r, q, rfl⟩ : ∃ (r : Fin 8192) (q : Fin 2048), i = Idealize.ShloMosaic.ix2 r q := ⟨i 0, i 1, Idealize.ShloMosaic.eq_ix2 i⟩
  refine Eq.trans ?_ (Cert.OutIdeal.Block.result m c r q).symm
  pointwise [Cert.OutIdeal.Block.act, Cert.OutIdeal.Block.wgt, Cert.OutIdeal.Block.rsd]
  exact add_comm _ _

end Cert.Proof

end
-- ==== Proof.CrossO.lean ====
/-
  Cross-attention's output projection, one grid point at a time: what the body computes from its blocks, which part of the arrays those blocks are,
  what the output block and the carried weight tile hold after each point, what the whole array holds after the run, and
  the claim that it is the reference's result.
-/
module

public import proofs.«01_k».proof.Defs
public import proofs.«01_k».proof.Proof.Gen.CrossOIdeal.Value
public import proofs.«01_k».proof.Proof.Gen.CrossORefIdeal.Run
public import Idealize.ShloMosaic.Init
public import Idealize.ShloMosaic.Lib.Quiescent
public import Idealize.ShloMosaic.Lib.Pointwise
public import Idealize.ShloMosaic.Lib.Tactic
public import Idealize.ShloMosaic.Lib.Tactic.ValueTie

@[expose] public section

noncomputable section

namespace Cert.CrossOIdeal.Block

open Cert.CrossOIdeal Cert.CrossOIdeal.Gen Idealize.ShloMosaic Idealize.ShloMosaic.TcCoe Idealize.SL.Sem
open Idealize.ShloMosaic.Pointwise

theorem hz2 : (![0, 0] : Fin 2 → Nat) = fun _ => 0 := funext fun a => by fin_cases a <;> rfl
theorem hz3 : (![0, 0, 0] : Fin 3 → Nat) = fun _ => 0 := funext fun a => by fin_cases a <;> rfl

/-- A later point of a column block leaves the product of its row block and the kept weight tile. -/
theorem out_B (c : Dev nD) (i : grid0.Coords) (a2 : Memref sig .tc .vmem S1024x512 .bf16) (h2 : a2.IsWhole)
    (a3 : Memref sig .tc .vmem S1x512x1024 .f32) (h3 : a3.IsWhole) (a4 : Memref sig .tc .vmem S1024x1024 .f32) (h4 : a4.IsWhole) (a5 : Memref sig .tc .vmem S1024x1024 .f32) (h5 : a5.IsWhole)
    (a6 : Memref sig .tc .vmem S512x1024 .bf16) (h6 : a6.IsWhole) (hc : ¬cond0_0 i)
    (x0 : Vec Ideal S1024x512 .bf16) (x1 : Vec Ideal S1x512x1024 .f32) (x2 : Vec Ideal S1024x1024 .f32) (xs : Vec Ideal S512x1024 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz2]
  simp only [View.readAt_eq_ld, h2.read_unread, h4.read_unread, h6.read_unread, View.ld_unit_zero (S := S1024x512) hz2, View.ld_unit_zero (S := S512x1024) hz2, View.ld_unit_zero (S := S1024x1024) hz2]

/-- The first point of a column block leaves its weight block, rounded to the narrow format, in the kept tile. -/
theorem sout_A (c : Dev nD) (i : grid0.Coords) (a2 : Memref sig .tc .vmem S1024x512 .bf16) (h2 : a2.IsWhole)
    (a3 : Memref sig .tc .vmem S1x512x1024 .f32) (h3 : a3.IsWhole) (a4 : Memref sig .tc .vmem S1024x1024 .f32) (h4 : a4.IsWhole) (a5 : Memref sig .tc .vmem S1024x1024 .f32) (h5 : a5.IsWhole)
    (a6 : Memref sig .tc .vmem S512x1024 .bf16) (h6 : a6.IsWhole) (hc : cond0_0 i)
    (x0 : Vec Ideal S1024x512 .bf16) (x1 : Vec Ideal S1x512x1024 .f32) (x2 : Vec Ideal S1024x1024 .f32) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h3.read_unread, View.ld_unit_zero (S := S1x512x1024) hz3]

/-- … and the product of its row block and that tile in the output block. -/
theorem out_A (c : Dev nD) (i : grid0.Coords) (a2 : Memref sig .tc .vmem S1024x512 .bf16) (h2 : a2.IsWhole)
    (a3 : Memref sig .tc .vmem S1x512x1024 .f32) (h3 : a3.IsWhole) (a4 : Memref sig .tc .vmem S1024x1024 .f32) (h4 : a4.IsWhole) (a5 : Memref sig .tc .vmem S1024x1024 .f32) (h5 : a5.IsWhole)
    (a6 : Memref sig .tc .vmem S512x1024 .bf16) (h6 : a6.IsWhole) (hc : cond0_0 i)
    (x0 : Vec Ideal S1024x512 .bf16) (x1 : Vec Ideal S1x512x1024 .f32) (x2 : Vec Ideal S1024x1024 .f32) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2, View.readCov_unit_zero (S := S512x1024) _ hz2]
  simp only [View.readAt_eq_ld, h2.read_unread, h3.read_unread, h4.read_unread, View.ld_unit_zero (S := S1024x512) hz2, View.ld_unit_zero (S := S1024x1024) hz2,
    View.ld_unit_zero (S := S1x512x1024) hz3]

/-- Any other point leaves the kept tile as it found it. -/
theorem sout_B (c : Dev nD) (i : grid0.Coords) (a2 : Memref sig .tc .vmem S1024x512 .bf16) (h2 : a2.IsWhole)
    (a3 : Memref sig .tc .vmem S1x512x1024 .f32) (h3 : a3.IsWhole) (a4 : Memref sig .tc .vmem S1024x1024 .f32) (h4 : a4.IsWhole) (a5 : Memref sig .tc .vmem S1024x1024 .f32) (h5 : a5.IsWhole)
    (a6 : Memref sig .tc .vmem S512x1024 .bf16) (h6 : a6.IsWhole) (hc : ¬cond0_0 i)
    (x0 : Vec Ideal S1024x512 .bf16) (x1 : Vec Ideal S1x512x1024 .f32) (x2 : Vec Ideal S1024x1024 .f32) (xs : Vec Ideal S512x1024 .bf16) :
    sout0_B_0 c i a2 h2 a3 h3 a4 h4 a5 h5 a6 h6 hc x0 x1 x2 xs = xs := rfl

/-- The rounded weight block at an index: over the extended reals the block itself. -/
theorem pay1_apply (x1 : Vec Ideal S1x512x1024 .f32) (l : Fin 1024) (k : Fin 512) :
    k0_pay1 (F := Ideal) x1 (ix2 k l) = x1 (ix3 0 k l) := by
  pointwise [k0_pay1]

/-- The block product at an index, with the residual: the row of the activations against the column of the weight tile. -/
theorem pay2_apply (x0 : Vec Ideal S1024x512 .bf16) (xs : Vec Ideal S512x1024 .bf16) (x2 : Vec Ideal S1024x1024 .f32) (r : Fin 1024) (l : Fin 1024) :
    k0_pay2 (F := Ideal) x0 xs x2 (ix2 r l) = (∑ k : Fin 512, x0 (ix2 r k) * xs (ix2 k l)) + x2 (ix2 r l) := by
  pointwise [k0_pay2]

/-- The launch's memory as the call's arrays: the activations … -/
abbrev act (m : (ℓ : Loc nD τ sig) → Buf (Elt Ideal) ℓ) (c : Dev nD) : Vec Ideal S8192x512 .bf16 := m ((c : Thread nD τ).loc main_arg0)
/-- … the stacked weights … -/
abbrev wgt (m : (ℓ : Loc nD τ sig) → Buf (Elt Ideal) ℓ) (c : Dev nD) : Vec Ideal S2x512x2048 .f32 := m ((c : Thread nD τ).loc main_arg1)

/-- … and the residual. -/
abbrev rsd (m : (ℓ : Loc nD τ sig) → Buf (Elt Ideal) ℓ) (c : Dev nD) : Vec Ideal S8192x2048 .f32 := m ((c : Thread nD τ).loc main_arg2)

variable (m : (ℓ : Loc nD τ sig) → Buf (Elt Ideal) ℓ)

/-- Which rows of the activations and which part of the weights a point reads. -/
theorem ix_facts : ∀ t : Fin cfg0.N, win0_0.index t (0 : Fin 2) = t.val % 8 ∧ win0_0.index t (1 : Fin 2) = 0
    ∧ win0_1.index t (0 : Fin 3) = 0 ∧ win0_1.index t (1 : Fin 3) = 0 ∧ win0_1.index t (2 : Fin 3) = t.val / 8
    ∧ win0_2.index t (0 : Fin 2) = t.val % 8 ∧ win0_2.index t (1 : Fin 2) = t.val / 8 :=
  (by decide +kernel : ∀ t : Fin grid0.N, _)

theorem ltN (t : Fin cfg0.N) : t.val < 16 := lt_of_lt_of_eq t.isLt N_0

/-- Point `t`'s block of the activations: rows `1024·(t mod 8)` on. -/
theorem blk0_apply (c : Dev nD) (t : Fin cfg0.N) (r : Fin 1024) (k : Fin 512) :
    iblk m c 0 t (ix2 r k) = act m c (ix2 ⟨1024 * (t.val % 8) + r.val, by omega⟩ k) := by
  obtain ⟨e0, e1, -⟩ := ix_facts t
  unfold iblk
  rw [View.read_apply]
  show V m c main_arg0 _ = _
  rw [V_main_arg0]
  show act m c _ = act m c _
  congr 1; funext a; apply Fin.ext
  match a with
  | ⟨0, _⟩ => show win0_0.index t (0 : Fin 2) * 1024 + 1 * r.val = 1024 * (t.val % 8) + r.val; omega
  | ⟨1, _⟩ => show win0_0.index t (1 : Fin 2) * 512 + 1 * k.val = k.val; omega

/-- Point `t`'s block of the weights: columns `1024·(t / 8)` on. -/
theorem blk1_apply (c : Dev nD) (t : Fin cfg0.N) (l : Fin 1024) (k : Fin 512) :
    iblk m c 1 t (ix3 0 k l) = wgt m c (ix3 0 k ⟨1024 * (t.val / 8) + l.val, by have := ltN t; omega⟩) := by
  have := ltN t
  obtain ⟨-, -, e0, e1, e2, -⟩ := ix_facts t
  unfold iblk
  rw [View.read_apply]
  show V m c main_arg1 _ = _
  rw [V_main_arg1]
  show wgt m c _ = wgt m c _
  congr 1; funext a; apply Fin.ext
  match a with
  | ⟨0, _⟩ => show win0_1.index t (0 : Fin 3) * 1 + 1 * 0 = 0; omega
  | ⟨1, _⟩ => show win0_1.index t (1 : Fin 3) * 512 + 1 * k.val = k.val; omega
  | ⟨2, _⟩ => show win0_1.index t (2 : Fin 3) * 1024 + 1 * l.val = 1024 * (t.val / 8) + l.val; omega

/-- Point `t`'s block of the residual. -/
theorem blk2_apply (c : Dev nD) (t : Fin cfg0.N) (r : Fin 1024) (l : Fin 1024) :
    iblk m c 2 t (ix2 r l) = rsd m c (ix2 ⟨1024 * (t.val % 8) + r.val, by omega⟩ ⟨1024 * (t.val / 8) + l.val, by have := ltN t; omega⟩) := by
  have := ltN t
  obtain ⟨-, -, -, -, -, e0, e1⟩ := ix_facts t
  unfold iblk
  rw [View.read_apply]
  show V m c main_arg2 _ = _
  rw [V_main_arg2]
  show rsd m c _ = rsd m c _
  congr 1; funext a; apply Fin.ext
  match a with
  | ⟨0, _⟩ => show win0_2.index t (0 : Fin 2) * 1024 + 1 * r.val = 1024 * (t.val % 8) + r.val; omega
  | ⟨1, _⟩ => show win0_2.index t (1 : Fin 2) * 1024 + 1 * l.val = 1024 * (t.val / 8) + l.val; omega

/-- The weight tile kept after point `n` is column block `n / 8` of the weights: stored at the block's first point and
    carried through the others. -/
theorem kept (c : Dev nD) : ∀ (n : ℕ) (hn : n < cfg0.N) (l : Fin 1024) (k : Fin 512),
    (outsAt0 m c n hn).2 (ix2 k l)
      = wgt m c (ix3 0 k ⟨1024 * (n / 8) + l.val, by have := ltN ⟨n, hn⟩; dsimp only at this; omega⟩) := by
  intro n
  induction n with
  | zero =>
    intro hn l k
    rw [outsAt0_A m c ⟨0, hn⟩ rfl]; dsimp only
    rw [sout_A, pay1_apply, blk1_apply]
  | succ n ih =>
    intro hn l k
    by_cases h0 : (n + 1) % 8 = 0
    · rw [outsAt0_A m c ⟨n + 1, hn⟩ h0]; dsimp only
      rw [sout_A, pay1_apply, blk1_apply]
    · rw [outsAt0_B m c ⟨n + 1, hn⟩ h0]
      dsimp only
      rw [sout_B]
      simp only [Nat.add_sub_cancel]
      rw [ih]
      refine congrArg (fun q => wgt m c (ix3 0 k q)) (Fin.ext ?_)
      show 1024 * (n / 8) + l.val = 1024 * ((n + 1) / 8) + l.val
      omega

/-- What point `n` leaves in the output block: rows `1024·(n mod 8)` on of the activations against columns
    `1024·(n / 8)` on of the weights, and the residual. -/
theorem left_ (c : Dev nD) (n : ℕ) (hn : n < cfg0.N) (r : Fin 1024) (l : Fin 1024) :
    (outsAt0 m c n hn).1 (ix2 r l)
      = (∑ k : Fin 512, act m c (ix2 ⟨1024 * (n % 8) + r.val, by omega⟩ k)
          * wgt m c (ix3 0 k ⟨1024 * (n / 8) + l.val, by have := ltN ⟨n, hn⟩; dsimp only at this; omega⟩))
        + rsd m c (ix2 ⟨1024 * (n % 8) + r.val, by omega⟩ ⟨1024 * (n / 8) + l.val, by have := ltN ⟨n, hn⟩; dsimp only at this; omega⟩) := by
  by_cases h0 : n % 8 = 0
  · rw [outsAt0_A m c ⟨n, hn⟩ h0]; dsimp only
    rw [out_A, pay2_apply]
    refine congrArg₂ (· + ·) (Finset.sum_congr rfl fun k _ => ?_) (blk2_apply m c ⟨n, hn⟩ r l)
    rw [pay1_apply, blk0_apply, blk1_apply]
  · rw [outsAt0_B m c ⟨n, hn⟩ h0]; dsimp only
    rw [out_B, pay2_apply]
    refine congrArg₂ (· + ·) (Finset.sum_congr rfl fun k _ => ?_) (blk2_apply m c ⟨n, hn⟩ r l)
    rw [blk0_apply, kept]
    refine congrArg₂ (fun p q => act m c (ix2 p k) * wgt m c (ix3 0 k q)) rfl (Fin.ext ?_)
    show 1024 * ((n - 1) / 8) + l.val = 1024 * (n / 8) + l.val
    omega

/-- The result array after the run. -/
abbrev out (c : Dev nD) : Vec Ideal S8192x2048 .f32 := Value.G3 m c

/-- THE WHOLE ARRAY after the run: the product of the activations and the weights' columns, plus the residual. -/
theorem result (c : Dev nD) (r : Fin 8192) (q : Fin 2048) :
    out m c (ix2 r q) = (∑ k : Fin 512, act m c (ix2 r k) * wgt m c (ix3 0 k ⟨q.val, by omega⟩)) + rsd m c (ix2 r q) := by
  have hN : cfg0.N = 16 := N_0
  have hp : Value.pt3Of (ix2 r q) = r.val / 1024 + 8 * (q.val / 1024) := by
    show 1 * (r.val / 1024 - 0) + 8 * (q.val / 1024 - 0) = _; omega
  have hlt : Value.pt3Of (ix2 r q) < cfg0.N := by omega
  unfold out Value.G3
  rw [dif_pos hlt, ← Value.outsAt0_sweep m c _ hlt]
  have hl : Value.loc3Of (ix2 r q) = ix2 ⟨r.val % 1024, Nat.mod_lt _ (by decide)⟩ ⟨q.val % 1024, Nat.mod_lt _ (by decide)⟩ := by
    funext a; apply Fin.ext
    match a with
    | ⟨0, _⟩ => rfl
    | ⟨1, _⟩ => rfl
  have hr : 1024 * (Value.pt3Of (ix2 r q) % 8) + r.val % 1024 = r.val := by omega
  have hq : 1024 * (Value.pt3Of (ix2 r q) / 8) + q.val % 1024 = q.val := by omega
  rw [hl, left_]

  refine congrArg₂ (· + ·) (Finset.sum_congr rfl fun k _ => congrArg₂ (fun p q => act m c (ix2 p k) * wgt m c (ix3 0 k q)) (Fin.ext hr) (Fin.ext ?_))
    (congrArg₂ (fun p q => rsd m c (ix2 p q)) (Fin.ext hr) (Fin.ext hq))
  show 1024 * (Value.pt3Of (ix2 r q) / 8) + q.val % 1024 = q.val
  omega

end Cert.CrossOIdeal.Block

namespace Cert.Proof

open Idealize.ShloMosaic Idealize.SL.Sem

/-- The reference's run leaves its arguments alone and no semaphore raised. -/
theorem quiescent_CrossORefIdeal : quiescent_CrossORefIdeal := fun m ρ _ =>
  (θ_run Cert.CrossORefIdeal.defs _ _).mono (fun r h => ⟨fun c => (h c).2, sem_eq_zero_of_no_sems (by decide) r.2⟩)
    (Cert.CrossORefIdeal.Value.run (F := Ideal) m ρ)

/-- The call's result array is the reference's. -/
theorem algebraic_CrossOIdeal_CrossORefIdeal : algebraic_CrossOIdeal_CrossORefIdeal := by
  intro m ρ m' ρ' _ hagree
  refine ⟨_, Cert.CrossOIdeal.Value.run (F := Ideal) m ρ, ?_⟩
  refine (θ_run Cert.CrossORefIdeal.defs _ _).mono (fun _ h c => ⟨?_, (h c).2⟩) (Cert.CrossORefIdeal.Value.run (F := Ideal) m' ρ')
  rw [(h c).1]
  simp only [hagree c]
  clean_types
  funext i
  obtain ⟨r, q, rfl⟩ : ∃ (r : Fin 8192) (q : Fin 2048), i = Idealize.ShloMosaic.ix2 r q := ⟨i 0, i 1, Idealize.ShloMosaic.eq_ix2 i⟩
  refine Eq.trans ?_ (Cert.CrossOIdeal.Block.result m c r q).symm
  pointwise [Cert.CrossOIdeal.Block.act, Cert.CrossOIdeal.Block.wgt, Cert.CrossOIdeal.Block.rsd]
  exact add_comm _ _

end Cert.Proof

end
-- ==== Proof.CrossQ.lean ====
/-
  Cross-attention's query projection, one grid point at a time: what the body computes from its blocks, which part of the arrays those blocks are,
  what the output block and the carried weight tile hold after each point, what the whole array holds after the run, and
  the claim that it is the reference's result.
-/
module

public import proofs.«01_k».proof.Defs
public import proofs.«01_k».proof.Proof.Gen.CrossQIdeal.Value
public import proofs.«01_k».proof.Proof.Gen.CrossQRefIdeal.Run
public import Idealize.ShloMosaic.Init
public import Idealize.ShloMosaic.Lib.Quiescent
public import Idealize.ShloMosaic.Lib.Pointwise
public import Idealize.ShloMosaic.Lib.Tactic
public import Idealize.ShloMosaic.Lib.Tactic.ValueTie

@[expose] public section

noncomputable section

namespace Cert.CrossQIdeal.Block

open Cert.CrossQIdeal Cert.CrossQIdeal.Gen Idealize.ShloMosaic Idealize.ShloMosaic.TcCoe Idealize.SL.Sem
open Idealize.ShloMosaic.Pointwise

theorem hz2 : (![0, 0] : Fin 2 → Nat) = fun _ => 0 := funext fun a => by fin_cases a <;> rfl
theorem hz3 : (![0, 0, 0] : Fin 3 → Nat) = fun _ => 0 := funext fun a => by fin_cases a <;> rfl

/-- A later point of a column block leaves the product of its row block and the kept weight tile. -/
theorem out_B (c : Dev nD) (i : grid0.Coords) (a2 : Memref sig .tc .vmem S1024x2048 .bf16) (h2 : a2.IsWhole)
    (a3 : Memref sig .tc .vmem S1x2048x512 .f32) (h3 : a3.IsWhole) (a4 : Memref sig .tc .vmem S1024x512 .bf16) (h4 : a4.IsWhole)
    (a5 : Memref sig .tc .vmem S2048x512 .bf16) (h5 : a5.IsWhole) (hc : ¬cond0_0 i)
    (x0 : Vec Ideal S1024x2048 .bf16) (x1 : Vec Ideal S1x2048x512 .f32) (xs : Vec Ideal S2048x512 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  rw [View.canon_unit_zero hz2]
  simp only [View.readAt_eq_ld, h2.read_unread, h5.read_unread, View.ld_unit_zero (S := S1024x2048) hz2, View.ld_unit_zero (S := S2048x512) hz2]

/-- The first point of a column block leaves its weight block, rounded to the narrow format, in the kept tile. -/
theorem sout_A (c : Dev nD) (i : grid0.Coords) (a2 : Memref sig .tc .vmem S1024x2048 .bf16) (h2 : a2.IsWhole)
    (a3 : Memref sig .tc .vmem S1x2048x512 .f32) (h3 : a3.IsWhole) (a4 : Memref sig .tc .vmem S1024x512 .bf16) (h4 : a4.IsWhole)
    (a5 : Memref sig .tc .vmem S2048x512 .bf16) (h5 : a5.IsWhole) (hc : cond0_0 i)
    (x0 : Vec Ideal S1024x2048 .bf16) (x1 : Vec Ideal S1x2048x512 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x2048x512) hz3]

/-- … and the product of its row block and that tile in the output block. -/
theorem out_A (c : Dev nD) (i : grid0.Coords) (a2 : Memref sig .tc .vmem S1024x2048 .bf16) (h2 : a2.IsWhole)
    (a3 : Memref sig .tc .vmem S1x2048x512 .f32) (h3 : a3.IsWhole) (a4 : Memref sig .tc .vmem S1024x512 .bf16) (h4 : a4.IsWhole)
    (a5 : Memref sig .tc .vmem S2048x512 .bf16) (h5 : a5.IsWhole) (hc : cond0_0 i)
    (x0 : Vec Ideal S1024x2048 .bf16) (x1 : Vec Ideal S1x2048x512 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S2048x512) _ hz2]
  simp only [View.readAt_eq_ld, h2.read_unread, h3.read_unread, View.ld_unit_zero (S := S1024x2048) hz2,
    View.ld_unit_zero (S := S1x2048x512) hz3]

/-- Any other point leaves the kept tile as it found it. -/
theorem sout_B (c : Dev nD) (i : grid0.Coords) (a2 : Memref sig .tc .vmem S1024x2048 .bf16) (h2 : a2.IsWhole)
    (a3 : Memref sig .tc .vmem S1x2048x512 .f32) (h3 : a3.IsWhole) (a4 : Memref sig .tc .vmem S1024x512 .bf16) (h4 : a4.IsWhole)
    (a5 : Memref sig .tc .vmem S2048x512 .bf16) (h5 : a5.IsWhole) (hc : ¬cond0_0 i)
    (x0 : Vec Ideal S1024x2048 .bf16) (x1 : Vec Ideal S1x2048x512 .f32) (xs : Vec Ideal S2048x512 .bf16) :
    sout0_B_0 c i a2 h2 a3 h3 a4 h4 a5 h5 hc x0 x1 xs = xs := rfl

/-- The rounded weight block at an index: over the extended reals the block itself. -/
theorem pay1_apply (x1 : Vec Ideal S1x2048x512 .f32) (l : Fin 512) (k : Fin 2048) :
    k0_pay1 (F := Ideal) x1 (ix2 k l) = x1 (ix3 0 k l) := by
  pointwise [k0_pay1]

/-- The block product at an index: the row of the activations against the column of the weight tile. -/
theorem pay2_apply (x0 : Vec Ideal S1024x2048 .bf16) (xs : Vec Ideal S2048x512 .bf16) (r : Fin 1024) (l : Fin 512) :
    k0_pay2 (F := Ideal) x0 xs (ix2 r l) = ∑ k : Fin 2048, x0 (ix2 r k) * xs (ix2 k l) := by
  pointwise [k0_pay2]

/-- The launch's memory as the call's arrays: the activations … -/
abbrev act (m : (ℓ : Loc nD τ sig) → Buf (Elt Ideal) ℓ) (c : Dev nD) : Vec Ideal S8192x2048 .bf16 := m ((c : Thread nD τ).loc main_arg0)
/-- … the stacked weights -/
abbrev wgt (m : (ℓ : Loc nD τ sig) → Buf (Elt Ideal) ℓ) (c : Dev nD) : Vec Ideal S2x2048x512 .f32 := m ((c : Thread nD τ).loc main_arg1)

variable (m : (ℓ : Loc nD τ sig) → Buf (Elt Ideal) ℓ)

/-- Which rows of the activations and which part of the weights a point reads. -/
theorem ix_facts : ∀ t : Fin cfg0.N, win0_0.index t (0 : Fin 2) = t.val % 8 ∧ win0_0.index t (1 : Fin 2) = 0
    ∧ win0_1.index t (0 : Fin 3) = 0 ∧ win0_1.index t (1 : Fin 3) = 0 ∧ win0_1.index t (2 : Fin 3) = t.val / 8 :=
  (by decide +kernel : ∀ t : Fin grid0.N, _)

theorem ltN (t : Fin cfg0.N) : t.val < 8 := lt_of_lt_of_eq t.isLt N_0

/-- Point `t`'s block of the activations: rows `1024·(t mod 8)` on. -/
theorem blk0_apply (c : Dev nD) (t : Fin cfg0.N) (r : Fin 1024) (k : Fin 2048) :
    iblk m c 0 t (ix2 r k) = act m c (ix2 ⟨1024 * (t.val % 8) + r.val, by omega⟩ k) := by
  obtain ⟨e0, e1, -⟩ := ix_facts t
  unfold iblk
  rw [View.read_apply]
  show V m c main_arg0 _ = _
  rw [V_main_arg0]
  show act m c _ = act m c _
  congr 1; funext a; apply Fin.ext
  match a with
  | ⟨0, _⟩ => show win0_0.index t (0 : Fin 2) * 1024 + 1 * r.val = 1024 * (t.val % 8) + r.val; omega
  | ⟨1, _⟩ => show win0_0.index t (1 : Fin 2) * 2048 + 1 * k.val = k.val; omega

/-- Point `t`'s block of the weights: columns `512·(t / 8)` on. -/
theorem blk1_apply (c : Dev nD) (t : Fin cfg0.N) (l : Fin 512) (k : Fin 2048) :
    iblk m c 1 t (ix3 0 k l) = wgt m c (ix3 0 k ⟨512 * (t.val / 8) + l.val, by have := ltN t; omega⟩) := by
  have := ltN t
  obtain ⟨-, -, e0, e1, e2⟩ := ix_facts t
  unfold iblk
  rw [View.read_apply]
  show V m c main_arg1 _ = _
  rw [V_main_arg1]
  show wgt m c _ = wgt m c _
  congr 1; funext a; apply Fin.ext
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 512 + 1 * l.val = 512 * (t.val / 8) + l.val; omega

/-- The weight tile kept after point `n` is column block `n / 8` of the weights: stored at the block's first point and
    carried through the others. -/
theorem kept (c : Dev nD) : ∀ (n : ℕ) (hn : n < cfg0.N) (l : Fin 512) (k : Fin 2048),
    (outsAt0 m c n hn).2 (ix2 k l)
      = wgt m c (ix3 0 k ⟨512 * (n / 8) + l.val, by have := ltN ⟨n, hn⟩; dsimp only at this; omega⟩) := by
  intro n
  induction n with
  | zero =>
    intro hn l k
    rw [outsAt0_A m c ⟨0, hn⟩ rfl]; dsimp only
    rw [sout_A, pay1_apply, blk1_apply]
  | succ n ih =>
    intro hn l k
    by_cases h0 : (n + 1) % 8 = 0
    · rw [outsAt0_A m c ⟨n + 1, hn⟩ h0]; dsimp only
      rw [sout_A, pay1_apply, blk1_apply]
    · rw [outsAt0_B m c ⟨n + 1, hn⟩ h0]
      dsimp only
      rw [sout_B]
      simp only [Nat.add_sub_cancel]
      rw [ih]
      refine congrArg (fun q => wgt m c (ix3 0 k q)) (Fin.ext ?_)
      show 512 * (n / 8) + l.val = 512 * ((n + 1) / 8) + l.val
      omega

/-- What point `n` leaves in the output block: rows `1024·(n mod 8)` on of the activations against columns
    `512·(n / 8)` on of the weights. -/
theorem left_ (c : Dev nD) (n : ℕ) (hn : n < cfg0.N) (r : Fin 1024) (l : Fin 512) :
    (outsAt0 m c n hn).1 (ix2 r l)
      = ∑ k : Fin 2048, act m c (ix2 ⟨1024 * (n % 8) + r.val, by omega⟩ k)
          * wgt m c (ix3 0 k ⟨512 * (n / 8) + l.val, by have := ltN ⟨n, hn⟩; dsimp only at this; omega⟩) := by
  by_cases h0 : n % 8 = 0
  · rw [outsAt0_A m c ⟨n, hn⟩ h0]; dsimp only
    rw [out_A, pay2_apply]
    refine Finset.sum_congr rfl fun k _ => ?_
    rw [pay1_apply, blk0_apply, blk1_apply]
  · rw [outsAt0_B m c ⟨n, hn⟩ h0]; dsimp only
    rw [out_B, pay2_apply]
    refine Finset.sum_congr rfl fun k _ => ?_
    rw [blk0_apply, kept]
    refine congrArg₂ (fun p q => act m c (ix2 p k) * wgt m c (ix3 0 k q)) rfl (Fin.ext ?_)
    show 512 * ((n - 1) / 8) + l.val = 512 * (n / 8) + l.val
    omega

/-- The result array after the run. -/
abbrev out (c : Dev nD) : Vec Ideal S8192x512 .bf16 := Value.G2 m c

/-- THE WHOLE ARRAY after the run: the product of the activations and the weights' columns. -/
theorem result (c : Dev nD) (r : Fin 8192) (q : Fin 512) :
    out m c (ix2 r q) = ∑ k : Fin 2048, act m c (ix2 r k) * wgt m c (ix3 0 k ⟨q.val, by omega⟩) := by
  have hN : cfg0.N = 8 := N_0
  have hp : Value.pt2Of (ix2 r q) = r.val / 1024 + 8 * (q.val / 512) := by
    show 1 * (r.val / 1024 - 0) + 1 * (q.val / 512 - 0) = _; omega
  have hlt : Value.pt2Of (ix2 r q) < cfg0.N := by omega
  unfold out Value.G2
  rw [dif_pos hlt, ← Value.outsAt0_sweep m c _ hlt]
  have hl : Value.loc2Of (ix2 r q) = ix2 ⟨r.val % 1024, Nat.mod_lt _ (by decide)⟩ ⟨q.val % 512, Nat.mod_lt _ (by decide)⟩ := by
    funext a; apply Fin.ext
    match a with
    | ⟨0, _⟩ => rfl
    | ⟨1, _⟩ => rfl
  have hr : 1024 * (Value.pt2Of (ix2 r q) % 8) + r.val % 1024 = r.val := by omega
  have hq : 512 * (Value.pt2Of (ix2 r q) / 8) + q.val % 512 = q.val := by omega
  rw [hl, left_]

  refine Finset.sum_congr rfl fun k _ => congrArg₂ (fun p q => act m c (ix2 p k) * wgt m c (ix3 0 k q)) (Fin.ext hr) (Fin.ext ?_)
  show 512 * (Value.pt2Of (ix2 r q) / 8) + q.val % 512 = q.val
  omega

end Cert.CrossQIdeal.Block

namespace Cert.Proof

open Idealize.ShloMosaic Idealize.SL.Sem

/-- The reference's run leaves its arguments alone and no semaphore raised. -/
theorem quiescent_CrossQRefIdeal : quiescent_CrossQRefIdeal := fun m ρ _ =>
  (θ_run Cert.CrossQRefIdeal.defs _ _).mono (fun r h => ⟨fun c => (h c).2, sem_eq_zero_of_no_sems (by decide) r.2⟩)
    (Cert.CrossQRefIdeal.Value.run (F := Ideal) m ρ)

/-- The call's result array is the reference's. -/
theorem algebraic_CrossQIdeal_CrossQRefIdeal : algebraic_CrossQIdeal_CrossQRefIdeal := by
  intro m ρ m' ρ' _ hagree
  refine ⟨_, Cert.CrossQIdeal.Value.run (F := Ideal) m ρ, ?_⟩
  refine (θ_run Cert.CrossQRefIdeal.defs _ _).mono (fun _ h c => ⟨?_, (h c).2⟩) (Cert.CrossQRefIdeal.Value.run (F := Ideal) m' ρ')
  rw [(h c).1]
  simp only [hagree c]
  clean_types
  funext i
  obtain ⟨r, q, rfl⟩ : ∃ (r : Fin 8192) (q : Fin 512), i = Idealize.ShloMosaic.ix2 r q := ⟨i 0, i 1, Idealize.ShloMosaic.eq_ix2 i⟩
  refine Eq.trans ?_ (Cert.CrossQIdeal.Block.result m c r q).symm
  pointwise [Cert.CrossQIdeal.Block.act, Cert.CrossQIdeal.Block.wgt]

end Cert.Proof

end
-- ==== Proof.CrossKv.lean ====
/-
  Cross-attention's key and value projection, one grid point at a time: what the body computes from its blocks, which part of the arrays those blocks are,
  what the output block and the carried weight tile hold after each point, what the whole array holds after the run, and
  the claim that it is the reference's result.
-/
module

public import proofs.«01_k».proof.Defs
public import proofs.«01_k».proof.Proof.Gen.CrossKvIdeal.Value
public import proofs.«01_k».proof.Proof.Gen.CrossKvRefIdeal.Run
public import Idealize.ShloMosaic.Init
public import Idealize.ShloMosaic.Lib.Quiescent
public import Idealize.ShloMosaic.Lib.Pointwise
public import Idealize.ShloMosaic.Lib.Tactic
public import Idealize.ShloMosaic.Lib.Tactic.ValueTie

@[expose] public section

noncomputable section

namespace Cert.CrossKvIdeal.Block

open Cert.CrossKvIdeal Cert.CrossKvIdeal.Gen Idealize.ShloMosaic Idealize.ShloMosaic.TcCoe Idealize.SL.Sem
open Idealize.ShloMosaic.Pointwise

theorem hz2 : (![0, 0] : Fin 2 → Nat) = fun _ => 0 := funext fun a => by fin_cases a <;> rfl
theorem hz3 : (![0, 0, 0] : Fin 3 → Nat) = fun _ => 0 := funext fun a => by fin_cases a <;> rfl

/-- A point leaves the product of its row block and its weight block, rounded to the narrow format, in the output block. -/
theorem out_A (c : Dev nD) (i : grid0.Coords) (a2 : Memref sig .tc .vmem S1024x2048 .bf16) (h2 : a2.IsWhole)
    (a3 : Memref sig .tc .vmem S1x2048x512 .f32) (h3 : a3.IsWhole) (a4 : Memref sig .tc .vmem S1024x512 .bf16) (h4 : a4.IsWhole)
    (a5 : Memref sig .tc .vmem S2048x512 .bf16) (h5 : a5.IsWhole) (hc : cond0_0 i)
    (x0 : Vec Ideal S1024x2048 .bf16) (x1 : Vec Ideal S1x2048x512 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S2048x512) _ hz2]
  simp only [View.readAt_eq_ld, h2.read_unread, h3.read_unread, View.ld_unit_zero (S := S1024x2048) hz2,
    View.ld_unit_zero (S := S1x2048x512) hz3]

/-- The rounded weight block at an index: over the extended reals the block itself. -/
theorem pay1_apply (x1 : Vec Ideal S1x2048x512 .f32) (l : Fin 512) (k : Fin 2048) :
    k0_pay1 (F := Ideal) x1 (ix2 k l) = x1 (ix3 0 k l) := by
  pointwise [k0_pay1]

/-- The block product at an index: the row of the activations against the column of the weight tile. -/
theorem pay2_apply (x0 : Vec Ideal S1024x2048 .bf16) (xs : Vec Ideal S2048x512 .bf16) (r : Fin 1024) (l : Fin 512) :
    k0_pay2 (F := Ideal) x0 xs (ix2 r l) = ∑ k : Fin 2048, x0 (ix2 r k) * xs (ix2 k l) := by
  pointwise [k0_pay2]

/-- The launch's memory as the call's arrays: the activations … -/
abbrev act (m : (ℓ : Loc nD τ sig) → Buf (Elt Ideal) ℓ) (c : Dev nD) : Vec Ideal S1024x2048 .bf16 := m ((c : Thread nD τ).loc main_arg0)
/-- … the stacked weights -/
abbrev wgt (m : (ℓ : Loc nD τ sig) → Buf (Elt Ideal) ℓ) (c : Dev nD) : Vec Ideal S2x2048x1024 .f32 := m ((c : Thread nD τ).loc main_arg1)

variable (m : (ℓ : Loc nD τ sig) → Buf (Elt Ideal) ℓ)

/-- Which block of each array a point reads and writes. -/
theorem ix_facts : ∀ t : Fin cfg0.N, win0_0.index t (0 : Fin 2) = 0 ∧ win0_0.index t (1 : Fin 2) = 0
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = t.val ∧ win0_2.flush t = true :=
  (by decide +kernel : ∀ t : Fin grid0.N, _)

theorem ltN (t : Fin cfg0.N) : t.val < 2 := lt_of_lt_of_eq t.isLt N_0

/-- Every point's block of the activations is the whole array. -/
theorem blk0_apply (c : Dev nD) (t : Fin cfg0.N) (r : Fin 1024) (k : Fin 2048) :
    iblk m c 0 t (ix2 r k) = act m c (ix2 r k) := by
  obtain ⟨e0, e1, -⟩ := ix_facts t
  unfold iblk
  rw [View.read_apply]
  show V m c main_arg0 _ = _
  rw [V_main_arg0]
  show act m c _ = act m c _
  congr 1; funext a; apply Fin.ext
  match a with
  | ⟨0, _⟩ => show win0_0.index t (0 : Fin 2) * 1024 + 1 * r.val = r.val; omega
  | ⟨1, _⟩ => show win0_0.index t (1 : Fin 2) * 2048 + 1 * k.val = k.val; omega

/-- Point `t`'s block of the weights: columns `512·t` on of the first layer's. -/
theorem blk1_apply (c : Dev nD) (t : Fin cfg0.N) (k : Fin 2048) (l : Fin 512) :
    iblk m c 1 t (ix3 0 k l) = wgt m c (ix3 0 k ⟨512 * t.val + l.val, by have := ltN t; omega⟩) := by
  obtain ⟨-, -, e0, e1, e2, -⟩ := ix_facts t
  unfold iblk
  rw [View.read_apply]
  show V m c main_arg1 _ = _
  rw [V_main_arg1]
  show wgt m c _ = wgt m c _
  congr 1; funext a; apply Fin.ext
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 512 + 1 * l.val = 512 * t.val + l.val; omega

/-- What point `t` leaves in the output block: every row of the activations against columns `512·t` on of the weights. -/
theorem outs_apply (c : Dev nD) (t : Fin cfg0.N) (r : Fin 1024) (l : Fin 512) :
    outsAt0 m c t (ix2 r l)
      = ∑ k : Fin 2048, act m c (ix2 r k) * wgt m c (ix3 0 k ⟨512 * t.val + l.val, by have := ltN t; omega⟩) := by
  unfold outsAt0
  rw [out_A]
  refine (pay2_apply (iblk m c 0 t) (k0_pay1 (iblk m c 1 t)) r l).trans ?_
  refine Finset.sum_congr rfl fun k _ => ?_
  rw [blk0_apply]
  congr 1
  exact (pay1_apply (iblk m c 1 t) l k).trans (blk1_apply m c t k l)

/-- The result array after the run. -/
abbrev out (c : Dev nD) : Vec Ideal S1024x1024 .bf16 := (dats m 0 c).arrAt 2 cfg0.N

/-- THE WHOLE ARRAY after the run: the activations times the first layer's weights. -/
theorem result (c : Dev nD) (r : Fin 1024) (q : Fin 1024) :
    out m c (ix2 r q) = ∑ k : Fin 2048, act m c (ix2 r k) * wgt m c (ix3 0 k q) := by
  have hN : cfg0.N = 2 := N_0
  let t : Fin cfg0.N := ⟨q.val / 512, by omega⟩
  obtain ⟨-, -, -, -, -, e0, e1, hf⟩ := ix_facts t
  let y : S1024x512.Idx := ix2 r ⟨q.val % 512, Nat.mod_lt _ (by decide)⟩
  have hy : ((cfg0.win 2).blk t).view.emb y = ix2 r q := by
    funext a; apply Fin.ext
    match a with
    | ⟨0, _⟩ => show win0_2.index t (0 : Fin 2) * 1024 + 1 * r.val = r.val; omega
    | ⟨1, _⟩ =>
      show win0_2.index t (1 : Fin 2) * 512 + 1 * (q.val % 512) = q.val
      rw [e1]; show q.val / 512 * 512 + 1 * (q.val % 512) = q.val; omega
  have h := congrFun (Value.blocks2 m c t hf) y
  rw [View.read_apply, hy, Value.flushed2] at h
  refine Eq.trans h ?_
  show outsAt0 m c t (ix2 r ⟨q.val % 512, Nat.mod_lt _ (by decide)⟩) = _
  rw [outs_apply]
  have hq : 512 * t.val + q.val % 512 = q.val := by show 512 * (q.val / 512) + q.val % 512 = q.val; omega
  simp only [hq]

end Cert.CrossKvIdeal.Block

namespace Cert.Proof

open Idealize.ShloMosaic Idealize.SL.Sem

/-- The reference's run leaves its arguments alone and no semaphore raised. -/
theorem quiescent_CrossKvRefIdeal : quiescent_CrossKvRefIdeal := fun m ρ _ =>
  (θ_run Cert.CrossKvRefIdeal.defs _ _).mono (fun r h => ⟨fun c => (h c).2, sem_eq_zero_of_no_sems (by decide) r.2⟩)
    (Cert.CrossKvRefIdeal.Value.run (F := Ideal) m ρ)

/-- The call's result array is the reference's. -/
theorem algebraic_CrossKvIdeal_CrossKvRefIdeal : algebraic_CrossKvIdeal_CrossKvRefIdeal := by
  intro m ρ m' ρ' _ hagree
  refine ⟨_, Cert.CrossKvIdeal.Value.run_blocks (F := Ideal) m ρ, ?_⟩
  refine (θ_run Cert.CrossKvRefIdeal.defs _ _).mono (fun _ h c => ⟨?_, (h c).2⟩) (Cert.CrossKvRefIdeal.Value.run (F := Ideal) m' ρ')
  rw [(h c).1]
  simp only [hagree c]
  clean_types
  funext i
  obtain ⟨r, q, rfl⟩ : ∃ (r : Fin 1024) (q : Fin 1024), i = Idealize.ShloMosaic.ix2 r q := ⟨i 0, i 1, Idealize.ShloMosaic.eq_ix2 i⟩
  refine Eq.trans ?_ (Cert.CrossKvIdeal.Block.result m c r q).symm
  pointwise [Cert.CrossKvIdeal.Block.act, Cert.CrossKvIdeal.Block.wgt]

end Cert.Proof

end
-- ==== Proof.CrossSoftmax.lean ====
/-
  The softmax over extended reals: the body divides the weighted sum of the values by the sum of the exponentials, the
  reference divides each exponential first. The two agree where the scores are real: the sum is then a positive real.
-/
module

public import Idealize.ShloMosaic.Init
public import Idealize.ShloMosaic.Lib.Pointwise

@[expose] public section

set_option maxRecDepth 16384

noncomputable section

namespace Cert.Softmax

open Idealize.ShloMosaic Idealize.ShloMosaic.Pointwise

/-- An extended real that is a real number. -/
def IsReal (x : EReal) : Prop := ∃ a : ℝ, x = a

/-- A product of reals is real … -/
theorem isReal_mul {x y : EReal} : IsReal x → IsReal y → IsReal (x * y) := fun ⟨a, ha⟩ ⟨b, hb⟩ => ⟨a * b, by rw [ha, hb, EReal.coe_mul]⟩

/-- … and so is a sum of them. -/
theorem isReal_sum {n : ℕ} (f : Fin n → EReal) (h : ∀ i, IsReal (f i)) : IsReal (∑ i, f i) :=
  Finset.sum_induction f IsReal (fun _ _ ⟨a, ha⟩ ⟨b, hb⟩ => ⟨a + b, by rw [ha, hb, EReal.coe_add]⟩) ⟨0, rfl⟩ fun i _ => h i

/-- What the running maximum starts from. -/
abbrev low : EReal := Ideal.ofBits .f32 0xFF800000#32

/-- It is −∞. -/
theorem low_eq : low = ⊥ := by simp [low, Ideal.ofBits, Ideal.ieee]

/-- The score scale, one over the root of the head's width. -/
abbrev scale : EReal := Ideal.ofBits .f32 0x3DB504F3#32

/-- The scale, one over the root of 128 rounded to f32, is real. -/
theorem isReal_scale : IsReal scale :=
  ⟨11863283 / 134217728, by simp [scale, Ideal.ofBits, Ideal.ieee, -EReal.coe_mul]; norm_num⟩

/-- The greatest of a row's scores. -/
def top (s : Fin 256 → EReal) : EReal := Finset.univ.fold max low s

/-- The kernel's attention of one row of scores over one column of values: the weighted sum over the sum of the weights. -/
def sumFirst (s v : Fin 256 → EReal) : EReal := Ideal.div (∑ x, Ideal.exp (s x - top s) * v x) (∑ x, Ideal.exp (s x - top s))

/-- The reference's: each weight over the sum of the weights, then the sum. -/
def divFirst (s v : Fin 256 → EReal) : EReal :=
  ∑ x, Ideal.div (Ideal.exp (s x - max low (top s))) (∑ y, Ideal.exp (s y - max low (top s))) * v x

/-- A finite sum of extended reals times a real that is not negative is the sum of the products. -/
theorem sum_mul_real (f : Fin 256 → EReal) (c : ℝ) (hc : 0 ≤ c) : (∑ x, f x) * (c : EReal) = ∑ x, f x * (c : EReal) := by
  have h : ∀ S : Finset (Fin 256), (∑ x ∈ S, f x) * (c : EReal) = ∑ x ∈ S, f x * (c : EReal) := by
    intro S
    induction S using Finset.induction_on with
    | empty => simp
    | insert a S ha ih =>
      rw [Finset.sum_insert ha, Finset.sum_insert ha, EReal.right_distrib_of_nonneg_of_ne_top (EReal.coe_nonneg.mpr hc) (EReal.coe_ne_top c), ih]
  exact h Finset.univ

/-- The greatest of real scores is real. -/
theorem isReal_top (s : Fin 256 → EReal) (h : ∀ x, IsReal (s x)) : IsReal (top s) := by
  have ht : top s < ⊤ := by
    unfold top
    rw [Finset.fold_max_lt]
    refine ⟨by rw [low_eq]; exact bot_lt_top, fun x _ => ?_⟩
    obtain ⟨a, ha⟩ := h x
    rw [ha]; exact EReal.coe_lt_top a
  have hb : ⊥ < top s := by
    unfold top
    rw [Finset.lt_fold_max]
    obtain ⟨a, ha⟩ := h 0
    exact .inr ⟨0, Finset.mem_univ _, by rw [ha]; exact EReal.bot_lt_coe a⟩
  exact ⟨(top s).toReal, (EReal.coe_toReal ht.ne hb.ne').symm⟩

/-- A sum of reals is the same taken as extended reals. -/
theorem coe_sum (f : Fin 256 → ℝ) : ∑ x, (f x : EReal) = ((∑ x, f x : ℝ) : EReal) := by
  have h : ∀ S : Finset (Fin 256), ∑ x ∈ S, (f x : EReal) = ((∑ x ∈ S, f x : ℝ) : EReal) := by
    intro S
    induction S using Finset.induction_on with
    | empty => simp
    | insert a S ha ih => rw [Finset.sum_insert ha, Finset.sum_insert ha, ih, EReal.coe_add]
  exact h Finset.univ

/-- On real scores the two orders agree, whatever the values are. -/
theorem divFirst_eq (s v : Fin 256 → EReal) (h : ∀ x, IsReal (s x)) : divFirst s v = sumFirst s v := by
  obtain ⟨μ, hμ⟩ := isReal_top s h
  choose a ha using h
  have hm : max low (top s) = top s := by rw [low_eq]; exact max_eq_right bot_le
  have he : ∀ x, Ideal.exp (s x - top s) = ((Real.exp (a x - μ) : ℝ) : EReal) := fun x => by rw [ha x, hμ, ← EReal.coe_sub]; rfl
  have hpos : 0 < ∑ x : Fin 256, Real.exp (a x - μ) := Finset.sum_pos (fun x _ => Real.exp_pos _) ⟨0, Finset.mem_univ _⟩
  have hne : ((∑ x : Fin 256, Real.exp (a x - μ) : ℝ) : EReal) ≠ 0 := by
    rw [← EReal.coe_zero]; exact fun h => hpos.ne' (EReal.coe_injective h)
  unfold divFirst sumFirst
  rw [hm]
  simp only [he]
  rw [coe_sum]
  simp only [Ideal.div, if_neg hne]
  rw [← EReal.coe_inv, sum_mul_real _ _ (inv_nonneg.mpr hpos.le)]
  exact Finset.sum_congr rfl fun x _ => mul_right_comm _ _ _

end Cert.Softmax

end
-- ==== Proof.CrossRef.lean ====
/-
  The cross-attention's reference at an index: the attention of a token's scores over a column of its head's values.
-/
module

public import proofs.«01_k».proof.Defs
public import proofs.«01_k».proof.Proof.Gen.CrossRefIdeal.Run
public import proofs.«01_k».proof.Proof.CrossSoftmax
public import Idealize.ShloMosaic.Init
public import Idealize.ShloMosaic.Lib.Quiescent
public import Idealize.ShloMosaic.Lib.Pointwise
public import Idealize.ShloMosaic.Lib.Tactic
public import Idealize.ShloMosaic.Lib.Tactic.ValueTie
public import Idealize.ShloMosaic.Lib.Pipeline.ValueKit.Tiles

@[expose] public section

set_option maxRecDepth 16384

noncomputable section

namespace Cert.CrossRefIdeal.Value

open Cert.CrossRefIdeal Cert.CrossRefIdeal.Gen Idealize.ShloMosaic Idealize.ShloMosaic.TcCoe Idealize.SL.Sem Idealize.ShloMosaic.StableHlo
open Idealize.ShloMosaic.Pointwise Cert.Softmax

/-- The reference's stages: the queries by head … -/
def queries (q : Vec Ideal S8192x512 .bf16) : FVec Ideal S4x4x2048x128 .f32 :=
  transpose S4x4x2048x128 [0, 2, 1, 3] (shapeCast _ (shapeCast _ (extf .f32 q bitsLt_bf16_f32) shapeCasts_S8192x512_S4x2048x512) shapeCasts_S4x2048x512_S4x2048x4x128) transposes_S4x2048x4x128_S4x4x2048x128_0_2_1_3

/-- … the keys … -/
def keys (kv : Vec Ideal S1024x1024 .bf16) : FVec Ideal S4x4x256x128 .f32 :=
  transpose S4x4x256x128 [0, 2, 1, 3] (shapeCast _ (extractStridedSlice S4x256x512 ![0, 0, 0] (shapeCast _ (extf .f32 kv bitsLt_bf16_f32) shapeCasts_S1024x1024_S4x256x1024) slices_S4x256x1024_S4x256x512_0_0_0) shapeCasts_S4x256x512_S4x256x4x128) transposes_S4x256x4x128_S4x4x256x128_0_2_1_3

/-- … and the values; -/
def values (kv : Vec Ideal S1024x1024 .bf16) : FVec Ideal S4x4x256x128 .f32 :=
  transpose S4x4x256x128 [0, 2, 1, 3] (shapeCast _ (extractStridedSlice S4x256x512 ![0, 0, 512] (shapeCast _ (extf .f32 kv bitsLt_bf16_f32) shapeCasts_S1024x1024_S4x256x1024) slices_S4x256x1024_S4x256x512_0_0_512) shapeCasts_S4x256x512_S4x256x4x128) transposes_S4x256x4x128_S4x4x256x128_0_2_1_3

/-- the scaled scores, -/
def scores (q : Vec Ideal S8192x512 .bf16) (kv : Vec Ideal S1024x1024 .bf16) : FVec Ideal S4x4x2048x256 .f32 :=
  mulf (Host.dotGeneral dot_S4x4x2048x128_S4x4x256x128_S4x4x2048x256_3_3_2_2_01_01 none (queries q) (keys kv)) (broadcastInDim S4x4x2048x256 ![] bcast_S_S4x4x2048x256 (constant S_ .f32 0x3DB504F3#32))

/-- the greatest of each row's, -/
def tops (q : Vec Ideal S8192x512 .bf16) (kv : Vec Ideal S1024x1024 .bf16) : FVec Ideal S4x4x2048 .f32 :=
  maximumf (broadcastInDim S4x4x2048 ![] bcast_S_S4x4x2048 (constant S_ .f32 0xFF800000#32)) (Host.reduce FloatOps.maximumf (scores q kv) (constant S_ .f32 0xFF800000#32) reducesTo_S4x4x2048x256_S4x4x2048_d3 h_S_)

/-- the exponentials, -/
def weights (q : Vec Ideal S8192x512 .bf16) (kv : Vec Ideal S1024x1024 .bf16) : FVec Ideal S4x4x2048x256 .f32 :=
  Host.exp (subf (scores q kv) (broadcastInDim S4x4x2048x256 ![0, 1, 2, 3] bcast_S4x4x2048x1_S4x4x2048x256_0_1_2_3 (broadcastInDim S4x4x2048x1 ![0, 1, 2] bcast_S4x4x2048_S4x4x2048x1_0_1_2 (tops q kv))))

/-- their sums, -/
def sums (q : Vec Ideal S8192x512 .bf16) (kv : Vec Ideal S1024x1024 .bf16) : FVec Ideal S4x4x2048 .f32 :=
  Host.reduceAdd (weights q kv) (constant S_ .f32 0x00000000#32) reducesTo_S4x4x2048x256_S4x4x2048_d3 h_S_

/-- and the attention. -/
def attended (q : Vec Ideal S8192x512 .bf16) (kv : Vec Ideal S1024x1024 .bf16) : FVec Ideal S4x4x2048x128 .f32 :=
  Host.dotGeneral dot_S4x4x2048x256_S4x4x256x128_S4x4x2048x128_3_2_2_3_01_01 none (Host.divf (weights q kv) (broadcastInDim S4x4x2048x256 ![0, 1, 2, 3] bcast_S4x4x2048x1_S4x4x2048x256_0_1_2_3 (broadcastInDim S4x4x2048x1 ![0, 1, 2] bcast_S4x4x2048_S4x4x2048x1_0_1_2 (sums q kv)))) (values kv)

/-- The queries by head at an index: head `h` of token `s` of sequence `b` is columns `128·h` on of the token's row. -/
theorem queries_apply (q : Vec Ideal S8192x512 .bf16) (b h : Fin 4) (s : Fin 2048) (e : Fin 128) :
    queries q (ix4 b h s e) = q (ix2 ⟨2048 * b.val + s.val, by omega⟩ ⟨128 * h.val + e.val, by omega⟩) := by
  pointwise [queries]
  exact congrArg q (congrArg₂ ix2 (Fin.ext (by simp only [Nat.mul_comm])) (Fin.ext (by simp only [Nat.mul_comm])))

/-- The keys by head: the first half of the columns … -/
theorem keys_apply (kv : Vec Ideal S1024x1024 .bf16) (b h : Fin 4) (k : Fin 256) (e : Fin 128) :
    keys kv (ix4 b h k e) = kv (ix2 ⟨256 * b.val + k.val, by omega⟩ ⟨128 * h.val + e.val, by omega⟩) := by
  pointwise [keys]
  exact congrArg kv (congrArg₂ ix2 (Fin.ext (by simp only [Nat.mul_comm])) (Fin.ext (by simp only [Nat.mul_comm])))

/-- … and the values by head: the second half. -/
theorem values_apply (kv : Vec Ideal S1024x1024 .bf16) (b h : Fin 4) (k : Fin 256) (e : Fin 128) :
    values kv (ix4 b h k e) = kv (ix2 ⟨256 * b.val + k.val, by omega⟩ ⟨512 + (128 * h.val + e.val), by omega⟩) := by
  pointwise [values]
  exact congrArg kv (congrArg₂ ix2 (Fin.ext (by simp only [Nat.mul_comm])) (Fin.ext (by simp only [Nat.mul_comm])))

/-- A score: the product of a query and a key over the head's 128 columns, scaled. -/
theorem scores_apply (q : Vec Ideal S8192x512 .bf16) (kv : Vec Ideal S1024x1024 .bf16) (b h : Fin 4) (s : Fin 2048) (k : Fin 256) :
    scores q kv (ix4 b h s k) = (∑ e : Fin 128, queries q (ix4 b h s e) * keys kv (ix4 b h k e)) * scale := by
  pointwise [scores]

/-- A reduced row index with a column put back. -/
theorem lift_ix4 (hr : S4x4x2048x256.Reduces [3] S4x4x2048) (b h : Fin 4) (s : Fin 2048) (k : Fin 256) :
    hr.lift (ix3 b h s) k = ix4 b h s k := by
  funext c
  apply Fin.ext
  fin_cases c <;> rfl

/-- The host's reduce with a maximum from −∞ over the last axis is the greatest of the row. -/
theorem top_apply (x : FVec Ideal S4x4x2048x256 .f32) (b h : Fin 4) (s : Fin 2048) :
    Host.reduce FloatOps.maximumf x (constant S_ .f32 0xFF800000#32) reducesTo_S4x4x2048x256_S4x4x2048_d3 h_S_ (ix3 b h s)
      = top fun k => x (ix4 b h s k) := by
  have hr : S4x4x2048x256.Reduces [3] S4x4x2048 := by decide
  rw [Host.reduce_eq_fold_single FloatOps.maximumf x _ reducesTo_S4x4x2048x256_S4x4x2048_d3 hr h_S_]
  have hf : (x ∘ hr.lift (ix3 b h s)) = fun k : Fin 256 => x (ix4 b h s k) := funext fun k => congrArg x (lift_ix4 hr b h s k)
  exact congrArg (fun f => Finset.fold max low f (Finset.univ : Finset (Fin 256))) hf

/-- The elementwise maximum with −∞ everywhere. -/
theorem maxlow_apply (x : FVec Ideal S4x4x2048 .f32) (j : S4x4x2048.Idx) :
    maximumf (broadcastInDim S4x4x2048 ![] bcast_S_S4x4x2048 (constant S_ .f32 0xFF800000#32)) x j = max low (x j) := rfl

/-- A row's greatest score (and −∞). -/
theorem tops_apply (q : Vec Ideal S8192x512 .bf16) (kv : Vec Ideal S1024x1024 .bf16) (b h : Fin 4) (s : Fin 2048) :
    tops q kv (ix3 b h s) = max low (top fun x => scores q kv (ix4 b h s x)) := by
  unfold tops
  generalize scores q kv = x
  rw [maxlow_apply, top_apply]

/-- A weight: the exponential of a score less the row's greatest. -/
theorem weights_apply (q : Vec Ideal S8192x512 .bf16) (kv : Vec Ideal S1024x1024 .bf16) (b h : Fin 4) (s : Fin 2048) (k : Fin 256) :
    weights q kv (ix4 b h s k) = Ideal.exp (scores q kv (ix4 b h s k) - tops q kv (ix3 b h s)) := by
  pointwise [weights]

/-- The sum of a row's weights. -/
theorem sums_apply (q : Vec Ideal S8192x512 .bf16) (kv : Vec Ideal S1024x1024 .bf16) (b h : Fin 4) (s : Fin 2048) :
    sums q kv (ix3 b h s) = ∑ k : Fin 256, weights q kv (ix4 b h s k) := by
  pointwise [sums]

/-- The attention: each weight over the sum of the weights, times its value, summed over the keys. -/
theorem attended_apply (q : Vec Ideal S8192x512 .bf16) (kv : Vec Ideal S1024x1024 .bf16) (b h : Fin 4) (s : Fin 2048) (d : Fin 128) :
    attended q kv (ix4 b h s d) = ∑ x : Fin 256, Ideal.div (weights q kv (ix4 b h s x)) (sums q kv (ix3 b h s)) * values kv (ix4 b h x d) := by
  pointwise [attended]

/-- The reference's result, from the attention. -/
def result (q : Vec Ideal S8192x512 .bf16) (kv : Vec Ideal S1024x1024 .bf16) : Vec Ideal S8192x512 .bf16 :=
  truncf .bf16 (shapeCast _ (shapeCast _ (transpose S4x2048x4x128 [0, 2, 1, 3] (attended q kv) transposes_S4x4x2048x128_S4x2048x4x128_0_2_1_3) shapeCasts_S4x2048x4x128_S4x2048x512) shapeCasts_S4x2048x512_S8192x512) bitsLt_bf16_f32

/-- The result puts the heads side by side again. -/
theorem result_apply (q : Vec Ideal S8192x512 .bf16) (kv : Vec Ideal S1024x1024 .bf16) (R : Fin 8192) (l : Fin 512) : result q kv (ix2 R l)
    = attended q kv (ix4 ⟨R.val / 2048, by omega⟩ ⟨l.val / 128, by omega⟩ ⟨R.val % 2048, Nat.mod_lt _ (by decide)⟩ ⟨l.val % 128, Nat.mod_lt _ (by decide)⟩) := by
  pointwise [result]

/-- The printed term of the reference is these stages. -/
theorem res_eq (m : (ℓ : Loc nD τ sig) → Buf (Elt Ideal) ℓ) (c : Dev nD) :
    (res_main_v30 (F := Ideal) m c : Vec Ideal S8192x512 .bf16)
      = result (m ((c : Thread nD τ).loc main_arg0)) (m ((c : Thread nD τ).loc main_arg1)) := rfl

/-- THE REFERENCE at an index. -/
theorem res_apply (m : (ℓ : Loc nD τ sig) → Buf (Elt Ideal) ℓ) (c : Dev nD) (q : Vec Ideal S8192x512 .bf16) (kv : Vec Ideal S1024x1024 .bf16)
    (hq : m ((c : Thread nD τ).loc main_arg0) = q) (hk : m ((c : Thread nD τ).loc main_arg1) = kv) (R : Fin 8192) (l : Fin 512) :
    (res_main_v30 (F := Ideal) m c : Vec Ideal S8192x512 .bf16) (ix2 R l)
      = divFirst
      (fun x => (∑ e : Fin 128, q (ix2 R ⟨128 * (l.val / 128) + e.val, by omega⟩)
        * kv (ix2 ⟨256 * (R.val / 2048) + x.val, by omega⟩ ⟨128 * (l.val / 128) + e.val, by omega⟩)) * scale)
      (fun x => kv (ix2 ⟨256 * (R.val / 2048) + x.val, by omega⟩ ⟨512 + l.val, by omega⟩)) := by
  subst hq hk
  rw [res_eq, result_apply, attended_apply, sums_apply]
  have hR : 2048 * (R.val / 2048) + R.val % 2048 = R.val := by omega
  have hl : 128 * (l.val / 128) + l.val % 128 = l.val := by omega
  unfold divFirst
  simp only [weights_apply, tops_apply, scores_apply, queries_apply, keys_apply, values_apply, hR, hl]

end Cert.CrossRefIdeal.Value

end
-- ==== Proof.Cross.lean ====
/-
  Cross-attention, one grid point at a time: what the body computes from its blocks, which part of the arrays those blocks
  are, what the whole array holds after the run, and the claim that it is the reference's result where the queries and keys
  are finite. The body divides the weighted sum of the values by the sum of the exponentials; the reference divides each
  exponential first. The two agree where the sum is a positive real, which it is where the scores are real.
-/
module

public import proofs.«01_k».proof.Defs
public import proofs.«01_k».proof.Proof.Gen.CrossIdeal.Value
public import proofs.«01_k».proof.Proof.CrossRef
public import proofs.«01_k».proof.Proof.CrossSoftmax
public import proofs.«01_k».proof.Proof.Gen.Pre_queries_and_keys_finite
public import Idealize.ShloMosaic.Init
public import Idealize.ShloMosaic.Lib.Quiescent
public import Idealize.ShloMosaic.Lib.Pointwise
public import Idealize.ShloMosaic.Lib.Tactic
public import Idealize.ShloMosaic.Lib.Tactic.ValueTie
public import Idealize.ShloMosaic.Lib.Pipeline.ValueKit.Tiles

@[expose] public section

set_option maxRecDepth 16384

noncomputable section

namespace Cert.CrossIdeal.Block

open Cert.CrossIdeal Cert.CrossIdeal.Gen Idealize.ShloMosaic Idealize.ShloMosaic.TcCoe Idealize.SL.Sem
open Idealize.ShloMosaic.Pointwise Cert.Softmax

/-- The offset (0, 0) is zero. -/
theorem hz2 : (![0, 0] : Fin 2 → Nat) = fun _ => 0 := funext fun a => by fin_cases a <;> rfl

/-- One head of the body at an index: the attention of the row's scores over the column. -/
theorem pay1_apply (q : Vec Ideal S512x128 .bf16) (k : Vec Ideal S256x128 .bf16) (v : Vec Ideal S256x128 .bf16) (r : Fin 512) (d : Fin 128) :
    k0_pay1 (F := Ideal) q k v (ix2 r d)
      = sumFirst (fun x => (∑ e : Fin 128, q (ix2 r e) * k (ix2 x e)) * scale) (fun x => v (ix2 x d)) := by
  pointwise [k0_pay1, sumFirst, top]

/-- The second head's text is the first's. -/
theorem pay2_eq (q : Vec Ideal S512x128 .bf16) (k : Vec Ideal S256x128 .bf16) (v : Vec Ideal S256x128 .bf16) :
    k0_pay2 (F := Ideal) q k v = k0_pay1 q k v := rfl

/-- The four heads side by side: column `l` is column `l mod 128` of head `l / 128`. -/
theorem pay3_apply (a b : FVec Ideal S512x128 .f32) (q2 : Vec Ideal S512x128 .bf16) (k2 v2 : Vec Ideal S256x128 .bf16)
    (q3 : Vec Ideal S512x128 .bf16) (k3 v3 : Vec Ideal S256x128 .bf16) (r : Fin 512) (l : Fin 512) :
    k0_pay3 (F := Ideal) a b q2 k2 v2 q3 k3 v3 (ix2 r l)
      = (![a, b, k0_pay1 q2 k2 v2, k0_pay1 q3 k3 v3] : Fin 4 → FVec Ideal S512x128 .f32) ⟨l.val / 128, by omega⟩
          (ix2 r ⟨l.val % 128, Nat.mod_lt _ (by decide)⟩) := by
  show concatenate S512x512 1 (List.ofFn fun n : Fin 4 => (⟨S512x128, (![a, b, k0_pay1 q2 k2 v2, k0_pay1 q3 k3 v3] : Fin 4 → FVec Ideal S512x128 .f32) n⟩ : (s : Shape) × (s.Idx → Ideal .f32)))
    concatenates_S512x128_S512x128_S512x128_S512x128_S512x512_d1 (ix2 r l) = _
  refine Idealize.ShloMosaic.concatenate_ofFn_apply (t := S512x512) (s₁ := S512x128) (1 : Fin 2)
    (![a, b, k0_pay1 q2 k2 v2, k0_pay1 q3 k3 v3] : Fin 4 → FVec Ideal S512x128 .f32) _ rfl 128 rfl (ix2 r l) (⟨l.val / 128, by omega⟩ : Fin 4) rfl (ix2 r ⟨l.val % 128, Nat.mod_lt _ (by decide)⟩) rfl fun b hb => ?_
  match b with
  | ⟨0, _⟩ => rfl
  | ⟨1, _⟩ => exact absurd rfl hb

/-- … so column `128·h + d` is column `d` of head `h`. -/
theorem pay3_head (a b : FVec Ideal S512x128 .f32) (q2 : Vec Ideal S512x128 .bf16) (k2 v2 : Vec Ideal S256x128 .bf16)
    (q3 : Vec Ideal S512x128 .bf16) (k3 v3 : Vec Ideal S256x128 .bf16) (r : Fin 512) (h : Fin 4) (d : Fin 128) :
    k0_pay3 (F := Ideal) a b q2 k2 v2 q3 k3 v3 (ix2 r ⟨128 * h.val + d.val, by omega⟩)
      = (![a, b, k0_pay1 q2 k2 v2, k0_pay1 q3 k3 v3] : Fin 4 → FVec Ideal S512x128 .f32) h (ix2 r d) := by
  have e1 : (⟨(128 * h.val + d.val) / 128, by omega⟩ : Fin 4) = h := Fin.ext (by show (128 * h.val + d.val) / 128 = h.val; omega)
  have e2 : (⟨(128 * h.val + d.val) % 128, Nat.mod_lt _ (by decide)⟩ : Fin 128) = d := Fin.ext (by show (128 * h.val + d.val) % 128 = d.val; omega)
  rw [pay3_apply]
  simp only [e1, e2]

/-- A load of 128 columns of a block at an index: those columns of the block. -/
theorem ld_rows {n : ℕ} (x : Vec Ideal ⟨2, ![n, 512]⟩ .bf16) (o : ℕ) (ho : o + 128 ≤ 512)
    (inb : ∀ a, (![0, o] : Fin 2 → ℕ) a + (![n, 128] : Fin 2 → ℕ) a ≤ (⟨2, ![n, 512]⟩ : Shape).size a) (r : Fin n) (e : Fin 128) :
    View.ld (Val := Elt Ideal) x (Rect.unit (s := ⟨2, ![n, 512]⟩) ![0, o] ![n, 128] inb) (ix2 r e) = x (ix2 r ⟨o + e.val, by omega⟩) :=
  View.ld_unit_apply_of x _ _ inb _ _ fun a => match a with
    | ⟨0, _⟩ => (Nat.zero_add _).symm
    | ⟨1, _⟩ => rfl

/-- One row and column of a head, of whole blocks. -/
def head {n : ℕ} (q : Fin n → Fin 512 → EReal) (k v : Fin 256 → Fin 512 → EReal) (r : Fin n) (l : Fin 512) : EReal :=
  sumFirst (fun x => (∑ e : Fin 128, q r ⟨128 * (l.val / 128) + e.val, by omega⟩ * k x ⟨128 * (l.val / 128) + e.val, by omega⟩) * scale)
    (fun x => v x l)

/-- … at column `128·h + d`. -/
theorem head_eq {n : ℕ} (q : Fin n → Fin 512 → EReal) (k v : Fin 256 → Fin 512 → EReal) (r : Fin n) (h : Fin 4) (d : Fin 128) :
    head q k v r ⟨128 * h.val + d.val, by omega⟩
      = sumFirst (fun x => (∑ e : Fin 128, q r ⟨128 * h.val + e.val, by omega⟩ * k x ⟨128 * h.val + e.val, by omega⟩) * scale)
          (fun x => v x ⟨128 * h.val + d.val, by omega⟩) := by
  have e3 : (128 * h.val + d.val) / 128 = h.val := by omega
  unfold head
  simp only [e3]

/-- What a point leaves in the output block. -/
theorem out_apply (x0 : Vec Ideal S512x512 .bf16) (x1 x2 : Vec Ideal S256x512 .bf16) (r : Fin 512) (l : Fin 512) :
    out0_3 x0 x1 x2 (ix2 r l) = head (fun i j => x0 (ix2 i j)) (fun i j => x1 (ix2 i j)) (fun i j => x2 (ix2 i j)) r l := by
  unfold out0_3
  rw [View.canon_unit_zero hz2]
  obtain ⟨h, d, rfl⟩ : ∃ (h : Fin 4) (d : Fin 128), l = ⟨128 * h.val + d.val, by omega⟩ :=
    ⟨⟨l.val / 128, by omega⟩, ⟨l.val % 128, Nat.mod_lt _ (by decide)⟩, Fin.ext (by show l.val = 128 * (l.val / 128) + l.val % 128; omega)⟩
  rw [pay3_head, head_eq]
  match h with
  | ⟨0, _⟩ =>
    refine (pay1_apply _ _ _ r d).trans ?_
    refine congrArg₂ sumFirst (funext fun x => congrArg (· * scale) (Finset.sum_congr rfl fun e _ => ?_)) (funext fun x => ld_rows x2 0 (by decide) _ x d)
    exact congrArg₂ (· * ·) (ld_rows x0 0 (by decide) _ r e) (ld_rows x1 0 (by decide) _ x e)
  | ⟨1, _⟩ =>
    refine (pay1_apply _ _ _ r d).trans ?_
    refine congrArg₂ sumFirst (funext fun x => congrArg (· * scale) (Finset.sum_congr rfl fun e _ => ?_)) (funext fun x => ld_rows x2 128 (by decide) _ x d)
    exact congrArg₂ (· * ·) (ld_rows x0 128 (by decide) _ r e) (ld_rows x1 128 (by decide) _ x e)
  | ⟨2, _⟩ =>
    refine (pay1_apply _ _ _ r d).trans ?_
    refine congrArg₂ sumFirst (funext fun x => congrArg (· * scale) (Finset.sum_congr rfl fun e _ => ?_)) (funext fun x => ld_rows x2 256 (by decide) _ x d)
    exact congrArg₂ (· * ·) (ld_rows x0 256 (by decide) _ r e) (ld_rows x1 256 (by decide) _ x e)
  | ⟨3, _⟩ =>
    refine (pay1_apply _ _ _ r d).trans ?_
    refine congrArg₂ sumFirst (funext fun x => congrArg (· * scale) (Finset.sum_congr rfl fun e _ => ?_)) (funext fun x => ld_rows x2 384 (by decide) _ x d)
    exact congrArg₂ (· * ·) (ld_rows x0 384 (by decide) _ r e) (ld_rows x1 384 (by decide) _ x e)

/-- The launch's memory as the call's arrays: the queries … -/
abbrev qry (m : (ℓ : Loc nD τ sig) → Buf (Elt Ideal) ℓ) (c : Dev nD) : Vec Ideal S8192x512 .bf16 := m ((c : Thread nD τ).loc main_arg0)
/-- … and the keys beside the values. -/
abbrev kvs (m : (ℓ : Loc nD τ sig) → Buf (Elt Ideal) ℓ) (c : Dev nD) : Vec Ideal S1024x1024 .bf16 := m ((c : Thread nD τ).loc main_arg1)

variable (m : (ℓ : Loc nD τ sig) → Buf (Elt Ideal) ℓ)

/-- Which block of each array a point reads and writes. -/
theorem ix_facts : ∀ t : Fin cfg0.N, win0_0.index t (0 : Fin 2) = t.val ∧ win0_0.index t (1 : Fin 2) = 0
    ∧ win0_1.index t (0 : Fin 2) = t.val / 4 ∧ win0_1.index t (1 : Fin 2) = 0
    ∧ win0_2.index t (0 : Fin 2) = t.val / 4 ∧ win0_2.index t (1 : Fin 2) = 1
    ∧ win0_3.index t (0 : Fin 2) = t.val ∧ win0_3.index t (1 : Fin 2) = 0 ∧ win0_3.flush t = true :=
  (by decide +kernel : ∀ t : Fin grid0.N, _)

/-- The grid has 16 points. -/
theorem ltN (t : Fin cfg0.N) : t.val < 16 := lt_of_lt_of_eq t.isLt N_0

/-- Point `t`'s block of the queries: rows `512·t` on. -/
theorem blk0_apply (c : Dev nD) (t : Fin cfg0.N) (r l : Fin 512) :
    iblk m c 0 t (ix2 r l) = qry m c (ix2 ⟨512 * t.val + r.val, by have := ltN t; omega⟩ l) := by
  obtain ⟨e0, e1, -⟩ := ix_facts t
  unfold iblk
  rw [View.read_apply]
  show V m c main_arg0 _ = _
  rw [V_main_arg0]
  show qry m c _ = qry m c _
  congr 1; funext a; apply Fin.ext
  match a with
  | ⟨0, _⟩ => show win0_0.index t (0 : Fin 2) * 512 + 1 * r.val = 512 * t.val + r.val; omega
  | ⟨1, _⟩ => show win0_0.index t (1 : Fin 2) * 512 + 1 * l.val = l.val; omega

/-- Its block of the keys: the batch's rows, the first half of the columns. -/
theorem blk1_apply (c : Dev nD) (t : Fin cfg0.N) (k : Fin 256) (l : Fin 512) :
    iblk m c 1 t (ix2 k l) = kvs m c (ix2 ⟨256 * (t.val / 4) + k.val, by have := ltN t; omega⟩ ⟨l.val, by omega⟩) := by
  obtain ⟨-, -, e0, e1, -⟩ := ix_facts t
  unfold iblk
  rw [View.read_apply]
  show V m c main_arg1 _ = _
  rw [V_main_arg1]
  show kvs m c _ = kvs m c _
  congr 1; funext a; apply Fin.ext
  match a with
  | ⟨0, _⟩ => show win0_1.index t (0 : Fin 2) * 256 + 1 * k.val = 256 * (t.val / 4) + k.val; omega
  | ⟨1, _⟩ => show win0_1.index t (1 : Fin 2) * 512 + 1 * l.val = l.val; omega

/-- Its block of the values: the same rows, the second half of the columns. -/
theorem blk2_apply (c : Dev nD) (t : Fin cfg0.N) (k : Fin 256) (l : Fin 512) :
    iblk m c 2 t (ix2 k l) = kvs m c (ix2 ⟨256 * (t.val / 4) + k.val, by have := ltN t; omega⟩ ⟨512 + l.val, by omega⟩) := by
  obtain ⟨-, -, -, -, e0, e1, -⟩ := ix_facts t
  unfold iblk
  rw [View.read_apply]
  show V m c main_arg1 _ = _
  rw [V_main_arg1]
  show kvs m c _ = kvs m c _
  congr 1; funext a; apply Fin.ext
  match a with
  | ⟨0, _⟩ => show win0_2.index t (0 : Fin 2) * 256 + 1 * k.val = 256 * (t.val / 4) + k.val; omega
  | ⟨1, _⟩ => show win0_2.index t (1 : Fin 2) * 512 + 1 * l.val = 512 + l.val; omega

/-- The result array after the run. -/
abbrev out (c : Dev nD) : Vec Ideal S8192x512 .bf16 := (dats m 0 c).arrAt 3 cfg0.N

/-- THE WHOLE ARRAY after the run: each token attends to the memory of its sequence, head by head. -/
theorem result (c : Dev nD) (R : Fin 8192) (q : Fin 512) :
    out m c (ix2 R q) = sumFirst
      (fun x => (∑ e : Fin 128, qry m c (ix2 R ⟨128 * (q.val / 128) + e.val, by omega⟩)
        * kvs m c (ix2 ⟨256 * (R.val / 2048) + x.val, by omega⟩ ⟨128 * (q.val / 128) + e.val, by omega⟩)) * scale)
      (fun x => kvs m c (ix2 ⟨256 * (R.val / 2048) + x.val, by omega⟩ ⟨512 + q.val, by omega⟩)) := by
  have hN : cfg0.N = 16 := N_0
  let t : Fin cfg0.N := ⟨R.val / 512, by omega⟩
  obtain ⟨-, -, -, -, -, -, e0, e1, hf⟩ := ix_facts t
  let y : S512x512.Idx := ix2 ⟨R.val % 512, Nat.mod_lt _ (by decide)⟩ q
  have hy : ((cfg0.win 3).blk t).view.emb y = ix2 R q := by
    funext a; apply Fin.ext
    match a with
    | ⟨0, _⟩ =>
      show win0_3.index t (0 : Fin 2) * 512 + 1 * (R.val % 512) = R.val
      rw [e0]; show R.val / 512 * 512 + 1 * (R.val % 512) = R.val; omega
    | ⟨1, _⟩ => show win0_3.index t (1 : Fin 2) * 512 + 1 * q.val = q.val; omega
  have h := congrFun (Value.blocks3 m c t hf) y
  rw [View.read_apply, hy, Value.flushed3] at h
  refine Eq.trans h ?_
  show out0_3 (iblk m c 0 t) (iblk m c 1 t) (iblk m c 2 t) (ix2 ⟨R.val % 512, Nat.mod_lt _ (by decide)⟩ q) = _
  refine (out_apply (iblk m c 0 t) (iblk m c 1 t) (iblk m c 2 t) _ q).trans ?_
  have hR : 512 * t.val + R.val % 512 = R.val := by show 512 * (R.val / 512) + R.val % 512 = R.val; omega
  have hB : t.val / 4 = R.val / 2048 := by show R.val / 512 / 4 = R.val / 2048; omega
  unfold head
  simp only [blk0_apply, blk1_apply, blk2_apply, hR, hB]

end Cert.CrossIdeal.Block

namespace Cert.Proof

open Idealize.ShloMosaic Idealize.SL.Sem
open Idealize.ShloMosaic.Pointwise Cert.Softmax

/-- A bf16 below infinity in absolute value is a real. -/
theorem isReal_of (x : EReal) (h : BitVec.ofBool (decide (max x (-x) < Ideal.ofBits FTy.f32 0x7F800000#32)) = 1#1) : IsReal x := by
  have hbit : ∀ b : Bool, BitVec.ofBool b = 1#1 → b = true := by decide
  have h1 := of_decide_eq_true (hbit _ h)
  have ht : Ideal.ofBits FTy.f32 0x7F800000#32 = ⊤ := by simp [Ideal.ofBits, Ideal.ieee]
  rw [ht, max_lt_iff] at h1
  refine ⟨x.toReal, (EReal.coe_toReal h1.1.ne ?_).symm⟩
  rintro rfl
  simp at h1

/-- Under the precondition the queries and the keys are real. -/
theorem real_of_pre (a : FVec Ideal Cert.Pre_queries_and_keys_finite.S8192x512 .bf16) (b : FVec Ideal Cert.Pre_queries_and_keys_finite.S1024x1024 .bf16)
    (h : Cert.Pre_queries_and_keys_finite.fn a b = fun _ => 1#1) :
    (∀ (r : Fin 8192) (q : Fin 512), IsReal (a (ix2 r q))) ∧ ∀ (r : Fin 1024) (q : Fin 512), IsReal (b (ix2 r ⟨q.val, by omega⟩)) := by
  constructor
  · intro r q
    have h1 := congrFun h (ix2 ⟨r.val, by omega⟩ q)
    pointwise [Cert.Pre_queries_and_keys_finite.fn] at h1
    exact isReal_of _ h1
  · intro r q
    have h1 := congrFun h (ix2 ⟨8192 + r.val, by omega⟩ q)
    pointwise [Cert.Pre_queries_and_keys_finite.fn] at h1
    exact isReal_of _ h1

/-- The reference's run leaves its arguments alone and no semaphore raised. -/
theorem quiescent_CrossRefIdeal : quiescent_CrossRefIdeal := fun m ρ _ =>
  (θ_run Cert.CrossRefIdeal.defs _ _).mono (fun r h => ⟨fun c => (h c).2, sem_eq_zero_of_no_sems (by decide) r.2⟩)
    (Cert.CrossRefIdeal.Value.run (F := Ideal) m ρ)

/-- The call's result array is the reference's, where the queries and keys are finite. -/
theorem algebraic_CrossIdeal_CrossRefIdeal : algebraic_CrossIdeal_CrossRefIdeal_pre_queries_and_keys_finite := by
  intro m ρ m' ρ' hpre hagree
  refine ⟨_, Cert.CrossIdeal.Value.run_blocks (F := Ideal) m ρ, ?_⟩
  refine (θ_run Cert.CrossRefIdeal.defs _ _).mono (fun _ h c => ⟨?_, (h c).2⟩) (Cert.CrossRefIdeal.Value.run (F := Ideal) m' ρ')
  rw [(h c).1]
  funext i
  obtain ⟨r, q, rfl⟩ : ∃ (r : Fin 8192) (q : Fin 512), i = Idealize.ShloMosaic.ix2 r q := ⟨i 0, i 1, Idealize.ShloMosaic.eq_ix2 i⟩
  refine Eq.trans ?_ (Cert.CrossIdeal.Block.result m c r q).symm
  refine (Cert.CrossRefIdeal.Value.res_apply m' c _ _ (hagree c).1 (hagree c).2 r q).trans ?_
  obtain ⟨hq, hk⟩ := real_of_pre _ _ (hpre c)
  exact divFirst_eq _ _ fun x => isReal_mul (isReal_sum _ fun e => isReal_mul (hq r ⟨128 * (q.val / 128) + e.val, by omega⟩)
    (hk ⟨256 * (r.val / 2048) + x.val, by omega⟩ ⟨128 * (q.val / 128) + e.val, by omega⟩)) isReal_scale

end Cert.Proof

end
-- ==== Proof.Norm.lean ====
/-
  The root-mean-square norm, one grid point at a time: what the body computes from its blocks, which part of the arrays
  those blocks are, what the whole array holds after the run, and the claim that it is the reference's result.
-/
module

public import proofs.«01_k».proof.Defs
public import proofs.«01_k».proof.Proof.Gen.NormIdeal.Value
public import proofs.«01_k».proof.Proof.Gen.NormRefIdeal.Run
public import Idealize.ShloMosaic.Init
public import Idealize.ShloMosaic.Lib.Quiescent
public import Idealize.ShloMosaic.Lib.Pointwise
public import Idealize.ShloMosaic.Lib.Tactic
public import Idealize.ShloMosaic.Lib.Tactic.ValueTie

@[expose] public section

set_option maxRecDepth 16384

noncomputable section

namespace Cert.NormIdeal.Block

open Cert.NormIdeal Cert.NormIdeal.Gen Idealize.ShloMosaic Idealize.ShloMosaic.TcCoe Idealize.SL.Sem
open Idealize.ShloMosaic.Pointwise

/-- A row `x` normed at column `l` with weight `w`: the element times the reciprocal root of the row's mean square (plus
    the small constant), times the weight. -/
def normed (x : Fin 2048 → EReal) (w : EReal) (l : Fin 2048) : EReal :=
  x l * Ideal.rsqrt (Ideal.div (∑ k : Fin 2048, x k * x k) (Scalar.ofBits (F := Ideal) .f32 0x45000000#32) + Scalar.ofBits (F := Ideal) .f32 0x358637BD#32) * w

/-- The body's output block at an index: its row normed. -/
theorem pay1_apply (x : Vec Ideal S512x2048 .f32) (w : Vec Ideal S1x2048 .f32) (r : Fin 512) (l : Fin 2048) :
    k0_pay1 (F := Ideal) x w (ix2 r l) = normed (fun k => x (ix2 r k)) (w (ix2 0 l)) l := by
  pointwise [k0_pay1, normed]

theorem hz2 : (![0, 0] : Fin 2 → ℕ) = fun _ => 0 := by funext a; match a with | ⟨0, _⟩ => rfl | ⟨1, _⟩ => rfl

/-- What a point leaves in the output block is the payload of its blocks. -/
theorem out_eq (x : Vec Ideal S512x2048 .f32) (w : Vec Ideal S1x2048 .f32) : out0_2 x w = k0_pay1 x w := by
  unfold out0_2
  rw [View.canon_unit_zero hz2]
  simp only [View.ld_unit_zero (S := S512x2048) hz2, View.ld_unit_zero (S := S1x2048) hz2]

/-- The launch's memory as the call's arrays: the rows … -/
abbrev act (m : (ℓ : Loc nD τ sig) → Buf (Elt Ideal) ℓ) (c : Dev nD) : Vec Ideal S8192x2048 .f32 := m ((c : Thread nD τ).loc main_arg0)
/-- … and the stacked norm weights. -/
abbrev wgt (m : (ℓ : Loc nD τ sig) → Buf (Elt Ideal) ℓ) (c : Dev nD) : Vec Ideal S2x2048 .f32 := m ((c : Thread nD τ).loc main_arg1)

variable (m : (ℓ : Loc nD τ sig) → Buf (Elt Ideal) ℓ)

/-- Which block of each array a point reads and writes. -/
theorem ix_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ win0_2.flush t = true :=
  (by decide +kernel : ∀ t : Fin grid0.N, _)

theorem ltN (t : Fin cfg0.N) : t.val < 16 := lt_of_lt_of_eq t.isLt N_0

/-- The host's slice of the weights: the first layer's. -/
theorem v2_apply (c : Dev nD) (l : Fin 2048) : V m c main_v2 (ix2 0 l) = wgt m c (ix2 0 l) := by
  have h : (V m c main_v2 : Vec Ideal S1x2048 .f32) = shapeCast S1x2048 (shapeCast S2048
      (extractStridedSlice S1x2048 ![0, 0] (wgt m c) slices_S2x2048_S1x2048_0_0) shapeCasts_S1x2048_S2048) shapeCasts_S2048_S1x2048 := by
    dsimp only [V, hostOps0]
    after_results <;> rfl
  rw [h]
  pointwise []

/-- Point `t`'s block of the rows: rows `512·t` on. -/
theorem blk0_apply (c : Dev nD) (t : Fin cfg0.N) (r : Fin 512) (k : Fin 2048) :
    iblk m c 0 t (ix2 r k) = act m c (ix2 ⟨512 * t.val + r.val, by have := ltN t; omega⟩ k) := by
  obtain ⟨e0, e1, -⟩ := ix_facts t
  unfold iblk
  rw [View.read_apply]
  show V m c main_arg0 _ = _
  rw [V_main_arg0]
  show act m c _ = act m c _
  congr 1; funext a; apply Fin.ext
  match a with
  | ⟨0, _⟩ => show win0_0.index t (0 : Fin 2) * 512 + 1 * r.val = 512 * t.val + r.val; omega
  | ⟨1, _⟩ => show win0_0.index t (1 : Fin 2) * 2048 + 1 * k.val = k.val; omega

/-- Every point's block of the weights is the first layer's. -/
theorem blk1_apply (c : Dev nD) (t : Fin cfg0.N) (l : Fin 2048) : iblk m c 1 t (ix2 0 l) = wgt m c (ix2 0 l) := by
  obtain ⟨-, -, e0, e1, -⟩ := ix_facts t
  unfold iblk
  rw [View.read_apply, ← v2_apply]
  show V m c main_v2 _ = V m c main_v2 _
  congr 1; funext a; apply Fin.ext
  match a with
  | ⟨0, _⟩ => show win0_1.index t (0 : Fin 2) * 1 + 1 * 0 = 0; omega
  | ⟨1, _⟩ => show win0_1.index t (1 : Fin 2) * 2048 + 1 * l.val = l.val; omega

/-- The result array after the run. -/
abbrev out (c : Dev nD) : Vec Ideal S8192x2048 .bf16 := (dats m 0 c).arrAt 2 cfg0.N

/-- THE WHOLE ARRAY after the run: every row normed. -/
theorem result (c : Dev nD) (R : Fin 8192) (l : Fin 2048) :
    out m c (ix2 R l) = normed (fun k => act m c (ix2 R k)) (wgt m c (ix2 0 l)) l := by
  have hN : cfg0.N = 16 := N_0
  let t : Fin cfg0.N := ⟨R.val / 512, by omega⟩
  obtain ⟨-, -, -, -, e0, e1, hf⟩ := ix_facts t
  let y : S512x2048.Idx := ix2 ⟨R.val % 512, Nat.mod_lt _ (by decide)⟩ l
  have hy : ((cfg0.win 2).blk t).view.emb y = ix2 R l := by
    funext a; apply Fin.ext
    match a with
    | ⟨0, _⟩ =>
      show win0_2.index t (0 : Fin 2) * 512 + 1 * (R.val % 512) = R.val
      rw [e0]; show R.val / 512 * 512 + 1 * (R.val % 512) = R.val; omega
    | ⟨1, _⟩ => show win0_2.index t (1 : Fin 2) * 2048 + 1 * l.val = l.val; omega
  have h := congrFun (Value.blocks2 m c t hf) y
  rw [View.read_apply, hy, Value.flushed2] at h
  refine Eq.trans h ?_
  show out0_2 (iblk m c 0 t) (iblk m c 1 t) (ix2 ⟨R.val % 512, Nat.mod_lt _ (by decide)⟩ l) = _
  rw [out_eq]
  refine (pay1_apply (iblk m c 0 t) (iblk m c 1 t) _ l).trans ?_
  have hR : 512 * t.val + R.val % 512 = R.val := by show 512 * (R.val / 512) + R.val % 512 = R.val; omega
  simp only [blk0_apply, blk1_apply, hR]

end Cert.NormIdeal.Block

namespace Cert.Proof

open Idealize.ShloMosaic Idealize.SL.Sem

/-- The reference's run leaves its arguments alone and no semaphore raised. -/
theorem quiescent_NormRefIdeal : quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- The call's result array is the reference's. -/
theorem algebraic_NormIdeal_NormRefIdeal : algebraic_NormIdeal_NormRefIdeal := by
  intro m ρ m' ρ' _ hagree
  refine ⟨_, Cert.NormIdeal.Value.run_blocks (F := Ideal) m ρ, ?_⟩
  refine (θ_run Cert.NormRefIdeal.defs _ _).mono (fun _ h c => ⟨?_, (h c).2⟩) (Cert.NormRefIdeal.Value.run (F := Ideal) m' ρ')
  rw [(h c).1]
  simp only [hagree c]
  clean_types
  funext i
  obtain ⟨r, q, rfl⟩ : ∃ (r : Fin 8192) (q : Fin 2048), i = Idealize.ShloMosaic.ix2 r q := ⟨i 0, i 1, Idealize.ShloMosaic.eq_ix2 i⟩
  refine Eq.trans ?_ (Cert.NormIdeal.Block.result m c r q).symm
  pointwise [Cert.NormIdeal.Block.act, Cert.NormIdeal.Block.wgt, Cert.NormIdeal.Block.normed]

end Cert.Proof

end
-- ==== Proof.MoeBody.lean ====
/-
  The expert kernel's body at one grid point: what it leaves in the block of rows it accumulates into, for every
  value of the table word that tells how many rows of the tile are in use.
-/
module

public import proofs.«01_k».proof.Proof.Gen.MoeIdeal.Skeleton
public import proofs.«01_k».proof.Proof.Gen.MoeIdeal.Launch
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.PureOps.BitExact

@[expose] public section

set_option synthInstance.maxSize 4096
set_option maxRecDepth 16384
set_option Elab.async false

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The three prefetched tables, whole: a tile's expert, a tile's source rows, a tile's rows in use. -/
abbrev tb0 : Memref sig .tc .smem S24 .i32 := Memref.whole main_arg3
abbrev tb1 : Memref sig .tc .smem S24 .i32 := Memref.whole main_arg4
abbrev tb2 : Memref sig .tc .smem S24 .i32 := Memref.whole main_arg5

/-- The word the body reads: how many rows of the point's tile are in use. -/
abbrev wordOf (i : grid0.Coords) (T2 : S24.Idx → Elt Ideal .i32) : BitVec 32 :=
  View.readAt (Elt Ideal) (tb2).view (Rect.unit (s := S24) (k0_off1 i) S1.size (k0_off1_inb i)).toLoadRect T2 (Shape.Idx.first (numel1_S1.symm ▸ Nat.one_pos))

/-- The block the body starts from: zero at the tile's first column block, what it left before at the others. -/
def base (i : grid0.Coords) (prev : S1024x2048.Idx → Elt Ideal .f32) : S1024x2048.Idx → Elt Ideal .f32 :=
  if k0_cond1 i = 1#1 then k0_pay1 (F := Ideal) else prev

/-- What the body leaves when it updates the first 128, 256, 512 or all 1024 rows of the block `b`. -/
def upd2 (x0 : S1024x2048.Idx → Elt Ideal .bf16) (x1 x2 : S1x1x2048x256.Idx → Elt Ideal .f32) (x3 : S1x1x256x2048.Idx → Elt Ideal .f32) (b : S1024x2048.Idx → Elt Ideal .f32) : S1024x2048.Idx → Elt Ideal .f32 :=
  VecWindow.put b ![0, 0] S128x2048.size (k0_pay2 (F := Ideal) (VecWindow.window x0 ![0, 0] S128x2048.size inb_S1024x2048_S128x2048_0_0) x1 x2 (VecWindow.window b ![0, 0] S128x2048.size inb_S1024x2048_S128x2048_0_0) x3)
def upd3 (x0 : S1024x2048.Idx → Elt Ideal .bf16) (x1 x2 : S1x1x2048x256.Idx → Elt Ideal .f32) (x3 : S1x1x256x2048.Idx → Elt Ideal .f32) (b : S1024x2048.Idx → Elt Ideal .f32) : S1024x2048.Idx → Elt Ideal .f32 :=
  VecWindow.put b ![0, 0] S256x2048.size (k0_pay3 (F := Ideal) (VecWindow.window x0 ![0, 0] S256x2048.size inb_S1024x2048_S256x2048_0_0) x1 x2 (VecWindow.window b ![0, 0] S256x2048.size inb_S1024x2048_S256x2048_0_0) x3)
def upd4 (x0 : S1024x2048.Idx → Elt Ideal .bf16) (x1 x2 : S1x1x2048x256.Idx → Elt Ideal .f32) (x3 : S1x1x256x2048.Idx → Elt Ideal .f32) (b : S1024x2048.Idx → Elt Ideal .f32) : S1024x2048.Idx → Elt Ideal .f32 :=
  VecWindow.put b ![0, 0] S512x2048.size (k0_pay4 (F := Ideal) (VecWindow.window x0 ![0, 0] S512x2048.size inb_S1024x2048_S512x2048_0_0) x1 x2 (VecWindow.window b ![0, 0] S512x2048.size inb_S1024x2048_S512x2048_0_0) x3)
def upd5 (x0 : S1024x2048.Idx → Elt Ideal .bf16) (x1 x2 : S1x1x2048x256.Idx → Elt Ideal .f32) (x3 : S1x1x256x2048.Idx → Elt Ideal .f32) (b : S1024x2048.Idx → Elt Ideal .f32) : S1024x2048.Idx → Elt Ideal .f32 :=
  k0_pay5 (F := Ideal) x0 x1 x2 b x3

/-- What the body leaves in the block at one point: the starting block, updated on as many rows as the word asks for. -/
def step (i : grid0.Coords) (w : BitVec 32) (x0 : S1024x2048.Idx → Elt Ideal .bf16) (x1 x2 : S1x1x2048x256.Idx → Elt Ideal .f32) (x3 : S1x1x256x2048.Idx → Elt Ideal .f32) (prev : S1024x2048.Idx → Elt Ideal .f32) : S1024x2048.Idx → Elt Ideal .f32 :=
  if k0_cond2 w = 1#1 then upd2 x0 x1 x2 x3 (base i prev)
  else if k0_cond3 w = 1#1 then upd3 x0 x1 x2 x3 (base i prev)
  else if k0_cond4 w = 1#1 then upd4 x0 x1 x2 x3 (base i prev)
  else if k0_cond5 w = 1#1 then upd5 x0 x1 x2 x3 (base i prev)
  else base i prev

/-! ## The run's tests -/

/-- The program's test of a word between two bounds, read as integers. -/
theorem word_between (w lo hi : BitVec 32) :
    Scalar.cmpi .ne (Scalar.extui (Scalar.andi (Scalar.cmpi .sgt w lo) (Scalar.cmpi .sle w hi)) : BitVec 32) 0#32 = 1#1 ↔ lo.toInt < w.toInt ∧ w.toInt ≤ hi.toInt := by
  by_cases h : lo.toInt < w.toInt <;> by_cases h' : w.toInt ≤ hi.toInt <;>
    simp [Scalar.cmpi, Scalar.extui, Scalar.andi, IntOp.cmpi, IntOp.andi, h, h', BitVec.slt, BitVec.sle]

theorem cond2_iff (w : BitVec 32) : k0_cond2 w = 1#1 ↔ 0 < w.toInt ∧ w.toInt ≤ 128 := word_between w 0#32 128#32
theorem cond3_iff (w : BitVec 32) : k0_cond3 w = 1#1 ↔ 128 < w.toInt ∧ w.toInt ≤ 256 := word_between w 128#32 256#32
theorem cond4_iff (w : BitVec 32) : k0_cond4 w = 1#1 ↔ 256 < w.toInt ∧ w.toInt ≤ 512 := word_between w 256#32 512#32
theorem cond5_iff (w : BitVec 32) : k0_cond5 w = 1#1 ↔ 512 < w.toInt ∧ w.toInt ≤ 1024 := word_between w 512#32 1024#32

theorem window_congr {α : Type} {s : Shape} {x x' : s.Idx → α} {off size : Fin s.rank → ℕ} (inb : ∀ a, off a + size a ≤ s.size a)
    (h : x = x') : VecWindow.window x off size inb = VecWindow.window x' off size inb := by
  subst h; rfl

theorem congrArgs5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

theorem put_congr {α : Type} {s : Shape} {b b' : s.Idx → α} {off size : Fin s.rank → ℕ} {w w' : ((a : Fin s.rank) → Fin (size a)) → α}
    (hb : b = b') (hw : w = w') : VecWindow.put b off size w = VecWindow.put b' off size w' := by
  subst hb hw; rfl

/-! ## The run -/

set_option maxHeartbeats 1000000 in
/-- One run of the body, over whatever the output's block holds: it ends, everything it reads is as it was, and the block holds `step`. -/
theorem body_run (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole)
    (T0 T1 T2 : S24.Idx → Elt Ideal .i32) (x0 : S1024x2048.Idx → Elt Ideal .bf16) (x1 x2 : S1x1x2048x256.Idx → Elt Ideal .f32) (x3 : S1x1x256x2048.Idx → Elt Ideal .f32) (prev : S1024x2048.Idx → Elt Ideal .f32)
    (K : PUnit → sProp 𝕄) :
    iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (tb0.view.loc (c : Thread nD τ) ↦{fullShare.right} T0)
      ∗ (tb1.view.loc (c : Thread nD τ) ↦{fullShare.right} T1)
      ∗ (tb2.view.loc (c : Thread nD τ) ↦{fullShare.right} T2)
      ∗ (arg9.view.loc (c : Thread nD τ) ↦[arg9.view.set]{fullShare} arg9.view.rep prev)
      ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg9 fullShare (step i (wordOf i T2) x0 x1 x2 x3 prev)) -∗ K ⟨⟩))
      ⊢ wp frame (wpE (defs₀ (F := Ideal)) Variants.none c none) Set.univ (cc0_moe_experts i tb0 (Memref.isWhole_whole _) tb1 (Memref.isWhole_whole _) tb2 (Memref.isWhole_whole _) arg5 harg5 arg6 harg6 arg7 harg7 arg8 harg8 arg9 harg9) K := by
  have hT0 : tb0.IsWhole := Memref.isWhole_whole _
  have hT1 : tb1.IsWhole := Memref.isWhole_whole _
  have hT2 : tb2.IsWhole := Memref.isWhole_whole _
  rw [cc0_moe_experts_eq_skeleton]; unfold cc0_moe_experts_skel
  by_cases k0_h1 : k0_cond1 i = 1#1
  · by_cases k0_h2 : k0_cond2 (wordOf i T2) = 1#1
    · have k0_h3 : ¬ k0_cond3 (wordOf i T2) = 1#1 := fun h => by have := (cond2_iff _).1 k0_h2; have := (cond3_iff _).1 h; omega
      have k0_h4 : ¬ k0_cond4 (wordOf i T2) = 1#1 := fun h => by have := (cond2_iff _).1 k0_h2; have := (cond4_iff _).1 h; omega
      have k0_h5 : ¬ k0_cond5 (wordOf i T2) = 1#1 := fun h => by have := (cond2_iff _).1 k0_h2; have := (cond5_iff _).1 h; omega
      rw [show step i (wordOf i T2) x0 x1 x2 x3 prev = upd2 x0 x1 x2 x3 (k0_pay1 (F := Ideal)) by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      sl_unfold_words
      refine (View.read_writes_cons_put arg9.view _ _ _ _ rfl).trans ?_
      exact put_congr (View.read_writes_full _ _ _ _ _) (congrArgs5 (k0_pay2 (F := Ideal)) (View.readAt_rep_unit arg5.view x0 _ rfl inb_S1024x2048_S128x2048_0_0) (View.readAt_rep_full arg6.view x1 _) (View.readAt_rep_full arg7.view x2 _) ((View.readAt_unit arg9.view _ _ rfl inb_S1024x2048_S128x2048_0_0).trans (window_congr inb_S1024x2048_S128x2048_0_0 (View.read_writes_full arg9.view arg9.view.junk inb_S1024x2048_S1024x2048_0_0 _ []))) (View.readAt_rep_full arg8.view x3 _))
    by_cases k0_h3 : k0_cond3 (wordOf i T2) = 1#1
    · have k0_h2 : ¬ k0_cond2 (wordOf i T2) = 1#1 := fun h => by have := (cond3_iff _).1 k0_h3; have := (cond2_iff _).1 h; omega
      have k0_h4 : ¬ k0_cond4 (wordOf i T2) = 1#1 := fun h => by have := (cond3_iff _).1 k0_h3; have := (cond4_iff _).1 h; omega
      have k0_h5 : ¬ k0_cond5 (wordOf i T2) = 1#1 := fun h => by have := (cond3_iff _).1 k0_h3; have := (cond5_iff _).1 h; omega
      rw [show step i (wordOf i T2) x0 x1 x2 x3 prev = upd3 x0 x1 x2 x3 (k0_pay1 (F := Ideal)) by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      sl_unfold_words
      refine (View.read_writes_cons_put arg9.view _ _ _ _ rfl).trans ?_
      exact put_congr (View.read_writes_full _ _ _ _ _) (congrArgs5 (k0_pay3 (F := Ideal)) (View.readAt_rep_unit arg5.view x0 _ rfl inb_S1024x2048_S256x2048_0_0) (View.readAt_rep_full arg6.view x1 _) (View.readAt_rep_full arg7.view x2 _) ((View.readAt_unit arg9.view _ _ rfl inb_S1024x2048_S256x2048_0_0).trans (window_congr inb_S1024x2048_S256x2048_0_0 (View.read_writes_full arg9.view arg9.view.junk inb_S1024x2048_S1024x2048_0_0 _ []))) (View.readAt_rep_full arg8.view x3 _))
    by_cases k0_h4 : k0_cond4 (wordOf i T2) = 1#1
    · have k0_h2 : ¬ k0_cond2 (wordOf i T2) = 1#1 := fun h => by have := (cond4_iff _).1 k0_h4; have := (cond2_iff _).1 h; omega
      have k0_h3 : ¬ k0_cond3 (wordOf i T2) = 1#1 := fun h => by have := (cond4_iff _).1 k0_h4; have := (cond3_iff _).1 h; omega
      have k0_h5 : ¬ k0_cond5 (wordOf i T2) = 1#1 := fun h => by have := (cond4_iff _).1 k0_h4; have := (cond5_iff _).1 h; omega
      rw [show step i (wordOf i T2) x0 x1 x2 x3 prev = upd4 x0 x1 x2 x3 (k0_pay1 (F := Ideal)) by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      sl_unfold_words
      refine (View.read_writes_cons_put arg9.view _ _ _ _ rfl).trans ?_
      exact put_congr (View.read_writes_full _ _ _ _ _) (congrArgs5 (k0_pay4 (F := Ideal)) (View.readAt_rep_unit arg5.view x0 _ rfl inb_S1024x2048_S512x2048_0_0) (View.readAt_rep_full arg6.view x1 _) (View.readAt_rep_full arg7.view x2 _) ((View.readAt_unit arg9.view _ _ rfl inb_S1024x2048_S512x2048_0_0).trans (window_congr inb_S1024x2048_S512x2048_0_0 (View.read_writes_full arg9.view arg9.view.junk inb_S1024x2048_S1024x2048_0_0 _ []))) (View.readAt_rep_full arg8.view x3 _))
    by_cases k0_h5 : k0_cond5 (wordOf i T2) = 1#1
    · have k0_h2 : ¬ k0_cond2 (wordOf i T2) = 1#1 := fun h => by have := (cond5_iff _).1 k0_h5; have := (cond2_iff _).1 h; omega
      have k0_h3 : ¬ k0_cond3 (wordOf i T2) = 1#1 := fun h => by have := (cond5_iff _).1 k0_h5; have := (cond3_iff _).1 h; omega
      have k0_h4 : ¬ k0_cond4 (wordOf i T2) = 1#1 := fun h => by have := (cond5_iff _).1 k0_h5; have := (cond4_iff _).1 h; omega
      rw [show step i (wordOf i T2) x0 x1 x2 x3 prev = upd5 x0 x1 x2 x3 (k0_pay1 (F := Ideal)) by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      sl_unfold_words
      refine (View.read_writes_full arg9.view _ _ _ _).trans ?_
      exact (congrArgs5 (k0_pay5 (F := Ideal)) (View.readAt_rep_full arg5.view x0 _) (View.readAt_rep_full arg6.view x1 _) (View.readAt_rep_full arg7.view x2 _) (View.readCov_full arg9.view _ _ _ _) (View.readAt_rep_full arg8.view x3 _))
    rw [show step i (wordOf i T2) x0 x1 x2 x3 prev = (k0_pay1 (F := Ideal)) by unfold step base; simp only [k0_h1, k0_h2, k0_h3, k0_h4, k0_h5, if_true, if_false]]
    iintro ⟨H0, H1, H2, H3, HT0, HT1, HT2, HO4, Hk⟩
    sl_exec! (disch := first | assumption)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    unfold owns
    iexists _; isplitr; swap; · iexact HO4
    ipureintro
    sl_unfold_words
    exact View.read_writes_full _ _ _ _ _
  · by_cases k0_h2 : k0_cond2 (wordOf i T2) = 1#1
    · have k0_h3 : ¬ k0_cond3 (wordOf i T2) = 1#1 := fun h => by have := (cond2_iff _).1 k0_h2; have := (cond3_iff _).1 h; omega
      have k0_h4 : ¬ k0_cond4 (wordOf i T2) = 1#1 := fun h => by have := (cond2_iff _).1 k0_h2; have := (cond4_iff _).1 h; omega
      have k0_h5 : ¬ k0_cond5 (wordOf i T2) = 1#1 := fun h => by have := (cond2_iff _).1 k0_h2; have := (cond5_iff _).1 h; omega
      rw [show step i (wordOf i T2) x0 x1 x2 x3 prev = upd2 x0 x1 x2 x3 prev by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      refine (View.read_writes_rep_unit arg9.view prev _ _ rfl).trans ?_
      exact put_congr (Eq.refl prev) (congrArgs5 (k0_pay2 (F := Ideal)) (View.readAt_rep_unit arg5.view x0 _ rfl inb_S1024x2048_S128x2048_0_0) (View.readAt_rep_full arg6.view x1 _) (View.readAt_rep_full arg7.view x2 _) (View.readAt_rep_unit arg9.view prev _ rfl inb_S1024x2048_S128x2048_0_0) (View.readAt_rep_full arg8.view x3 _))
    by_cases k0_h3 : k0_cond3 (wordOf i T2) = 1#1
    · have k0_h2 : ¬ k0_cond2 (wordOf i T2) = 1#1 := fun h => by have := (cond3_iff _).1 k0_h3; have := (cond2_iff _).1 h; omega
      have k0_h4 : ¬ k0_cond4 (wordOf i T2) = 1#1 := fun h => by have := (cond3_iff _).1 k0_h3; have := (cond4_iff _).1 h; omega
      have k0_h5 : ¬ k0_cond5 (wordOf i T2) = 1#1 := fun h => by have := (cond3_iff _).1 k0_h3; have := (cond5_iff _).1 h; omega
      rw [show step i (wordOf i T2) x0 x1 x2 x3 prev = upd3 x0 x1 x2 x3 prev by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      refine (View.read_writes_rep_unit arg9.view prev _ _ rfl).trans ?_
      exact put_congr (Eq.refl prev) (congrArgs5 (k0_pay3 (F := Ideal)) (View.readAt_rep_unit arg5.view x0 _ rfl inb_S1024x2048_S256x2048_0_0) (View.readAt_rep_full arg6.view x1 _) (View.readAt_rep_full arg7.view x2 _) (View.readAt_rep_unit arg9.view prev _ rfl inb_S1024x2048_S256x2048_0_0) (View.readAt_rep_full arg8.view x3 _))
    by_cases k0_h4 : k0_cond4 (wordOf i T2) = 1#1
    · have k0_h2 : ¬ k0_cond2 (wordOf i T2) = 1#1 := fun h => by have := (cond4_iff _).1 k0_h4; have := (cond2_iff _).1 h; omega
      have k0_h3 : ¬ k0_cond3 (wordOf i T2) = 1#1 := fun h => by have := (cond4_iff _).1 k0_h4; have := (cond3_iff _).1 h; omega
      have k0_h5 : ¬ k0_cond5 (wordOf i T2) = 1#1 := fun h => by have := (cond4_iff _).1 k0_h4; have := (cond5_iff _).1 h; omega
      rw [show step i (wordOf i T2) x0 x1 x2 x3 prev = upd4 x0 x1 x2 x3 prev by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      refine (View.read_writes_rep_unit arg9.view prev _ _ rfl).trans ?_
      exact put_congr (Eq.refl prev) (congrArgs5 (k0_pay4 (F := Ideal)) (View.readAt_rep_unit arg5.view x0 _ rfl inb_S1024x2048_S512x2048_0_0) (View.readAt_rep_full arg6.view x1 _) (View.readAt_rep_full arg7.view x2 _) (View.readAt_rep_unit arg9.view prev _ rfl inb_S1024x2048_S512x2048_0_0) (View.readAt_rep_full arg8.view x3 _))
    by_cases k0_h5 : k0_cond5 (wordOf i T2) = 1#1
    · have k0_h2 : ¬ k0_cond2 (wordOf i T2) = 1#1 := fun h => by have := (cond5_iff _).1 k0_h5; have := (cond2_iff _).1 h; omega
      have k0_h3 : ¬ k0_cond3 (wordOf i T2) = 1#1 := fun h => by have := (cond5_iff _).1 k0_h5; have := (cond3_iff _).1 h; omega
      have k0_h4 : ¬ k0_cond4 (wordOf i T2) = 1#1 := fun h => by have := (cond5_iff _).1 k0_h5; have := (cond4_iff _).1 h; omega
      rw [show step i (wordOf i T2) x0 x1 x2 x3 prev = upd5 x0 x1 x2 x3 prev by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      refine (View.read_writes_full arg9.view _ _ _ _).trans ?_
      exact (congrArgs5 (k0_pay5 (F := Ideal)) (View.readAt_rep_full arg5.view x0 _) (View.readAt_rep_full arg6.view x1 _) (View.readAt_rep_full arg7.view x2 _) (View.readAt_rep_full arg9.view prev _) (View.readAt_rep_full arg8.view x3 _))
    rw [show step i (wordOf i T2) x0 x1 x2 x3 prev = prev by unfold step base; simp only [k0_h1, k0_h2, k0_h3, k0_h4, k0_h5, if_true, if_false]]
    iintro ⟨H0, H1, H2, H3, HT0, HT1, HT2, HO4, Hk⟩
    sl_exec! (disch := first | assumption)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    unfold owns
    iexists _; isplitr; swap; · iexact HO4
    ipureintro
    exact View.read_rep _ _

end Cert.MoeIdeal.Hand

end
-- ==== Proof.MoeRun.lean ====
/-
  The expert kernel's run over its whole grid, at any contents of the three tables the pipeline admits: what each
  point leaves, the body's obligation at each point, and what the arrays hold when the program ends.
-/
module

public import proofs.«01_k».proof.Proof.MoeBody
public import Idealize.ShloMosaic.Lib.Affine
public import Idealize.ShloMosaic.Lib.Pipeline.Frame
public import Idealize.ShloMosaic.Lib.Claim
public import Idealize.ShloMosaic.Adequacy
public import Idealize.ShloMosaic.Init

@[expose] public section

set_option synthInstance.maxSize 4096
set_option maxRecDepth 16384
set_option Elab.async false

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The grid: 24 tiles of rows, 28 column blocks each -/

/-- A point's tile and its column block. -/
theorem crd_0 (t : Fin grid0.N) : (grid0.coords t 0).val = t.val / 28 := by
  have h := Pipeline.Grid.coords_val t 0 (S := 28) (B := 24) (by decide) rfl
  have hN : t.val < 672 := lt_of_lt_of_eq t.isLt N_0
  omega
theorem crd_1 (t : Fin grid0.N) : (grid0.coords t 1).val = t.val % 28 := by
  have h := Pipeline.Grid.coords_val t 1 (S := 1) (B := 28) (by decide) rfl
  omega

/-- The body clears its block exactly at the first column block. -/
theorem cond1_iff (i : grid0.Coords) : k0_cond1 i = 1#1 ↔ (i 1).val = 0 := by
  have hi : (i 1).val < 28 := (i 1).isLt
  unfold k0_cond1
  generalize (i 1).val = n at hi ⊢
  revert n
  decide +kernel

variable (a : (pcfg0 (F := Ideal)).Adm)

/-- The three tables' contents. -/
abbrev T0 : S24.Idx → Elt Ideal .i32 := a.1 0
abbrev T1 : S24.Idx → Elt Ideal .i32 := a.1 1
abbrev T2 : S24.Idx → Elt Ideal .i32 := a.1 2

abbrev cfgA : Pipeline.Cfg sig Λ₀ := cfg0 (F := Ideal) a

/-- The row count the pipeline's idle table reads is the one the body reads. -/
theorem atD_wordOf (i : grid0.Coords) : Pipeline.Prefetch.Contents.atD (pre := pre0) a.1 2 (k0_off1 i) = wordOf i (T2 a) := by
  have h : ∀ x, k0_off1 i x + 1 ≤ S24.size x := fun x => by
    have h1 := k0_off1_inb i x
    match x, h1 with
    | ⟨0, _⟩, h1 => exact h1
  exact (dif_pos h).trans rfl

/-- When the body does nothing at a point: neither clearing nor any of the four updates. -/
theorem idle_iff (i : grid0.Coords) : (cfgA a).idle (4 : Fin 5) i = true ↔
    ¬ k0_cond1 i = 1#1 ∧ ¬ k0_cond2 (wordOf i (T2 a)) = 1#1 ∧ ¬ k0_cond3 (wordOf i (T2 a)) = 1#1
      ∧ ¬ k0_cond4 (wordOf i (T2 a)) = 1#1 ∧ ¬ k0_cond5 (wordOf i (T2 a)) = 1#1 := by
  rw [← atD_wordOf]
  show (!(k0_cond1 i == 1#1) && !(k0_cond2 (Pipeline.Prefetch.Contents.atD (pre := pre0) a.1 2 (k0_off1 i)) == 1#1) && !(k0_cond3 (Pipeline.Prefetch.Contents.atD (pre := pre0) a.1 2 (k0_off1 i)) == 1#1) && !(k0_cond4 (Pipeline.Prefetch.Contents.atD (pre := pre0) a.1 2 (k0_off1 i)) == 1#1) && !(k0_cond5 (Pipeline.Prefetch.Contents.atD (pre := pre0) a.1 2 (k0_off1 i)) == 1#1)) = true ↔ _
  generalize Pipeline.Prefetch.Contents.atD (pre := pre0) a.1 2 (k0_off1 i) = w
  simp only [Bool.and_eq_true, Bool.not_eq_true', beq_eq_false_iff_ne, ne_eq, and_assoc]

/-- At an idle point the step keeps the block as it is. -/
theorem step_idle (i : grid0.Coords) (h : (cfgA a).idle (4 : Fin 5) i = true) (x0 x1 x2 x3 prev) :
    step i (wordOf i (T2 a)) x0 x1 x2 x3 prev = prev := by
  obtain ⟨h1, h2, h3, h4, h5⟩ := (idle_iff a i).1 h
  unfold step base
  simp only [h1, h2, h3, h4, h5, if_false]

/-- At a tile's first column block the step forgets what was there before. -/
theorem step_first (i : grid0.Coords) (h : k0_cond1 i = 1#1) (w : BitVec 32) (x0 x1 x2 x3 prev prev') :
    step i w x0 x1 x2 x3 prev = step i w x0 x1 x2 x3 prev' := by
  unfold step base
  simp only [h, if_true]

/-- A tile's block of the result is written back after its last column block. -/
theorem flush_iff (t : Fin grid0.N) : (((cfgA a).win (4 : Fin 5)).flush t = true) ↔ t.val % 28 = 27 := by
  have hN : t.val < 672 := lt_of_lt_of_eq t.isLt N_0
  rw [Pipeline.Window.flush_eq_flushF]
  unfold Pipeline.Window.flushF
  have e : ∀ s : Fin grid0.N, ((cfgA a).win (4 : Fin 5)).index s = ![s.val / 28, 0] := fun s => by
    have hs : s.val < 672 := lt_of_lt_of_eq s.isLt N_0
    show cc0_transform_4 (grid0.coords s) = _
    unfold cc0_transform_4
    simp only [crd_0, BitVec.toNat_ofNat]
    rw [Nat.mod_eq_of_lt (by omega)]
  rw [show ((cfgA a).win (4 : Fin 5)).isOut = true from rfl]
  have hN' : (Pipeline.PCfg.gridAt (pcfg0 (F := Ideal)) a.1).N = 672 := N_0
  simp only [e, Bool.true_and, Bool.or_eq_true, decide_eq_true_eq]
  constructor
  · rintro (h | ⟨h, x, hx⟩)
    · omega
    · match x with
      | ⟨0, _⟩ =>
        have hx' : ¬ (t.val + 1) / 28 = t.val / 28 := hx
        omega
      | ⟨1, _⟩ => exact absurd rfl hx
  · intro h
    by_cases h1 : t.val + 1 = 672
    · exact .inl (h1.trans hN'.symm)
    · refine .inr ⟨by omega, 0, ?_⟩
      show ¬ (t.val + 1) / 28 = t.val / 28
      omega

/-- Before a point the block's buffer holds nothing of the body's exactly at a tile's first column block. -/
theorem fresh_eq (n : ℕ) (hn : n ≤ (cfgA a).N) : (cfgA a).fresh (4 : Fin 5) n = decide (n % 28 = 0) := by
  refine Pipeline.Cfg.fresh_tab (cfgA a) (4 : Fin 5) (fun n => decide (n % 28 = 0)) rfl (fun t => ?_) n hn
  have hf := flush_iff a t
  by_cases h : t.val % 28 = 27
  · rw [hf.2 h, Bool.true_or]
    exact decide_eq_true (by omega)
  · have hff : ((cfgA a).win (4 : Fin 5)).flush t = false := by rw [← Bool.not_eq_true]; exact fun h' => h (hf.1 h')
    rw [hff, Bool.false_or]
    have hL : decide ((t.val + 1) % 28 = 0) = false := decide_eq_false (by omega)
    show decide ((t.val + 1) % 28 = 0) = _
    rw [hL]
    symm
    by_cases h0 : t.val % 28 = 0
    · have hi : (cfgA a).idle (4 : Fin 5) ((cfgA a).grid.coords t) = false := by
        rw [← Bool.not_eq_true]
        intro hi
        exact ((idle_iff a _).1 hi).1 ((cond1_iff _).2 ((crd_1 t).trans h0))
      rw [hi, Bool.false_and]
    · rw [decide_eq_false h0, Bool.and_false]

variable (m : (ℓ : Loc nD τ sig) → Buf (Elt Ideal) ℓ) (ρ : Dev nD → PrngReg)

/-! ## What each point leaves -/

/-- Point `t`'s coordinates, and each window's current staging buffer there. -/
abbrev crd (t : Fin (cfgA a).N) : (cfgA a).grid.Coords := (cfgA a).grid.coords t
abbrev ms0_0 (t : Fin (cfgA a).N) : Memref sig .tc .vmem S1024x2048 .bf16 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x1x2048x256 .f32 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1x2048x256 .f32 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x1x256x2048 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S1024x2048 .f32 := spec0_4.stage ((cfgA a).slots t (4 : Fin 5))
abbrev hs0_4 (t : Fin (cfgA a).N) : (ms0_4 a t).IsWhole := hstage0_4 (((cfgA a).slots t (4 : Fin 5)).cast nbuf0_4)

/-- Window `w`'s block at point `t`, of its array at launch. -/
def iblk (c : Dev nD) (w : Fin (cfgA a).W) (t : Fin (cfgA a).N) : (((cfgA a).win w).xblock (crd a t)).Idx → Elt Ideal ((cfgA a).win w).elt :=
  (((cfgA a).win w).blk t).view.read (Elt Ideal) ((s₀ m ρ).mem (((cfgA a).win w).arr.view.loc (c : Thread nD τ)))

/-- What point `t` leaves in the block when it held `prev` before. -/
def step0 (c : Dev nD) (t : Fin (cfgA a).N) (prev : S1024x2048.Idx → Elt Ideal .f32) : S1024x2048.Idx → Elt Ideal .f32 :=
  step (crd a t) (wordOf (crd a t) (T2 a)) (iblk a m ρ c (0 : Fin 5) t) (iblk a m ρ c (1 : Fin 5) t) (iblk a m ρ c (2 : Fin 5) t) (iblk a m ρ c (3 : Fin 5) t) prev

/-- What the block holds after point `n`. -/
def traj0 (c : Dev nD) : (n : ℕ) → n < (cfgA a).N → (S1024x2048.Idx → Elt Ideal .f32)
  | 0, h => step0 a m ρ c ⟨0, h⟩ default
  | n + 1, h => step0 a m ρ c ⟨n + 1, h⟩ (traj0 c n (Nat.lt_of_succ_lt h))

/-- What it held before point `t`. -/
def prev0 (c : Dev nD) (t : Fin (cfgA a).N) : S1024x2048.Idx → Elt Ideal .f32 :=
  if h : t.val = 0 then default else traj0 a m ρ c (t.val - 1) (by omega)

theorem traj0_eq (c : Dev nD) (t : Fin (cfgA a).N) : traj0 a m ρ c t.val t.isLt = step0 a m ρ c t (prev0 a m ρ c t) := by
  obtain ⟨n, hn⟩ := t
  cases n with
  | zero => rfl
  | succ n => unfold prev0; simp only [Nat.add_one_ne_zero, dif_neg, not_false_eq_true]; rfl

/-- What the body keeps between points: the random-number register and its halves of the tables. -/
def Phi (c : Dev nD) : sProp 𝕄 :=
  iprop((∃ r, prngReg c r) ∗ ((tb0).view.loc (c : Thread nD τ) ↦{fullShare.right} T0 a) ∗ ((tb1).view.loc (c : Thread nD τ) ↦{fullShare.right} T1 a) ∗ ((tb2).view.loc (c : Thread nD τ) ↦{fullShare.right} T2 a))

/-- The pipeline's proof data on core `c`. -/
def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => (traj0 a m ρ c t.val t.isLt)
  Φ _ := Phi a c
  q w := Pipeline.shareOf (cfgA a).spec w
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = traj0 a m ρ c t.val t.isLt := rfl

/-- An input window holds its block at every point. -/
theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)
/-- The block carries over the points that leave it alone. -/
theorem hcarry0_4 (c : Dev nD) : ∀ (t : Fin (cfgA a).N) (ht : t.val ≠ 0), (cfgA a).idle (4 : Fin 5) ((cfgA a).grid.coords t) = true → (cfgA a).fresh (4 : Fin 5) t.val = false →
    (dats a m ρ 0 c).after (4 : Fin 5) t = (dats a m ρ 0 c).after (4 : Fin 5) ⟨t.val - 1, by omega⟩ := by
  intro t ht hi _
  rw [after0_4, after0_4, traj0_eq]
  unfold step0
  rw [step_idle a _ hi]
  unfold prev0; rw [dif_neg ht]

/-- What the block's buffer holds when the body runs: anything at a tile's first column block, what the point before
    left at the others. -/
theorem before0_4 (c : Dev nD) (t : Fin (cfgA a).N) (d) :
    (dats a m ρ 0 c).before (4 : Fin 5) t d = if t.val % 28 = 0 then d else prev0 a m ρ c t := by
  rw [(dats a m ρ 0 c).before_out_traj (4 : Fin 5) rfl (fun _ _ => rfl) (hcarry0_4 a m ρ c) t.val t rfl d, fresh_eq a t.val (Nat.le_of_lt t.isLt)]
  by_cases h : t.val % 28 = 0
  · simp only [h, decide_true, ↓reduceIte]
  · have h0 : t.val ≠ 0 := fun h0 => h (by rw [h0])
    simp only [h, decide_false, Bool.false_eq_true, ↓reduceIte, after0_4]; unfold prev0; rw [dif_neg h0]

/-! ## The body's obligation -/

/-- The body at point `t` on its staging buffers. -/
abbrev bodyAt0 (t : Fin (cfgA a).N) : Prog (TpuEff nD τ sig (Elt Ideal) Λ₀ .tc) PUnit :=
  cc0_moe_experts (crd a t) (Memref.whole main_arg3) (Memref.isWhole_whole _) (Memref.whole main_arg4) (Memref.isWhole_whole _) (Memref.whole main_arg5) (Memref.isWhole_whole _) (ms0_0 a t) (hs0_0 a t) (ms0_1 a t) (hs0_1 a t) (ms0_2 a t) (hs0_2 a t) (ms0_3 a t) (hs0_3 a t) (ms0_4 a t) (hs0_4 a t)

/-- The body's run at point `t` from a block holding `prev`, in the form the obligation uses. -/
theorem run_at (c : Dev nD) (t : Fin (cfgA a).N) (prev : S1024x2048.Idx → Elt Ideal .f32) (K : PUnit → sProp 𝕄) :
    iprop(Phi a c ∗ owns (c : Thread nD τ) (ms0_0 a t) fullShare (iblk a m ρ c (0 : Fin 5) t)
        ∗ owns (c : Thread nD τ) (ms0_1 a t) fullShare (iblk a m ρ c (1 : Fin 5) t)
        ∗ owns (c : Thread nD τ) (ms0_2 a t) fullShare (iblk a m ρ c (2 : Fin 5) t)
        ∗ owns (c : Thread nD τ) (ms0_3 a t) fullShare (iblk a m ρ c (3 : Fin 5) t)
        ∗ owns (c : Thread nD τ) (ms0_4 a t) fullShare prev
        ∗ (iprop(Phi a c ∗ owns (c : Thread nD τ) (ms0_0 a t) fullShare (iblk a m ρ c (0 : Fin 5) t)
            ∗ owns (c : Thread nD τ) (ms0_1 a t) fullShare (iblk a m ρ c (1 : Fin 5) t)
            ∗ owns (c : Thread nD τ) (ms0_2 a t) fullShare (iblk a m ρ c (2 : Fin 5) t)
            ∗ owns (c : Thread nD τ) (ms0_3 a t) fullShare (iblk a m ρ c (3 : Fin 5) t)
            ∗ owns (c : Thread nD τ) (ms0_4 a t) fullShare (step0 a m ρ c t prev)) -∗ K ⟨⟩))
      ⊢ wp frame (wpE (defs₀ (F := Ideal)) Variants.none c none) Set.univ (bodyAt0 a t) K := by
  unfold Phi
  iintro ⟨⟨Hr, HT0, HT1, HT2⟩, H0, H1, H2, H3, H4, Hk⟩
  iapply (body_run c (crd a t) (ms0_0 a t) (hs0_0 a t) (ms0_1 a t) (hs0_1 a t) (ms0_2 a t) (hs0_2 a t) (ms0_3 a t) (hs0_3 a t) (ms0_4 a t) (hs0_4 a t) (T0 a) (T1 a) (T2 a) (iblk a m ρ c (0 : Fin 5) t) (iblk a m ρ c (1 : Fin 5) t) (iblk a m ρ c (2 : Fin 5) t) (iblk a m ρ c (3 : Fin 5) t) prev K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [H4]; · iapply rep_of_owns; iexact H4
  iintro ⟨H0, H1, H2, H3, HT0, HT1, HT2, H4⟩
  iapply Hk
  isplitl [Hr HT0 HT1 HT2]
  · isplitl [Hr]; · iexact Hr
    isplitl [HT0]; · iexact HT0
    isplitl [HT1]; · iexact HT1
    iexact HT2
  isplitl [H0]; · iapply owns_of_rep; iexact H0
  isplitl [H1]; · iapply owns_of_rep; iexact H1
  isplitl [H2]; · iapply owns_of_rep; iexact H2
  isplitl [H3]; · iapply owns_of_rep; iexact H3
  iexact H4

set_option maxHeartbeats 4000000 in
/-- The body's obligation at point `t`. -/
theorem sound_body (c : Dev nD) (t : Fin (cfgA a).N) :
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := Ideal)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  by_cases h0 : t.val % 28 = 0
  · have hc : k0_cond1 (crd a t) = 1#1 := (cond1_iff _).2 ((crd_1 t).trans h0)
    have i4 : (cfgA a).idle (4 : Fin 5) ((cfgA a).grid.coords t) = false := by
      rw [← Bool.not_eq_true]
      exact fun hi => ((idle_iff a _).1 hi).1 hc
    have e4 : ∀ d, step0 a m ρ c t d = traj0 a m ρ c t.val t.isLt := fun d => by
      rw [traj0_eq]; unfold step0; exact step_first _ hc _ _ _ _ _ _ _
    rewrite [i4]
    simp only [before0_0, before0_1, before0_2, before0_3, before0_4, after0_0, after0_1, after0_2, after0_3, after0_4, h0, if_true]
    iintro ⟨HP, Ho, ⟨%d0, H0⟩, ⟨%d1, H1⟩, ⟨%d2, H2⟩, ⟨%d3, H3⟩, ⟨%d4, H4⟩⟩
    iapply (run_at a m ρ c t d4 _)
    rewrite [e4]
    isplitl [HP]; · iexact HP
    isplitl [H0]; · iexact H0
    isplitl [H1]; · iexact H1
    isplitl [H2]; · iexact H2
    isplitl [H3]; · iexact H3
    isplitl [H4]; · iexact H4
    iintro ⟨HP, H0, H1, H2, H3, H4⟩
    isplitl [HP]; · iexact HP
    isplitl [Ho]; · iexact Ho
    isplitl [H0]; · iexact H0
    isplitl [H1]; · iexact H1
    isplitl [H2]; · iexact H2
    isplitl [H3]; · iexact H3
    iexact H4
  · have e4 : step0 a m ρ c t (prev0 a m ρ c t) = traj0 a m ρ c t.val t.isLt := (traj0_eq a m ρ c t).symm
    cases i4 : (cfgA a).idle (4 : Fin 5) ((cfgA a).grid.coords t)
    · simp only [before0_0, before0_1, before0_2, before0_3, before0_4, after0_0, after0_1, after0_2, after0_3, after0_4, h0, if_false]
      iintro ⟨HP, Ho, ⟨%d0, H0⟩, ⟨%d1, H1⟩, ⟨%d2, H2⟩, ⟨%d3, H3⟩, ⟨%d4, H4⟩⟩
      iapply (run_at a m ρ c t (prev0 a m ρ c t) _)
      rewrite [e4]
      isplitl [HP]; · iexact HP
      isplitl [H0]; · iexact H0
      isplitl [H1]; · iexact H1
      isplitl [H2]; · iexact H2
      isplitl [H3]; · iexact H3
      isplitl [H4]; · iexact H4
      iintro ⟨HP, H0, H1, H2, H3, H4⟩
      isplitl [HP]; · iexact HP
      isplitl [Ho]; · iexact Ho
      isplitl [H0]; · iexact H0
      isplitl [H1]; · iexact H1
      isplitl [H2]; · iexact H2
      isplitl [H3]; · iexact H3
      iexact H4
    · have e5 : step0 a m ρ c t (prev0 a m ρ c t) = prev0 a m ρ c t := by unfold step0; exact step_idle a _ i4 _ _ _ _ _
      cases f4 : ((cfgA a).win (4 : Fin 5)).flush t
      · simp only [before0_0, before0_1, before0_2, before0_3, before0_4, after0_0, after0_1, after0_2, after0_3, after0_4, h0, if_false]
        iintro ⟨HP, Ho, ⟨%d0, H0⟩, ⟨%d1, H1⟩, ⟨%d2, H2⟩, ⟨%d3, H3⟩, ⟨%d4, H4⟩⟩
        iapply (run_at a m ρ c t (prev0 a m ρ c t) _)
        rewrite [e5]
        isplitl [HP]; · iexact HP
        isplitl [H0]; · iexact H0
        isplitl [H1]; · iexact H1
        isplitl [H2]; · iexact H2
        isplitl [H3]; · iexact H3
        isplitl [H4]; · iexact H4
        iintro ⟨HP, H0, H1, H2, H3, H4⟩
        isplitl [HP]; · iexact HP
        isplitl [Ho]; · iexact Ho
        isplitl [H0]; · iexact H0
        isplitl [H1]; · iexact H1
        isplitl [H2]; · iexact H2
        isplitl [H3]; · iexact H3
        iexists d4; iexact H4
      · simp only [before0_0, before0_1, before0_2, before0_3, before0_4, after0_0, after0_1, after0_2, after0_3, after0_4, h0, if_false]
        iintro ⟨HP, Ho, ⟨%d0, H0⟩, ⟨%d1, H1⟩, ⟨%d2, H2⟩, ⟨%d3, H3⟩, ⟨%d4, H4⟩⟩
        iapply (run_at a m ρ c t (prev0 a m ρ c t) _)
        rewrite [e4]
        isplitl [HP]; · iexact HP
        isplitl [H0]; · iexact H0
        isplitl [H1]; · iexact H1
        isplitl [H2]; · iexact H2
        isplitl [H3]; · iexact H3
        isplitl [H4]; · iexact H4
        iintro ⟨HP, H0, H1, H2, H3, H4⟩
        isplitl [HP]; · iexact HP
        isplitl [Ho]; · iexact Ho
        isplitl [H0]; · iexact H0
        isplitl [H1]; · iexact H1
        isplitl [H2]; · iexact H2
        isplitl [H3]; · iexact H3
        iexact H4

theorem body_obligation (c : Dev nD) : BodyObligation (dats a m ρ 0 c) (defs₀ (F := Ideal)) Variants.none () Set.univ := fun t => by
  rw [bigSep_W0]
  exact sound_body a m ρ c t

/-! ## The launch -/

/-- The tables as the launch hands them to the body, one by one. -/
theorem prefHeld_eq (c : Dev nD) (q : Fin 3 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1) ∗ (((c : Thread nD τ).loc main_arg5) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point, from the register and the tables. -/
theorem phi_intro (c : Dev nD) :
    iprop(Pipeline.ΦA (Val := Elt Ideal) (U := UR sig nD τ) spec0 c ∗ Pipeline.ΦT (Val := Elt Ideal) (U := UR sig nD τ) pre0 a.1 c) ⊢ Phi a c := by
  unfold Pipeline.ΦA Pipeline.ΦT
  rw [prefHeld_eq, scopedRest0_eq]
  unfold Phi
  iintro ⟨⟨-, Hr⟩, ⟨HT0, HT1, HT2⟩⟩
  isplitl [Hr]; · iexact Hr
  isplitl [HT0]; · iexact HT0
  isplitl [HT1]; · iexact HT1
  iexact HT2

/-- The invariant at the last point gives the register back. -/
theorem phi_exit (c : Dev nD) : Phi a c ⊢ Pipeline.ΦA (Val := Elt Ideal) (U := UR sig nD τ) spec0 c := by
  unfold Pipeline.ΦA
  rw [scopedRest0_eq]
  unfold Phi
  iintro ⟨Hr, -, -, -⟩
  isplitr; · iempintro
  iexact Hr

/-- What the program ends with: every array at what the pipeline computes, every other buffer as it was. -/
def QC : PUnit × MemSt nD τ sig (Elt Ideal) → Prop := fun r =>
  ∀ c : Dev nD, (∀ w : Fin (cfgA a).W, r.2.mem (((cfgA a).win w).arr.view.loc (c : Thread nD τ)) = (dats a m ρ 0 c).arrAt w (cfgA a).N)
    ∧ (r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))

set_option backward.isDefEq.respectTransparency.types false in
set_option maxHeartbeats 4000000 in
/-- From any memory whose tables are `a`, the program ends with the arrays at what the pipeline computes and all
    semaphores at zero. -/
theorem run_main (hp : ∀ (c : Dev nD) (k : Fin 3), m ((c : Thread nD τ).loc (pre0.ref k)) = a.1 k) :
    θ_run (defs (F := Ideal)) (onTc (τ := τ) (main (F := Ideal))) (s₀ m ρ) (fun r => QC a m ρ r ∧ r.2.sem = fun _ => 0) :=
  Pipeline.θ_run_frameP_track_shared pcfgs (fun _ => a) (dats a m ρ) (0 : Fin 1) launch₀0 defs₀ Variants.none m ρ main
    (hbody := fun c => (body_obligation a m ρ c).loose) (hq := fun c w _ => rfl) (howed := fun _ _ => rfl)
    (V := fun c b => m ((c : Thread nD τ).loc b))
    (hmain := fun c Q => by
      delta main; simp only [Prog.bind_lift, Prog.pure_eq_ret]
      iintro ⟨Hk, Hb⟩; iapply Hk; iexact Hb)
    (hA := fun _ _ => rfl) (hpf := hp) (hin := fun c => phi_intro a c) (hout := fun c => phi_exit a c)
    (Q' := fun r => QC a m ρ r ∧ r.2.sem = fun _ => 0)
    (hQ' := fun r h => ⟨fun c => ⟨(h.1 c).1, (h.1 c).2 main_arg3 (show main_arg3 ∈ Pipeline.restRefs sig spec0 from by decide), (h.1 c).2 main_arg4 (show main_arg4 ∈ Pipeline.restRefs sig spec0 from by decide), (h.1 c).2 main_arg5 (show main_arg5 ∈ Pipeline.restRefs sig spec0 from by decide)⟩, h.2⟩)

/-- The frame: every argument ends unchanged and every semaphore at zero. -/
theorem frame_of (hp : ∀ (c : Dev nD) (k : Fin 3), m ((c : Thread nD τ).loc (pre0.ref k)) = a.1 k) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 (0 : Fin 5)).trans ((dats a m ρ 0 c).arrAt_in (0 : Fin 5) rfl _), ((h.1 c).1 (1 : Fin 5)).trans ((dats a m ρ 0 c).arrAt_in (1 : Fin 5) rfl _), ((h.1 c).1 (3 : Fin 5)).trans ((dats a m ρ 0 c).arrAt_in (3 : Fin 5) rfl _), (h.1 c).2.1, (h.1 c).2.2.1, (h.1 c).2.2.2⟩, h.2⟩) (run_main a m ρ hp)

end Cert.MoeIdeal.Hand

end
-- ==== Proof.MoePre.lean ====
/-
  The precondition of the expert call, decoded: a tile's expert and its source tile are in range, and no tile uses
  more rows than it has.
-/
module

public import proofs.«01_k».proof.Proof.Gen.Pre_tables_in_range
public import Idealize.ShloMosaic.PureOps.Ideal
public import Idealize.ShloMosaic.Lib.ValueIdxCore

@[expose] public section

set_option maxRecDepth 16384

noncomputable section

namespace Cert.MoePre

open Idealize.ShloMosaic Cert.Pre_tables_in_range

/-- The three tables in range. -/
structure InRange (te ts tr : S24.Idx → BitVec 32) : Prop where
  expert : ∀ x, (te x).toNat < 8
  source : ∀ x, (ts x).toNat < 24
  rows : ∀ x, (tr x).toInt ≤ 1024

/-- A signed word between zero and a small bound is below it as a natural number. -/
theorem toNat_lt_of (w : BitVec 32) (n : ℕ) (hn : n < 2 ^ 31) (h0 : 0 ≤ w.toInt) (h1 : w.toInt < n) : w.toNat < n := by
  have h := BitVec.toInt_eq_toNat_cond w
  have hw := w.isLt
  split at h <;> omega

/-- The precondition's three arrays of bits, all set, put the tables in range. -/
theorem inRange_of {F : FTy → Type} [FloatOps F] (a0 : FVec F S24576x2048 .bf16) (a1 : FVec F S1x8x2048x14336 .f32)
    (a2 : FVec F S1x8x7168x2048 .f32) (te ts tr : IVec S24 32)
    (h0 : (fn (F := F) a0 a1 a2 te ts tr).1 = fun _ => 1#1) (h1 : (fn (F := F) a0 a1 a2 te ts tr).2.1 = fun _ => 1#1)
    (h2 : (fn (F := F) a0 a1 a2 te ts tr).2.2 = fun _ => 1#1) : InRange te ts tr := by
  have key : ∀ (w lo hi : BitVec 32), IntOp.andi (IntOp.cmpi .sge w lo) (IntOp.cmpi .slt w hi) = 1#1 →
      lo.toInt ≤ w.toInt ∧ w.toInt < hi.toInt := by
    intro w lo hi h
    have hb : ∀ a b : BitVec 1, IntOp.andi a b = 1#1 → a = 1#1 ∧ b = 1#1 := by unfold IntOp.andi; decide
    obtain ⟨ha, hb⟩ := hb _ _ h
    have hc : ∀ b : Bool, BitVec.ofBool b = 1#1 → b = true := by decide
    have ha' := hc _ ha
    have hb' := hc _ hb
    rw [BitVec.sle_iff_toInt_le] at ha'
    rw [BitVec.slt_iff_toInt_lt] at hb'
    exact ⟨ha', hb'⟩
  refine ⟨fun x => ?_, fun x => ?_, fun x => ?_⟩
  · obtain ⟨ha, hb⟩ := key (te x) 0#32 8#32 (congrFun h0 x)
    exact toNat_lt_of _ 8 (by decide) ha hb
  · obtain ⟨ha, hb⟩ := key (ts x) 0#32 24#32 (congrFun h1 x)
    exact toNat_lt_of _ 24 (by decide) ha hb
  · have h : IntOp.cmpi .sle (tr x) 1024#32 = 1#1 := congrFun h2 x
    have hc : ∀ b : Bool, BitVec.ofBool b = 1#1 → b = true := by decide
    have h' := hc _ h
    rw [BitVec.sle_iff_toInt_le] at h'
    exact h'

end Cert.MoePre

end
-- ==== Proof.MoeTab.lean ====
/-
  The expert kernel's index maps at tables in range: every block lies inside its array, so the pipeline admits the
  tables; and from there the frame of the program.
-/
module

public import proofs.«01_k».proof.Proof.MoeRun
public import proofs.«01_k».proof.Proof.MoePre

@[expose] public section

set_option synthInstance.maxSize 4096
set_option maxRecDepth 16384

noncomputable section

namespace Cert.MoeIdeal.Hand

open Cert.MoeIdeal Cert.MoeIdeal.Gen
open Idealize.ShloMosaic Idealize.ShloMosaic.TcCoe
open Idealize.SL.Sem
open Cert.MoePre

/-- A tile's entry in a table. -/
def tile (n : ℕ) (h : n < 24) : S24.Idx := fun x => ⟨n, by match x with | ⟨0, _⟩ => exact h⟩

theorem crd0_lt (i : grid0.Coords) : (i 0).val < 24 := (i 0).isLt
theorem crd1_lt (i : grid0.Coords) : (i 1).val < 28 := (i 1).isLt

/-- The table entry the index maps read at a point is the point's tile's. -/
theorem at_0 (pf : pre0.Contents (Elt Ideal)) (i : grid0.Coords) :
    pf.at 0 (Rect.unit (s := S24) ![(Scalar.indexCast (BitVec.ofNat 32 (i 0).val)).toNat] S1.size (k0_off1_inb i)) numel1_S1 = pf 0 (tile (i 0).val (crd0_lt i)) := by
  refine congrArg (pf 0) (funext fun x => Fin.ext ?_)
  match x with
  | ⟨0, _⟩ => exact (Nat.add_zero _).trans (congrFun (k0_off1_eq i) 0)
theorem at_1 (pf : pre0.Contents (Elt Ideal)) (i : grid0.Coords) :
    pf.at 1 (Rect.unit (s := S24) ![(Scalar.indexCast (BitVec.ofNat 32 (i 0).val)).toNat] S1.size (k0_off1_inb i)) numel1_S1 = pf 1 (tile (i 0).val (crd0_lt i)) := by
  refine congrArg (pf 1) (funext fun x => Fin.ext ?_)
  match x with
  | ⟨0, _⟩ => exact (Nat.add_zero _).trans (congrFun (k0_off1_eq i) 0)
theorem at_2 (pf : pre0.Contents (Elt Ideal)) (i : grid0.Coords) :
    pf.at 2 (Rect.unit (s := S24) ![(Scalar.indexCast (BitVec.ofNat 32 (i 0).val)).toNat] S1.size (k0_off1_inb i)) numel1_S1 = pf 2 (tile (i 0).val (crd0_lt i)) := by
  refine congrArg (pf 2) (funext fun x => Fin.ext ?_)
  match x with
  | ⟨0, _⟩ => exact (Nat.add_zero _).trans (congrFun (k0_off1_eq i) 0)

/-- The word the body reads is the same entry. -/
theorem wordOf_eq (i : grid0.Coords) (T : S24.Idx → BitVec 32) : wordOf i T = T (tile (i 0).val (crd0_lt i)) := by
  have h : ∀ x, k0_off1 i x + 1 ≤ S24.size x := fun x => by
    have h1 := k0_off1_inb i x
    match x, h1 with
    | ⟨0, _⟩, h1 => exact h1
  refine (show wordOf i T = T (fun x => ⟨k0_off1 i x, h x⟩) from rfl).trans ?_
  refine congrArg T (funext fun x => Fin.ext ?_)
  match x with
  | ⟨0, _⟩ => exact congrFun (k0_off1_eq i) 0

/-- The column block a point's weights are taken from: its own where the tile has rows in use, the last otherwise. -/
def colOf (w : BitVec 32) (j : ℕ) : ℕ := if 0 < w.toInt then j else 27

theorem colOf_lt (w : BitVec 32) (j : ℕ) (hj : j < 28) : colOf w j < 28 := by unfold colOf; split <;> omega

theorem select_col (w : BitVec 32) (j : ℕ) (hj : j < 28) :
    Scalar.select (Scalar.cmpi .sgt w 0#32) (BitVec.ofNat 32 j) 27#32 = BitVec.ofNat 32 (colOf w j) := by
  have e : (Scalar.cmpi .sgt w 0#32 = 1) ↔ 0 < w.toInt := by
    have hc : ∀ b : Bool, BitVec.ofBool b = 1 ↔ b = true := by decide
    refine (hc _).trans ?_
    show (0#32).slt w = true ↔ _
    rw [BitVec.slt_iff_toInt_lt]; rfl
  unfold Scalar.select colOf
  by_cases h : 0 < w.toInt
  · rw [if_pos (e.2 h), if_pos h]
  · rw [if_neg (fun h' => h (e.1 h')), if_neg h]

theorem col_toNat {w w' : BitVec 32} (h : w = w') (j : ℕ) (hj : j < 28) :
    (Scalar.select (Scalar.cmpi .sgt w 0#32) (BitVec.ofNat 32 j) 27#32).toNat = colOf w' j := by
  subst h
  have hl := colOf_lt w j hj
  rw [select_col w j hj, BitVec.toNat_ofNat, Nat.mod_eq_of_lt (by omega)]

theorem col_toNat' {w w' : BitVec 32} (h : w = w') (j : ℕ) (hj : j < 28) :
    (28#32 + Scalar.select (Scalar.cmpi .sgt w 0#32) (BitVec.ofNat 32 j) 27#32).toNat = 28 + colOf w' j := by
  subst h
  have hl := colOf_lt w j hj
  rw [select_col w j hj, BitVec.toNat_add, BitVec.toNat_ofNat, BitVec.toNat_ofNat]
  omega

variable (pf : pre0.Contents (Elt Ideal))

/-- The blocks the index maps name, in closed form. -/
theorem map_0 (i : grid0.Coords) : cc0_transform_0 k0_off1_inb numel1_S1 pf i
    = ![BitVec.toNat (w := 32) (pf 1 (tile (i 0).val (crd0_lt i))), 0] := by
  exact congrArg (fun x : ℕ => (![x, 0] : Fin 2 → ℕ)) (congrArg (BitVec.toNat (w := 32)) (at_1 pf i))
theorem map_1 (i : grid0.Coords) : cc0_transform_1 k0_off1_inb numel1_S1 pf i
    = ![0, BitVec.toNat (w := 32) (pf 0 (tile (i 0).val (crd0_lt i))), 0, colOf (pf 2 (tile (i 0).val (crd0_lt i))) (i 1).val] := by
  exact congrArg₂ (fun x y : ℕ => (![0, x, 0, y] : Fin 4 → ℕ)) (congrArg (BitVec.toNat (w := 32)) (at_0 pf i)) (col_toNat (at_2 pf i) (i 1).val (crd1_lt i))
theorem map_2 (i : grid0.Coords) : cc0_transform_2 k0_off1_inb numel1_S1 pf i
    = ![0, BitVec.toNat (w := 32) (pf 0 (tile (i 0).val (crd0_lt i))), 0, 28 + colOf (pf 2 (tile (i 0).val (crd0_lt i))) (i 1).val] := by
  exact congrArg₂ (fun x y : ℕ => (![0, x, 0, y] : Fin 4 → ℕ)) (congrArg (BitVec.toNat (w := 32)) (at_0 pf i)) (col_toNat' (at_2 pf i) (i 1).val (crd1_lt i))
theorem map_3 (i : grid0.Coords) : cc0_transform_3 k0_off1_inb numel1_S1 pf i
    = ![0, BitVec.toNat (w := 32) (pf 0 (tile (i 0).val (crd0_lt i))), colOf (pf 2 (tile (i 0).val (crd0_lt i))) (i 1).val, 0] := by
  exact congrArg₂ (fun x y : ℕ => (![0, x, y, 0] : Fin 4 → ℕ)) (congrArg (BitVec.toNat (w := 32)) (at_0 pf i)) (col_toNat (at_2 pf i) (i 1).val (crd1_lt i))
/-- At tables in range every block lies inside its array. -/
theorem ok_of (h : InRange (pf 0) (pf 1) (pf 2)) : ok0 (F := Ideal) pf := by
  refine ⟨fun i => ⟨fun x => ?_, .inr (Affine.block_words_dvd (s := S24576x2048) (p := EltTy.packing .bf16) (by decide) (by decide))⟩,
    fun i => ⟨fun x => ?_, .inl rfl⟩, fun i => ⟨fun x => ?_, .inl rfl⟩, fun i => ⟨fun x => ?_, .inl rfl⟩⟩
  · rw [map_0]
    have hs := h.source (tile (i 0).val (crd0_lt i))
    match x with
    | ⟨0, _⟩ => exact Nat.le_trans (Nat.mul_le_mul_right 1024 (Nat.succ_le_of_lt hs)) (show 24 * 1024 ≤ 24576 from by decide)
    | ⟨1, _⟩ => exact (show (0 + 1) * 2048 ≤ 2048 from by decide)
  · rw [map_1]
    have he := h.expert (tile (i 0).val (crd0_lt i))
    have hl := colOf_lt (pf 2 (tile (i 0).val (crd0_lt i))) (i 1).val (crd1_lt i)
    match x with
    | ⟨0, _⟩ => exact (show (0 + 1) * 1 ≤ 1 from by decide)
    | ⟨1, _⟩ => exact Nat.le_trans (Nat.mul_le_mul_right 1 (Nat.succ_le_of_lt he)) (show 8 * 1 ≤ 8 from by decide)
    | ⟨2, _⟩ => exact (show (0 + 1) * 2048 ≤ 2048 from by decide)
    | ⟨3, _⟩ => exact Nat.le_trans (Nat.mul_le_mul_right 256 (Nat.succ_le_of_lt hl)) (show 28 * 256 ≤ 14336 from by decide)
  · rw [map_2]
    have he := h.expert (tile (i 0).val (crd0_lt i))
    have hl := colOf_lt (pf 2 (tile (i 0).val (crd0_lt i))) (i 1).val (crd1_lt i)
    match x with
    | ⟨0, _⟩ => exact (show (0 + 1) * 1 ≤ 1 from by decide)
    | ⟨1, _⟩ => exact Nat.le_trans (Nat.mul_le_mul_right 1 (Nat.succ_le_of_lt he)) (show 8 * 1 ≤ 8 from by decide)
    | ⟨2, _⟩ => exact (show (0 + 1) * 2048 ≤ 2048 from by decide)
    | ⟨3, _⟩ => exact Nat.le_trans (Nat.mul_le_mul_right 256 (show 28 + colOf (pf 2 (tile (i 0).val (crd0_lt i))) (i 1).val + 1 ≤ 56 by omega)) (show 56 * 256 ≤ 14336 from by decide)
  · rw [map_3]
    have he := h.expert (tile (i 0).val (crd0_lt i))
    have hl := colOf_lt (pf 2 (tile (i 0).val (crd0_lt i))) (i 1).val (crd1_lt i)
    match x with
    | ⟨0, _⟩ => exact (show (0 + 1) * 1 ≤ 1 from by decide)
    | ⟨1, _⟩ => exact Nat.le_trans (Nat.mul_le_mul_right 1 (Nat.succ_le_of_lt he)) (show 8 * 1 ≤ 8 from by decide)
    | ⟨2, _⟩ => exact Nat.le_trans (Nat.mul_le_mul_right 256 (Nat.succ_le_of_lt hl)) (show 28 * 256 ≤ 7168 from by decide)
    | ⟨3, _⟩ => exact (show (0 + 1) * 2048 ≤ 2048 from by decide)

/-- The tables a memory holds on core `c`. -/
def pfOf (m : (ℓ : Loc nD τ sig) → Buf (Elt Ideal) ℓ) : pre0.Contents (Elt Ideal) := fun k => m (((0 : Dev nD) : Thread nD τ).loc (pre0.ref k))

theorem pfOf_eq (m : (ℓ : Loc nD τ sig) → Buf (Elt Ideal) ℓ) (c : Dev nD) (k : Fin 3) : m ((c : Thread nD τ).loc (pre0.ref k)) = pfOf m k := by
  have hc : c = 0 := Subsingleton.elim _ _
  subst hc; rfl

/-- The frame from any memory with tables in range. -/
theorem frame (m : (ℓ : Loc nD τ sig) → Buf (Elt Ideal) ℓ) (ρ : Dev nD → PrngReg)
    (h : InRange (m (((0 : Dev nD) : Thread nD τ).loc main_arg3)) (m (((0 : Dev nD) : Thread nD τ).loc main_arg4)) (m (((0 : Dev nD) : Thread nD τ).loc main_arg5))) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  frame_of ⟨pfOf m, ok_of (pfOf m) h⟩ m ρ (pfOf_eq m)

end Cert.MoeIdeal.Hand

end
-- ==== Proof.MoePay.lean ====
/-
  The mathematics of one expert on one row, and what the kernel's four updates are in terms of it: an update adds to a
  row of the block the part of the row's result that comes from the point's 256 hidden columns.
-/
module

public import proofs.«01_k».proof.Proof.Gen.MoeIdeal.Skeleton
public import Idealize.ShloMosaic.Lib.Pointwise
public import Idealize.ShloMosaic.Lib.Tactic

@[expose] public section

set_option maxRecDepth 16384

noncomputable section

namespace Cert.MoeMath

open Idealize.ShloMosaic

/-- A number times its logistic. -/
def silu (x : EReal) : EReal := x * Ideal.div 1 (1 + Ideal.exp (-x))

/-- One hidden column of a row: the gate's product through `silu`, times the other product. -/
def hid (x g u : Fin 2048 → EReal) : EReal := silu (∑ k : Fin 2048, x k * g k) * ∑ k : Fin 2048, x k * u k

end Cert.MoeMath

namespace Cert.MoeIdeal.Hand

open Cert.MoeIdeal Cert.MoeIdeal.Gen Idealize.ShloMosaic
open Idealize.ShloMosaic.Pointwise
open Cert.MoeMath

/-- The cleared block holds zero. -/
theorem pay1_apply (r : Fin 1024) (l : Fin 2048) : k0_pay1 (F := Ideal) (ix2 r l) = (0 : EReal) := by
  pointwise [k0_pay1]

/-- The update of 128 rows at an index. -/
theorem pay2_apply (x0 : Vec Ideal S128x2048 .bf16) (x1 x2 : Vec Ideal S1x1x2048x256 .f32) (b : Vec Ideal S128x2048 .f32)
    (x3 : Vec Ideal S1x1x256x2048 .f32) (r : Fin 128) (l : Fin 2048) :
    k0_pay2 (F := Ideal) x0 x1 x2 b x3 (ix2 r l)
      = b (ix2 r l) + ∑ f : Fin 256, hid (fun k => x0 (ix2 r k)) (fun k => x1 (ix4 0 0 k f)) (fun k => x2 (ix4 0 0 k f)) * x3 (ix4 0 0 f l) := by
  pointwise [k0_pay2]
  simp only [hid, silu, zero_sub]

/-- The update of 256 rows at an index. -/
theorem pay3_apply (x0 : Vec Ideal S256x2048 .bf16) (x1 x2 : Vec Ideal S1x1x2048x256 .f32) (b : Vec Ideal S256x2048 .f32)
    (x3 : Vec Ideal S1x1x256x2048 .f32) (r : Fin 256) (l : Fin 2048) :
    k0_pay3 (F := Ideal) x0 x1 x2 b x3 (ix2 r l)
      = b (ix2 r l) + ∑ f : Fin 256, hid (fun k => x0 (ix2 r k)) (fun k => x1 (ix4 0 0 k f)) (fun k => x2 (ix4 0 0 k f)) * x3 (ix4 0 0 f l) := by
  pointwise [k0_pay3]
  simp only [hid, silu, zero_sub]

/-- The update of 512 rows at an index. -/
theorem pay4_apply (x0 : Vec Ideal S512x2048 .bf16) (x1 x2 : Vec Ideal S1x1x2048x256 .f32) (b : Vec Ideal S512x2048 .f32)
    (x3 : Vec Ideal S1x1x256x2048 .f32) (r : Fin 512) (l : Fin 2048) :
    k0_pay4 (F := Ideal) x0 x1 x2 b x3 (ix2 r l)
      = b (ix2 r l) + ∑ f : Fin 256, hid (fun k => x0 (ix2 r k)) (fun k => x1 (ix4 0 0 k f)) (fun k => x2 (ix4 0 0 k f)) * x3 (ix4 0 0 f l) := by
  pointwise [k0_pay4]
  simp only [hid, silu, zero_sub]

/-- The update of 1024 rows at an index. -/
theorem pay5_apply (x0 : Vec Ideal S1024x2048 .bf16) (x1 x2 : Vec Ideal S1x1x2048x256 .f32) (b : Vec Ideal S1024x2048 .f32)
    (x3 : Vec Ideal S1x1x256x2048 .f32) (r : Fin 1024) (l : Fin 2048) :
    k0_pay5 (F := Ideal) x0 x1 x2 b x3 (ix2 r l)
      = b (ix2 r l) + ∑ f : Fin 256, hid (fun k => x0 (ix2 r k)) (fun k => x1 (ix4 0 0 k f)) (fun k => x2 (ix4 0 0 k f)) * x3 (ix4 0 0 f l) := by
  pointwise [k0_pay5]
  simp only [hid, silu, zero_sub]

end Cert.MoeIdeal.Hand

end
-- ==== Proof.MoeVal.lean ====
/-
  What the expert kernel leaves in its result, in closed form: on the rows in use of a tile, the tile's expert applied
  to the tile's source rows.
-/
module

public import proofs.«01_k».proof.Proof.MoeTab
public import proofs.«01_k».proof.Proof.MoePay
public import Idealize.ShloMosaic.Lib.Pipeline.Value

@[expose] public section

set_option synthInstance.maxSize 4096
set_option maxRecDepth 16384

noncomputable section

namespace Cert.MoeMath

/-- The part of a row's result that comes from hidden column `n`: the row `R` of the activations `X`, through column
    `n` of expert `e`'s two first matrices `G` and row `n` of its second `D`, at column `l`. -/
def part (X : Fin 24576 → Fin 2048 → EReal) (G : Fin 8 → Fin 2048 → Fin 14336 → EReal) (D : Fin 8 → Fin 7168 → Fin 2048 → EReal)
    (e : Fin 8) (R : Fin 24576) (l : Fin 2048) (n : ℕ) : EReal :=
  if h : n < 7168 then hid (X R) (fun k => G e k ⟨n, by omega⟩) (fun k => G e k ⟨7168 + n, by omega⟩) * D e ⟨n, h⟩ l else 0

/-- The expert's result on a row. -/
def expert (X : Fin 24576 → Fin 2048 → EReal) (G : Fin 8 → Fin 2048 → Fin 14336 → EReal) (D : Fin 8 → Fin 7168 → Fin 2048 → EReal)
    (e : Fin 8) (R : Fin 24576) (l : Fin 2048) : EReal := ∑ n ∈ Finset.range 7168, part X G D e R l n

theorem expert_eq (X : Fin 24576 → Fin 2048 → EReal) (G : Fin 8 → Fin 2048 → Fin 14336 → EReal) (D : Fin 8 → Fin 7168 → Fin 2048 → EReal)
    (e : Fin 8) (R : Fin 24576) (l : Fin 2048) : expert X G D e R l
      = ∑ f : Fin 7168, hid (X R) (fun k => G e k ⟨f.val, by omega⟩) (fun k => G e k ⟨7168 + f.val, by omega⟩) * D e f l := by
  unfold expert
  rw [Finset.sum_range]
  refine Finset.sum_congr rfl fun f _ => ?_
  unfold part
  rw [dif_pos f.isLt]

/-- One more column block's parts. -/
theorem parts_succ (p : ℕ → EReal) (j : ℕ) :
    ∑ n ∈ Finset.range (256 * (j + 1)), p n = ∑ n ∈ Finset.range (256 * j), p n + ∑ f : Fin 256, p (256 * j + f.val) := by
  rw [Nat.mul_succ, Finset.sum_range_add, Finset.sum_range (fun x => p (256 * j + x))]

end Cert.MoeMath

namespace Cert.MoeIdeal.Hand

open Cert.MoeIdeal Cert.MoeIdeal.Gen
open Idealize.ShloMosaic Idealize.ShloMosaic.TcCoe
open Idealize.SL.Sem
open Cert.MoePre Cert.MoeMath

/-! ## One point, on a row in use -/

/-- A window put at the block's corner, read at a row inside it. -/
theorem put_row (n : ℕ) (b : S1024x2048.Idx → EReal) (w : (⟨2, ![n, 2048]⟩ : Shape).Idx → EReal) (r : Fin 1024) (l : Fin 2048) (h : r.val < n) :
    VecWindow.put b ![0, 0] (⟨2, ![n, 2048]⟩ : Shape).size w (ix2 r l) = w (ix2 ⟨r.val, h⟩ l) := by
  have hl := l.isLt
  unfold VecWindow.put
  rw [dif_pos (fun x => by
    match x with
    | ⟨0, _⟩ => exact ⟨Nat.zero_le _, by show r.val < 0 + n; omega⟩
    | ⟨1, _⟩ => exact ⟨Nat.zero_le _, by show l.val < 0 + 2048; omega⟩)]
  refine congrArg w (funext fun x => Fin.ext ?_)
  match x with
  | ⟨0, _⟩ => rfl
  | ⟨1, _⟩ => rfl

/-- A window read at the block's corner. -/
theorem window_row {α : Type} (n : ℕ) (b : S1024x2048.Idx → α) (inb : ∀ x, (![0, 0] : Fin 2 → ℕ) x + (⟨2, ![n, 2048]⟩ : Shape).size x ≤ S1024x2048.size x)
    (r : Fin 1024) (l : Fin 2048) (h : r.val < n) :
    VecWindow.window b ![0, 0] (⟨2, ![n, 2048]⟩ : Shape).size inb (ix2 ⟨r.val, h⟩ l) = b (ix2 r l) := by
  unfold VecWindow.window
  refine congrArg b (funext fun x => Fin.ext ?_)
  match x with
  | ⟨0, _⟩ => show 0 + 1 * r.val = r.val; omega
  | ⟨1, _⟩ => show 0 + 1 * l.val = l.val; omega

variable (x0 : S1024x2048.Idx → Elt Ideal .bf16) (x1 x2 : S1x1x2048x256.Idx → Elt Ideal .f32) (x3 : S1x1x256x2048.Idx → Elt Ideal .f32)

/-- What one point adds to a row. -/
def added (r : Fin 1024) (l : Fin 2048) : EReal :=
  ∑ f : Fin 256, hid (fun k => x0 (ix2 r k)) (fun k => x1 (ix4 0 0 k f)) (fun k => x2 (ix4 0 0 k f)) * x3 (ix4 0 0 f l)

theorem upd2_row (b : S1024x2048.Idx → Elt Ideal .f32) (r : Fin 1024) (l : Fin 2048) (h : r.val < 128) :
    upd2 x0 x1 x2 x3 b (ix2 r l) = b (ix2 r l) + added x0 x1 x2 x3 r l := by
  unfold upd2 added
  refine (put_row 128 b _ r l h).trans ?_
  refine (pay2_apply _ x1 x2 _ x3 ⟨r.val, h⟩ l).trans ?_
  refine congrArg₂ (fun p q : EReal => p + q) (window_row 128 b _ r l h) (Finset.sum_congr rfl fun f _ => ?_)
  refine congrArg (fun p : Fin 2048 → EReal => hid p _ _ * _) (funext fun k => window_row 128 x0 _ r k h)

theorem upd3_row (b : S1024x2048.Idx → Elt Ideal .f32) (r : Fin 1024) (l : Fin 2048) (h : r.val < 256) :
    upd3 x0 x1 x2 x3 b (ix2 r l) = b (ix2 r l) + added x0 x1 x2 x3 r l := by
  unfold upd3 added
  refine (put_row 256 b _ r l h).trans ?_
  refine (pay3_apply _ x1 x2 _ x3 ⟨r.val, h⟩ l).trans ?_
  refine congrArg₂ (fun p q : EReal => p + q) (window_row 256 b _ r l h) (Finset.sum_congr rfl fun f _ => ?_)
  refine congrArg (fun p : Fin 2048 → EReal => hid p _ _ * _) (funext fun k => window_row 256 x0 _ r k h)

theorem upd4_row (b : S1024x2048.Idx → Elt Ideal .f32) (r : Fin 1024) (l : Fin 2048) (h : r.val < 512) :
    upd4 x0 x1 x2 x3 b (ix2 r l) = b (ix2 r l) + added x0 x1 x2 x3 r l := by
  unfold upd4 added
  refine (put_row 512 b _ r l h).trans ?_
  refine (pay4_apply _ x1 x2 _ x3 ⟨r.val, h⟩ l).trans ?_
  refine congrArg₂ (fun p q : EReal => p + q) (window_row 512 b _ r l h) (Finset.sum_congr rfl fun f _ => ?_)
  refine congrArg (fun p : Fin 2048 → EReal => hid p _ _ * _) (funext fun k => window_row 512 x0 _ r k h)

theorem upd5_row (b : S1024x2048.Idx → Elt Ideal .f32) (r : Fin 1024) (l : Fin 2048) :
    upd5 x0 x1 x2 x3 b (ix2 r l) = b (ix2 r l) + added x0 x1 x2 x3 r l := pay5_apply x0 x1 x2 b x3 r l

/-- One point on a row in use: the row starts from zero at the tile's first column block, and takes the point's part. -/
theorem step_row (i : grid0.Coords) (w : BitVec 32) (prev : S1024x2048.Idx → Elt Ideal .f32) (r : Fin 1024) (l : Fin 2048)
    (hr : (r.val : ℤ) < w.toInt) (hw : w.toInt ≤ 1024) :
    step i w x0 x1 x2 x3 prev (ix2 r l) = (if (i 1).val = 0 then (0 : EReal) else prev (ix2 r l)) + added x0 x1 x2 x3 r l := by
  have hb : base i prev (ix2 r l) = (if (i 1).val = 0 then (0 : EReal) else prev (ix2 r l)) := by
    unfold base
    by_cases h : (i 1).val = 0
    · rw [if_pos ((cond1_iff i).2 h), if_pos h]; exact pay1_apply r l
    · rw [if_neg (fun h' => h ((cond1_iff i).1 h')), if_neg h]
  rw [← hb]
  unfold step
  by_cases h2 : k0_cond2 w = 1#1
  · rw [if_pos h2]; exact upd2_row x0 x1 x2 x3 _ r l (by have := (cond2_iff w).1 h2; omega)
  rw [if_neg h2]
  by_cases h3 : k0_cond3 w = 1#1
  · rw [if_pos h3]; exact upd3_row x0 x1 x2 x3 _ r l (by have := (cond3_iff w).1 h3; omega)
  rw [if_neg h3]
  by_cases h4 : k0_cond4 w = 1#1
  · rw [if_pos h4]; exact upd4_row x0 x1 x2 x3 _ r l (by have := (cond4_iff w).1 h4; omega)
  rw [if_neg h4]
  by_cases h5 : k0_cond5 w = 1#1
  · rw [if_pos h5]; exact upd5_row x0 x1 x2 x3 _ r l
  exfalso
  rw [cond2_iff] at h2; rw [cond3_iff] at h3; rw [cond4_iff] at h4; rw [cond5_iff] at h5
  omega

end Cert.MoeIdeal.Hand

end
-- ==== Proof.MoeArr.lean ====
/-
  The expert kernel's blocks as parts of its arrays, the rows of a tile accumulated over its column blocks, and the
  result array on the rows in use.
-/
module

public import proofs.«01_k».proof.Proof.MoeVal

@[expose] public section

set_option synthInstance.maxSize 4096
set_option maxRecDepth 16384

noncomputable section

namespace Cert.MoeIdeal.Hand

open Cert.MoeIdeal Cert.MoeIdeal.Gen
open Idealize.ShloMosaic Idealize.ShloMosaic.TcCoe
open Idealize.SL.Sem
open Cert.MoePre Cert.MoeMath

variable (m : (ℓ : Loc nD τ sig) → Buf (Elt Ideal) ℓ) (ρ : Dev nD → PrngReg) (c : Dev nD)

/-- The call's arrays by coordinates: the activations' rows, the experts' first matrices, their second. -/
abbrev X : Fin 24576 → Fin 2048 → EReal := fun R k => m ((c : Thread nD τ).loc main_arg0) (ix2 R k)
abbrev G : Fin 8 → Fin 2048 → Fin 14336 → EReal := fun e k n => m ((c : Thread nD τ).loc main_arg1) (ix4 0 e k n)
abbrev D : Fin 8 → Fin 7168 → Fin 2048 → EReal := fun e n l => m ((c : Thread nD τ).loc main_arg2) (ix4 0 e n l)

variable (a : (pcfg0 (F := Ideal)).Adm) (h : InRange (T0 a) (T1 a) (T2 a))

/-- A tile's expert, its source tile, and how many of its rows are in use. -/
def expOf (b : Fin 24) : Fin 8 := ⟨BitVec.toNat (w := 32) (T0 a (tile b.val b.isLt)), h.expert _⟩
def srcOf (b : Fin 24) : Fin 24 := ⟨BitVec.toNat (w := 32) (T1 a (tile b.val b.isLt)), h.source _⟩
def rowsOf (b : Fin 24) : BitVec 32 := T2 a (tile b.val b.isLt)

theorem ltN (t : Fin (cfgA a).N) : t.val < 672 := lt_of_lt_of_eq t.isLt N_0

/-- Which tile a point belongs to. -/
def tileOf (t : Fin (cfgA a).N) : Fin 24 := ⟨t.val / 28, by have := ltN a t; omega⟩

theorem tile_crd (t : Fin (cfgA a).N) : tile (crd a t 0).val (crd0_lt (crd a t)) = tile (tileOf a t).val (tileOf a t).isLt :=
  funext fun x => Fin.ext (by match x with | ⟨0, _⟩ => exact crd_0 t)

/-- A row of a tile's source rows. -/
def rowOf (b : Fin 24) (r : Fin 1024) : Fin 24576 := ⟨1024 * (srcOf a h b).val + r.val, by have := (srcOf a h b).isLt; omega⟩

theorem col_use (t : Fin (cfgA a).N) (hu : 0 < (rowsOf a (tileOf a t)).toInt) :
    colOf (T2 a (tile (crd a t 0).val (crd0_lt (crd a t)))) (crd a t 1).val = t.val % 28 := by
  rw [tile_crd]
  exact (if_pos hu).trans (crd_1 t)

/-- A point's block of the activations: its tile's source rows. -/
theorem iblk0_apply (t : Fin (cfgA a).N) (r : Fin 1024) (k : Fin 2048) :
    iblk a m ρ c (0 : Fin 5) t (ix2 r k) = X m c (rowOf a h (tileOf a t) r) k := by
  have e : ((cfgA a).win (0 : Fin 5)).index t = ![BitVec.toNat (w := 32) (T1 a (tile (crd a t 0).val (crd0_lt (crd a t)))), 0] := map_0 a.1 (crd a t)
  rw [tile_crd] at e
  unfold iblk
  rw [View.read_apply]
  show m ((c : Thread nD τ).loc main_arg0) _ = m ((c : Thread nD τ).loc main_arg0) _
  congr 1; funext x; apply Fin.ext
  match x with
  | ⟨0, _⟩ =>
    show ((cfgA a).win (0 : Fin 5)).index t (0 : Fin 2) * 1024 + 1 * r.val = 1024 * (srcOf a h (tileOf a t)).val + r.val
    rw [e]
    show (srcOf a h (tileOf a t)).val * 1024 + 1 * r.val = _
    omega
  | ⟨1, _⟩ =>
    show ((cfgA a).win (0 : Fin 5)).index t (1 : Fin 2) * 2048 + 1 * k.val = k.val
    rw [e]
    show 0 * 2048 + 1 * k.val = k.val
    omega

/-- A point's block of the gate columns, in use: its own 256 columns of its tile's expert. -/
theorem iblk1_apply (t : Fin (cfgA a).N) (hu : 0 < (rowsOf a (tileOf a t)).toInt) (k : Fin 2048) (f : Fin 256) :
    iblk a m ρ c (1 : Fin 5) t (ix4 0 0 k f) = G m c (expOf a h (tileOf a t)) k ⟨256 * (t.val % 28) + f.val, by omega⟩ := by
  have e : ((cfgA a).win (1 : Fin 5)).index t = ![0, BitVec.toNat (w := 32) (T0 a (tile (crd a t 0).val (crd0_lt (crd a t)))), 0, colOf (T2 a (tile (crd a t 0).val (crd0_lt (crd a t)))) (crd a t 1).val] := map_1 a.1 (crd a t)
  rw [col_use a t hu, tile_crd] at e
  unfold iblk
  rw [View.read_apply]
  show m ((c : Thread nD τ).loc main_arg1) _ = m ((c : Thread nD τ).loc main_arg1) _
  congr 1; funext x; apply Fin.ext
  match x with
  | ⟨0, _⟩ =>
    show ((cfgA a).win (1 : Fin 5)).index t (0 : Fin 4) * 1 + 1 * 0 = 0
    rw [e]; rfl
  | ⟨1, _⟩ =>
    show ((cfgA a).win (1 : Fin 5)).index t (1 : Fin 4) * 1 + 1 * 0 = (expOf a h (tileOf a t)).val
    rw [e]
    show (expOf a h (tileOf a t)).val * 1 + 1 * 0 = _
    omega
  | ⟨2, _⟩ =>
    show ((cfgA a).win (1 : Fin 5)).index t (2 : Fin 4) * 2048 + 1 * k.val = k.val
    rw [e]
    show 0 * 2048 + 1 * k.val = k.val
    omega
  | ⟨3, _⟩ =>
    show ((cfgA a).win (1 : Fin 5)).index t (3 : Fin 4) * 256 + 1 * f.val = 256 * (t.val % 28) + f.val
    rw [e]
    show t.val % 28 * 256 + 1 * f.val = _
    omega

/-- … and the other product's columns, 7168 further on. -/
theorem iblk2_apply (t : Fin (cfgA a).N) (hu : 0 < (rowsOf a (tileOf a t)).toInt) (k : Fin 2048) (f : Fin 256) :
    iblk a m ρ c (2 : Fin 5) t (ix4 0 0 k f) = G m c (expOf a h (tileOf a t)) k ⟨7168 + (256 * (t.val % 28) + f.val), by omega⟩ := by
  have e : ((cfgA a).win (2 : Fin 5)).index t = ![0, BitVec.toNat (w := 32) (T0 a (tile (crd a t 0).val (crd0_lt (crd a t)))), 0, 28 + colOf (T2 a (tile (crd a t 0).val (crd0_lt (crd a t)))) (crd a t 1).val] := map_2 a.1 (crd a t)
  rw [col_use a t hu, tile_crd] at e
  unfold iblk
  rw [View.read_apply]
  show m ((c : Thread nD τ).loc main_arg1) _ = m ((c : Thread nD τ).loc main_arg1) _
  congr 1; funext x; apply Fin.ext
  match x with
  | ⟨0, _⟩ =>
    show ((cfgA a).win (2 : Fin 5)).index t (0 : Fin 4) * 1 + 1 * 0 = 0
    rw [e]; rfl
  | ⟨1, _⟩ =>
    show ((cfgA a).win (2 : Fin 5)).index t (1 : Fin 4) * 1 + 1 * 0 = (expOf a h (tileOf a t)).val
    rw [e]
    show (expOf a h (tileOf a t)).val * 1 + 1 * 0 = _
    omega
  | ⟨2, _⟩ =>
    show ((cfgA a).win (2 : Fin 5)).index t (2 : Fin 4) * 2048 + 1 * k.val = k.val
    rw [e]
    show 0 * 2048 + 1 * k.val = k.val
    omega
  | ⟨3, _⟩ =>
    show ((cfgA a).win (2 : Fin 5)).index t (3 : Fin 4) * 256 + 1 * f.val = 7168 + (256 * (t.val % 28) + f.val)
    rw [e]
    show (28 + t.val % 28) * 256 + 1 * f.val = _
    omega

/-- … and the matching rows of the second matrix. -/
theorem iblk3_apply (t : Fin (cfgA a).N) (hu : 0 < (rowsOf a (tileOf a t)).toInt) (f : Fin 256) (l : Fin 2048) :
    iblk a m ρ c (3 : Fin 5) t (ix4 0 0 f l) = D m c (expOf a h (tileOf a t)) ⟨256 * (t.val % 28) + f.val, by omega⟩ l := by
  have e : ((cfgA a).win (3 : Fin 5)).index t = ![0, BitVec.toNat (w := 32) (T0 a (tile (crd a t 0).val (crd0_lt (crd a t)))), colOf (T2 a (tile (crd a t 0).val (crd0_lt (crd a t)))) (crd a t 1).val, 0] := map_3 a.1 (crd a t)
  rw [col_use a t hu, tile_crd] at e
  unfold iblk
  rw [View.read_apply]
  show m ((c : Thread nD τ).loc main_arg2) _ = m ((c : Thread nD τ).loc main_arg2) _
  congr 1; funext x; apply Fin.ext
  match x with
  | ⟨0, _⟩ =>
    show ((cfgA a).win (3 : Fin 5)).index t (0 : Fin 4) * 1 + 1 * 0 = 0
    rw [e]; rfl
  | ⟨1, _⟩ =>
    show ((cfgA a).win (3 : Fin 5)).index t (1 : Fin 4) * 1 + 1 * 0 = (expOf a h (tileOf a t)).val
    rw [e]
    show (expOf a h (tileOf a t)).val * 1 + 1 * 0 = _
    omega
  | ⟨2, _⟩ =>
    show ((cfgA a).win (3 : Fin 5)).index t (2 : Fin 4) * 256 + 1 * f.val = 256 * (t.val % 28) + f.val
    rw [e]
    show t.val % 28 * 256 + 1 * f.val = _
    omega
  | ⟨3, _⟩ =>
    show ((cfgA a).win (3 : Fin 5)).index t (3 : Fin 4) * 2048 + 1 * l.val = l.val
    rw [e]
    show 0 * 2048 + 1 * l.val = l.val
    omega

/-- What four blocks add to a row, once their entries are known to be those of the arrays. -/
theorem added_eq (x0 : S1024x2048.Idx → EReal) (x1 x2 : S1x1x2048x256.Idx → EReal) (x3 : S1x1x256x2048.Idx → EReal) (r : Fin 1024) (l : Fin 2048)
    (A : Fin 24576 → Fin 2048 → EReal) (B : Fin 8 → Fin 2048 → Fin 14336 → EReal) (C : Fin 8 → Fin 7168 → Fin 2048 → EReal) (e : Fin 8) (R : Fin 24576)
    (j : ℕ) (hj : j < 28)
    (h0 : ∀ k, x0 (ix2 r k) = A R k) (h1 : ∀ k (f : Fin 256), x1 (ix4 0 0 k f) = B e k ⟨256 * j + f.val, by omega⟩)
    (h2 : ∀ k (f : Fin 256), x2 (ix4 0 0 k f) = B e k ⟨7168 + (256 * j + f.val), by omega⟩)
    (h3 : ∀ f : Fin 256, x3 (ix4 0 0 f l) = C e ⟨256 * j + f.val, by omega⟩ l) :
    added x0 x1 x2 x3 r l = ∑ f : Fin 256, part A B C e R l (256 * j + f.val) := by
  unfold added
  refine Finset.sum_congr rfl fun f _ => ?_
  unfold part
  rw [dif_pos (show 256 * j + f.val < 7168 by omega)]
  simp only [h0, h1, h2, h3]

/-- What a point in use adds to a row is the parts of its 256 hidden columns. -/
theorem added_apply (t : Fin (cfgA a).N) (hu : 0 < (rowsOf a (tileOf a t)).toInt) (r : Fin 1024) (l : Fin 2048) :
    added (iblk a m ρ c (0 : Fin 5) t) (iblk a m ρ c (1 : Fin 5) t) (iblk a m ρ c (2 : Fin 5) t) (iblk a m ρ c (3 : Fin 5) t) r l
      = ∑ f : Fin 256, part (X m c) (G m c) (D m c) (expOf a h (tileOf a t)) (rowOf a h (tileOf a t) r) l (256 * (t.val % 28) + f.val) :=
  added_eq _ _ _ _ r l _ _ _ _ _ (t.val % 28) (Nat.mod_lt _ (by decide)) (fun k => iblk0_apply m ρ c a h t r k)
    (fun k f => iblk1_apply m ρ c a h t hu k f) (fun k f => iblk2_apply m ρ c a h t hu k f) (fun f => iblk3_apply m ρ c a h t hu f l)

/-- A row in use after the first `j + 1` column blocks of its tile: the parts of their hidden columns. -/
theorem traj_row (b : Fin 24) (r : Fin 1024) (l : Fin 2048) (hr : (r.val : ℤ) < (rowsOf a b).toInt) :
    ∀ (j : ℕ) (n : ℕ) (hn : n < (cfgA a).N), j < 28 → n = 28 * b.val + j →
      traj0 a m ρ c n hn (ix2 r l) = ∑ x ∈ Finset.range (256 * (j + 1)), part (X m c) (G m c) (D m c) (expOf a h b) (rowOf a h b r) l x := by
  have hw : (rowsOf a b).toInt ≤ 1024 := h.rows _
  intro j
  induction j with
  | zero =>
    intro n hn _ e
    have hb : tileOf a ⟨n, hn⟩ = b := Fin.ext (show n / 28 = b.val by omega)
    have hj : n % 28 = 0 := by omega
    have hwd : wordOf (crd a ⟨n, hn⟩) (T2 a) = rowsOf a b := (wordOf_eq _ _).trans (by rw [tile_crd, hb]; rfl)
    rw [traj0_eq a m ρ c ⟨n, hn⟩]
    unfold step0
    refine (step_row _ _ _ _ _ _ _ r l (by rw [hwd]; exact hr) (by rw [hwd]; exact hw)).trans ?_
    rw [if_pos ((crd_1 _).trans hj), added_apply m ρ c a h ⟨n, hn⟩ (by rw [hb]; omega) r l, hb, parts_succ]
    refine congrArg₂ (fun p q : EReal => p + q) (by simp) (Finset.sum_congr rfl fun f _ => ?_)
    show part _ _ _ _ _ _ (256 * (n % 28) + f.val) = _
    rw [hj]
  | succ j ih =>
    intro n hn hj28 e
    have hb : tileOf a ⟨n, hn⟩ = b := Fin.ext (show n / 28 = b.val by omega)
    have hj : n % 28 = j + 1 := by omega
    have hwd : wordOf (crd a ⟨n, hn⟩) (T2 a) = rowsOf a b := (wordOf_eq _ _).trans (by rw [tile_crd, hb]; rfl)
    rw [traj0_eq a m ρ c ⟨n, hn⟩]
    unfold step0
    refine (step_row _ _ _ _ _ _ _ r l (by rw [hwd]; exact hr) (by rw [hwd]; exact hw)).trans ?_
    rw [if_neg (fun h0 => by have := (crd_1 ⟨n, hn⟩).symm.trans h0; dsimp only at this; omega), added_apply m ρ c a h ⟨n, hn⟩ (by rw [hb]; omega) r l, hb, parts_succ]
    refine congrArg₂ (fun p q : EReal => p + q) ?_ (Finset.sum_congr rfl fun f _ => ?_)
    · unfold prev0
      rw [dif_neg (show ¬ n = 0 by omega)]
      exact ih (n - 1) _ (by omega) (by omega)
    · show part _ _ _ _ _ _ (256 * (n % 28) + f.val) = _
      rw [hj]

/-! ## The result array -/

theorem index4 (t : Fin (cfgA a).N) : ((cfgA a).win (4 : Fin 5)).index t = ![t.val / 28, 0] := by
  have ht := ltN a t
  show cc0_transform_4 (grid0.coords t) = _
  unfold cc0_transform_4
  simp only [crd_0, BitVec.toNat_ofNat]
  rw [Nat.mod_eq_of_lt (by omega)]

/-- Two points that write a block back write different blocks. -/
theorem disjoint4 : ∀ t t' : Fin (cfgA a).N, ((cfgA a).win (4 : Fin 5)).flush t = true → ((cfgA a).win (4 : Fin 5)).flush t' = true → t ≠ t' →
    Disjoint (((cfgA a).win (4 : Fin 5)).blk t).view.set (((cfgA a).win (4 : Fin 5)).blk t').view.set := fun t t' hf hf' hne =>
  ((cfgA a).win (4 : Fin 5)).disjoint_blk fun e => hne (by
    rw [index4, index4] at e
    have e0 : t.val / 28 = t'.val / 28 := congrFun e 0
    have h1 := (flush_iff a t).1 hf
    have h2 := (flush_iff a t').1 hf'
    exact Fin.ext (by omega))

/-- The result array at a tile's row is what the tile's last point leaves there. -/
theorem arr_row (b : Fin 24) (r : Fin 1024) (l : Fin 2048) (hn : 28 * b.val + 27 < (cfgA a).N) :
    (dats a m ρ 0 c).arrAt (4 : Fin 5) (cfgA a).N (ix2 ⟨1024 * b.val + r.val, by omega⟩ l : S24576x2048.Idx) = traj0 a m ρ c (28 * b.val + 27) hn (ix2 r l) := by
  have hf := (flush_iff a ⟨28 * b.val + 27, hn⟩).2 (show (28 * b.val + 27) % 28 = 27 by omega)
  have key := (dats a m ρ 0 c).arrAt_emb_eq_flushed (4 : Fin 5) (disjoint4 a) ⟨28 * b.val + 27, hn⟩ hf (ix2 r l : S1024x2048.Idx)
  have ei : (((cfgA a).win (4 : Fin 5)).blk ⟨28 * b.val + 27, hn⟩).view.emb (ix2 r l : S1024x2048.Idx) = (ix2 ⟨1024 * b.val + r.val, by omega⟩ l : S24576x2048.Idx) := by
    have e := index4 a ⟨28 * b.val + 27, hn⟩
    funext x; apply Fin.ext
    match x with
    | ⟨0, _⟩ =>
      show ((cfgA a).win (4 : Fin 5)).index ⟨28 * b.val + 27, hn⟩ (0 : Fin 2) * 1024 + 1 * r.val = 1024 * b.val + r.val
      rw [e]
      show (28 * b.val + 27) / 28 * 1024 + 1 * r.val = _
      omega
    | ⟨1, _⟩ =>
      show ((cfgA a).win (4 : Fin 5)).index ⟨28 * b.val + 27, hn⟩ (1 : Fin 2) * 2048 + 1 * l.val = l.val
      rw [e]
      show 0 * 2048 + 1 * l.val = l.val
      omega
  rw [← ei]
  exact key.trans rfl

/-- THE RESULT on a row in use: the tile's expert on the tile's source row. -/
theorem result_row (b : Fin 24) (r : Fin 1024) (l : Fin 2048) (hr : (r.val : ℤ) < (rowsOf a b).toInt) :
    (dats a m ρ 0 c).arrAt (4 : Fin 5) (cfgA a).N (ix2 ⟨1024 * b.val + r.val, by omega⟩ l : S24576x2048.Idx)
      = expert (X m c) (G m c) (D m c) (expOf a h b) (rowOf a h b r) l := by
  have hn : 28 * b.val + 27 < (cfgA a).N := lt_of_lt_of_eq (show 28 * b.val + 27 < 672 by omega) N_0.symm
  rw [arr_row m ρ c a b r l hn, traj_row m ρ c a h b r l hr 27 _ hn (by omega) rfl]
  rfl

end Cert.MoeIdeal.Hand

end
-- ==== Proof.MoeGather.lean ====
/-
  A table's entry picks one slab of a stack: the host's gather along a stack's first axis, read at an index.
-/
module

public import Idealize.ShloMosaic.PureOps
public import Idealize.ShloMosaic.Lib.Pointwise

@[expose] public section

noncomputable section

namespace Cert.MoeGather

open Idealize.ShloMosaic

variable {α : Type} {N A B T : ℕ}

/-- The dimension numbers of picking slabs `[A, B]` out of `[N, A, B]` by `T` entries. -/
abbrev slabDims (N A B T : ℕ)
    (wf : GatherDims.WF ⟨3, ![N, A, B]⟩ ⟨2, ![T, 1]⟩ ⟨3, ![T, A, B]⟩ [1, 2] [0] [] [0] [] 1 ![1, A, B]) :
    GatherDims ⟨3, ![N, A, B]⟩ ⟨2, ![T, 1]⟩ ⟨3, ![T, A, B]⟩ where
  offsetDims := [1, 2]
  collapsedSliceDims := [0]
  operandBatchingDims := []
  startIndicesBatchingDims := []
  startIndexMap := [0]
  indexVectorDim := 1
  sliceSizes := ![1, A, B]
  wf := wf

/-- Slab `t` of the result is the slab the `t`-th entry names. -/
theorem slab_apply (hN : 0 < N)
    (wf : GatherDims.WF ⟨3, ![N, A, B]⟩ ⟨2, ![T, 1]⟩ ⟨3, ![T, A, B]⟩ [1, 2] [0] [] [0] [] 1 ![1, A, B])
    (x : (⟨3, ![N, A, B]⟩ : Shape).Idx → α) (idx : IVec ⟨2, ![T, 1]⟩ 32) (t : Fin T) (p : Fin A) (q : Fin B) :
    Host.gather (slabDims N A B T wf) x idx (ix3 t p q)
      = x (ix3 ⟨min (idx (ix2 t 0)).toInt.toNat (N - 1), by omega⟩ p q) := by
  unfold Host.gather
  congr 1
  have hb : ∀ a, (slabDims N A B T wf).batchCoord (ix3 t p q) a = 0 := fun a => GatherDims.batchCoord_eq_zero _ _ _ List.not_mem_nil
  funext a
  refine Fin.ext ?_
  show (slabDims N A B T wf).start (ix3 t p q) idx a + (slabDims N A B T wf).batchCoord (ix3 t p q) a + (slabDims N A B T wf).offCoord (ix3 t p q) a = _
  rw [hb, Nat.add_zero]
  match a with
  | ⟨0, _⟩ =>
    show (slabDims N A B T wf).start (ix3 t p q) idx 0 + (slabDims N A B T wf).offCoord (ix3 t p q) 0 = _
    rw [GatherDims.offCoord_eq_zero _ _ _ (fun h => ((GatherDims.mem_sKept _ _).mp h).1 (List.mem_singleton.mpr rfl)), Nat.add_zero]
    unfold GatherDims.start
    rw [dif_pos (show (0 : Fin 3) ∈ (slabDims N A B T wf).startIndexMap from List.mem_singleton.mpr rfl)]
    have hsi : (slabDims N A B T wf).siIdx (ix3 t p q) ⟨List.idxOf (0 : Fin 3) (slabDims N A B T wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  | ⟨1, _⟩ =>
    have e : (slabDims N A B T wf).start (ix3 t p q) idx 1 = 0 := by
      unfold GatherDims.start; rw [dif_neg (by simp)]
    show (slabDims N A B T wf).start (ix3 t p q) idx 1 + (slabDims N A B T wf).offCoord (ix3 t p q) 1 = _
    rw [e, Nat.zero_add]
    unfold GatherDims.offCoord
    rw [dif_pos ((GatherDims.mem_sKept _ _).mpr ⟨by simp, by simp⟩)]
    rfl
  | ⟨2, _⟩ =>
    have e : (slabDims N A B T wf).start (ix3 t p q) idx 2 = 0 := by
      unfold GatherDims.start; rw [dif_neg (by simp)]
    show (slabDims N A B T wf).start (ix3 t p q) idx 2 + (slabDims N A B T wf).offCoord (ix3 t p q) 2 = _
    rw [e, Nat.zero_add]
    unfold GatherDims.offCoord
    rw [dif_pos ((GatherDims.mem_sKept _ _).mpr ⟨by simp, by simp⟩)]
    rfl

/-- An in-range entry, made non-negative by the host's rule for negative indices, is itself. -/
theorem entry_eq (w n : BitVec 32) (N : ℕ) (hN : N < 2 ^ 31) (h : w.toNat < N) :
    min (Scalar.select (IntOp.cmpi .slt w 0#32) (IntOp.addi w n) w).toInt.toNat (N - 1) = w.toNat := by
  have ht := BitVec.toInt_eq_toNat_cond w
  rw [if_pos (by omega)] at ht
  have hc : IntOp.cmpi .slt w 0#32 = 0#1 := by
    have : w.slt 0#32 = false := by
      rw [← Bool.not_eq_true, BitVec.slt_iff_toInt_lt, ht]
      simp
    unfold IntOp.cmpi; simp [this]
  rw [hc]
  have hs : Scalar.select (0#1) (IntOp.addi w n) w = w := by unfold Scalar.select; rw [if_neg (by decide)]
  rw [hs, ht]
  simp; omega

end Cert.MoeGather

end
-- ==== Proof.MoeRef.lean ====
/-
  The expert call's reference at an index, and the rows the claim's mask names.
-/
module

public import proofs.«01_k».proof.Proof.MoeArr
public import proofs.«01_k».proof.Proof.MoeGather
public import proofs.«01_k».proof.Proof.Gen.MoeRefIdeal.Run
public import proofs.«01_k».proof.Proof.Gen.On_rows_in_use

@[expose] public section

set_option synthInstance.maxSize 4096
set_option maxRecDepth 16384

noncomputable section

namespace Cert.MoeRefIdeal.Hand

open Cert.MoeRefIdeal Cert.MoeRefIdeal.Gen
open Idealize.ShloMosaic Idealize.ShloMosaic.TcCoe
open Idealize.ShloMosaic.Pointwise
open Cert.MoePre Cert.MoeMath Cert.MoeGather

/-- A tile's source rows, as the reference picks them. -/
theorem pick_x (x : S24576x2048.Idx → EReal) (w : S24.Idx → BitVec 32) (hw : ∀ i, (w i).toNat < 24) (b : Fin 24) (p : Fin 1024) (q : Fin 2048) :
    Host.gather gather_S24x1024x2048_S24x1_S24x1024x2048_12_0_n_n_0_1_110242048 (shapeCast S24x1024x2048 x shapeCasts_S24576x2048_S24x1024x2048)
        (broadcastInDim S24x1 ![0] bcast_S24_S24x1_0
          (select (cmpi CmpIPredicate.slt w (broadcastInDim S24 ![] bcast_S_S24 (constantI S_ 32 0#32)))
            (addi w (broadcastInDim S24 ![] bcast_S_S24 (constantI S_ 32 24#32))) w)) (ix3 b p q)
      = x (ix2 ⟨1024 * (w (ix1 b)).toNat + p.val, by have := hw (ix1 b); omega⟩ q) := by
  refine (slab_apply (by decide) _ _ _ b p q).trans ?_
  have hv : min (BitVec.toInt (n := 32) ((broadcastInDim S24x1 ![0] bcast_S24_S24x1_0
          (select (cmpi CmpIPredicate.slt w (broadcastInDim S24 ![] bcast_S_S24 (constantI S_ 32 0#32)))
            (addi w (broadcastInDim S24 ![] bcast_S_S24 (constantI S_ 32 24#32))) w)) (ix2 b 0))).toNat (24 - 1) = (w (ix1 b)).toNat := by
    have e : (broadcastInDim S24x1 ![0] bcast_S24_S24x1_0
          (select (cmpi CmpIPredicate.slt w (broadcastInDim S24 ![] bcast_S_S24 (constantI S_ 32 0#32)))
            (addi w (broadcastInDim S24 ![] bcast_S_S24 (constantI S_ 32 24#32))) w)) (ix2 b 0)
          = Scalar.select (IntOp.cmpi .slt (w (ix1 b)) 0#32) (IntOp.addi (w (ix1 b)) 24#32) (w (ix1 b)) := by
      pointwise []
    rw [e]
    exact entry_eq (w (ix1 b)) 24#32 24 (by decide) (hw _)
  have hf : (⟨min (BitVec.toInt (n := 32) ((broadcastInDim S24x1 ![0] bcast_S24_S24x1_0
          (select (cmpi CmpIPredicate.slt w (broadcastInDim S24 ![] bcast_S_S24 (constantI S_ 32 0#32)))
            (addi w (broadcastInDim S24 ![] bcast_S_S24 (constantI S_ 32 24#32))) w)) (ix2 b 0))).toNat (24 - 1), by omega⟩ : Fin 24)
      = ⟨(w (ix1 b)).toNat, hw _⟩ := Fin.ext hv
  refine (congrArg (fun e : Fin 24 => shapeCast S24x1024x2048 x shapeCasts_S24576x2048_S24x1024x2048 (ix3 e p q)) hf).trans ?_
  generalize ht : (⟨(w (ix1 b)).toNat, hw _⟩ : Fin 24) = e
  have h1 : (w (ix1 b)).toNat = e.val := congrArg Fin.val ht
  simp only [h1]
  pointwise []
  exact congrArg (fun n : Fin 24576 => x (ix2 n q)) (Fin.ext (show e.val * 1024 + p.val = 1024 * e.val + p.val by omega))

/-- A tile's expert's first matrices, as the reference picks them. -/
theorem pick_g (x : S1x8x2048x14336.Idx → EReal) (w : S24.Idx → BitVec 32) (hw : ∀ i, (w i).toNat < 8) (b : Fin 24) (p : Fin 2048) (q : Fin 14336) :
    Host.gather gather_S8x2048x14336_S24x1_S24x2048x14336_12_0_n_n_0_1_1204814336 (shapeCast S8x2048x14336 x shapeCasts_S1x8x2048x14336_S8x2048x14336)
        (broadcastInDim S24x1 ![0] bcast_S24_S24x1_0
          (select (cmpi CmpIPredicate.slt w (broadcastInDim S24 ![] bcast_S_S24 (constantI S_ 32 0#32)))
            (addi w (broadcastInDim S24 ![] bcast_S_S24 (constantI S_ 32 8#32))) w)) (ix3 b p q)
      = x (ix4 0 ⟨(w (ix1 b)).toNat, hw _⟩ p q) := by
  refine (slab_apply (by decide) _ _ _ b p q).trans ?_
  have hv : min (BitVec.toInt (n := 32) ((broadcastInDim S24x1 ![0] bcast_S24_S24x1_0
          (select (cmpi CmpIPredicate.slt w (broadcastInDim S24 ![] bcast_S_S24 (constantI S_ 32 0#32)))
            (addi w (broadcastInDim S24 ![] bcast_S_S24 (constantI S_ 32 8#32))) w)) (ix2 b 0))).toNat (8 - 1) = (w (ix1 b)).toNat := by
    have e : (broadcastInDim S24x1 ![0] bcast_S24_S24x1_0
          (select (cmpi CmpIPredicate.slt w (broadcastInDim S24 ![] bcast_S_S24 (constantI S_ 32 0#32)))
            (addi w (broadcastInDim S24 ![] bcast_S_S24 (constantI S_ 32 8#32))) w)) (ix2 b 0)
          = Scalar.select (IntOp.cmpi .slt (w (ix1 b)) 0#32) (IntOp.addi (w (ix1 b)) 8#32) (w (ix1 b)) := by
      pointwise []
    rw [e]
    exact entry_eq (w (ix1 b)) 8#32 8 (by decide) (hw _)
  have hf : (⟨min (BitVec.toInt (n := 32) ((broadcastInDim S24x1 ![0] bcast_S24_S24x1_0
          (select (cmpi CmpIPredicate.slt w (broadcastInDim S24 ![] bcast_S_S24 (constantI S_ 32 0#32)))
            (addi w (broadcastInDim S24 ![] bcast_S_S24 (constantI S_ 32 8#32))) w)) (ix2 b 0))).toNat (8 - 1), by omega⟩ : Fin 8)
      = ⟨(w (ix1 b)).toNat, hw _⟩ := Fin.ext hv
  refine (congrArg (fun e : Fin 8 => shapeCast S8x2048x14336 x shapeCasts_S1x8x2048x14336_S8x2048x14336 (ix3 e p q)) hf).trans ?_
  generalize ht : (⟨(w (ix1 b)).toNat, hw _⟩ : Fin 8) = e
  pointwise []

/-- … and its second matrix. -/
theorem pick_d (x : S1x8x7168x2048.Idx → EReal) (w : S24.Idx → BitVec 32) (hw : ∀ i, (w i).toNat < 8) (b : Fin 24) (p : Fin 7168) (q : Fin 2048) :
    Host.gather gather_S8x7168x2048_S24x1_S24x7168x2048_12_0_n_n_0_1_171682048 (shapeCast S8x7168x2048 x shapeCasts_S1x8x7168x2048_S8x7168x2048)
        (broadcastInDim S24x1 ![0] bcast_S24_S24x1_0
          (select (cmpi CmpIPredicate.slt w (broadcastInDim S24 ![] bcast_S_S24 (constantI S_ 32 0#32)))
            (addi w (broadcastInDim S24 ![] bcast_S_S24 (constantI S_ 32 8#32))) w)) (ix3 b p q)
      = x (ix4 0 ⟨(w (ix1 b)).toNat, hw _⟩ p q) := by
  refine (slab_apply (by decide) _ _ _ b p q).trans ?_
  have hv : min (BitVec.toInt (n := 32) ((broadcastInDim S24x1 ![0] bcast_S24_S24x1_0
          (select (cmpi CmpIPredicate.slt w (broadcastInDim S24 ![] bcast_S_S24 (constantI S_ 32 0#32)))
            (addi w (broadcastInDim S24 ![] bcast_S_S24 (constantI S_ 32 8#32))) w)) (ix2 b 0))).toNat (8 - 1) = (w (ix1 b)).toNat := by
    have e : (broadcastInDim S24x1 ![0] bcast_S24_S24x1_0
          (select (cmpi CmpIPredicate.slt w (broadcastInDim S24 ![] bcast_S_S24 (constantI S_ 32 0#32)))
            (addi w (broadcastInDim S24 ![] bcast_S_S24 (constantI S_ 32 8#32))) w)) (ix2 b 0)
          = Scalar.select (IntOp.cmpi .slt (w (ix1 b)) 0#32) (IntOp.addi (w (ix1 b)) 8#32) (w (ix1 b)) := by
      pointwise []
    rw [e]
    exact entry_eq (w (ix1 b)) 8#32 8 (by decide) (hw _)
  have hf : (⟨min (BitVec.toInt (n := 32) ((broadcastInDim S24x1 ![0] bcast_S24_S24x1_0
          (select (cmpi CmpIPredicate.slt w (broadcastInDim S24 ![] bcast_S_S24 (constantI S_ 32 0#32)))
            (addi w (broadcastInDim S24 ![] bcast_S_S24 (constantI S_ 32 8#32))) w)) (ix2 b 0))).toNat (8 - 1), by omega⟩ : Fin 8)
      = ⟨(w (ix1 b)).toNat, hw _⟩ := Fin.ext hv
  refine (congrArg (fun e : Fin 8 => shapeCast S8x7168x2048 x shapeCasts_S1x8x7168x2048_S8x7168x2048 (ix3 e p q)) hf).trans ?_
  generalize ht : (⟨(w (ix1 b)).toNat, hw _⟩ : Fin 8) = e
  pointwise []

variable (m : (ℓ : Loc nD τ sig) → Buf (Elt Ideal) ℓ) (c : Dev nD)

/-- The reference's result at a row: the expert of the row's tile, on the row of the tile's source. -/
theorem ref_row (h4 : ∀ i : S24.Idx, BitVec.toNat (w := 32) (m ((c.tc : Thread nD τ).loc main_arg4) i) < 24)
    (h3 : ∀ i : S24.Idx, BitVec.toNat (w := 32) (m ((c.tc : Thread nD τ).loc main_arg3) i) < 8) (R : Fin 24576) (l : Fin 2048) :
    Value.res_out0 m c (ix2 R l)
      = expert (fun R k => m ((c.tc : Thread nD τ).loc main_arg0) (ix2 R k)) (fun e k n => m ((c.tc : Thread nD τ).loc main_arg1) (ix4 0 e k n))
          (fun e n l => m ((c.tc : Thread nD τ).loc main_arg2) (ix4 0 e n l))
          ⟨BitVec.toNat (w := 32) (m ((c.tc : Thread nD τ).loc main_arg3) (ix1 ⟨R.val / 1024, by omega⟩ : S24.Idx)), h3 _⟩
          ⟨1024 * BitVec.toNat (w := 32) (m ((c.tc : Thread nD τ).loc main_arg4) (ix1 ⟨R.val / 1024, by omega⟩ : S24.Idx)) + R.val % 1024, by
            have := h4 (ix1 ⟨R.val / 1024, by omega⟩); omega⟩ l := by
  rw [expert_eq]
  unfold Value.res_out0 Value.res_main_v31
  pointwise []
  refine Finset.sum_congr (M := EReal) rfl fun f _ => ?_
  rw [pick_d _ _ h3]
  simp only [pick_x _ _ h4, pick_g _ _ h3]
  rfl

end Cert.MoeRefIdeal.Hand

namespace Cert.On_rows_in_use

open Idealize.ShloMosaic
open Idealize.ShloMosaic.Pointwise

/-- The mask's bit at a tile's row is set where the row is below the tile's count. -/
theorem bit_row {F : FTy → Type} [FloatOps F] (a0 : FVec F S24576x2048 .bf16) (a1 : FVec F S1x8x2048x14336 .f32)
    (a2 : FVec F S1x8x7168x2048 .f32) (te ts tr : IVec S24 32) (R : Fin 24576) (l : Fin 2048)
    (hb : fn (F := F) a0 a1 a2 te ts tr (ix2 R l) = 1#1) : ((R.val % 1024 : ℕ) : ℤ) < (tr (ix1 ⟨R.val / 1024, by omega⟩)).toInt := by
  have e : fn (F := F) a0 a1 a2 te ts tr (ix2 R l) = IntOp.cmpi .slt (BitVec.ofNat 32 (R.val % 1024)) (tr (ix1 ⟨R.val / 1024, by omega⟩)) := by
    unfold fn
    dsimp only
    pointwise []
  rw [e] at hb
  have hc : ∀ b : Bool, BitVec.ofBool b = 1#1 → b = true := by decide
  have h' := hc _ hb
  rw [BitVec.slt_iff_toInt_lt, BitVec.toInt_eq_toNat_cond, BitVec.toNat_ofNat] at h'
  rw [if_pos (by omega)] at h'
  omega

end Cert.On_rows_in_use

end
-- ==== Proof.Moe.lean ====
/-
  The claims of the expert call read at the ideal numbers: its frame, its reference's frame, and, on the rows the
  table says are in use, the reference's values.
-/
module

public import proofs.«01_k».proof.Defs
public import proofs.«01_k».proof.Proof.MoeRef

@[expose] public section

set_option maxRecDepth 16384

noncomputable section

namespace Cert.MoeIdeal.Hand

open Cert.MoeIdeal Cert.MoeIdeal.Gen
open Idealize.ShloMosaic Idealize.ShloMosaic.TcCoe
open Idealize.SL.Sem
open Cert.MoePre Cert.MoeMath

variable (m : (ℓ : Loc nD τ sig) → Buf (Elt Ideal) ℓ) (ρ : Dev nD → PrngReg)

/-- What the call leaves in its result array, from tables in range. -/
def final (h : InRange (m (((0 : Dev nD) : Thread nD τ).loc main_arg3)) (m (((0 : Dev nD) : Thread nD τ).loc main_arg4)) (m (((0 : Dev nD) : Thread nD τ).loc main_arg5)))
    (c : Dev nD) : S24576x2048.Idx → EReal :=
  (dats ⟨pfOf m, ok_of (pfOf m) h⟩ m ρ 0 c).arrAt (4 : Fin 5) (cfgA ⟨pfOf m, ok_of (pfOf m) h⟩).N

/-- The run leaves that array and the arguments. -/
theorem run_final (h : InRange (m (((0 : Dev nD) : Thread nD τ).loc main_arg3)) (m (((0 : Dev nD) : Thread nD τ).loc main_arg4)) (m (((0 : Dev nD) : Thread nD τ).loc main_arg5))) :
    θ_run (defs (F := Ideal)) (onTc (τ := τ) (main (F := Ideal))) ⟨m, fun _ => 0, ρ⟩ (fun r => ∀ c : Dev nD,
      r.2.mem ((c.tc : Thread nD τ).loc main_v0) = final m ρ h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ g c => ⟨(g.1 c).1 (4 : Fin 5),
    ((g.1 c).1 (0 : Fin 5)).trans ((dats ⟨pfOf m, ok_of (pfOf m) h⟩ m ρ 0 c).arrAt_in (0 : Fin 5) rfl _),
    ((g.1 c).1 (1 : Fin 5)).trans ((dats ⟨pfOf m, ok_of (pfOf m) h⟩ m ρ 0 c).arrAt_in (1 : Fin 5) rfl _),
    ((g.1 c).1 (3 : Fin 5)).trans ((dats ⟨pfOf m, ok_of (pfOf m) h⟩ m ρ 0 c).arrAt_in (3 : Fin 5) rfl _),
    (g.1 c).2.1, (g.1 c).2.2.1, (g.1 c).2.2.2⟩) (run_main ⟨pfOf m, ok_of (pfOf m) h⟩ m ρ (pfOf_eq m))

theorem tile_ix (n : ℕ) (hn : n < 24) : tile n hn = ix1 ⟨n, hn⟩ := funext fun x => by
  match x with
  | ⟨0, _⟩ => rfl

/-- That array at a row in use: the expert of the row's tile, on the row of the tile's source. -/
theorem final_row (h : InRange (m (((0 : Dev nD) : Thread nD τ).loc main_arg3)) (m (((0 : Dev nD) : Thread nD τ).loc main_arg4)) (m (((0 : Dev nD) : Thread nD τ).loc main_arg5)))
    (c : Dev nD) (R : Fin 24576) (l : Fin 2048)
    (hu : ((R.val % 1024 : ℕ) : ℤ) < BitVec.toInt (n := 32) (m ((c.tc : Thread nD τ).loc main_arg5) (ix1 ⟨R.val / 1024, by omega⟩ : S24.Idx)))
    (h3 : ∀ i : S24.Idx, BitVec.toNat (w := 32) (m ((c.tc : Thread nD τ).loc main_arg3) i) < 8)
    (h4 : ∀ i : S24.Idx, BitVec.toNat (w := 32) (m ((c.tc : Thread nD τ).loc main_arg4) i) < 24) :
    final m ρ h c (ix2 R l)
      = expert (fun R k => m ((c.tc : Thread nD τ).loc main_arg0) (ix2 R k)) (fun e k n => m ((c.tc : Thread nD τ).loc main_arg1) (ix4 0 e k n))
          (fun e n l => m ((c.tc : Thread nD τ).loc main_arg2) (ix4 0 e n l))
          ⟨BitVec.toNat (w := 32) (m ((c.tc : Thread nD τ).loc main_arg3) (ix1 ⟨R.val / 1024, by omega⟩ : S24.Idx)), h3 _⟩
          ⟨1024 * BitVec.toNat (w := 32) (m ((c.tc : Thread nD τ).loc main_arg4) (ix1 ⟨R.val / 1024, by omega⟩ : S24.Idx)) + R.val % 1024, by
            have := h4 (ix1 ⟨R.val / 1024, by omega⟩); omega⟩ l := by
  obtain rfl : c = 0 := Subsingleton.elim _ _
  have hR : R = ⟨1024 * (R.val / 1024) + R.val % 1024, by omega⟩ := Fin.ext (by show R.val = 1024 * (R.val / 1024) + R.val % 1024; omega)
  have key := result_row m ρ 0 ⟨pfOf m, ok_of (pfOf m) h⟩ h ⟨R.val / 1024, by omega⟩ ⟨R.val % 1024, by omega⟩ l
    (by unfold rowsOf; rw [tile_ix]; exact hu)
  unfold expOf rowOf srcOf at key
  simp only [tile_ix] at key
  unfold final
  exact (congrArg (fun q => (dats ⟨pfOf m, ok_of (pfOf m) h⟩ m ρ 0 0).arrAt (4 : Fin 5) (cfgA ⟨pfOf m, ok_of (pfOf m) h⟩).N (ix2 q l : S24576x2048.Idx)) hR).trans key

end Cert.MoeIdeal.Hand

namespace Cert.Proof

open Idealize.ShloMosaic Idealize.SL.Sem

/-- The expert call's frame at the ideal numbers. -/
theorem quiescent_MoeIdeal : quiescent_MoeIdeal := fun m ρ hp =>
  Cert.MoeIdeal.Hand.frame m ρ (Cert.MoePre.inRange_of _ _ _ _ _ _ (hp 0).1 (hp 0).2.1 (hp 0).2.2)

/-- The reference's run leaves its arguments alone and no semaphore raised. -/
theorem quiescent_MoeRefIdeal : quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- On the rows in use the call's result array is the reference's. -/
theorem algebraic_MoeIdeal_MoeRefIdeal_on_rows_in_use : algebraic_MoeIdeal_MoeRefIdeal_on_rows_in_use := by
  intro m ρ m' ρ' hp hagree
  have h := Cert.MoePre.inRange_of _ _ _ _ _ _ (hp 0).1 (hp 0).2.1 (hp 0).2.2
  refine ⟨Cert.MoeIdeal.Hand.final m ρ h, (θ_run _ _ _).mono (fun _ g c => ⟨fun i _ => congrFun (g c).1 i, (g c).2⟩) (Cert.MoeIdeal.Hand.run_final m ρ h), ?_⟩
  refine (θ_run Cert.MoeRefIdeal.defs _ _).mono (fun _ g c => ⟨fun i hi => ?_, (g c).2⟩) (Cert.MoeRefIdeal.Value.run (F := Ideal) m' ρ')
  have hc := Cert.MoePre.inRange_of _ _ _ _ _ _ (hp c).1 (hp c).2.1 (hp c).2.2
  obtain ⟨e0, e1, e2, e3, e4, e5⟩ := hagree c
  obtain ⟨R, l, rfl⟩ : ∃ (R : Fin 24576) (l : Fin 2048), i = Idealize.ShloMosaic.ix2 R l := ⟨i 0, i 1, Idealize.ShloMosaic.eq_ix2 i⟩
  have hu := Cert.On_rows_in_use.bit_row _ _ _ _ _ _ R l hi
  have h3' : ∀ i : Cert.MoeRefIdeal.S24.Idx, BitVec.toNat (w := 32) (m' ((c.tc : Thread Cert.MoeRefIdeal.nD Cert.MoeRefIdeal.τ).loc Cert.MoeRefIdeal.main_arg3) i) < 8 := by
    rw [e3]; exact hc.expert
  have h4' : ∀ i : Cert.MoeRefIdeal.S24.Idx, BitVec.toNat (w := 32) (m' ((c.tc : Thread Cert.MoeRefIdeal.nD Cert.MoeRefIdeal.τ).loc Cert.MoeRefIdeal.main_arg4) i) < 24 := by
    rw [e4]; exact hc.source
  refine (congrFun (g c).1 _).trans ((Cert.MoeRefIdeal.Hand.ref_row m' c h4' h3' R l).trans ((Cert.MoeIdeal.Hand.final_row m ρ h c R l hu hc.expert hc.source).trans ?_).symm)
  simp only [e0, e1, e2, e3, e4]

end Cert.Proof

end
-- ==== Proof.MoeBitsBody.lean ====
/-
  The expert kernel's body at one grid point: what it leaves in the block of rows it accumulates into, for every
  value of the table word that tells how many rows of the tile are in use.
-/
module

public import proofs.«01_k».proof.Proof.Gen.Moe.Skeleton
public import proofs.«01_k».proof.Proof.Gen.Moe.Launch
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.PureOps.BitExact

@[expose] public section

set_option synthInstance.maxSize 4096
set_option maxRecDepth 16384
set_option Elab.async false

noncomputable section

namespace Cert.Moe.Hand

open Cert.Moe Cert.Moe.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The three prefetched tables, whole: a tile's expert, a tile's source rows, a tile's rows in use. -/
abbrev tb0 : Memref sig .tc .smem S24 .i32 := Memref.whole main_arg3
abbrev tb1 : Memref sig .tc .smem S24 .i32 := Memref.whole main_arg4
abbrev tb2 : Memref sig .tc .smem S24 .i32 := Memref.whole main_arg5

/-- The word the body reads: how many rows of the point's tile are in use. -/
abbrev wordOf (i : grid0.Coords) (T2 : S24.Idx → Elt Bits .i32) : BitVec 32 :=
  View.readAt (Elt Bits) (tb2).view (Rect.unit (s := S24) (k0_off1 i) S1.size (k0_off1_inb i)).toLoadRect T2 (Shape.Idx.first (numel1_S1.symm ▸ Nat.one_pos))

/-- The block the body starts from: zero at the tile's first column block, what it left before at the others. -/
def base (i : grid0.Coords) (prev : S1024x2048.Idx → Elt Bits .f32) : S1024x2048.Idx → Elt Bits .f32 :=
  if k0_cond1 i = 1#1 then k0_pay1 (F := Bits) else prev

/-- What the body leaves when it updates the first 128, 256, 512 or all 1024 rows of the block `b`. -/
def upd2 (x0 : S1024x2048.Idx → Elt Bits .bf16) (x1 x2 : S1x1x2048x256.Idx → Elt Bits .f32) (x3 : S1x1x256x2048.Idx → Elt Bits .f32) (b : S1024x2048.Idx → Elt Bits .f32) : S1024x2048.Idx → Elt Bits .f32 :=
  VecWindow.put b ![0, 0] S128x2048.size (k0_pay2 (F := Bits) (VecWindow.window x0 ![0, 0] S128x2048.size inb_S1024x2048_S128x2048_0_0) x1 x2 (VecWindow.window b ![0, 0] S128x2048.size inb_S1024x2048_S128x2048_0_0) x3)
def upd3 (x0 : S1024x2048.Idx → Elt Bits .bf16) (x1 x2 : S1x1x2048x256.Idx → Elt Bits .f32) (x3 : S1x1x256x2048.Idx → Elt Bits .f32) (b : S1024x2048.Idx → Elt Bits .f32) : S1024x2048.Idx → Elt Bits .f32 :=
  VecWindow.put b ![0, 0] S256x2048.size (k0_pay3 (F := Bits) (VecWindow.window x0 ![0, 0] S256x2048.size inb_S1024x2048_S256x2048_0_0) x1 x2 (VecWindow.window b ![0, 0] S256x2048.size inb_S1024x2048_S256x2048_0_0) x3)
def upd4 (x0 : S1024x2048.Idx → Elt Bits .bf16) (x1 x2 : S1x1x2048x256.Idx → Elt Bits .f32) (x3 : S1x1x256x2048.Idx → Elt Bits .f32) (b : S1024x2048.Idx → Elt Bits .f32) : S1024x2048.Idx → Elt Bits .f32 :=
  VecWindow.put b ![0, 0] S512x2048.size (k0_pay4 (F := Bits) (VecWindow.window x0 ![0, 0] S512x2048.size inb_S1024x2048_S512x2048_0_0) x1 x2 (VecWindow.window b ![0, 0] S512x2048.size inb_S1024x2048_S512x2048_0_0) x3)
def upd5 (x0 : S1024x2048.Idx → Elt Bits .bf16) (x1 x2 : S1x1x2048x256.Idx → Elt Bits .f32) (x3 : S1x1x256x2048.Idx → Elt Bits .f32) (b : S1024x2048.Idx → Elt Bits .f32) : S1024x2048.Idx → Elt Bits .f32 :=
  k0_pay5 (F := Bits) x0 x1 x2 b x3

/-- What the body leaves in the block at one point: the starting block, updated on as many rows as the word asks for. -/
def step (i : grid0.Coords) (w : BitVec 32) (x0 : S1024x2048.Idx → Elt Bits .bf16) (x1 x2 : S1x1x2048x256.Idx → Elt Bits .f32) (x3 : S1x1x256x2048.Idx → Elt Bits .f32) (prev : S1024x2048.Idx → Elt Bits .f32) : S1024x2048.Idx → Elt Bits .f32 :=
  if k0_cond2 w = 1#1 then upd2 x0 x1 x2 x3 (base i prev)
  else if k0_cond3 w = 1#1 then upd3 x0 x1 x2 x3 (base i prev)
  else if k0_cond4 w = 1#1 then upd4 x0 x1 x2 x3 (base i prev)
  else if k0_cond5 w = 1#1 then upd5 x0 x1 x2 x3 (base i prev)
  else base i prev

/-! ## The run's tests -/

/-- The program's test of a word between two bounds, read as integers. -/
theorem word_between (w lo hi : BitVec 32) :
    Scalar.cmpi .ne (Scalar.extui (Scalar.andi (Scalar.cmpi .sgt w lo) (Scalar.cmpi .sle w hi)) : BitVec 32) 0#32 = 1#1 ↔ lo.toInt < w.toInt ∧ w.toInt ≤ hi.toInt := by
  by_cases h : lo.toInt < w.toInt <;> by_cases h' : w.toInt ≤ hi.toInt <;>
    simp [Scalar.cmpi, Scalar.extui, Scalar.andi, IntOp.cmpi, IntOp.andi, h, h', BitVec.slt, BitVec.sle]

theorem cond2_iff (w : BitVec 32) : k0_cond2 w = 1#1 ↔ 0 < w.toInt ∧ w.toInt ≤ 128 := word_between w 0#32 128#32
theorem cond3_iff (w : BitVec 32) : k0_cond3 w = 1#1 ↔ 128 < w.toInt ∧ w.toInt ≤ 256 := word_between w 128#32 256#32
theorem cond4_iff (w : BitVec 32) : k0_cond4 w = 1#1 ↔ 256 < w.toInt ∧ w.toInt ≤ 512 := word_between w 256#32 512#32
theorem cond5_iff (w : BitVec 32) : k0_cond5 w = 1#1 ↔ 512 < w.toInt ∧ w.toInt ≤ 1024 := word_between w 512#32 1024#32

theorem window_congr {α : Type} {s : Shape} {x x' : s.Idx → α} {off size : Fin s.rank → ℕ} (inb : ∀ a, off a + size a ≤ s.size a)
    (h : x = x') : VecWindow.window x off size inb = VecWindow.window x' off size inb := by
  subst h; rfl

theorem congrArgs5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

theorem put_congr {α : Type} {s : Shape} {b b' : s.Idx → α} {off size : Fin s.rank → ℕ} {w w' : ((a : Fin s.rank) → Fin (size a)) → α}
    (hb : b = b') (hw : w = w') : VecWindow.put b off size w = VecWindow.put b' off size w' := by
  subst hb hw; rfl

/-! ## The run -/

set_option maxHeartbeats 1000000 in
/-- One run of the body, over whatever the output's block holds: it ends, everything it reads is as it was, and the block holds `step`. -/
theorem body_run (c : Dev nD) (i : grid0.Coords) (arg5 : Memref sig .tc .vmem S1024x2048 .bf16) (harg5 : arg5.IsWhole) (arg6 : Memref sig .tc .vmem S1x1x2048x256 .f32) (harg6 : arg6.IsWhole) (arg7 : Memref sig .tc .vmem S1x1x2048x256 .f32) (harg7 : arg7.IsWhole) (arg8 : Memref sig .tc .vmem S1x1x256x2048 .f32) (harg8 : arg8.IsWhole) (arg9 : Memref sig .tc .vmem S1024x2048 .f32) (harg9 : arg9.IsWhole)
    (T0 T1 T2 : S24.Idx → Elt Bits .i32) (x0 : S1024x2048.Idx → Elt Bits .bf16) (x1 x2 : S1x1x2048x256.Idx → Elt Bits .f32) (x3 : S1x1x256x2048.Idx → Elt Bits .f32) (prev : S1024x2048.Idx → Elt Bits .f32)
    (K : PUnit → sProp 𝕄) :
    iprop((arg5.view.loc (c : Thread nD τ) ↦[arg5.view.set]{fullShare} arg5.view.rep x0)
      ∗ (arg6.view.loc (c : Thread nD τ) ↦[arg6.view.set]{fullShare} arg6.view.rep x1)
      ∗ (arg7.view.loc (c : Thread nD τ) ↦[arg7.view.set]{fullShare} arg7.view.rep x2)
      ∗ (arg8.view.loc (c : Thread nD τ) ↦[arg8.view.set]{fullShare} arg8.view.rep x3)
      ∗ (tb0.view.loc (c : Thread nD τ) ↦{fullShare.right} T0)
      ∗ (tb1.view.loc (c : Thread nD τ) ↦{fullShare.right} T1)
      ∗ (tb2.view.loc (c : Thread nD τ) ↦{fullShare.right} T2)
      ∗ (arg9.view.loc (c : Thread nD τ) ↦[arg9.view.set]{fullShare} arg9.view.rep prev)
      ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg9 fullShare (step i (wordOf i T2) x0 x1 x2 x3 prev)) -∗ K ⟨⟩))
      ⊢ wp frame (wpE (defs₀ (F := Bits)) Variants.none c none) Set.univ (cc0_moe_experts i tb0 (Memref.isWhole_whole _) tb1 (Memref.isWhole_whole _) tb2 (Memref.isWhole_whole _) arg5 harg5 arg6 harg6 arg7 harg7 arg8 harg8 arg9 harg9) K := by
  have hT0 : tb0.IsWhole := Memref.isWhole_whole _
  have hT1 : tb1.IsWhole := Memref.isWhole_whole _
  have hT2 : tb2.IsWhole := Memref.isWhole_whole _
  rw [cc0_moe_experts_eq_skeleton]; unfold cc0_moe_experts_skel
  by_cases k0_h1 : k0_cond1 i = 1#1
  · by_cases k0_h2 : k0_cond2 (wordOf i T2) = 1#1
    · have k0_h3 : ¬ k0_cond3 (wordOf i T2) = 1#1 := fun h => by have := (cond2_iff _).1 k0_h2; have := (cond3_iff _).1 h; omega
      have k0_h4 : ¬ k0_cond4 (wordOf i T2) = 1#1 := fun h => by have := (cond2_iff _).1 k0_h2; have := (cond4_iff _).1 h; omega
      have k0_h5 : ¬ k0_cond5 (wordOf i T2) = 1#1 := fun h => by have := (cond2_iff _).1 k0_h2; have := (cond5_iff _).1 h; omega
      rw [show step i (wordOf i T2) x0 x1 x2 x3 prev = upd2 x0 x1 x2 x3 (k0_pay1 (F := Bits)) by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      sl_unfold_words
      refine (View.read_writes_cons_put arg9.view _ _ _ _ rfl).trans ?_
      exact put_congr (View.read_writes_full _ _ _ _ _) (congrArgs5 (k0_pay2 (F := Bits)) (View.readAt_rep_unit arg5.view x0 _ rfl inb_S1024x2048_S128x2048_0_0) (View.readAt_rep_full arg6.view x1 _) (View.readAt_rep_full arg7.view x2 _) ((View.readAt_unit arg9.view _ _ rfl inb_S1024x2048_S128x2048_0_0).trans (window_congr inb_S1024x2048_S128x2048_0_0 (View.read_writes_full arg9.view arg9.view.junk inb_S1024x2048_S1024x2048_0_0 _ []))) (View.readAt_rep_full arg8.view x3 _))
    by_cases k0_h3 : k0_cond3 (wordOf i T2) = 1#1
    · have k0_h2 : ¬ k0_cond2 (wordOf i T2) = 1#1 := fun h => by have := (cond3_iff _).1 k0_h3; have := (cond2_iff _).1 h; omega
      have k0_h4 : ¬ k0_cond4 (wordOf i T2) = 1#1 := fun h => by have := (cond3_iff _).1 k0_h3; have := (cond4_iff _).1 h; omega
      have k0_h5 : ¬ k0_cond5 (wordOf i T2) = 1#1 := fun h => by have := (cond3_iff _).1 k0_h3; have := (cond5_iff _).1 h; omega
      rw [show step i (wordOf i T2) x0 x1 x2 x3 prev = upd3 x0 x1 x2 x3 (k0_pay1 (F := Bits)) by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      sl_unfold_words
      refine (View.read_writes_cons_put arg9.view _ _ _ _ rfl).trans ?_
      exact put_congr (View.read_writes_full _ _ _ _ _) (congrArgs5 (k0_pay3 (F := Bits)) (View.readAt_rep_unit arg5.view x0 _ rfl inb_S1024x2048_S256x2048_0_0) (View.readAt_rep_full arg6.view x1 _) (View.readAt_rep_full arg7.view x2 _) ((View.readAt_unit arg9.view _ _ rfl inb_S1024x2048_S256x2048_0_0).trans (window_congr inb_S1024x2048_S256x2048_0_0 (View.read_writes_full arg9.view arg9.view.junk inb_S1024x2048_S1024x2048_0_0 _ []))) (View.readAt_rep_full arg8.view x3 _))
    by_cases k0_h4 : k0_cond4 (wordOf i T2) = 1#1
    · have k0_h2 : ¬ k0_cond2 (wordOf i T2) = 1#1 := fun h => by have := (cond4_iff _).1 k0_h4; have := (cond2_iff _).1 h; omega
      have k0_h3 : ¬ k0_cond3 (wordOf i T2) = 1#1 := fun h => by have := (cond4_iff _).1 k0_h4; have := (cond3_iff _).1 h; omega
      have k0_h5 : ¬ k0_cond5 (wordOf i T2) = 1#1 := fun h => by have := (cond4_iff _).1 k0_h4; have := (cond5_iff _).1 h; omega
      rw [show step i (wordOf i T2) x0 x1 x2 x3 prev = upd4 x0 x1 x2 x3 (k0_pay1 (F := Bits)) by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      sl_unfold_words
      refine (View.read_writes_cons_put arg9.view _ _ _ _ rfl).trans ?_
      exact put_congr (View.read_writes_full _ _ _ _ _) (congrArgs5 (k0_pay4 (F := Bits)) (View.readAt_rep_unit arg5.view x0 _ rfl inb_S1024x2048_S512x2048_0_0) (View.readAt_rep_full arg6.view x1 _) (View.readAt_rep_full arg7.view x2 _) ((View.readAt_unit arg9.view _ _ rfl inb_S1024x2048_S512x2048_0_0).trans (window_congr inb_S1024x2048_S512x2048_0_0 (View.read_writes_full arg9.view arg9.view.junk inb_S1024x2048_S1024x2048_0_0 _ []))) (View.readAt_rep_full arg8.view x3 _))
    by_cases k0_h5 : k0_cond5 (wordOf i T2) = 1#1
    · have k0_h2 : ¬ k0_cond2 (wordOf i T2) = 1#1 := fun h => by have := (cond5_iff _).1 k0_h5; have := (cond2_iff _).1 h; omega
      have k0_h3 : ¬ k0_cond3 (wordOf i T2) = 1#1 := fun h => by have := (cond5_iff _).1 k0_h5; have := (cond3_iff _).1 h; omega
      have k0_h4 : ¬ k0_cond4 (wordOf i T2) = 1#1 := fun h => by have := (cond5_iff _).1 k0_h5; have := (cond4_iff _).1 h; omega
      rw [show step i (wordOf i T2) x0 x1 x2 x3 prev = upd5 x0 x1 x2 x3 (k0_pay1 (F := Bits)) by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      sl_unfold_words
      refine (View.read_writes_full arg9.view _ _ _ _).trans ?_
      exact (congrArgs5 (k0_pay5 (F := Bits)) (View.readAt_rep_full arg5.view x0 _) (View.readAt_rep_full arg6.view x1 _) (View.readAt_rep_full arg7.view x2 _) (View.readCov_full arg9.view _ _ _ _) (View.readAt_rep_full arg8.view x3 _))
    rw [show step i (wordOf i T2) x0 x1 x2 x3 prev = (k0_pay1 (F := Bits)) by unfold step base; simp only [k0_h1, k0_h2, k0_h3, k0_h4, k0_h5, if_true, if_false]]
    iintro ⟨H0, H1, H2, H3, HT0, HT1, HT2, HO4, Hk⟩
    sl_exec! (disch := first | assumption)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    unfold owns
    iexists _; isplitr; swap; · iexact HO4
    ipureintro
    sl_unfold_words
    exact View.read_writes_full _ _ _ _ _
  · by_cases k0_h2 : k0_cond2 (wordOf i T2) = 1#1
    · have k0_h3 : ¬ k0_cond3 (wordOf i T2) = 1#1 := fun h => by have := (cond2_iff _).1 k0_h2; have := (cond3_iff _).1 h; omega
      have k0_h4 : ¬ k0_cond4 (wordOf i T2) = 1#1 := fun h => by have := (cond2_iff _).1 k0_h2; have := (cond4_iff _).1 h; omega
      have k0_h5 : ¬ k0_cond5 (wordOf i T2) = 1#1 := fun h => by have := (cond2_iff _).1 k0_h2; have := (cond5_iff _).1 h; omega
      rw [show step i (wordOf i T2) x0 x1 x2 x3 prev = upd2 x0 x1 x2 x3 prev by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      refine (View.read_writes_rep_unit arg9.view prev _ _ rfl).trans ?_
      exact put_congr (Eq.refl prev) (congrArgs5 (k0_pay2 (F := Bits)) (View.readAt_rep_unit arg5.view x0 _ rfl inb_S1024x2048_S128x2048_0_0) (View.readAt_rep_full arg6.view x1 _) (View.readAt_rep_full arg7.view x2 _) (View.readAt_rep_unit arg9.view prev _ rfl inb_S1024x2048_S128x2048_0_0) (View.readAt_rep_full arg8.view x3 _))
    by_cases k0_h3 : k0_cond3 (wordOf i T2) = 1#1
    · have k0_h2 : ¬ k0_cond2 (wordOf i T2) = 1#1 := fun h => by have := (cond3_iff _).1 k0_h3; have := (cond2_iff _).1 h; omega
      have k0_h4 : ¬ k0_cond4 (wordOf i T2) = 1#1 := fun h => by have := (cond3_iff _).1 k0_h3; have := (cond4_iff _).1 h; omega
      have k0_h5 : ¬ k0_cond5 (wordOf i T2) = 1#1 := fun h => by have := (cond3_iff _).1 k0_h3; have := (cond5_iff _).1 h; omega
      rw [show step i (wordOf i T2) x0 x1 x2 x3 prev = upd3 x0 x1 x2 x3 prev by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      refine (View.read_writes_rep_unit arg9.view prev _ _ rfl).trans ?_
      exact put_congr (Eq.refl prev) (congrArgs5 (k0_pay3 (F := Bits)) (View.readAt_rep_unit arg5.view x0 _ rfl inb_S1024x2048_S256x2048_0_0) (View.readAt_rep_full arg6.view x1 _) (View.readAt_rep_full arg7.view x2 _) (View.readAt_rep_unit arg9.view prev _ rfl inb_S1024x2048_S256x2048_0_0) (View.readAt_rep_full arg8.view x3 _))
    by_cases k0_h4 : k0_cond4 (wordOf i T2) = 1#1
    · have k0_h2 : ¬ k0_cond2 (wordOf i T2) = 1#1 := fun h => by have := (cond4_iff _).1 k0_h4; have := (cond2_iff _).1 h; omega
      have k0_h3 : ¬ k0_cond3 (wordOf i T2) = 1#1 := fun h => by have := (cond4_iff _).1 k0_h4; have := (cond3_iff _).1 h; omega
      have k0_h5 : ¬ k0_cond5 (wordOf i T2) = 1#1 := fun h => by have := (cond4_iff _).1 k0_h4; have := (cond5_iff _).1 h; omega
      rw [show step i (wordOf i T2) x0 x1 x2 x3 prev = upd4 x0 x1 x2 x3 prev by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      refine (View.read_writes_rep_unit arg9.view prev _ _ rfl).trans ?_
      exact put_congr (Eq.refl prev) (congrArgs5 (k0_pay4 (F := Bits)) (View.readAt_rep_unit arg5.view x0 _ rfl inb_S1024x2048_S512x2048_0_0) (View.readAt_rep_full arg6.view x1 _) (View.readAt_rep_full arg7.view x2 _) (View.readAt_rep_unit arg9.view prev _ rfl inb_S1024x2048_S512x2048_0_0) (View.readAt_rep_full arg8.view x3 _))
    by_cases k0_h5 : k0_cond5 (wordOf i T2) = 1#1
    · have k0_h2 : ¬ k0_cond2 (wordOf i T2) = 1#1 := fun h => by have := (cond5_iff _).1 k0_h5; have := (cond2_iff _).1 h; omega
      have k0_h3 : ¬ k0_cond3 (wordOf i T2) = 1#1 := fun h => by have := (cond5_iff _).1 k0_h5; have := (cond3_iff _).1 h; omega
      have k0_h4 : ¬ k0_cond4 (wordOf i T2) = 1#1 := fun h => by have := (cond5_iff _).1 k0_h5; have := (cond4_iff _).1 h; omega
      rw [show step i (wordOf i T2) x0 x1 x2 x3 prev = upd5 x0 x1 x2 x3 prev by unfold step base; simp only [k0_h1, k0_h2, k0_h3, k0_h4, k0_h5, if_true, if_false]]
      iintro ⟨H0, H1, H2, H3, HT0, HT1, HT2, HO4, Hk⟩
      sl_exec! (disch := first | assumption)
      sl_step
      iapply Hk
      isplitl [H0]; · iexact H0
      isplitl [H1]; · iexact H1
      isplitl [H2]; · iexact H2
      isplitl [H3]; · iexact H3
      isplitl [HT0]; · iexact HT0
      isplitl [HT1]; · iexact HT1
      isplitl [HT2]; · iexact HT2
      unfold owns
      iexists _; isplitr; swap; · iexact HO4
      ipureintro
      refine (View.read_writes_full arg9.view _ _ _ _).trans ?_
      exact (congrArgs5 (k0_pay5 (F := Bits)) (View.readAt_rep_full arg5.view x0 _) (View.readAt_rep_full arg6.view x1 _) (View.readAt_rep_full arg7.view x2 _) (View.readAt_rep_full arg9.view prev _) (View.readAt_rep_full arg8.view x3 _))
    rw [show step i (wordOf i T2) x0 x1 x2 x3 prev = prev by unfold step base; simp only [k0_h1, k0_h2, k0_h3, k0_h4, k0_h5, if_true, if_false]]
    iintro ⟨H0, H1, H2, H3, HT0, HT1, HT2, HO4, Hk⟩
    sl_exec! (disch := first | assumption)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    unfold owns
    iexists _; isplitr; swap; · iexact HO4
    ipureintro
    exact View.read_rep _ _

end Cert.Moe.Hand

end
-- ==== Proof.MoeBits.lean ====
/-
  The expert call as printed, at tables in range: it runs to its end and leaves its arguments and the semaphores alone.
-/
module

public import proofs.«01_k».proof.Defs
public import proofs.«01_k».proof.Proof.MoeBitsTab
public import proofs.«01_k».proof.Proof.Gen.On_rows_in_use

@[expose] public section

noncomputable section

namespace Cert.Proof

open Idealize.ShloMosaic Idealize.SL.Sem

/-- The printed expert call's frame. -/
theorem quiescent_Moe : quiescent_Moe := fun m ρ hp =>
  Cert.Moe.Hand.frame m ρ (Cert.MoePre.inRange_of _ _ _ _ _ _ (hp 0).1 (hp 0).2.1 (hp 0).2.2)

end Cert.Proof

end
-- ==== Proof.CombineGeo.lean ====
/-
  The combining kernel's transfers, numbered: at a grid point, transfer `t` copies one row of the experts' rows — the
  row the position table names for the point's token `t / 2` and choice `t % 2` — into one row of the scratch buffer.
  Which rows those are, which elements of the scratch buffer they fill, and what the buffer holds once all have landed.
-/
module

public import proofs.«01_k».proof.Proof.Gen.CombineIdeal.Skeleton
public import proofs.«01_k».proof.Proof.Gen.CombineIdeal.Launch
public import Idealize.ShloMosaic.Lib.Pipeline.Quiescent
public import Idealize.ShloMosaic.Lib.Pipeline.Kit
public import Idealize.ShloMosaic.Lib.Pipeline.FrameBody
public import Idealize.ShloMosaic.Lib.VecWindow
public import Idealize.ShloMosaic.Lib.Pointwise
public import Idealize.ShloMosaic.Lib.Ring
public import Idealize.ShloMosaic.Lib.Batch
public import Idealize.ShloMosaic.Lib.Exec
public import Idealize.ShloMosaic.Lib.Tactic
public import Idealize.ShloMosaic.PureOps.Ideal
public import Idealize.ShloMosaic.PureOps.BitExact

@[expose] public section

set_option synthInstance.maxSize 4096
set_option maxRecDepth 16384
set_option Elab.async false

noncomputable section

namespace Cert.CombineIdeal.Hand

open Cert.CombineIdeal Cert.CombineIdeal.Gen
open Idealize.ShloMosaic Idealize.ShloMosaic.TcCoe Idealize.ShloMosaic.Tactic
open Idealize.SL.Sem

/-- The position table, the experts' rows and the scratch buffer, whole. -/
abbrev tbl : Memref sig .tc .smem S16384 .i32 := Memref.whole main_arg0
abbrev ysM : Memref sig .tc .hbm S24576x2048 .f32 := Memref.whole main_arg3
abbrev bufM : Memref sig .tc .vmem S2x512x2048 .f32 := Memref.whole cc0_scratch0

/-- The two loops run once per token of the block. -/
theorem trips1 : k0_t1_loop.trips = 512 := by decide +kernel
theorem trips2 : k0_t2_loop.trips = 512 := by decide +kernel
theorem t1_lt (k : Fin k0_t1_loop.trips) : k.val < 512 := Nat.lt_of_lt_of_eq k.isLt trips1
theorem t2_lt (k : Fin k0_t2_loop.trips) : k.val < 512 := Nat.lt_of_lt_of_eq k.isLt trips2

theorem crd_lt (i : grid0.Coords) : (i 0).val < 16 := (i 0).isLt

/-- The table's entry for transfer `t` of a point. -/
def entry (i : grid0.Coords) (t : Fin 1024) : S16384.Idx :=
  fun x => ⟨1024 * (i 0).val + t.val, by have h1 := crd_lt i; have h2 := t.isLt; match x with | ⟨0, _⟩ => exact (show 1024 * (i 0).val + t.val < 16384 by omega)⟩
/-- The row transfer `t` of a point copies. -/
def word (i : grid0.Coords) (T : S16384.Idx → BitVec 32) (t : Fin 1024) : BitVec 32 := T (entry i t)

/-- The table names rows of the experts' array. -/
def Good (T : S16384.Idx → BitVec 32) : Prop := ∀ x, (T x).toNat < 24576

theorem row_inb (n : ℕ) (h : n < 24576) : ∀ a, (![n, 0] : Fin 2 → ℕ) a + S1x2048.size a ≤ S24576x2048.size a := by
  intro a; fin_cases a
  · show n + 1 ≤ 24576; omega
  · show 0 + 2048 ≤ 2048; omega
theorem slot_inb (t : Fin 1024) : ∀ a, (![t.val % 2, t.val / 2, 0] : Fin 3 → ℕ) a + S1x1x2048.size a ≤ S2x512x2048.size a := by
  have h := t.isLt
  intro a; fin_cases a
  · show t.val % 2 + 1 ≤ 2; omega
  · show t.val / 2 + 1 ≤ 512; omega
  · show 0 + 2048 ≤ 2048; omega

/-- One row of the experts' array, as a transfer's source. -/
def rowM (n : ℕ) (h : n < 24576) : Memref sig .tc .hbm S1x2048 .f32 :=
  ysM.slice (Rect.unit (s := S24576x2048) ![n, 0] S1x2048.size (row_inb n h)) (fun _ => rfl)
/-- The row of the scratch buffer transfer `t` fills. -/
def slotM (t : Fin 1024) : Memref sig .tc .vmem S1x2048 .f32 :=
  (bufM.slice (Rect.unit (s := S2x512x2048) ![t.val % 2, t.val / 2, 0] S1x1x2048.size (slot_inb t)) (fun _ => rfl)).squeeze S1x2048 squeezes_S1x1x2048_S1x2048

/-- A slice at offsets that are those of transfer `t` is the slot of `t`. -/
theorem slot_of (off : Fin 3 → ℕ) (inb : ∀ a, off a + S1x1x2048.size a ≤ S2x512x2048.size a) (t : Fin 1024)
    (e : off = ![t.val % 2, t.val / 2, 0]) :
    (bufM.slice (Rect.unit (s := S2x512x2048) off S1x1x2048.size inb) (fun _ => rfl)).squeeze S1x2048 squeezes_S1x1x2048_S1x2048 = slotM t := by
  subst e; rfl
/-- A slice of the experts' array at a row is that row. -/
theorem row_of (off : Fin 2 → ℕ) (inb : ∀ a, off a + S1x2048.size a ≤ S24576x2048.size a) (n : ℕ) (h : n < 24576)
    (e : off = ![n, 0]) : ysM.slice (Rect.unit (s := S24576x2048) off S1x2048.size inb) (fun _ => rfl) = rowM n h := by
  subst e; rfl

/-! ### The offsets the loops compute -/

theorem even_lt (k : ℕ) (h : k < 512) : 2 * k < 1024 := by omega
theorem odd_lt (k : ℕ) (h : k < 512) : 2 * k + 1 < 1024 := by omega
theorem two_mod (k : ℕ) : (2 * k) % 2 = 0 := by omega
theorem two_div (k : ℕ) : (2 * k) / 2 = k := by omega
theorem odd_mod (k : ℕ) : (2 * k + 1) % 2 = 1 := by omega
theorem odd_div (k : ℕ) : (2 * k + 1) / 2 = k := by omega

theorem off1_eq (i : grid0.Coords) (k : Fin k0_t1_loop.trips) : k0_off1 i k = ![1024 * (i 0).val + 2 * k.val] := by
  have r_i0 : (i 0).val < 16 := (i 0).isLt
  have hk : k.val < 512 := t1_lt k
  have h0 : Affine.IsInt (BitVec.ofNat 32 (i 0).val) (((i 0).val : Int)) := Affine.ofNat _ (by omega)
  have h1 : Affine.IsInt 512#32 (512) := Affine.ofNat _ (by omega)
  have h2 : Affine.IsInt _ (512 * ((i 0).val : Int)) := Affine.muli h0 h1 (by omega)
  have hz : Affine.IsInt 0#32 (0) := Affine.ofNat _ (by omega)
  have ho : Affine.IsInt 1#32 (1) := Affine.ofNat _ (by omega)
  have hv : Affine.IsInt _ ((k.val : Int)) := Affine.iv hz ho k.val (by omega)
  have h3 : Affine.IsInt _ (512 * ((i 0).val : Int) + (k.val : Int)) := Affine.addi h2 hv (by omega)
  have ht : Affine.IsInt 2#32 (2) := Affine.ofNat _ (by omega)
  have h4 : Affine.IsInt _ (1024 * ((i 0).val : Int) + 2 * (k.val : Int)) := Affine.muli h3 ht (by omega)
  have h5 : Affine.IsInt _ (1024 * ((i 0).val : Int) + 2 * (k.val : Int)) := Affine.addi h4 hz (by omega)
  have h6 : Affine.IsInt _ (1024 * ((i 0).val : Int) + 2 * (k.val : Int)) := Affine.indexCast h5
  funext x
  match x with
  | ⟨0, _⟩ => exact Affine.nat_eq h6 _ (by push_cast; omega)
theorem off4_eq (i : grid0.Coords) (k : Fin k0_t1_loop.trips) : k0_off4 i k = ![1024 * (i 0).val + 2 * k.val + 1] := by
  have r_i0 : (i 0).val < 16 := (i 0).isLt
  have hk : k.val < 512 := t1_lt k
  have h0 : Affine.IsInt (BitVec.ofNat 32 (i 0).val) (((i 0).val : Int)) := Affine.ofNat _ (by omega)
  have h1 : Affine.IsInt 512#32 (512) := Affine.ofNat _ (by omega)
  have h2 : Affine.IsInt _ (512 * ((i 0).val : Int)) := Affine.muli h0 h1 (by omega)
  have hz : Affine.IsInt 0#32 (0) := Affine.ofNat _ (by omega)
  have ho : Affine.IsInt 1#32 (1) := Affine.ofNat _ (by omega)
  have hv : Affine.IsInt _ ((k.val : Int)) := Affine.iv hz ho k.val (by omega)
  have h3 : Affine.IsInt _ (512 * ((i 0).val : Int) + (k.val : Int)) := Affine.addi h2 hv (by omega)
  have ht : Affine.IsInt 2#32 (2) := Affine.ofNat _ (by omega)
  have h4 : Affine.IsInt _ (1024 * ((i 0).val : Int) + 2 * (k.val : Int)) := Affine.muli h3 ht (by omega)
  have h5 : Affine.IsInt _ (1024 * ((i 0).val : Int) + 2 * (k.val : Int) + 1) := Affine.addi h4 ho (by omega)
  have h6 : Affine.IsInt _ (1024 * ((i 0).val : Int) + 2 * (k.val : Int) + 1) := Affine.indexCast h5
  funext x
  match x with
  | ⟨0, _⟩ => exact Affine.nat_eq h6 _ (by push_cast; omega)
theorem off7_eq (i : grid0.Coords) (k : Fin k0_t2_loop.trips) : k0_off7 i k = ![1024 * (i 0).val + 2 * k.val] := by
  have r_i0 : (i 0).val < 16 := (i 0).isLt
  have hk : k.val < 512 := t2_lt k
  have h0 : Affine.IsInt (BitVec.ofNat 32 (i 0).val) (((i 0).val : Int)) := Affine.ofNat _ (by omega)
  have h1 : Affine.IsInt 512#32 (512) := Affine.ofNat _ (by omega)
  have h2 : Affine.IsInt _ (512 * ((i 0).val : Int)) := Affine.muli h0 h1 (by omega)
  have hz : Affine.IsInt 0#32 (0) := Affine.ofNat _ (by omega)
  have ho : Affine.IsInt 1#32 (1) := Affine.ofNat _ (by omega)
  have hv : Affine.IsInt _ ((k.val : Int)) := Affine.iv hz ho k.val (by omega)
  have h3 : Affine.IsInt _ (512 * ((i 0).val : Int) + (k.val : Int)) := Affine.addi h2 hv (by omega)
  have ht : Affine.IsInt 2#32 (2) := Affine.ofNat _ (by omega)
  have h4 : Affine.IsInt _ (1024 * ((i 0).val : Int) + 2 * (k.val : Int)) := Affine.muli h3 ht (by omega)
  have h5 : Affine.IsInt _ (1024 * ((i 0).val : Int) + 2 * (k.val : Int)) := Affine.addi h4 hz (by omega)
  have h6 : Affine.IsInt _ (1024 * ((i 0).val : Int) + 2 * (k.val : Int)) := Affine.indexCast h5
  funext x
  match x with
  | ⟨0, _⟩ => exact Affine.nat_eq h6 _ (by push_cast; omega)
theorem off10_eq (i : grid0.Coords) (k : Fin k0_t2_loop.trips) : k0_off10 i k = ![1024 * (i 0).val + 2 * k.val + 1] := by
  have r_i0 : (i 0).val < 16 := (i 0).isLt
  have hk : k.val < 512 := t2_lt k
  have h0 : Affine.IsInt (BitVec.ofNat 32 (i 0).val) (((i 0).val : Int)) := Affine.ofNat _ (by omega)
  have h1 : Affine.IsInt 512#32 (512) := Affine.ofNat _ (by omega)
  have h2 : Affine.IsInt _ (512 * ((i 0).val : Int)) := Affine.muli h0 h1 (by omega)
  have hz : Affine.IsInt 0#32 (0) := Affine.ofNat _ (by omega)
  have ho : Affine.IsInt 1#32 (1) := Affine.ofNat _ (by omega)
  have hv : Affine.IsInt _ ((k.val : Int)) := Affine.iv hz ho k.val (by omega)
  have h3 : Affine.IsInt _ (512 * ((i 0).val : Int) + (k.val : Int)) := Affine.addi h2 hv (by omega)
  have ht : Affine.IsInt 2#32 (2) := Affine.ofNat _ (by omega)
  have h4 : Affine.IsInt _ (1024 * ((i 0).val : Int) + 2 * (k.val : Int)) := Affine.muli h3 ht (by omega)
  have h5 : Affine.IsInt _ (1024 * ((i 0).val : Int) + 2 * (k.val : Int) + 1) := Affine.addi h4 ho (by omega)
  have h6 : Affine.IsInt _ (1024 * ((i 0).val : Int) + 2 * (k.val : Int) + 1) := Affine.indexCast h5
  funext x
  match x with
  | ⟨0, _⟩ => exact Affine.nat_eq h6 _ (by push_cast; omega)
theorem off2_eq (k : Fin k0_t1_loop.trips) : k0_off2 k = ![(2 * k.val) % 2, (2 * k.val) / 2, 0] := by
  have hk : k.val < 512 := t1_lt k
  have hz : Affine.IsInt 0#32 (0) := Affine.ofNat _ (by omega)
  have ho : Affine.IsInt 1#32 (1) := Affine.ofNat _ (by omega)
  have hv : Affine.IsInt _ ((k.val : Int)) := Affine.iv hz ho k.val (by omega)
  rw [two_mod, two_div]
  exact congrArg (fun n : ℕ => (![0, n, 0] : Fin 3 → ℕ)) (Affine.nat_eq hv _ rfl)
/-- The slot a trip fills, by its transfer's number. -/
theorem slot2 (k : Fin k0_t1_loop.trips) :
    (bufM.slice (Rect.unit (s := S2x512x2048) (k0_off2 k) S1x1x2048.size (k0_off2_inb k)) (fun _ => rfl)).squeeze S1x2048 squeezes_S1x1x2048_S1x2048
      = slotM ⟨2 * k.val, even_lt k.val (t1_lt k)⟩ := slot_of _ _ _ (off2_eq k)
theorem off5_eq (k : Fin k0_t1_loop.trips) : k0_off5 k = ![(2 * k.val + 1) % 2, (2 * k.val + 1) / 2, 0] := by
  have hk : k.val < 512 := t1_lt k
  have hz : Affine.IsInt 0#32 (0) := Affine.ofNat _ (by omega)
  have ho : Affine.IsInt 1#32 (1) := Affine.ofNat _ (by omega)
  have hv : Affine.IsInt _ ((k.val : Int)) := Affine.iv hz ho k.val (by omega)
  rw [odd_mod, odd_div]
  exact congrArg (fun n : ℕ => (![1, n, 0] : Fin 3 → ℕ)) (Affine.nat_eq hv _ rfl)
/-- The slot a trip fills, by its transfer's number. -/
theorem slot5 (k : Fin k0_t1_loop.trips) :
    (bufM.slice (Rect.unit (s := S2x512x2048) (k0_off5 k) S1x1x2048.size (k0_off5_inb k)) (fun _ => rfl)).squeeze S1x2048 squeezes_S1x1x2048_S1x2048
      = slotM ⟨2 * k.val + 1, odd_lt k.val (t1_lt k)⟩ := slot_of _ _ _ (off5_eq k)

/-- The word a load of one table entry reads. -/
theorem word_of (i : grid0.Coords) (T : S16384.Idx → Elt Ideal .i32) (off : Fin 1 → ℕ) (inb : ∀ a, off a + S1.size a ≤ S16384.size a) (t : Fin 1024)
    (e : off = ![1024 * (i 0).val + t.val]) (x : (Rect.unit (s := S16384) off S1.size inb).shape.Idx) :
    View.readAt (Elt Ideal) tbl.view (Rect.unit (s := S16384) off S1.size inb).toLoadRect T x = word i T t := by
  subst e
  refine congrArg T (funext fun a => Fin.ext ?_)
  match a with
  | ⟨0, _⟩ =>
    have hx : (x 0).val < 1 := (x 0).isLt
    exact (show 1024 * (i 0).val + t.val + 1 * (x 0).val = 1024 * (i 0).val + t.val by omega)

theorem chk1_of (w : BitVec 32) (h : w.toNat < 24576) : k0_chk1 w := row_inb w.toNat h
theorem chk2_of (w : BitVec 32) (h : w.toNat < 24576) : k0_chk2 w := row_inb w.toNat h
theorem chk3_of (w : BitVec 32) (h : w.toNat < 24576) : k0_chk3 w := row_inb w.toNat h
theorem chk4_of (w : BitVec 32) (h : w.toNat < 24576) : k0_chk4 w := row_inb w.toNat h

/-! ### The scratch buffer, slot by slot -/

/-- The elements transfer `t` fills. -/
abbrev slotSet (t : Fin 1024) : Finset S2x512x2048.Idx :=
  (Rect.unit (s := S2x512x2048) ![t.val % 2, t.val / 2, 0] S1x1x2048.size (slot_inb t)).set
theorem slotM_set (t : Fin 1024) : (slotM t).view.set = slotSet t := by
  unfold slotM; exact (View.set_reshape _ _).trans (View.set_slice_whole _ _)
theorem mem_slotSet (t : Fin 1024) (y : S2x512x2048.Idx) : y ∈ slotSet t ↔ 2 * (y 1).val + (y 0).val = t.val := by
  rw [Rect.mem_set_unit]
  have h0 : (y 0).val < 2 := (y 0).isLt
  have h1 : (y 1).val < 512 := (y 1).isLt
  have h2 : (y 2).val < 2048 := (y 2).isLt
  constructor
  · intro H
    have a0 : t.val % 2 ≤ (y 0).val ∧ (y 0).val < t.val % 2 + 1 := H 0
    have a1 : t.val / 2 ≤ (y 1).val ∧ (y 1).val < t.val / 2 + 1 := H 1
    omega
  · intro H a; fin_cases a
    · show t.val % 2 ≤ (y 0).val ∧ (y 0).val < t.val % 2 + 1; omega
    · show t.val / 2 ≤ (y 1).val ∧ (y 1).val < t.val / 2 + 1; omega
    · show 0 ≤ (y 2).val ∧ (y 2).val < 0 + 2048; omega
theorem slotSet_disjoint : ∀ b b' : Fin 1024, b ≠ b' → Disjoint (slotSet b) (slotSet b') := fun b b' hne => by
  rw [Finset.disjoint_left]; intro y hy hy'; rw [mem_slotSet] at hy hy'; exact hne (Fin.ext (by omega))
/-- The transfer that fills an element. -/
def fillerOf (y : S2x512x2048.Idx) : Fin 1024 :=
  ⟨2 * (y 1).val + (y 0).val, by have h0 : (y 0).val < 2 := (y 0).isLt; have h1 : (y 1).val < 512 := (y 1).isLt; omega⟩
theorem slotSet_cover : Finset.univ.biUnion slotSet = Finset.univ := by
  ext y; simp only [Finset.mem_biUnion, Finset.mem_univ, true_and, iff_true]; exact ⟨fillerOf y, (mem_slotSet _ _).mpr rfl⟩

/-- An entry of the experts' array. -/
def at2 (n : ℕ) (h : n < 24576) (l : Fin 2048) : S24576x2048.Idx :=
  fun a => match a with | ⟨0, _⟩ => (⟨n, h⟩ : Fin 24576) | ⟨1, _⟩ => l
/-- What the scratch buffer holds once every transfer has landed: at choice `y 0` and token `y 1`, the row the position
    table names for them. -/
def gathered (i : grid0.Coords) (T : S16384.Idx → BitVec 32) (hT : Good T) (ys : S24576x2048.Idx → Elt Ideal .f32) :
    S2x512x2048.Idx → Elt Ideal .f32 :=
  fun y => ys (at2 (word i T (fillerOf y)).toNat (hT _) (y 2))

/-- A slot's elements are reached through the slice, then the squeeze. -/
theorem slot_emb (M : Memref sig .tc .vmem S2x512x2048 .f32) (off : Fin 3 → ℕ) (inb : ∀ a, off a + S1x1x2048.size a ≤ S2x512x2048.size a)
    (x : S1x2048.Idx) :
    ((M.slice (Rect.unit (s := S2x512x2048) off S1x1x2048.size inb) (fun _ => rfl)).squeeze S1x2048 squeezes_S1x1x2048_S1x2048).view.emb x
      = M.view.emb ((Rect.unit (s := S2x512x2048) off S1x1x2048.size inb).emb (Shape.reshapeEquiv squeezes_S1x1x2048_S1x2048.numel_eq x)) := rfl
theorem squeeze_lane (x : S1x2048.Idx) :
    Shape.reshapeEquiv (s := S1x1x2048) (s' := S1x2048) squeezes_S1x1x2048_S1x2048.numel_eq x = ix3 (0 : Fin 1) (0 : Fin 1) (x 1 : Fin 2048) := by
  refine Shape.reshapeEquiv_eq_of_rowMajor _ ?_
  refine (Shape.rowMajor_val_three (ix3 (0 : Fin 1) (0 : Fin 1) (x 1 : Fin 2048))).trans (Eq.trans ?_ (Shape.rowMajor_val_two x).symm)
  have hx0 : (x 0).val < 1 := (x 0).isLt
  show ((0 : ℕ) * 1 + 0) * 2048 + (x 1).val = (x 0).val * 2048 + (x 1).val
  omega
theorem slot_lane (t : Fin 1024) (x : S1x2048.Idx) (y : S2x512x2048.Idx) (h : (slotM t).view.emb x = y) : (y 2).val = (x 1).val := by
  have e : y = (Rect.unit (s := S2x512x2048) ![t.val % 2, t.val / 2, 0] S1x1x2048.size (slot_inb t)).emb (ix3 (0 : Fin 1) (0 : Fin 1) (x 1 : Fin 2048)) := by
    rw [← h]
    unfold slotM
    rw [slot_emb, squeeze_lane]
    rfl
  rw [e]
  show 0 + 1 * (x 1).val = (x 1).val
  omega

/-- A row landing in its slot leaves there what `gathered` says. -/
theorem landed (i : grid0.Coords) (T : S16384.Idx → BitVec 32) (hT : Good T) (ys : S24576x2048.Idx → Elt Ideal .f32)
    (t : Fin 1024) (fd : S2x512x2048.Idx → Elt Ideal .f32) (y : S2x512x2048.Idx) (hy : y ∈ slotSet t) :
    (slotM t).view.write (Elt Ideal) fd ((rowM (word i T t).toNat (hT _)).view.read (Elt Ideal) ys) Finset.univ y = gathered i T hT ys y := by
  have hm : y ∈ (slotM t).view.set := by rw [slotM_set]; exact hy
  obtain ⟨x, hx⟩ : ∃ x, (slotM t).view.emb x = y := by
    rcases Finset.mem_map.1 hm with ⟨x, -, hx⟩; exact ⟨x, hx⟩
  have ht := (mem_slotSet t y).1 hy
  have hf : fillerOf y = t := Fin.ext ht
  refine (congrArg _ hx.symm).trans ((View.write_emb_of_mem _ _ (Finset.mem_univ x)).trans ?_)
  unfold gathered
  refine (show _ = ys ((rowM (word i T t).toNat (hT _)).view.emb x) from rfl).trans (congrArg ys (funext fun a => Fin.ext ?_))
  have hx0 : (x 0).val < 1 := (x 0).isLt
  match a with
  | ⟨0, _⟩ => exact (show (word i T t).toNat + 1 * (x 0).val = (word i T t).toNat by omega).trans (congrArg (fun t => (word i T t).toNat) hf.symm)
  | ⟨1, _⟩ =>
    have h2 := slot_lane t x y hx
    exact (show 0 + 1 * (x 1).val = (x 1).val by omega).trans h2.symm

end Cert.CombineIdeal.Hand

end
-- ==== Proof.CombineLoop.lean ====
/-
  The combining kernel's two loops at one grid point: the first starts the 1024 row copies, the second waits for them.
-/
module

public import proofs.«01_k».proof.Proof.CombineGeo
public import Idealize.ShloMosaic.Lib.Pipeline.Frame

@[expose] public section

set_option synthInstance.maxSize 4096
set_option maxRecDepth 16384
set_option Elab.async false

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

local notation "𝕄" => MT nD τ sig Unit (Elt Ideal) ℕ (UD sig nD τ) ℕ

/-- What one row's landing counts on the semaphore. -/
def NN : ℕ := (slotM 0).view.dmaCredit
theorem NN_pos : 0 < NN := View.dmaCredit_pos _ (by decide)
theorem credit (t : Fin 1024) : (slotM t).view.dmaCredit = NN := rfl

variable (c : Dev nD) (i : grid0.Coords) (T : S16384.Idx → Elt Ideal .i32) (hT : Good T) (ys : S24576x2048.Idx → Elt Ideal .f32)

/-- The row transfer `t` reads. -/
def srcM (t : Fin 1024) : Memref sig .tc .hbm S1x2048 .f32 := rowM (word i T t).toNat (hT _)

/-- That row of the experts' array, held at transfer `t`'s own share; and the rest of the array at that share. -/
def rowTok (t : Fin 1024) : sProp 𝕄 :=
  (srcM i T hT t).view.loc (c : Thread nD τ) ↦[(srcM i T hT t).view.set]{Transfers.shareTokN fullShare t.val} ys
def rowRest (t : Fin 1024) : sProp 𝕄 :=
  ysM.view.loc (c : Thread nD τ) ↦[Finset.univ \ (srcM i T hT t).view.set]{Transfers.shareTokN fullShare t.val} ys
/-- A slot of the scratch buffer before its transfer, and after. -/
def slotOwn (t : Fin 1024) : sProp 𝕄 :=
  iprop(∃ f, (slotM t).view.loc (c : Thread nD τ) ↦[(slotM t).view.set]{fullShare} f)
def slotGot (t : Fin 1024) : sProp 𝕄 :=
  (slotM t).view.loc (c : Thread nD τ) ↦[(slotM t).view.set]{fullShare} (gathered i T hT ys)
/-- What transfer `t` delivers: the slot filled, and the row back. -/
def dlv (t : Fin 1024) : sProp 𝕄 := iprop(slotGot c i T hT ys t ∗ rowTok c i T hT ys t)

theorem held_storable (ℓ : Loc nD τ sig) (I : Finset (Idx ℓ)) (q : PosShare TreeShare) (f : Buf (Elt Ideal) ℓ) :
    BI.Storable (upEmb : UEmb _ 𝕄) (ℓ ↦[I]{q} f : sProp 𝕄) := inferInstance
instance slotGot_storable (t : Fin 1024) : BI.Storable (upEmb : UEmb _ 𝕄) (slotGot c i T hT ys t) := held_storable _ _ _ _
instance rowTok_storable (t : Fin 1024) : BI.Storable (upEmb : UEmb _ 𝕄) (rowTok c i T hT ys t) := held_storable _ _ _ _
instance dlv_storable (t : Fin 1024) : BI.Storable (upEmb : UEmb _ 𝕄) (dlv c i T hT ys t) := by
  unfold dlv; infer_instance

/-- The transfers on the kernel's semaphore: `j` started, `u` counted off. -/
abbrev batch (j u : ℕ) : sProp 𝕄 :=
  Transfers.Batch (countersEmb (U := UD sig nD τ)) (c : Thread nD τ) (.dma cc0_scratch1.sem) () NN (dlv c i T hT ys) j u

/-- The table, at the half the body reads it under. -/
abbrev tblHeld : sProp 𝕄 := tbl.view.loc (c : Thread nD τ) ↦{fullShare.right} T

/-- What a landing writes is what `dlv` says. -/
theorem dlv_of (t : Fin 1024) (fd : Buf (Elt Ideal) ((slotM t).view.loc (c : Thread nD τ))) :
    iprop(((slotM t).view.loc (c : Thread nD τ) ↦[(slotM t).view.set]{fullShare}
        ((slotM t).view.write (Elt Ideal) fd ((ReadAs.same).apply ((srcM i T hT t).view.read (Elt Ideal) ys)) Finset.univ))
      ∗ ((srcM i T hT t).view.loc (c : Thread nD τ) ↦[(srcM i T hT t).view.set]{Transfers.shareTokN fullShare t.val} ys))
      ⊢ dlv c i T hT ys t := by
  unfold dlv slotGot rowTok
  rw [pointsTo_congr (g := gathered i T hT ys) (fun y hy => landed i T hT ys t fd y (by rw [slotM_set] at hy; exact hy))]

/-- One copy started: transfer `j` of the batch. -/
theorem start_one (j : ℕ) (hj : j < 1024) (src : Memref sig .tc .hbm S1x2048 .f32) (dst : Memref sig .tc .vmem S1x2048 .f32)
    (es : src = srcM i T hT ⟨j, hj⟩) (ed : dst = slotM ⟨j, hj⟩)
    {hsrc : src.view.WordExact} {hdst : dst.view.WordExact}
    {hsem : DmaTarget.Typed (nD := nD) (τ := τ) (p := Proc.tc) .hbm (.dma cc0_scratch1.sem) (.here dst)}
    {α : Type} {k : PUnit → Prog (TpuEff nD τ sig (Elt Ideal) Λ₀ .tc) α} {Q : α → sProp 𝕄} :
    iprop(rowTok c i T hT ys ⟨j, hj⟩ ∗ slotOwn c ⟨j, hj⟩ ∗ batch c i T hT ys j 0)
      ⊢ iprop((batch c i T hT ys (j + 1) 0 -∗ wp frame (wpE (defs₀ (F := Ideal)) Variants.none c none) Set.univ (k ⟨⟩) Q)
        -∗ wp frame (wpE (defs₀ (F := Ideal)) Variants.none c none) Set.univ (.op (.enqueueDma src (.here dst) (.dma cc0_scratch1.sem) hsrc hdst hsem) k) Q) := by
  subst es ed
  unfold slotOwn
  iintro ⟨HR, ⟨%f, HS⟩, HB⟩ Hk
  iapply (Transfers.wp_dmaBatch (countersEmb (U := UD sig nD τ)) Variants.none (c : Thread nD τ) none (src := srcM i T hT ⟨j, hj⟩) (dst := slotM ⟨j, hj⟩)
    (D := dlv c i T hT ys) (q := Transfers.shareTokN fullShare j) (fs := ys) (fd := f) (Sd := (slotM ⟨j, hj⟩).view.set)
    () NN (show (slotM ⟨j, hj⟩).view.amount (.dma cc0_scratch1.sem) = NN from credit ⟨j, hj⟩) (Finset.Subset.refl _) hj (Nat.zero_le _) (dlv_of c i T hT ys ⟨j, hj⟩ f)) $$ [HR HS HB]
  · isplitl [HR]; · unfold rowTok; iexact HR
    isplitl [HS]; · iexact HS
    iexact HB
  iexact Hk

theorem src_of (off : Fin 2 → ℕ) (inb : ∀ a, off a + S1x2048.size a ≤ S24576x2048.size a) (n : BitVec 32) (t : Fin 1024)
    (e : off = ![n.toNat, 0]) (en : n = word i T t) :
    ysM.slice (Rect.unit (s := S24576x2048) off S1x2048.size inb) (fun _ => rfl) = srcM i T hT t := by
  subst en; exact row_of off inb _ _ e

/-- What the transfers not yet started still hold. -/
def pend (t : Fin 1024) : sProp 𝕄 := iprop(rowTok c i T hT ys t ∗ slotOwn c t)

/-- Before trip `k` of the first loop: `2 k` copies started, the rest pending, the table at hand. -/
def issueAt (k : ℕ) (_ : Unit) : sProp 𝕄 :=
  iprop(batch c i T hT ys (2 * k) 0 ∗ bigSep (Ring.rangeSet 1024 (2 * k) 1024) (pend c i T hT ys) ∗ tblHeld c T)

variable (arg2 : Memref sig .tc .vmem S512x2048 .f32) (harg2 : arg2.IsWhole) (arg3 : Memref sig .tc .vmem S512x128 .f32) (harg3 : arg3.IsWhole)
  (arg4 : Memref sig .tc .vmem S1x2048 .f32) (harg4 : arg4.IsWhole) (arg6 : Memref sig .tc .vmem S512x2048 .f32) (harg6 : arg6.IsWhole)

abbrev issueBody := k0_t1_body (F := Ideal) i tbl (Memref.isWhole_whole _) arg2 harg2 arg3 harg3 arg4 harg4 ysM (Memref.isWhole_whole _) arg6 harg6 bufM (Memref.isWhole_whole _) cc0_scratch1

theorem issue_step (k : Fin k0_t1_loop.trips) (acc : Unit) :
    issueAt c i T hT ys k.val acc ⊢ wp frame (wpE (defs₀ (F := Ideal)) Variants.none (c : Thread nD τ) none) Set.univ
      (issueBody i arg2 harg2 arg3 harg3 arg4 harg4 arg6 harg6 k acc) (issueAt c i T hT ys (k.val + 1)) := by
  have hk := t1_lt k
  unfold issueAt
  rw [Ring.bigSep_rangeSet_head (Φ := pend c i T hT ys) (lo := 2 * k.val) (by omega) (by omega),
    Ring.bigSep_rangeSet_head (Φ := pend c i T hT ys) (lo := 2 * k.val + 1) (by omega) (by omega),
    show 2 * (k.val + 1) = 2 * k.val + 1 + 1 by omega]
  rw [show pend c i T hT ys ⟨2 * k.val, by omega⟩ = iprop(rowTok c i T hT ys ⟨2 * k.val, by omega⟩ ∗ slotOwn c ⟨2 * k.val, by omega⟩) from rfl,
    show pend c i T hT ys ⟨2 * k.val + 1, by omega⟩ = iprop(rowTok c i T hT ys ⟨2 * k.val + 1, by omega⟩ ∗ slotOwn c ⟨2 * k.val + 1, by omega⟩) from rfl]
  iintro ⟨HB, ⟨⟨HR0, HS0⟩, ⟨HR1, HS1⟩, HP⟩, HT⟩
  unfold issueBody k0_t1_body
  sl_exec! (disch := first | exact chk1_of _ (hT _) | exact chk2_of _ (hT _))
  iapply (start_one c i T hT ys (2 * k.val) (by omega) _ _
    (src_of i T hT _ _ _ _ rfl (word_of i T (k0_off1 i k) _ ⟨2 * k.val, by omega⟩ (off1_eq i k) _)) (slot2 k)) $$ [HR0 HS0 HB]
  · isplitl [HR0]; · iexact HR0
    isplitl [HS0]; · iexact HS0
    iexact HB
  iintro HB
  sl_exec! (disch := first | exact chk1_of _ (hT _) | exact chk2_of _ (hT _))
  iapply (start_one c i T hT ys (2 * k.val + 1) (by omega) _ _
    (src_of i T hT _ _ _ _ rfl (word_of i T (k0_off4 i k) _ ⟨2 * k.val + 1, by omega⟩ (off4_eq i k) _)) (slot5 k)) $$ [HR1 HS1 HB]
  · isplitl [HR1]; · iexact HR1
    isplitl [HS1]; · iexact HS1
    iexact HB
  iintro HB
  sl_exec!
  sl_step
  isplitl [HB]; · iexact HB
  isplitl [HP]; · iexact HP
  iexact HT

/-- Before trip `k` of the second loop: all copies started and `2 k` counted off; after its last trip every delivery. -/
def drainAt (k : ℕ) (_ : Unit) : sProp 𝕄 :=
  iprop((∃ W, owes (c : Thread nD τ) 0 W) ∗ tblHeld c T
    ∗ (if k < 512 then batch c i T hT ys 1024 (2 * k * NN)
       else iprop(semVal ((c : Thread nD τ), SemLoc.dma cc0_scratch1.sem) 0 ∗ bigSep Finset.univ (dlv c i T hT ys))))

abbrev drainBody := k0_t2_body (F := Ideal) i tbl (Memref.isWhole_whole _) arg2 harg2 arg3 harg3 arg4 harg4 ysM (Memref.isWhole_whole _) arg6 harg6 bufM (Memref.isWhole_whole _) cc0_scratch1

theorem lt_all (u : ℕ) (h : u < 1023) : u * NN + NN < NN * 1024 := by have := NN_pos; nlinarith
theorem eq_all (u : ℕ) (h : u = 1023) : u * NN + NN = NN * 1024 := by subst h; ring

theorem drain_step (k : Fin k0_t2_loop.trips) (acc : Unit) :
    drainAt c i T hT ys k.val acc ⊢ wp frame (wpE (defs₀ (F := Ideal)) Variants.none (c : Thread nD τ) none) Set.univ
      (drainBody i arg2 harg2 arg3 harg3 arg4 harg4 arg6 harg6 k acc) (drainAt c i T hT ys (k.val + 1)) := by
  have hk := t2_lt k
  unfold drainAt
  simp only [if_pos hk]
  rcases Nat.lt_or_ge (k.val + 1) 512 with h1 | h1
  · simp only [if_pos h1]
    iintro ⟨⟨%W, HO⟩, HT, HB⟩
    unfold drainBody k0_t2_body
    sl_exec! (disch := first | exact chk3_of _ (hT _) | exact chk4_of _ (hT _))
    sl_step
    isplitl [HO]; · iexists _; iexact HO
    isplitl [HT]; · iexact HT
    rw [show 2 * (k.val + 1) * NN = 2 * k.val * NN + NN + NN by ring]
    iexact HB
  · simp only [if_neg (Nat.not_lt.mpr h1)]
    iintro ⟨⟨%W, HO⟩, HT, HB⟩
    unfold drainBody k0_t2_body
    sl_exec! (disch := first | exact chk3_of _ (hT _) | exact chk4_of _ (hT _))
    sl_step
    isplitl [HO]; · iexists _; iexact HO
    isplitl [HT]; · iexact HT
    isplitl [HB]; · iexact HB
    iexact HB_all

end Cert.CombineIdeal.Hand

end
-- ==== Proof.CombineBody.lean ====
/-
  One run of the combining kernel's body at one grid point: the scratch buffer is split into its 1024 rows and the
  experts' array into 1024 read shares, the two loops run, everything is joined again, and the block is computed.
-/
module

public import proofs.«01_k».proof.Proof.CombineLoop

@[expose] public section

set_option synthInstance.maxSize 4096
set_option maxRecDepth 16384
set_option Elab.async false

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

local notation "𝕄" => MT nD τ sig Unit (Elt Ideal) ℕ (UD sig nD τ) ℕ

variable (c : Dev nD) (i : grid0.Coords) (T : S16384.Idx → Elt Ideal .i32) (hT : Good T) (ys : S24576x2048.Idx → Elt Ideal .f32)

/-- The scratch buffer and the experts' array, whole. -/
abbrev bufAt (f : S2x512x2048.Idx → Elt Ideal .f32) : sProp 𝕄 := bufM.view.loc (c : Thread nD τ) ↦{fullShare} f
abbrev ysAt : sProp 𝕄 := ysM.view.loc (c : Thread nD τ) ↦{fullShare} ys

/-- The scratch buffer is its 1024 slots. -/
theorem buf_split (f : S2x512x2048.Idx → Elt Ideal .f32) : bufAt c f ⊢ bigSep Finset.univ (slotOwn c) := by
  refine (Entails.of_eq (Ring.pointsTo_blocks (ℓ := bufM.view.loc (c : Thread nD τ)) (q := fullShare) slotSet slotSet_disjoint slotSet_cover f)).trans
    (BI.bigSep_mono fun t _ => ?_)
  show (bufM.view.loc (c : Thread nD τ) ↦[slotSet t]{fullShare} f : sProp 𝕄) ⊢ slotOwn c t
  unfold slotOwn; rw [slotM_set]; iintro H; iexists f; iexact H
/-- The filled slots are the scratch buffer at what was gathered. -/
theorem buf_join : bigSep Finset.univ (slotGot c i T hT ys) ⊢ bufAt c (gathered i T hT ys) := by
  refine BIBase.Entails.trans (BI.bigSep_mono fun t _ => ?_)
    (Entails.of_eq (Ring.pointsTo_blocks (ℓ := bufM.view.loc (c : Thread nD τ)) (q := fullShare) slotSet slotSet_disjoint slotSet_cover (gathered i T hT ys)).symm)
  show slotGot c i T hT ys t ⊢ (bufM.view.loc (c : Thread nD τ) ↦[slotSet t]{fullShare} gathered i T hT ys : sProp 𝕄)
  unfold slotGot; rw [slotM_set]; exact .rfl

/-- The share of the experts' array no transfer takes. -/
abbrev ysKeep : sProp 𝕄 := ysM.view.loc (c : Thread nD τ) ↦{Transfers.shareDrop fullShare 1024} ys
/-- A transfer's share of the whole array is its row at that share and the rest. -/
theorem tok_split (t : Fin 1024) :
    (ysM.view.loc (c : Thread nD τ) ↦{Transfers.shareTokN fullShare t.val} ys : sProp 𝕄) ⊣⊢ iprop(rowTok c i T hT ys t ∗ rowRest c i T hT ys t) :=
  pointsTo_split_subset (Finset.subset_univ _)
theorem toks_eq :
    (bigSep (Finset.range 1024) (fun k => (ysM.view.loc (c : Thread nD τ) ↦{Transfers.shareTokN fullShare k} ys : sProp 𝕄)))
      = bigSep Finset.univ (fun t : Fin 1024 => (ysM.view.loc (c : Thread nD τ) ↦{Transfers.shareTokN fullShare t.val} ys : sProp 𝕄)) :=
  (Ring.bigSep_fin_eq_range 1024 _ _ (fun t h => rfl)).symm
theorem ys_split : ysAt c ys ⊢ iprop(ysKeep c ys ∗ bigSep Finset.univ (rowTok c i T hT ys) ∗ bigSep Finset.univ (rowRest c i T hT ys)) := by
  refine (Transfers.pointsTo_toks_range fullShare 1024).1.trans (sep_mono .rfl ?_)
  rw [toks_eq]
  exact BIBase.Entails.trans (BI.bigSep_mono fun t _ => (tok_split c i T hT ys t).1) (Entails.of_eq (BI.bigSep_sep _ _ _))
theorem ys_join : iprop(ysKeep c ys ∗ bigSep Finset.univ (rowTok c i T hT ys) ∗ bigSep Finset.univ (rowRest c i T hT ys)) ⊢ ysAt c ys := by
  refine BIBase.Entails.trans (sep_mono .rfl ?_) (Transfers.pointsTo_toks_range fullShare 1024).2
  rw [toks_eq]
  exact BIBase.Entails.trans (Entails.of_eq (BI.bigSep_sep _ _ _).symm) (BI.bigSep_mono fun t _ => (tok_split c i T hT ys t).2)

/-- What choice `h`'s half of a scratch buffer's contents is, as the body loads it. -/
def half0 (g : S2x512x2048.Idx → Elt Ideal .f32) : S1x512x2048.Idx → Elt Ideal .f32 :=
  View.readAt (Elt Ideal) bufM.view (Rect.unit (s := S2x512x2048) ![0, 0, 0] S1x512x2048.size inb_S2x512x2048_S1x512x2048_0_0_0).toLoadRect g
def half1 (g : S2x512x2048.Idx → Elt Ideal .f32) : S1x512x2048.Idx → Elt Ideal .f32 :=
  View.readAt (Elt Ideal) bufM.view (Rect.unit (s := S2x512x2048) ![1, 0, 0] S1x512x2048.size inb_S2x512x2048_S1x512x2048_1_0_0).toLoadRect g

/-- The block the body leaves. -/
def step (x0 : S512x2048.Idx → Elt Ideal .f32) (x1 : S512x128.Idx → Elt Ideal .f32) (x2 : S1x2048.Idx → Elt Ideal .f32) : S512x2048.Idx → Elt Ideal .f32 :=
  k0_pay1 (F := Ideal) x1 x0 (half0 (gathered i T hT ys)) (half1 (gathered i T hT ys)) x2

theorem congrArgs5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

set_option maxHeartbeats 1000000 in
/-- One run of the body: it ends, everything it reads is as it was, and the block holds `step`. -/
theorem body_run (arg2 : Memref sig .tc .vmem S512x2048 .f32) (harg2 : arg2.IsWhole) (arg3 : Memref sig .tc .vmem S512x128 .f32) (harg3 : arg3.IsWhole)
    (arg4 : Memref sig .tc .vmem S1x2048 .f32) (harg4 : arg4.IsWhole) (arg6 : Memref sig .tc .vmem S512x2048 .f32) (harg6 : arg6.IsWhole)
    (x0 : S512x2048.Idx → Elt Ideal .f32) (x1 : S512x128.Idx → Elt Ideal .f32) (x2 : S1x2048.Idx → Elt Ideal .f32) (prev : S512x2048.Idx → Elt Ideal .f32)
    (f : S2x512x2048.Idx → Elt Ideal .f32) (W : Waits sig Unit) (K : PUnit → sProp 𝕄) :
    iprop((arg2.view.loc (c : Thread nD τ) ↦[arg2.view.set]{fullShare} arg2.view.rep x0)
      ∗ (arg3.view.loc (c : Thread nD τ) ↦[arg3.view.set]{fullShare} arg3.view.rep x1)
      ∗ (arg4.view.loc (c : Thread nD τ) ↦[arg4.view.set]{fullShare} arg4.view.rep x2)
      ∗ (arg6.view.loc (c : Thread nD τ) ↦[arg6.view.set]{fullShare} arg6.view.rep prev)
      ∗ tblHeld c T ∗ ysAt c ys ∗ bufAt c f ∗ semVal ((c : Thread nD τ), SemLoc.dma cc0_scratch1.sem) 0 ∗ owes (c : Thread nD τ) 0 W
      ∗ (iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ owns (c : Thread nD τ) arg6 fullShare (step i T hT ys x0 x1 x2)
          ∗ tblHeld c T ∗ ysAt c ys ∗ bufAt c (gathered i T hT ys) ∗ semVal ((c : Thread nD τ), SemLoc.dma cc0_scratch1.sem) 0
          ∗ (∃ W, owes (c : Thread nD τ) 0 W)) -∗ K ⟨⟩))
      ⊢ wp frame (wpE (defs₀ (F := Ideal)) Variants.none c none) Set.univ (cc0_moe_combine i tbl (Memref.isWhole_whole _) arg2 harg2 arg3 harg3 arg4 harg4 ysM (Memref.isWhole_whole _) arg6 harg6 bufM (Memref.isWhole_whole _) cc0_scratch1) K := by
  have hb : bufM.IsWhole := Memref.isWhole_whole _
  iintro ⟨H2, H3, H4, H6, HT, HY, HS, Hc, HO, Hk⟩
  ihave HS := (buf_split c f) $$ HS
  ihave HY := (ys_split c i T hT ys) $$ HY
  icases HY with ⟨HY0, HYt, HYr⟩
  imod (Transfers.batch_alloc' (Lvl := ℕ) (countersEmb (U := UD sig nD τ)) (c : Thread nD τ) () NN (dlv c i T hT ys) (sm := .dma cc0_scratch1.sem) (E := Set.univ)) $$ Hc with HB
  ihave HP := (show iprop(bigSep Finset.univ (rowTok c i T hT ys) ∗ bigSep Finset.univ (slotOwn c)) ⊢ bigSep (Ring.rangeSet 1024 (2 * 0) 1024) (pend c i T hT ys) from by
    rw [show Ring.rangeSet 1024 (2 * 0) 1024 = Finset.univ from Ring.rangeSet_univ]; exact Entails.of_eq (BI.bigSep_sep _ _ _).symm) $$ [HYt HS]
  · isplitl [HYt]; · iexact HYt
    iexact HS
  ihave HI := (show iprop(batch c i T hT ys 0 0 ∗ bigSep (Ring.rangeSet 1024 (2 * 0) 1024) (pend c i T hT ys) ∗ tblHeld c T) ⊢ issueAt c i T hT ys 0 () from .rfl) $$ [HB HP HT]
  · isplitl [HB]; · iexact HB
    isplitl [HP]; · iexact HP
    iexact HT
  rw [cc0_moe_combine_eq_skeleton]; unfold cc0_moe_combine_skel
  rw [k0_part1_eq_skeleton]; unfold k0_part1_skel
  simp only [Idealize.SL.Sem.Prog.bind_assoc]
  sl_for (issueAt c i T hT ys) $$ [HI]
  · intro k acc; exact issue_step c i T hT ys arg2 harg2 arg3 harg3 arg4 harg4 arg6 harg6 k acc
  · iexact HI
  iintro %acc HI
  ihave HI := (show issueAt c i T hT ys k0_t1_loop.trips acc ⊢ iprop(batch c i T hT ys 1024 0 ∗ tblHeld c T) from by
    rw [trips1]; unfold issueAt; iintro ⟨HB, -, HT⟩; isplitl [HB]; · iexact HB
    iexact HT) $$ HI
  icases HI with ⟨HB, HT⟩
  sl_for (drainAt c i T hT ys) $$ [HB HT HO]
  · intro k acc; exact drain_step c i T hT ys arg2 harg2 arg3 harg3 arg4 harg4 arg6 harg6 k acc
  · unfold drainAt
    rw [if_pos (by omega)]
    isplitl [HO]; · iexists _; iexact HO
    isplitl [HT]; · iexact HT
    rw [show 2 * 0 * NN = 0 by simp]
    iexact HB
  iintro %acc2 HL
  ihave HL := (show drainAt c i T hT ys k0_t2_loop.trips acc2 ⊢ iprop((∃ W, owes (c : Thread nD τ) 0 W) ∗ tblHeld c T
      ∗ semVal ((c : Thread nD τ), SemLoc.dma cc0_scratch1.sem) 0 ∗ bigSep Finset.univ (slotGot c i T hT ys) ∗ bigSep Finset.univ (rowTok c i T hT ys)) from by
    rw [trips2]; unfold drainAt; rw [if_neg (Nat.lt_irrefl _)]
    iintro ⟨HO, HT, Hc, Hall⟩
    isplitl [HO]; · iexact HO
    isplitl [HT]; · iexact HT
    isplitl [Hc]; · iexact Hc
    iapply (show bigSep Finset.univ (dlv c i T hT ys) ⊢ iprop(bigSep Finset.univ (slotGot c i T hT ys) ∗ bigSep Finset.univ (rowTok c i T hT ys)) from Entails.of_eq (BI.bigSep_sep _ _ _))
    iexact Hall) $$ HL
  icases HL with ⟨HO, HT, Hc, HS, HYt⟩
  ihave HS := (buf_join c i T hT ys) $$ HS
  ihave HY := (ys_join c i T hT ys) $$ [HY0 HYt HYr]
  · isplitl [HY0]; · iexact HY0
    isplitl [HYt]; · iexact HYt
    iexact HYr
  sl_exec!
  sl_step
  iapply Hk
  isplitl [H2]; · iexact H2
  isplitl [H3]; · iexact H3
  isplitl [H4]; · iexact H4
  isplitl [H6]
  · unfold owns
    iexists _; isplitr; swap; · iexact H6
    ipureintro
    sl_unfold_words
    refine (View.read_writes_full arg6.view _ _ _ _).trans ?_
    exact congrArgs5 (k0_pay1 (F := Ideal)) (View.readAt_rep_full arg3.view x1 _) (View.readAt_rep_full arg2.view x0 _) rfl rfl (View.readAt_rep_full arg4.view x2 _)
  isplitl [HT]; · iexact HT
  isplitl [HY]; · iexact HY
  isplitl [HS]; · iexact HS
  isplitl [Hc]; · iexact Hc
  iexact HO

end Cert.CombineIdeal.Hand

end
-- ==== Proof.CombineRun.lean ====
/-
  The combining kernel's run over its whole grid, at any contents of the position table that name rows of the experts'
  array: what each point leaves, the body's obligation at each point, and what the arrays hold when the program ends.
-/
module

public import proofs.«01_k».proof.Proof.CombineBody
public import Idealize.ShloMosaic.Lib.Affine
public import Idealize.ShloMosaic.Lib.Pipeline.Frame
public import Idealize.ShloMosaic.Lib.Pipeline.TableIdle
public import Idealize.ShloMosaic.Lib.Claim
public import Idealize.ShloMosaic.Adequacy
public import Idealize.ShloMosaic.Init

@[expose] public section

set_option synthInstance.maxSize 4096
set_option maxRecDepth 16384
set_option Elab.async false

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

local notation "𝕄" => MT nD τ sig Unit (Elt Ideal) ℕ (UD sig nD τ) ℕ

variable (a : (pcfg0 (F := Ideal)).Adm)

/-- The position table's contents. -/
abbrev T0 : S16384.Idx → Elt Ideal .i32 := a.1 0
abbrev cfgA : Pipeline.Cfg sig Λ₀ := cfg0 (F := Ideal) a

variable (m : (ℓ : Loc nD τ sig) → Buf (Elt Ideal) ℓ) (ρ : Dev nD → PrngReg)

/-- Every array as the region finds it: the host's reshape done. -/
def VM (c : Dev nD) (b : Ref sig .tc) : Buf (Elt Ideal) ((c.tc : Thread nD τ).loc b) :=
  StableHlo.after (hostOps0 (F := Ideal)) (fun b => m (c, b)) b

/-- The experts' rows. -/
abbrev YS (c : Dev nD) : S24576x2048.Idx → Elt Ideal .f32 := VM m c main_arg3

/-- Point `t`'s coordinates, and each window's current staging buffer there. -/
abbrev crd (t : Fin (cfgA a).N) : (cfgA a).grid.Coords := (cfgA a).grid.coords t
abbrev ms0_0 (t : Fin (cfgA a).N) : Memref sig .tc .vmem S512x2048 .f32 := spec0_0.stage ((cfgA a).slots t (0 : Fin 4))
abbrev hs0_0 (t : Fin (cfgA a).N) : (ms0_0 a t).IsWhole := hstage0_0 (((cfgA a).slots t (0 : Fin 4)).cast nbuf0_0)
abbrev ms0_1 (t : Fin (cfgA a).N) : Memref sig .tc .vmem S512x128 .f32 := spec0_1.stage ((cfgA a).slots t (1 : Fin 4))
abbrev hs0_1 (t : Fin (cfgA a).N) : (ms0_1 a t).IsWhole := hstage0_1 (((cfgA a).slots t (1 : Fin 4)).cast nbuf0_1)
abbrev ms0_2 (t : Fin (cfgA a).N) : Memref sig .tc .vmem S1x2048 .f32 := spec0_2.stage ((cfgA a).slots t (2 : Fin 4))
abbrev hs0_2 (t : Fin (cfgA a).N) : (ms0_2 a t).IsWhole := hstage0_2 (((cfgA a).slots t (2 : Fin 4)).cast nbuf0_2)
abbrev ms0_3 (t : Fin (cfgA a).N) : Memref sig .tc .vmem S512x2048 .f32 := spec0_3.stage ((cfgA a).slots t (3 : Fin 4))
abbrev hs0_3 (t : Fin (cfgA a).N) : (ms0_3 a t).IsWhole := hstage0_3 (((cfgA a).slots t (3 : Fin 4)).cast nbuf0_3)

/-- Window `w`'s block at point `t`, of its array as the region finds it. -/
def iblk (c : Dev nD) (w : Fin (cfgA a).W) (t : Fin (cfgA a).N) : (((cfgA a).win w).xblock (crd a t)).Idx → Elt Ideal ((cfgA a).win w).elt :=
  (((cfgA a).win w).blk t).view.read (Elt Ideal) (VM m c (Pipeline.arrRef spec0 w))

variable (hT : Good (T0 a))

/-- What point `t` leaves in the result's block. -/
def step0 (c : Dev nD) (t : Fin (cfgA a).N) : S512x2048.Idx → Elt Ideal .f32 :=
  step (crd a t) (T0 a) hT (YS m c) (iblk a m c (0 : Fin 4) t) (iblk a m c (1 : Fin 4) t) (iblk a m c (2 : Fin 4) t)

/-! ### The kernel's own semaphore and the array it copies rows of -/

abbrev osem0 : Fin 1 → SemLoc sig := fun _ => SemLoc.dma cc0_scratch1.sem
theorem ownSemFacts0 : Pipeline.OwnSemFacts spec0 osem0 := by decide
theorem ownSems00_eq (c : Dev nD) :
    (Pipeline.ownSems0 (Ix := Unit) (Name := ℕ) (U := UD sig nD τ) (Lvl := ℕ) (Val := Elt Ideal) (τ := τ) osem0 c : sProp 𝕄)
      = semVal ((c : Thread nD τ), SemLoc.dma cc0_scratch1.sem) 0 := by
  rw [Pipeline.ownSems0_eq_of_list c osem0 [0] (by decide) (by decide)]; rfl
def H0 : Finset (Ref sig .tc) := {main_arg3}
theorem H0_sub : H0 ⊆ Pipeline.restRefsP sig pre0 spec0 := by decide
theorem hbmPts0_eq (c : Dev nD) :
    (bigSep H0 (fun b => ((c : Thread nD τ).loc b) ↦{fullShare} VM m c b) : sProp 𝕄) = ysAt c (YS m c) := by
  rw [BI.bigSep_eq_bigSepL_of_eq [main_arg3] (by decide) (by decide)]; rfl

/-- What the body keeps between points. -/
def Phi (c : Dev nD) : sProp 𝕄 := iprop(Pipeline.ΦD osem0 spec0 H0 (VM m) c ∗ tblHeld c (T0 a))
theorem Phi_eq (c : Dev nD) :
    Phi a m c = iprop(((∃ f, bufAt c f) ∗ (∃ r, prngReg c r) ∗ semVal ((c : Thread nD τ), SemLoc.dma cc0_scratch1.sem) 0 ∗ ysAt c (YS m c)) ∗ tblHeld c (T0 a)) := by
  unfold Phi
  rw [Pipeline.ΦD_eq, scopedRest0_eq, ownSems00_eq, hbmPts0_eq]; rfl

/-- The pipeline's proof data on core `c`. -/
def dats (_ : Fin 1) (c : Dev nD) : Dat τ (Elt Ideal) Unit ℕ (UD sig nD τ) ℕ (cfgA a) c where
  A w := VM m c (Pipeline.arrRef spec0 w)
  after w t := match w with
    | ⟨0, _⟩ => iblk a m c (0 : Fin 4) t
    | ⟨1, _⟩ => iblk a m c (1 : Fin 4) t
    | ⟨2, _⟩ => iblk a m c (2 : Fin 4) t
    | ⟨3, _⟩ => step0 a m hT c t
  Φ _ := Phi a m c
  q _ := fullShare
  owed _ := 0

theorem after0_0 (c : Dev nD) (t : Fin (cfgA a).N) : (dats a m hT 0 c).after (0 : Fin 4) t = iblk a m c (0 : Fin 4) t := rfl
theorem after0_1 (c : Dev nD) (t : Fin (cfgA a).N) : (dats a m hT 0 c).after (1 : Fin 4) t = iblk a m c (1 : Fin 4) t := rfl
theorem after0_2 (c : Dev nD) (t : Fin (cfgA a).N) : (dats a m hT 0 c).after (2 : Fin 4) t = iblk a m c (2 : Fin 4) t := rfl
theorem after0_3 (c : Dev nD) (t : Fin (cfgA a).N) : (dats a m hT 0 c).after (3 : Fin 4) t = step0 a m hT c t := rfl

/-- An input window holds its block at every point. -/
theorem before0_0 (c : Dev nD) (t : Fin (cfgA a).N) (d) : (dats a m hT 0 c).before (0 : Fin 4) t d = iblk a m c (0 : Fin 4) t :=
  ((dats a m hT 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m hT 0 c).before (1 : Fin 4) t d = iblk a m c (1 : Fin 4) t :=
  ((dats a m hT 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m hT 0 c).before (2 : Fin 4) t d = iblk a m c (2 : Fin 4) t :=
  ((dats a m hT 0 c).before_in_eq_fetched (2 : Fin 4) rfl (fun _ => rfl) (fun _ _ _ => rfl) (fun t => by rw [after0_2]; unfold Dat.blockOf iblk; rfl) t d).trans
    (by unfold Dat.fetched Dat.blockOf iblk; rfl)

/-! ## The body's obligation -/

/-- The body at point `t` on its staging buffers. -/
abbrev bodyAt0 (t : Fin (cfgA a).N) : Prog (TpuEff nD τ sig (Elt Ideal) Λ₀ .tc) PUnit :=
  cc0_moe_combine (crd a t) (Memref.whole main_arg0) (Memref.isWhole_whole _) (ms0_0 a t) (hs0_0 a t) (ms0_1 a t) (hs0_1 a t) (ms0_2 a t) (hs0_2 a t) (Memref.whole main_arg3) (Memref.isWhole_whole _) (ms0_3 a t) (hs0_3 a t) (Memref.whole cc0_scratch0) (Memref.isWhole_whole _) cc0_scratch1

set_option maxHeartbeats 4000000 in
/-- The body's obligation at point `t`. -/
theorem sound_body (c : Dev nD) (t : Fin (cfgA a).N) :
    iprop((dats a m hT 0 c).Φ t.castSucc ∗ (dats a m hT 0 c).owesAt () t.castSucc
        ∗ (∃ d, owns (c : Thread nD τ) (ms0_0 a t) fullShare ((dats a m hT 0 c).before (0 : Fin 4) t d))
        ∗ (∃ d, owns (c : Thread nD τ) (ms0_1 a t) fullShare ((dats a m hT 0 c).before (1 : Fin 4) t d))
        ∗ (∃ d, owns (c : Thread nD τ) (ms0_2 a t) fullShare ((dats a m hT 0 c).before (2 : Fin 4) t d))
        ∗ (∃ d, owns (c : Thread nD τ) (ms0_3 a t) fullShare ((dats a m hT 0 c).before (3 : Fin 4) t d)))
      ⊢ wp frame (wpE (defs₀ (F := Ideal)) Variants.none c none) Set.univ (bodyAt0 a t) fun _ =>
          iprop((dats a m hT 0 c).Φ t.succ ∗ (dats a m hT 0 c).owesAt () t.succ
            ∗ owns (c : Thread nD τ) (ms0_0 a t) fullShare ((dats a m hT 0 c).after (0 : Fin 4) t)
            ∗ owns (c : Thread nD τ) (ms0_1 a t) fullShare ((dats a m hT 0 c).after (1 : Fin 4) t)
            ∗ owns (c : Thread nD τ) (ms0_2 a t) fullShare ((dats a m hT 0 c).after (2 : Fin 4) t)
            ∗ owns (c : Thread nD τ) (ms0_3 a t) fullShare ((dats a m hT 0 c).after (3 : Fin 4) t)) := by
  rewrite [show (dats a m hT 0 c).Φ t.succ = Phi a m c from rfl, show (dats a m hT 0 c).Φ t.castSucc = Phi a m c from rfl,
    show (dats a m hT 0 c).owesAt () t.succ = (dats a m hT 0 c).owesAt () t.castSucc from rfl, Phi_eq]
  unfold Dat.owesAt Pipeline.owesWithin
  rewrite [show (dats a m hT 0 c).owed t.castSucc = 0 from rfl]
  simp only [before0_0, before0_1, before0_2, after0_0, after0_1, after0_2, after0_3]
  iintro ⟨⟨⟨⟨%f, HS⟩, Hr, Hc, HY⟩, HT⟩, ⟨%W, %hW, HO⟩, ⟨%d0, H0⟩, ⟨%d1, H1⟩, ⟨%d2, H2⟩, ⟨%d3, H3⟩⟩
  iapply (body_run c (crd a t) (T0 a) hT (YS m c) (ms0_0 a t) (hs0_0 a t) (ms0_1 a t) (hs0_1 a t) (ms0_2 a t) (hs0_2 a t) (ms0_3 a t) (hs0_3 a t)
    (iblk a m c (0 : Fin 4) t) (iblk a m c (1 : Fin 4) t) (iblk a m c (2 : Fin 4) t) ((dats a m hT 0 c).before (3 : Fin 4) t d3) f W _)
  isplitl [H0]; · iapply rep_of_owns; iexact H0
  isplitl [H1]; · iapply rep_of_owns; iexact H1
  isplitl [H2]; · iapply rep_of_owns; iexact H2
  isplitl [H3]; · iapply rep_of_owns; iexact H3
  isplitl [HT]; · iexact HT
  isplitl [HY]; · iexact HY
  isplitl [HS]; · iexact HS
  isplitl [Hc]; · iexact Hc
  isplitl [HO]; · iexact HO
  iintro ⟨H0, H1, H2, H3, HT, HY, HS, Hc, ⟨%W', HO⟩⟩
  isplitl [HT HY HS Hc Hr]
  · isplitr [HT]; swap; · iexact HT
    isplitl [HS]; · iexists _; iexact HS
    isplitl [Hr]; · iexact Hr
    isplitl [Hc]; · iexact Hc
    iexact HY
  isplitl [HO]
  · iexists W'; isplitr; · ipureintro; exact fun _ _ => Or.inl trivial
    iexact HO
  isplitl [H0]; · iapply owns_of_rep; iexact H0
  isplitl [H1]; · iapply owns_of_rep; iexact H1
  isplitl [H2]; · iapply owns_of_rep; iexact H2
  iexact H3

theorem body_obligation (c : Dev nD) : BodyObligation (dats a m hT 0 c) (defs₀ (F := Ideal)) Variants.none () Set.univ := fun t => by
  rw [bigSep_W0, bigSep_W0]
  exact sound_body a m hT c t

/-! ## The launch -/

/-- The table as the launch hands it to the body. -/
theorem prefHeld_eq (c : Dev nD) (q : Fin 1 → PosShare TreeShare) (v : pre0.Contents (Elt Ideal)) :
    (Pipeline.prefHeld (Ix := Unit) (Name := ℕ) (U := UD sig nD τ) (Lvl := ℕ) pre0 c q v : sProp 𝕄)
      = (((c : Thread nD τ).loc main_arg0) ↦{q 0} v 0) := by
  unfold Pipeline.prefHeld
  rw [show (Finset.univ : Finset (Fin 1)) = {(0 : Fin 1)} from by decide, bigSep_singleton]
  rfl

theorem phi_intro (c : Dev nD) :
    iprop(Pipeline.ΦD osem0 spec0 H0 (VM m) c ∗ Pipeline.ΦT (Val := Elt Ideal) (U := UD sig nD τ) pre0 a.1 c) ⊢ Phi a m c := by
  unfold Pipeline.ΦT Phi
  rw [prefHeld_eq]

theorem phi_exit (c : Dev nD) : Phi a m c ⊢ Pipeline.ΦD osem0 spec0 H0 (VM m) c := by
  unfold Phi
  iintro ⟨HD, -⟩
  iexact HD

/-- The host's reshape touches nothing the kernel's arguments hold. -/
theorem VM_arg0 (c : Dev nD) : VM m c main_arg0 = m ((c : Thread nD τ).loc main_arg0) := by
  unfold VM
  after_results
theorem VM_arg1 (c : Dev nD) : VM m c main_arg1 = m ((c : Thread nD τ).loc main_arg1) := by
  unfold VM
  after_results
theorem VM_arg2 (c : Dev nD) : VM m c main_arg2 = m ((c : Thread nD τ).loc main_arg2) := by
  unfold VM
  after_results
theorem VM_arg3 (c : Dev nD) : VM m c main_arg3 = m ((c : Thread nD τ).loc main_arg3) := by
  unfold VM
  after_results
theorem VM_arg4 (c : Dev nD) : VM m c main_arg4 = m ((c : Thread nD τ).loc main_arg4) := by
  unfold VM
  after_results

/-- What the program ends with: every array at what the pipeline computes, every other buffer as the region found it. -/
def QC : PUnit × MemSt nD τ sig (Elt Ideal) → Prop := fun r =>
  ∀ c : Dev nD, (∀ w : Fin (cfgA a).W, r.2.mem (((cfgA a).win w).arr.view.loc (c : Thread nD τ)) = (dats a m hT 0 c).arrAt w (cfgA a).N)
    ∧ (r.2.mem ((c : Thread nD τ).loc main_arg0) = m ((c : Thread nD τ).loc main_arg0)
      ∧ r.2.mem ((c : Thread nD τ).loc main_arg3) = m ((c : Thread nD τ).loc main_arg3)
      ∧ r.2.mem ((c : Thread nD τ).loc main_arg4) = m ((c : Thread nD τ).loc main_arg4))

set_option backward.isDefEq.respectTransparency.types false in
set_option maxHeartbeats 4000000 in
/-- From any memory whose table is `a`, the program ends with the arrays at what the pipeline computes and all
    semaphores at zero. -/
theorem run_main (hp : ∀ (c : Dev nD), m ((c : Thread nD τ).loc main_arg0) = T0 a) :
    θ_run (defs (F := Ideal)) (onTc (τ := τ) (main (F := Ideal))) (s₀ m ρ) (fun r => QC a m hT r ∧ r.2.sem = fun _ => 0) :=
  Pipeline.θ_run_frameP_dma pcfgs (fun _ => a) (dats a m hT) (0 : Fin 1) launch0 osem0 defs₀ Variants.none ownSemFacts0 H0 H0_sub m ρ main
    (hbody := fun c => (body_obligation a m hT c).loose) (hshare := fun c => (dats a m hT 0 c).share_full fun _ => rfl) (howed := fun _ _ => rfl)
    (V := VM m)
    (hmain := Pipeline.hmainP_prefix pcfgs 0 defs₀ Variants.none m main hostOps0 hostOps0_sub rfl main_chain)
    (hA := fun _ _ => rfl) (hpf := fun c k => by
      match k with
      | ⟨0, _⟩ => exact (VM_arg0 m c).trans (hp c))
    (hin := fun c => phi_intro a m c) (hout := fun c => phi_exit a m c)
    (Q' := fun r => QC a m hT r ∧ r.2.sem = fun _ => 0)
    (hQ' := fun r h => ⟨fun c => ⟨(h.1 c).1, ((h.1 c).2 main_arg0 (show main_arg0 ∈ Pipeline.restRefs sig spec0 from by decide)).trans (VM_arg0 m c),
      ((h.1 c).2 main_arg3 (show main_arg3 ∈ Pipeline.restRefs sig spec0 from by decide)).trans (VM_arg3 m c),
      ((h.1 c).2 main_arg4 (show main_arg4 ∈ Pipeline.restRefs sig spec0 from by decide)).trans (VM_arg4 m c)⟩, h.2⟩)

include hT in
/-- The frame: every argument ends unchanged and every semaphore at zero. -/
theorem frame_of (hp : ∀ (c : Dev nD), m ((c : Thread nD τ).loc main_arg0) = T0 a) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2.1,
    (((h.1 c).1 (0 : Fin 4)).trans ((dats a m hT 0 c).arrAt_in (0 : Fin 4) rfl _)).trans (VM_arg1 m c),
    (((h.1 c).1 (1 : Fin 4)).trans ((dats a m hT 0 c).arrAt_in (1 : Fin 4) rfl _)).trans (VM_arg2 m c),
    (h.1 c).2.2.1, (h.1 c).2.2.2⟩, h.2⟩) (run_main a m ρ hT hp)

end Cert.CombineIdeal.Hand

end
-- ==== Proof.CombinePre.lean ====
/-
  The precondition of the combining call, decoded: every position names a row of the experts' array.
-/
module

public import proofs.«01_k».proof.Proof.Gen.Pre_positions_in_range
public import Idealize.ShloMosaic.PureOps.Ideal
public import Idealize.ShloMosaic.Lib.ValueIdxCore

@[expose] public section

set_option maxRecDepth 16384

noncomputable section

namespace Cert.CombinePre

open Idealize.ShloMosaic Cert.Pre_positions_in_range

/-- A word that is not negative and below 24576 as a signed number is below it as a natural number. -/
theorem small_of (w : BitVec 32) (h : IntOp.andi (IntOp.cmpi .sge w 0#32) (IntOp.cmpi .slt w 24576#32) = 1#1) : w.toNat < 24576 := by
  have hand : ∀ p q : BitVec 1, IntOp.andi p q = 1#1 → p = 1#1 ∧ q = 1#1 := by unfold IntOp.andi; decide
  have hbit : ∀ b : Bool, BitVec.ofBool b = 1#1 → b = true := by decide
  obtain ⟨hp, hq⟩ := hand _ _ h
  have h0 := hbit _ hp
  have h1 := hbit _ hq
  rw [BitVec.sle_iff_toInt_le] at h0
  rw [BitVec.slt_iff_toInt_lt] at h1
  have e0 : (0#32).toInt = 0 := by decide
  have e1 : (24576#32).toInt = 24576 := by decide
  have hw := BitVec.toInt_eq_toNat_cond w
  have := w.isLt
  rw [e0] at h0; rw [e1] at h1
  split at hw <;> omega

/-- The precondition's array of bits, all set, puts every position in range. -/
theorem good_of {F : FTy → Type} [FloatOps F] (pos : IVec S16384 32) (a1 : FVec F S8192x2048 .f32) (a2 : FVec F S8192x128 .f32)
    (a3 : FVec F S24576x2048 .f32) (a4 : FVec F S2048 .f32) (h : fn (F := F) pos a1 a2 a3 a4 = fun _ => 1#1) :
    ∀ x : S16384.Idx, BitVec.toNat (w := 32) (pos x) < 24576 := fun x => small_of (pos x) (congrFun h x)

end Cert.CombinePre

end
-- ==== Proof.CombineTab.lean ====
/-
  The combining call from any memory whose positions are in range: the table the pipeline reads, and the frame.
-/
module

public import proofs.«01_k».proof.Proof.CombineRun
public import proofs.«01_k».proof.Proof.CombinePre

@[expose] public section

set_option maxRecDepth 16384

noncomputable section

namespace Cert.CombineIdeal.Hand

open Cert.CombineIdeal Cert.CombineIdeal.Gen
open Idealize.ShloMosaic Idealize.ShloMosaic.TcCoe
open Idealize.SL.Sem

variable (m : (ℓ : Loc nD τ sig) → Buf (Elt Ideal) ℓ) (ρ : Dev nD → PrngReg)

/-- The position table a memory holds; no window reads it, so the pipeline admits any. -/
def admOf : (pcfg0 (F := Ideal)).Adm := ⟨fun k => m (((0 : Dev nD) : Thread nD τ).loc (pre0.ref k)), trivial⟩

theorem admOf_eq (c : Dev nD) : m ((c : Thread nD τ).loc main_arg0) = T0 (admOf m) := by
  have hc : c = 0 := Subsingleton.elim _ _
  subst hc; rfl

/-- The frame from any memory with positions in range. -/
theorem frame (h : Good (m (((0 : Dev nD) : Thread nD τ).loc main_arg0))) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_of (admOf m) m ρ h (admOf_eq m)

end Cert.CombineIdeal.Hand

end
-- ==== Proof.CombineRow.lean ====
/-
  A token's combined row: the residual stream plus its two experts' rows by their weights, normed. And the host's
  gather of rows, read at an index.
-/
module

public import Idealize.ShloMosaic.PureOps
public import Idealize.ShloMosaic.PureOps.Ideal
public import Idealize.ShloMosaic.Lib.Pointwise

@[expose] public section

noncomputable section

namespace Cert.CombineRow

open Idealize.ShloMosaic

/-- The stream's row `x` plus the rows `y` and `z` weighted by `p` and `q`. -/
def mixed (x : Fin 2048 → EReal) (p q : EReal) (y z : Fin 2048 → EReal) (k : Fin 2048) : EReal := x k + p * y k + q * z k

/-- The reference adds the two weighted rows first and the stream to them: the same sum. -/
theorem mixed_of (x : Fin 2048 → EReal) (p q : EReal) (y z : Fin 2048 → EReal) (k : Fin 2048) :
    x k + (p * y k + q * z k) = mixed x p q y z k := (add_assoc _ _ _).symm

/-- A row divided by the root of its mean square, and scaled. -/
def normed (v g : Fin 2048 → EReal) (l : Fin 2048) : EReal :=
  v l * Ideal.rsqrt (Ideal.div (∑ k, v k * v k) (Ideal.ofBits FTy.f32 1157627904#32) + Ideal.ofBits FTy.f32 897988541#32) * g l

/-- A token's entry of a table of two entries per token. -/
def place (R : Fin 8192) (j : Fin 2) : Fin 16384 := ⟨2 * R.val + j.val, by omega⟩

/-- The result's row of token `R`: its row of the stream, the rows of the experts' array its two positions name, its two
    routing weights (columns 2 and 3), and the scale. -/
def token (pos : Fin 16384 → BitVec 32) (hp : ∀ n, (pos n).toNat < 24576) (x : Fin 8192 → Fin 2048 → EReal) (w : Fin 8192 → Fin 128 → EReal)
    (y : Fin 24576 → Fin 2048 → EReal) (g : Fin 2048 → EReal) (R : Fin 8192) (l : Fin 2048) : EReal :=
  normed (mixed (x R) (w R 2) (w R 3) (y ⟨(pos (place R 0)).toNat, hp _⟩) (y ⟨(pos (place R 1)).toNat, hp _⟩)) g l

variable {α : Type} {N A T : ℕ}

/-- The dimension numbers of picking rows of `[N, A]` by `T` entries. -/
abbrev rowDims (N A T : ℕ)
    (wf : GatherDims.WF ⟨2, ![N, A]⟩ ⟨2, ![T, 1]⟩ ⟨2, ![T, A]⟩ [1] [0] [] [0] [] 1 ![1, A]) :
    GatherDims ⟨2, ![N, A]⟩ ⟨2, ![T, 1]⟩ ⟨2, ![T, A]⟩ where
  offsetDims := [1]
  collapsedSliceDims := [0]
  operandBatchingDims := []
  startIndicesBatchingDims := []
  startIndexMap := [0]
  indexVectorDim := 1
  sliceSizes := ![1, A]
  wf := wf

/-- Row `t` of the result is the row the `t`-th entry names. -/
theorem row_apply (hN : 0 < N)
    (wf : GatherDims.WF ⟨2, ![N, A]⟩ ⟨2, ![T, 1]⟩ ⟨2, ![T, A]⟩ [1] [0] [] [0] [] 1 ![1, A])
    (x : (⟨2, ![N, A]⟩ : Shape).Idx → α) (idx : IVec ⟨2, ![T, 1]⟩ 32) (t : Fin T) (p : Fin A) :
    Host.gather (rowDims N A T wf) x idx (ix2 t p) = x (ix2 ⟨min (idx (ix2 t 0)).toInt.toNat (N - 1), by omega⟩ p) := by
  unfold Host.gather
  congr 1
  have hb : ∀ a, (rowDims N A T wf).batchCoord (ix2 t p) a = 0 := fun a => GatherDims.batchCoord_eq_zero _ _ _ List.not_mem_nil
  funext a
  refine Fin.ext ?_
  show (rowDims N A T wf).start (ix2 t p) idx a + (rowDims N A T wf).batchCoord (ix2 t p) a + (rowDims N A T wf).offCoord (ix2 t p) a = _
  rw [hb, Nat.add_zero]
  match a with
  | ⟨0, _⟩ =>
    show (rowDims N A T wf).start (ix2 t p) idx 0 + (rowDims N A T wf).offCoord (ix2 t p) 0 = _
    rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N A T wf).startIndexMap from List.mem_singleton.mpr rfl)]
    have hsi : (rowDims N A T wf).siIdx (ix2 t p) ⟨List.idxOf (0 : Fin 2) (rowDims N A T wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  | ⟨1, _⟩ =>
    have e : (rowDims N A T wf).start (ix2 t p) idx 1 = 0 := by
      unfold GatherDims.start; rw [dif_neg (by simp)]
    show (rowDims N A T wf).start (ix2 t p) idx 1 + (rowDims N A T wf).offCoord (ix2 t p) 1 = _
    rw [e, Nat.zero_add]
    unfold GatherDims.offCoord
    rw [dif_pos ((GatherDims.mem_sKept _ _).mpr ⟨by simp, by simp⟩)]
    rfl

/-- A row index that is in range is unchanged by the host's rule for negative indices. -/
theorem index_eq (w n : BitVec 32) (N : ℕ) (hN : N < 2 ^ 31) (h : w.toNat < N) :
    min (Scalar.select (IntOp.cmpi .slt w 0#32) (IntOp.addi w n) w).toInt.toNat (N - 1) = w.toNat := by
  have ht : w.toInt = w.toNat := by
    rw [BitVec.toInt_eq_toNat_cond, if_pos (by omega)]
  have hs : w.slt 0#32 = false := by
    rw [← Bool.not_eq_true, BitVec.slt_iff_toInt_lt, ht]
    simp
  have hsel : Scalar.select (IntOp.cmpi .slt w 0#32) (IntOp.addi w n) w = w := by
    have hc : IntOp.cmpi .slt w 0#32 = 0#1 := by unfold IntOp.cmpi; simp [hs]
    rw [hc]
    exact if_neg (by decide)
  rw [hsel, ht]
  simp; omega

end Cert.CombineRow

end
-- ==== Proof.CombineVal.lean ====
/-
  The combining call's result array, row by row: a token's row of the stream plus its two experts' rows by their
  weights, normed.
-/
module

public import proofs.«01_k».proof.Proof.CombineTab
public import proofs.«01_k».proof.Proof.CombineRow
public import Idealize.ShloMosaic.Lib.Pointwise
public import Idealize.ShloMosaic.Lib.Tactic

@[expose] public section

set_option maxRecDepth 16384

noncomputable section

namespace Cert.CombineIdeal.Hand

open Cert.CombineIdeal Cert.CombineIdeal.Gen
open Idealize.ShloMosaic Idealize.ShloMosaic.TcCoe
open Idealize.SL.Sem
open Idealize.ShloMosaic.Pointwise
open Cert.CombineRow

/-- A block's row, from what the body loads. -/
theorem pay_apply (w : S512x128.Idx → EReal) (x : S512x2048.Idx → EReal) (y z : S1x512x2048.Idx → EReal) (g : S1x2048.Idx → EReal) (r : Fin 512) (l : Fin 2048) :
    k0_pay1 (F := Ideal) w x y z g (ix2 r l)
      = normed (mixed (fun k => x (ix2 r k)) (w (ix2 r 2)) (w (ix2 r 3)) (fun k => y (ix3 0 r k)) (fun k => z (ix3 0 r k))) (fun l => g (ix2 0 l)) l := by
  pointwise [k0_pay1]
  rfl

/-- The first of a token's two gathered rows is the one its first position names. -/
theorem half0_apply (i : grid0.Coords) (T : S16384.Idx → BitVec 32) (hT : Good T) (ys : S24576x2048.Idx → EReal) (R : Fin 8192) (r : Fin 512)
    (e : R.val = 512 * (i 0).val + r.val) (k : Fin 2048) :
    half0 (gathered i T hT ys) (ix3 0 r k) = ys (ix2 ⟨(T (ix1 (place R 0))).toNat, hT _⟩ k) := by
  have he : entry i (fillerOf (ix3 0 r k : S2x512x2048.Idx)) = ix1 (place R 0) := by
    funext x; apply Fin.ext
    match x with
    | ⟨0, _⟩ =>
      show 1024 * (i 0).val + (2 * r.val + 0) = 2 * R.val + 0
      omega
  have h1 : half0 (gathered i T hT ys) (ix3 0 r k) = gathered i T hT ys (ix3 0 r k) := by
    unfold half0
    refine congrArg (gathered i T hT ys) (funext fun x => Fin.ext ?_)
    match x with
    | ⟨0, _⟩ => rfl
    | ⟨1, _⟩ => exact (show 0 + 1 * r.val = r.val by omega)
    | ⟨2, _⟩ => exact (show 0 + 1 * k.val = k.val by omega)
  rw [h1]
  refine congrArg ys (funext fun x => Fin.ext ?_)
  match x with
  | ⟨0, _⟩ => exact congrArg (fun j => (T j).toNat) he
  | ⟨1, _⟩ => rfl

/-- The second, by the second. -/
theorem half1_apply (i : grid0.Coords) (T : S16384.Idx → BitVec 32) (hT : Good T) (ys : S24576x2048.Idx → EReal) (R : Fin 8192) (r : Fin 512)
    (e : R.val = 512 * (i 0).val + r.val) (k : Fin 2048) :
    half1 (gathered i T hT ys) (ix3 0 r k) = ys (ix2 ⟨(T (ix1 (place R 1))).toNat, hT _⟩ k) := by
  have he : entry i (fillerOf (ix3 1 r k : S2x512x2048.Idx)) = ix1 (place R 1) := by
    funext x; apply Fin.ext
    match x with
    | ⟨0, _⟩ =>
      show 1024 * (i 0).val + (2 * r.val + 1) = 2 * R.val + 1
      omega
  have h1 : half1 (gathered i T hT ys) (ix3 0 r k) = gathered i T hT ys (ix3 1 r k) := by
    unfold half1
    refine congrArg (gathered i T hT ys) (funext fun x => Fin.ext ?_)
    match x with
    | ⟨0, _⟩ => rfl
    | ⟨1, _⟩ => exact (show 0 + 1 * r.val = r.val by omega)
    | ⟨2, _⟩ => exact (show 0 + 1 * k.val = k.val by omega)
  rw [h1]
  refine congrArg ys (funext fun x => Fin.ext ?_)
  match x with
  | ⟨0, _⟩ => exact congrArg (fun j => (T j).toNat) he
  | ⟨1, _⟩ => rfl

variable (m : (ℓ : Loc nD τ sig) → Buf (Elt Ideal) ℓ) (c : Dev nD) (a : (pcfg0 (F := Ideal)).Adm)

theorem ltN (t : Fin (cfgA a).N) : t.val < 16 := lt_of_lt_of_eq t.isLt N_0

/-- A point's coordinate is its number. -/
theorem crd_eq (t : Fin (cfgA a).N) : (crd a t 0).val = t.val := by
  have h := ltN a t
  show t.val / 1 % 16 = t.val
  omega

/-- The token a point's block row is. -/
def tok (t : Fin (cfgA a).N) (r : Fin 512) : Fin 8192 := ⟨512 * t.val + r.val, by have := ltN a t; omega⟩

theorem tok_crd (t : Fin (cfgA a).N) (r : Fin 512) : (tok a t r).val = 512 * (crd a t 0).val + r.val := by
  rw [crd_eq]; rfl

theorem index0 (t : Fin (cfgA a).N) : ((cfgA a).win (0 : Fin 4)).index t = ![t.val, 0] := by
  have ht := ltN a t
  show cc0_transform_0 (grid0.coords t) = _
  unfold cc0_transform_0
  have e := crd_eq a t
  simp only [show ((grid0.coords t) 0).val = t.val from e, BitVec.toNat_ofNat]
  rw [Nat.mod_eq_of_lt (by omega)]
theorem index1 (t : Fin (cfgA a).N) : ((cfgA a).win (1 : Fin 4)).index t = ![t.val, 0] := by
  have ht := ltN a t
  show cc0_transform_1 (grid0.coords t) = _
  unfold cc0_transform_1
  have e := crd_eq a t
  simp only [show ((grid0.coords t) 0).val = t.val from e, BitVec.toNat_ofNat]
  rw [Nat.mod_eq_of_lt (by omega)]
theorem index2 (t : Fin (cfgA a).N) : ((cfgA a).win (2 : Fin 4)).index t = ![0, 0] := rfl
theorem index3 (t : Fin (cfgA a).N) : ((cfgA a).win (3 : Fin 4)).index t = ![t.val, 0] := by
  have ht := ltN a t
  show cc0_transform_4 (grid0.coords t) = _
  unfold cc0_transform_4
  have e := crd_eq a t
  simp only [show ((grid0.coords t) 0).val = t.val from e, BitVec.toNat_ofNat]
  rw [Nat.mod_eq_of_lt (by omega)]

/-- A point's block of the stream: its tokens' rows. -/
theorem iblk0_apply (t : Fin (cfgA a).N) (r : Fin 512) (k : Fin 2048) :
    iblk a m c (0 : Fin 4) t (ix2 r k) = m ((c : Thread nD τ).loc main_arg1) (ix2 (tok a t r) k) := by
  have e := index0 a t
  unfold iblk
  rw [View.read_apply]
  refine Eq.trans ?_ (congrFun (VM_arg1 m c) _)
  show VM m c main_arg1 _ = VM m c main_arg1 _
  congr 1; funext x; apply Fin.ext
  match x with
  | ⟨0, _⟩ =>
    show ((cfgA a).win (0 : Fin 4)).index t (0 : Fin 2) * 512 + 1 * r.val = 512 * t.val + r.val
    rw [e]
    show t.val * 512 + 1 * r.val = _
    omega
  | ⟨1, _⟩ =>
    show ((cfgA a).win (0 : Fin 4)).index t (1 : Fin 2) * 2048 + 1 * k.val = k.val
    rw [e]
    show 0 * 2048 + 1 * k.val = k.val
    omega

/-- … of the routing weights: its tokens' rows. -/
theorem iblk1_apply (t : Fin (cfgA a).N) (r : Fin 512) (k : Fin 128) :
    iblk a m c (1 : Fin 4) t (ix2 r k) = m ((c : Thread nD τ).loc main_arg2) (ix2 (tok a t r) k) := by
  have e := index1 a t
  unfold iblk
  rw [View.read_apply]
  refine Eq.trans ?_ (congrFun (VM_arg2 m c) _)
  show VM m c main_arg2 _ = VM m c main_arg2 _
  congr 1; funext x; apply Fin.ext
  match x with
  | ⟨0, _⟩ =>
    show ((cfgA a).win (1 : Fin 4)).index t (0 : Fin 2) * 512 + 1 * r.val = 512 * t.val + r.val
    rw [e]
    show t.val * 512 + 1 * r.val = _
    omega
  | ⟨1, _⟩ =>
    show ((cfgA a).win (1 : Fin 4)).index t (1 : Fin 2) * 128 + 1 * k.val = k.val
    rw [e]
    show 0 * 128 + 1 * k.val = k.val
    omega

/-- The scale's row, which the host reshapes. -/
theorem VM_v0 (l : Fin 2048) : VM m c main_v0 (ix2 0 l : S1x2048.Idx) = m ((c : Thread nD τ).loc main_arg4) (ix1 l) := by
  have e : VM m c main_v0 = shapeCast S1x2048 (m ((c : Thread nD τ).loc main_arg4) : S2048.Idx → EReal) shapeCasts_S2048_S1x2048 := by
    unfold VM
    after_results
    rfl
  refine (congrFun e _).trans ?_
  generalize (m ((c : Thread nD τ).loc main_arg4) : S2048.Idx → EReal) = g
  pointwise []

/-- … and of the scale: all of it. -/
theorem iblk2_apply (t : Fin (cfgA a).N) (l : Fin 2048) :
    iblk a m c (2 : Fin 4) t (ix2 0 l) = m ((c : Thread nD τ).loc main_arg4) (ix1 l) := by
  have e := index2 a t
  unfold iblk
  rw [View.read_apply]
  refine Eq.trans ?_ (VM_v0 m c l)
  show VM m c main_v0 _ = VM m c main_v0 _
  congr 1; funext x; apply Fin.ext
  match x with
  | ⟨0, _⟩ => rfl
  | ⟨1, _⟩ =>
    show ((cfgA a).win (2 : Fin 4)).index t (1 : Fin 2) * 2048 + 1 * l.val = l.val
    rw [e]
    show 0 * 2048 + 1 * l.val = l.val
    omega

/-- A block row is its token's, once the entries of what the body loads are known to be those of the arrays. -/
theorem pay_token (w : S512x128.Idx → EReal) (x : S512x2048.Idx → EReal) (y z : S1x512x2048.Idx → EReal) (g : S1x2048.Idx → EReal) (r : Fin 512) (l : Fin 2048)
    (pos : Fin 16384 → BitVec 32) (hp : ∀ n, (pos n).toNat < 24576) (X : Fin 8192 → Fin 2048 → EReal) (V : Fin 8192 → Fin 128 → EReal)
    (Y : Fin 24576 → Fin 2048 → EReal) (G : Fin 2048 → EReal) (R : Fin 8192)
    (hw : ∀ k, w (ix2 r k) = V R k) (hx : ∀ k, x (ix2 r k) = X R k) (hy : ∀ k, y (ix3 0 r k) = Y ⟨(pos (place R 0)).toNat, hp _⟩ k)
    (hz : ∀ k, z (ix3 0 r k) = Y ⟨(pos (place R 1)).toNat, hp _⟩ k) (hg : ∀ l, g (ix2 0 l) = G l) :
    k0_pay1 (F := Ideal) w x y z g (ix2 r l) = token pos hp X V Y G R l := by
  rw [pay_apply]
  simp only [hw, hx, hy, hz, hg]
  rfl

variable (hT : Good (T0 a))

/-- What a point leaves at a row of its block. -/
theorem step_apply (t : Fin (cfgA a).N) (r : Fin 512) (l : Fin 2048) :
    step0 a m hT c t (ix2 r l)
      = token (fun n => T0 a (ix1 n)) (fun n => hT _) (fun R k => m ((c : Thread nD τ).loc main_arg1) (ix2 R k))
          (fun R k => m ((c : Thread nD τ).loc main_arg2) (ix2 R k)) (fun R k => m ((c : Thread nD τ).loc main_arg3) (ix2 R k))
          (fun l => m ((c : Thread nD τ).loc main_arg4) (ix1 l)) (tok a t r) l :=
  pay_token _ _ _ _ _ r l _ _ _ _ _ _ _ (fun k => iblk1_apply m c a t r k) (fun k => iblk0_apply m c a t r k)
    (fun k => (half0_apply (crd a t) (T0 a) hT (YS m c) (tok a t r) r (tok_crd a t r) k).trans (congrFun (VM_arg3 m c) _))
    (fun k => (half1_apply (crd a t) (T0 a) hT (YS m c) (tok a t r) r (tok_crd a t r) k).trans (congrFun (VM_arg3 m c) _))
    (fun l => iblk2_apply m c a t l)

/-- Every point writes its block back. -/
theorem flush3 (t : Fin (cfgA a).N) : ((cfgA a).win (3 : Fin 4)).flush t = true := by
  have ht := ltN a t
  unfold Pipeline.Window.flush
  have ho : ((cfgA a).win (3 : Fin 4)).isOut = true := rfl
  rw [ho, Bool.true_and, Bool.or_eq_true]
  by_cases h : t.val + 1 < (cfgA a).grid.N
  · refine Or.inr (decide_eq_true ⟨h, fun e => ?_⟩)
    have e0 := congrFun ((index3 a t).symm.trans (e.symm.trans (index3 a ⟨t.val + 1, h⟩))) 0
    exact absurd (show t.val = t.val + 1 from e0) (by omega)
  · exact Or.inl (decide_eq_true (by have h2 : t.val < (cfgA a).grid.N := t.isLt; omega))

/-- Two points write different blocks. -/
theorem disjoint3 : ∀ t t' : Fin (cfgA a).N, ((cfgA a).win (3 : Fin 4)).flush t = true → ((cfgA a).win (3 : Fin 4)).flush t' = true → t ≠ t' →
    Disjoint (((cfgA a).win (3 : Fin 4)).blk t).view.set (((cfgA a).win (3 : Fin 4)).blk t').view.set := fun t t' _ _ hne =>
  ((cfgA a).win (3 : Fin 4)).disjoint_blk fun e => hne (by
    rw [index3, index3] at e
    exact Fin.ext (congrFun e 0))

/-- The result array at a token's row is what its point leaves there. -/
theorem arr_row (t : Fin (cfgA a).N) (r : Fin 512) (l : Fin 2048) :
    (dats a m hT 0 c).arrAt (3 : Fin 4) (cfgA a).N (ix2 (tok a t r) l : S8192x2048.Idx) = step0 a m hT c t (ix2 r l) := by
  have key := (dats a m hT 0 c).arrAt_emb_eq_flushed (3 : Fin 4) (disjoint3 a) t (flush3 a t) (ix2 r l : S512x2048.Idx)
  have ei : (((cfgA a).win (3 : Fin 4)).blk t).view.emb (ix2 r l : S512x2048.Idx) = (ix2 (tok a t r) l : S8192x2048.Idx) := by
    have e := index3 a t
    funext x; apply Fin.ext
    match x with
    | ⟨0, _⟩ =>
      show ((cfgA a).win (3 : Fin 4)).index t (0 : Fin 2) * 512 + 1 * r.val = 512 * t.val + r.val
      rw [e]
      show t.val * 512 + 1 * r.val = _
      omega
    | ⟨1, _⟩ =>
      show ((cfgA a).win (3 : Fin 4)).index t (1 : Fin 2) * 2048 + 1 * l.val = l.val
      rw [e]
      show 0 * 2048 + 1 * l.val = l.val
      omega
  rw [← ei]
  exact key.trans rfl

/-- THE RESULT at any token's row. -/
theorem result_row (R : Fin 8192) (l : Fin 2048) :
    (dats a m hT 0 c).arrAt (3 : Fin 4) (cfgA a).N (ix2 R l : S8192x2048.Idx)
      = token (fun n => T0 a (ix1 n)) (fun n => hT _) (fun R k => m ((c : Thread nD τ).loc main_arg1) (ix2 R k))
          (fun R k => m ((c : Thread nD τ).loc main_arg2) (ix2 R k)) (fun R k => m ((c : Thread nD τ).loc main_arg3) (ix2 R k))
          (fun l => m ((c : Thread nD τ).loc main_arg4) (ix1 l)) R l := by
  have hn : R.val / 512 < (cfgA a).N := lt_of_lt_of_eq (show R.val / 512 < 16 by omega) N_0.symm
  have hR : R = tok a ⟨R.val / 512, hn⟩ ⟨R.val % 512, by omega⟩ := Fin.ext (show R.val = 512 * (R.val / 512) + R.val % 512 by omega)
  rw [hR, arr_row, step_apply]

end Cert.CombineIdeal.Hand

end
-- ==== Proof.CombineRef.lean ====
/-
  The combining call's reference at an index.
-/
module

public import proofs.«01_k».proof.Proof.Gen.CombineRefIdeal.Run
public import proofs.«01_k».proof.Proof.CombineRow
public import Idealize.ShloMosaic.Lib.Pointwise
public import Idealize.ShloMosaic.Lib.Tactic

@[expose] public section

set_option maxRecDepth 16384

noncomputable section

namespace Cert.CombineRefIdeal.Hand

open Cert.CombineRefIdeal Cert.CombineRefIdeal.Gen
open Idealize.ShloMosaic Idealize.ShloMosaic.TcCoe
open Idealize.ShloMosaic.Pointwise
open Cert.CombineRow

/-- The rows the reference picks by one column of positions. -/
theorem pick_row (y : S24576x2048.Idx → EReal) (w : S8192.Idx → BitVec 32) (R : Fin 8192) (hw : (w (ix1 R)).toNat < 24576) (k : Fin 2048) :
    Host.gather gather_S24576x2048_S8192x1_S8192x2048_1_0_n_n_0_1_12048 y
        (broadcastInDim S8192x1 ![0] bcast_S8192_S8192x1_0
          (select (cmpi CmpIPredicate.slt w (broadcastInDim S8192 ![] bcast_S_S8192 (constantI S_ 32 0#32)))
            (addi w (broadcastInDim S8192 ![] bcast_S_S8192 (constantI S_ 32 24576#32))) w)) (ix2 R k)
      = y (ix2 ⟨(w (ix1 R)).toNat, hw⟩ k) := by
  refine (row_apply (by decide) _ _ _ R k).trans ?_
  refine congrArg (fun e : Fin 24576 => y (ix2 e k)) (Fin.ext ?_)
  have e : (broadcastInDim S8192x1 ![0] bcast_S8192_S8192x1_0
          (select (cmpi CmpIPredicate.slt w (broadcastInDim S8192 ![] bcast_S_S8192 (constantI S_ 32 0#32)))
            (addi w (broadcastInDim S8192 ![] bcast_S_S8192 (constantI S_ 32 24576#32))) w)) (ix2 R 0)
        = Scalar.select (IntOp.cmpi .slt (w (ix1 R)) 0#32) (IntOp.addi (w (ix1 R)) 24576#32) (w (ix1 R)) := by
    pointwise []
  show min (BitVec.toInt (n := 32) _).toNat (24576 - 1) = _
  rw [e]
  exact index_eq (w (ix1 R)) 24576#32 24576 (by decide) hw

/-- A token's first position, as the reference slices it out. -/
theorem col0_eq (pos : S16384.Idx → BitVec 32) (R : Fin 8192) :
    shapeCast S8192 (extractStridedSlice S8192x1 ![0, 0] (shapeCast S8192x2 pos shapeCasts_S16384_S8192x2) slices_S8192x2_S8192x1_0_0) shapeCasts_S8192x1_S8192 (ix1 R)
      = pos (ix1 (place R 0)) := by
  pointwise []
  exact congrArg (fun n : Fin 16384 => pos (ix1 n)) (Fin.ext (show R.val * 2 + 0 = 2 * R.val + 0 by omega))

/-- … and its second. -/
theorem col1_eq (pos : S16384.Idx → BitVec 32) (R : Fin 8192) :
    shapeCast S8192 (extractStridedSlice S8192x1 ![0, 1] (shapeCast S8192x2 pos shapeCasts_S16384_S8192x2) slices_S8192x2_S8192x1_0_1) shapeCasts_S8192x1_S8192 (ix1 R)
      = pos (ix1 (place R 1)) := by
  pointwise []
  exact congrArg (fun n : Fin 16384 => pos (ix1 n)) (Fin.ext (show R.val * 2 + 1 = 2 * R.val + 1 by omega))

/-- The rows picked by the first positions. -/
theorem pick0 (y : S24576x2048.Idx → EReal) (pos : S16384.Idx → BitVec 32) (hp : ∀ n : Fin 16384, (pos (ix1 n)).toNat < 24576) (R : Fin 8192) (k : Fin 2048) :
    Host.gather gather_S24576x2048_S8192x1_S8192x2048_1_0_n_n_0_1_12048 y
        (broadcastInDim S8192x1 ![0] bcast_S8192_S8192x1_0
          (select (cmpi CmpIPredicate.slt (shapeCast S8192 (extractStridedSlice S8192x1 ![0, 0] (shapeCast S8192x2 pos shapeCasts_S16384_S8192x2) slices_S8192x2_S8192x1_0_0) shapeCasts_S8192x1_S8192) (broadcastInDim S8192 ![] bcast_S_S8192 (constantI S_ 32 0#32)))
            (addi (shapeCast S8192 (extractStridedSlice S8192x1 ![0, 0] (shapeCast S8192x2 pos shapeCasts_S16384_S8192x2) slices_S8192x2_S8192x1_0_0) shapeCasts_S8192x1_S8192) (broadcastInDim S8192 ![] bcast_S_S8192 (constantI S_ 32 24576#32)))
            (shapeCast S8192 (extractStridedSlice S8192x1 ![0, 0] (shapeCast S8192x2 pos shapeCasts_S16384_S8192x2) slices_S8192x2_S8192x1_0_0) shapeCasts_S8192x1_S8192))) (ix2 R k)
      = y (ix2 ⟨(pos (ix1 (place R 0))).toNat, hp _⟩ k) :=
  (pick_row y _ R (lt_of_eq_of_lt (congrArg BitVec.toNat (col0_eq pos R)) (hp _)) k).trans
    (congrArg (fun e : Fin 24576 => y (ix2 e k)) (Fin.ext (congrArg BitVec.toNat (col0_eq pos R))))

/-- The rows picked by the second. -/
theorem pick1 (y : S24576x2048.Idx → EReal) (pos : S16384.Idx → BitVec 32) (hp : ∀ n : Fin 16384, (pos (ix1 n)).toNat < 24576) (R : Fin 8192) (k : Fin 2048) :
    Host.gather gather_S24576x2048_S8192x1_S8192x2048_1_0_n_n_0_1_12048 y
        (broadcastInDim S8192x1 ![0] bcast_S8192_S8192x1_0
          (select (cmpi CmpIPredicate.slt (shapeCast S8192 (extractStridedSlice S8192x1 ![0, 1] (shapeCast S8192x2 pos shapeCasts_S16384_S8192x2) slices_S8192x2_S8192x1_0_1) shapeCasts_S8192x1_S8192) (broadcastInDim S8192 ![] bcast_S_S8192 (constantI S_ 32 0#32)))
            (addi (shapeCast S8192 (extractStridedSlice S8192x1 ![0, 1] (shapeCast S8192x2 pos shapeCasts_S16384_S8192x2) slices_S8192x2_S8192x1_0_1) shapeCasts_S8192x1_S8192) (broadcastInDim S8192 ![] bcast_S_S8192 (constantI S_ 32 24576#32)))
            (shapeCast S8192 (extractStridedSlice S8192x1 ![0, 1] (shapeCast S8192x2 pos shapeCasts_S16384_S8192x2) slices_S8192x2_S8192x1_0_1) shapeCasts_S8192x1_S8192))) (ix2 R k)
      = y (ix2 ⟨(pos (ix1 (place R 1))).toNat, hp _⟩ k) :=
  (pick_row y _ R (lt_of_eq_of_lt (congrArg BitVec.toNat (col1_eq pos R)) (hp _)) k).trans
    (congrArg (fun e : Fin 24576 => y (ix2 e k)) (Fin.ext (congrArg BitVec.toNat (col1_eq pos R))))

variable (m : (ℓ : Loc nD τ sig) → Buf (Elt Ideal) ℓ) (c : Dev nD)

/-- The reference's result at a token's row. -/
theorem ref_row (hp : ∀ n : Fin 16384, BitVec.toNat (w := 32) (m ((c.tc : Thread nD τ).loc main_arg0) (ix1 n : S16384.Idx)) < 24576) (R : Fin 8192) (l : Fin 2048) :
    Value.res_out0 m c (ix2 R l)
      = token (fun n => m ((c.tc : Thread nD τ).loc main_arg0) (ix1 n : S16384.Idx)) hp (fun R k => m ((c.tc : Thread nD τ).loc main_arg1) (ix2 R k))
          (fun R k => m ((c.tc : Thread nD τ).loc main_arg2) (ix2 R k)) (fun R k => m ((c.tc : Thread nD τ).loc main_arg3) (ix2 R k))
          (fun l => m ((c.tc : Thread nD τ).loc main_arg4) (ix1 l)) R l := by
  unfold Value.res_out0 Value.res_main_v42
  pointwise []
  simp only [pick0 _ _ hp, pick1 _ _ hp]
  unfold token normed
  simp only [← mixed_of]

end Cert.CombineRefIdeal.Hand

end
-- ==== Proof.Combine.lean ====
/-
  The claims of the combining call read at the ideal numbers: its frame, its reference's frame, and the reference's
  values, at positions in range.
-/
module

public import proofs.«01_k».proof.Defs
public import proofs.«01_k».proof.Proof.CombineVal
public import proofs.«01_k».proof.Proof.CombineRef

@[expose] public section

set_option maxRecDepth 16384

noncomputable section

namespace Cert.CombineIdeal.Hand

open Cert.CombineIdeal Cert.CombineIdeal.Gen
open Idealize.ShloMosaic Idealize.ShloMosaic.TcCoe
open Idealize.SL.Sem
open Cert.CombineRow

variable (m : (ℓ : Loc nD τ sig) → Buf (Elt Ideal) ℓ) (ρ : Dev nD → PrngReg) (h : Good (m (((0 : Dev nD) : Thread nD τ).loc main_arg0)))

/-- What the call leaves in its result array, from positions in range. -/
def final (c : Dev nD) : S8192x2048.Idx → EReal := (dats (admOf m) m h 0 c).arrAt (3 : Fin 4) (cfgA (admOf m)).N

/-- The run leaves that array and the arguments. -/
theorem run_final : θ_run (defs (F := Ideal)) (onTc (τ := τ) (main (F := Ideal))) ⟨m, fun _ => 0, ρ⟩ (fun r => ∀ c : Dev nD,
      r.2.mem ((c.tc : Thread nD τ).loc main_v1) = final m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ g c => ⟨(g.1 c).1 (3 : Fin 4), (g.1 c).2.1,
    (((g.1 c).1 (0 : Fin 4)).trans ((dats (admOf m) m h 0 c).arrAt_in (0 : Fin 4) rfl _)).trans (VM_arg1 m c),
    (((g.1 c).1 (1 : Fin 4)).trans ((dats (admOf m) m h 0 c).arrAt_in (1 : Fin 4) rfl _)).trans (VM_arg2 m c),
    (g.1 c).2.2.1, (g.1 c).2.2.2⟩) (run_main (admOf m) m ρ h (admOf_eq m))

/-- That array at a token's row. -/
theorem final_row (c : Dev nD) (hp : ∀ n : Fin 16384, BitVec.toNat (w := 32) (m ((c.tc : Thread nD τ).loc main_arg0) (ix1 n : S16384.Idx)) < 24576)
    (R : Fin 8192) (l : Fin 2048) :
    final m h c (ix2 R l)
      = token (fun n => m ((c.tc : Thread nD τ).loc main_arg0) (ix1 n : S16384.Idx)) hp (fun R k => m ((c.tc : Thread nD τ).loc main_arg1) (ix2 R k))
          (fun R k => m ((c.tc : Thread nD τ).loc main_arg2) (ix2 R k)) (fun R k => m ((c.tc : Thread nD τ).loc main_arg3) (ix2 R k))
          (fun l => m ((c.tc : Thread nD τ).loc main_arg4) (ix1 l)) R l := by
  obtain rfl : c = 0 := Subsingleton.elim _ _
  exact result_row m 0 (admOf m) h R l

end Cert.CombineIdeal.Hand

namespace Cert.Proof

open Idealize.ShloMosaic Idealize.SL.Sem

/-- The combining call's frame at the ideal numbers. -/
theorem quiescent_CombineIdeal : quiescent_CombineIdeal := fun m ρ hp =>
  Cert.CombineIdeal.Hand.frame m ρ (Cert.CombinePre.good_of _ _ _ _ _ (hp 0))

/-- The reference's run leaves its arguments alone and no semaphore raised. -/
theorem quiescent_CombineRefIdeal : quiescent_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)

/-- The call's result array is the reference's. -/
theorem algebraic_CombineIdeal_CombineRefIdeal : algebraic_CombineIdeal_CombineRefIdeal := by
  intro m ρ m' ρ' hp hagree
  have h := Cert.CombinePre.good_of _ _ _ _ _ (hp 0)
  refine ⟨Cert.CombineIdeal.Hand.final m h, Cert.CombineIdeal.Hand.run_final m ρ h, ?_⟩
  refine (θ_run Cert.CombineRefIdeal.defs _ _).mono (fun _ g c => ⟨(g c).1.trans (funext fun i => ?_), (g c).2⟩) (Cert.CombineRefIdeal.Value.run (F := Ideal) m' ρ')
  have hc := Cert.CombinePre.good_of _ _ _ _ _ (hp c)
  obtain ⟨e0, e1, e2, e3, e4⟩ := hagree c
  obtain ⟨R, l, rfl⟩ : ∃ (R : Fin 8192) (l : Fin 2048), i = Idealize.ShloMosaic.ix2 R l := ⟨i 0, i 1, Idealize.ShloMosaic.eq_ix2 i⟩
  have hp' : ∀ n : Fin 16384, BitVec.toNat (w := 32) (m' ((c.tc : Thread Cert.CombineRefIdeal.nD Cert.CombineRefIdeal.τ).loc Cert.CombineRefIdeal.main_arg0) (Idealize.ShloMosaic.ix1 n : Cert.CombineRefIdeal.S16384.Idx)) < 24576 := by
    rw [e0]; exact fun n => hc _
  refine (Cert.CombineRefIdeal.Hand.ref_row m' c hp' R l).trans ((Cert.CombineIdeal.Hand.final_row m h c (fun n => hc _) R l).trans ?_).symm
  simp only [e0, e1, e2, e3, e4]

end Cert.Proof

end
-- ==== Proof.CombineBitsLoop.lean ====
/-
  The combining kernel's two loops at one grid point: the first starts the 1024 row copies, the second waits for them.
-/
module

public import proofs.«01_k».proof.Proof.CombineBitsGeo
public import Idealize.ShloMosaic.Lib.Pipeline.Frame

@[expose] public section

set_option synthInstance.maxSize 4096
set_option maxRecDepth 16384
set_option Elab.async false

noncomputable section

namespace Cert.Combine.Hand

open Cert.Combine Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

local notation "𝕄" => MT nD τ sig Unit (Elt Bits) ℕ (UD sig nD τ) ℕ

/-- What one row's landing counts on the semaphore. -/
def NN : ℕ := (slotM 0).view.dmaCredit
theorem NN_pos : 0 < NN := View.dmaCredit_pos _ (by decide)
theorem credit (t : Fin 1024) : (slotM t).view.dmaCredit = NN := rfl

variable (c : Dev nD) (i : grid0.Coords) (T : S16384.Idx → Elt Bits .i32) (hT : Good T) (ys : S24576x2048.Idx → Elt Bits .f32)

/-- The row transfer `t` reads. -/
def srcM (t : Fin 1024) : Memref sig .tc .hbm S1x2048 .f32 := rowM (word i T t).toNat (hT _)

/-- That row of the experts' array, held at transfer `t`'s own share; and the rest of the array at that share. -/
def rowTok (t : Fin 1024) : sProp 𝕄 :=
  (srcM i T hT t).view.loc (c : Thread nD τ) ↦[(srcM i T hT t).view.set]{Transfers.shareTokN fullShare t.val} ys
def rowRest (t : Fin 1024) : sProp 𝕄 :=
  ysM.view.loc (c : Thread nD τ) ↦[Finset.univ \ (srcM i T hT t).view.set]{Transfers.shareTokN fullShare t.val} ys
/-- A slot of the scratch buffer before its transfer, and after. -/
def slotOwn (t : Fin 1024) : sProp 𝕄 :=
  iprop(∃ f, (slotM t).view.loc (c : Thread nD τ) ↦[(slotM t).view.set]{fullShare} f)
def slotGot (t : Fin 1024) : sProp 𝕄 :=
  (slotM t).view.loc (c : Thread nD τ) ↦[(slotM t).view.set]{fullShare} (gathered i T hT ys)
/-- What transfer `t` delivers: the slot filled, and the row back. -/
def dlv (t : Fin 1024) : sProp 𝕄 := iprop(slotGot c i T hT ys t ∗ rowTok c i T hT ys t)

theorem held_storable (ℓ : Loc nD τ sig) (I : Finset (Idx ℓ)) (q : PosShare TreeShare) (f : Buf (Elt Bits) ℓ) :
    BI.Storable (upEmb : UEmb _ 𝕄) (ℓ ↦[I]{q} f : sProp 𝕄) := inferInstance
instance slotGot_storable (t : Fin 1024) : BI.Storable (upEmb : UEmb _ 𝕄) (slotGot c i T hT ys t) := held_storable _ _ _ _
instance rowTok_storable (t : Fin 1024) : BI.Storable (upEmb : UEmb _ 𝕄) (rowTok c i T hT ys t) := held_storable _ _ _ _
instance dlv_storable (t : Fin 1024) : BI.Storable (upEmb : UEmb _ 𝕄) (dlv c i T hT ys t) := by
  unfold dlv; infer_instance

/-- The transfers on the kernel's semaphore: `j` started, `u` counted off. -/
abbrev batch (j u : ℕ) : sProp 𝕄 :=
  Transfers.Batch (countersEmb (U := UD sig nD τ)) (c : Thread nD τ) (.dma cc0_scratch1.sem) () NN (dlv c i T hT ys) j u

/-- The table, at the half the body reads it under. -/
abbrev tblHeld : sProp 𝕄 := tbl.view.loc (c : Thread nD τ) ↦{fullShare.right} T

/-- What a landing writes is what `dlv` says. -/
theorem dlv_of (t : Fin 1024) (fd : Buf (Elt Bits) ((slotM t).view.loc (c : Thread nD τ))) :
    iprop(((slotM t).view.loc (c : Thread nD τ) ↦[(slotM t).view.set]{fullShare}
        ((slotM t).view.write (Elt Bits) fd ((ReadAs.same).apply ((srcM i T hT t).view.read (Elt Bits) ys)) Finset.univ))
      ∗ ((srcM i T hT t).view.loc (c : Thread nD τ) ↦[(srcM i T hT t).view.set]{Transfers.shareTokN fullShare t.val} ys))
      ⊢ dlv c i T hT ys t := by
  unfold dlv slotGot rowTok
  rw [pointsTo_congr (g := gathered i T hT ys) (fun y hy => landed i T hT ys t fd y (by rw [slotM_set] at hy; exact hy))]

/-- One copy started: transfer `j` of the batch. -/
theorem start_one (j : ℕ) (hj : j < 1024) (src : Memref sig .tc .hbm S1x2048 .f32) (dst : Memref sig .tc .vmem S1x2048 .f32)
    (es : src = srcM i T hT ⟨j, hj⟩) (ed : dst = slotM ⟨j, hj⟩)
    {hsrc : src.view.WordExact} {hdst : dst.view.WordExact}
    {hsem : DmaTarget.Typed (nD := nD) (τ := τ) (p := Proc.tc) .hbm (.dma cc0_scratch1.sem) (.here dst)}
    {α : Type} {k : PUnit → Prog (TpuEff nD τ sig (Elt Bits) Λ₀ .tc) α} {Q : α → sProp 𝕄} :
    iprop(rowTok c i T hT ys ⟨j, hj⟩ ∗ slotOwn c ⟨j, hj⟩ ∗ batch c i T hT ys j 0)
      ⊢ iprop((batch c i T hT ys (j + 1) 0 -∗ wp frame (wpE (defs₀ (F := Bits)) Variants.none c none) Set.univ (k ⟨⟩) Q)
        -∗ wp frame (wpE (defs₀ (F := Bits)) Variants.none c none) Set.univ (.op (.enqueueDma src (.here dst) (.dma cc0_scratch1.sem) hsrc hdst hsem) k) Q) := by
  subst es ed
  unfold slotOwn
  iintro ⟨HR, ⟨%f, HS⟩, HB⟩ Hk
  iapply (Transfers.wp_dmaBatch (countersEmb (U := UD sig nD τ)) Variants.none (c : Thread nD τ) none (src := srcM i T hT ⟨j, hj⟩) (dst := slotM ⟨j, hj⟩)
    (D := dlv c i T hT ys) (q := Transfers.shareTokN fullShare j) (fs := ys) (fd := f) (Sd := (slotM ⟨j, hj⟩).view.set)
    () NN (show (slotM ⟨j, hj⟩).view.amount (.dma cc0_scratch1.sem) = NN from credit ⟨j, hj⟩) (Finset.Subset.refl _) hj (Nat.zero_le _) (dlv_of c i T hT ys ⟨j, hj⟩ f)) $$ [HR HS HB]
  · isplitl [HR]; · unfold rowTok; iexact HR
    isplitl [HS]; · iexact HS
    iexact HB
  iexact Hk

theorem src_of (off : Fin 2 → ℕ) (inb : ∀ a, off a + S1x2048.size a ≤ S24576x2048.size a) (n : BitVec 32) (t : Fin 1024)
    (e : off = ![n.toNat, 0]) (en : n = word i T t) :
    ysM.slice (Rect.unit (s := S24576x2048) off S1x2048.size inb) (fun _ => rfl) = srcM i T hT t := by
  subst en; exact row_of off inb _ _ e

/-- What the transfers not yet started still hold. -/
def pend (t : Fin 1024) : sProp 𝕄 := iprop(rowTok c i T hT ys t ∗ slotOwn c t)

/-- Before trip `k` of the first loop: `2 k` copies started, the rest pending, the table at hand. -/
def issueAt (k : ℕ) (_ : Unit) : sProp 𝕄 :=
  iprop(batch c i T hT ys (2 * k) 0 ∗ bigSep (Ring.rangeSet 1024 (2 * k) 1024) (pend c i T hT ys) ∗ tblHeld c T)

variable (arg2 : Memref sig .tc .vmem S512x2048 .f32) (harg2 : arg2.IsWhole) (arg3 : Memref sig .tc .vmem S512x128 .f32) (harg3 : arg3.IsWhole)
  (arg4 : Memref sig .tc .vmem S1x2048 .f32) (harg4 : arg4.IsWhole) (arg6 : Memref sig .tc .vmem S512x2048 .f32) (harg6 : arg6.IsWhole)

abbrev issueBody := k0_t1_body (F := Bits) i tbl (Memref.isWhole_whole _) arg2 harg2 arg3 harg3 arg4 harg4 ysM (Memref.isWhole_whole _) arg6 harg6 bufM (Memref.isWhole_whole _) cc0_scratch1

theorem issue_step (k : Fin k0_t1_loop.trips) (acc : Unit) :
    issueAt c i T hT ys k.val acc ⊢ wp frame (wpE (defs₀ (F := Bits)) Variants.none (c : Thread nD τ) none) Set.univ
      (issueBody i arg2 harg2 arg3 harg3 arg4 harg4 arg6 harg6 k acc) (issueAt c i T hT ys (k.val + 1)) := by
  have hk := t1_lt k
  unfold issueAt
  rw [Ring.bigSep_rangeSet_head (Φ := pend c i T hT ys) (lo := 2 * k.val) (by omega) (by omega),
    Ring.bigSep_rangeSet_head (Φ := pend c i T hT ys) (lo := 2 * k.val + 1) (by omega) (by omega),
    show 2 * (k.val + 1) = 2 * k.val + 1 + 1 by omega]
  rw [show pend c i T hT ys ⟨2 * k.val, by omega⟩ = iprop(rowTok c i T hT ys ⟨2 * k.val, by omega⟩ ∗ slotOwn c ⟨2 * k.val, by omega⟩) from rfl,
    show pend c i T hT ys ⟨2 * k.val + 1, by omega⟩ = iprop(rowTok c i T hT ys ⟨2 * k.val + 1, by omega⟩ ∗ slotOwn c ⟨2 * k.val + 1, by omega⟩) from rfl]
  iintro ⟨HB, ⟨⟨HR0, HS0⟩, ⟨HR1, HS1⟩, HP⟩, HT⟩
  unfold issueBody k0_t1_body
  sl_exec! (disch := first | exact chk1_of _ (hT _) | exact chk2_of _ (hT _))
  iapply (start_one c i T hT ys (2 * k.val) (by omega) _ _
    (src_of i T hT _ _ _ _ rfl (word_of i T (k0_off1 i k) _ ⟨2 * k.val, by omega⟩ (off1_eq i k) _)) (slot2 k)) $$ [HR0 HS0 HB]
  · isplitl [HR0]; · iexact HR0
    isplitl [HS0]; · iexact HS0
    iexact HB
  iintro HB
  sl_exec! (disch := first | exact chk1_of _ (hT _) | exact chk2_of _ (hT _))
  iapply (start_one c i T hT ys (2 * k.val + 1) (by omega) _ _
    (src_of i T hT _ _ _ _ rfl (word_of i T (k0_off4 i k) _ ⟨2 * k.val + 1, by omega⟩ (off4_eq i k) _)) (slot5 k)) $$ [HR1 HS1 HB]
  · isplitl [HR1]; · iexact HR1
    isplitl [HS1]; · iexact HS1
    iexact HB
  iintro HB
  sl_exec!
  sl_step
  isplitl [HB]; · iexact HB
  isplitl [HP]; · iexact HP
  iexact HT

/-- Before trip `k` of the second loop: all copies started and `2 k` counted off; after its last trip every delivery. -/
def drainAt (k : ℕ) (_ : Unit) : sProp 𝕄 :=
  iprop((∃ W, owes (c : Thread nD τ) 0 W) ∗ tblHeld c T
    ∗ (if k < 512 then batch c i T hT ys 1024 (2 * k * NN)
       else iprop(semVal ((c : Thread nD τ), SemLoc.dma cc0_scratch1.sem) 0 ∗ bigSep Finset.univ (dlv c i T hT ys))))

abbrev drainBody := k0_t2_body (F := Bits) i tbl (Memref.isWhole_whole _) arg2 harg2 arg3 harg3 arg4 harg4 ysM (Memref.isWhole_whole _) arg6 harg6 bufM (Memref.isWhole_whole _) cc0_scratch1

theorem lt_all (u : ℕ) (h : u < 1023) : u * NN + NN < NN * 1024 := by have := NN_pos; nlinarith
theorem eq_all (u : ℕ) (h : u = 1023) : u * NN + NN = NN * 1024 := by subst h; ring

theorem drain_step (k : Fin k0_t2_loop.trips) (acc : Unit) :
    drainAt c i T hT ys k.val acc ⊢ wp frame (wpE (defs₀ (F := Bits)) Variants.none (c : Thread nD τ) none) Set.univ
      (drainBody i arg2 harg2 arg3 harg3 arg4 harg4 arg6 harg6 k acc) (drainAt c i T hT ys (k.val + 1)) := by
  have hk := t2_lt k
  unfold drainAt
  simp only [if_pos hk]
  rcases Nat.lt_or_ge (k.val + 1) 512 with h1 | h1
  · simp only [if_pos h1]
    iintro ⟨⟨%W, HO⟩, HT, HB⟩
    unfold drainBody k0_t2_body
    sl_exec! (disch := first | exact chk3_of _ (hT _) | exact chk4_of _ (hT _))
    sl_step
    isplitl [HO]; · iexists _; iexact HO
    isplitl [HT]; · iexact HT
    rw [show 2 * (k.val + 1) * NN = 2 * k.val * NN + NN + NN by ring]
    iexact HB
  · simp only [if_neg (Nat.not_lt.mpr h1)]
    iintro ⟨⟨%W, HO⟩, HT, HB⟩
    unfold drainBody k0_t2_body
    sl_exec! (disch := first | exact chk3_of _ (hT _) | exact chk4_of _ (hT _))
    sl_step
    isplitl [HO]; · iexists _; iexact HO
    isplitl [HT]; · iexact HT
    isplitl [HB]; · iexact HB
    iexact HB_all

end Cert.Combine.Hand

end
-- ==== Proof.CombineBitsBody.lean ====
/-
  One run of the combining kernel's body at one grid point: the scratch buffer is split into its 1024 rows and the
  experts' array into 1024 read shares, the two loops run, everything is joined again, and the block is computed.
-/
module

public import proofs.«01_k».proof.Proof.CombineBitsLoop

@[expose] public section

set_option synthInstance.maxSize 4096
set_option maxRecDepth 16384
set_option Elab.async false

noncomputable section

namespace Cert.Combine.Hand

open Cert.Combine Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

local notation "𝕄" => MT nD τ sig Unit (Elt Bits) ℕ (UD sig nD τ) ℕ

variable (c : Dev nD) (i : grid0.Coords) (T : S16384.Idx → Elt Bits .i32) (hT : Good T) (ys : S24576x2048.Idx → Elt Bits .f32)

/-- The scratch buffer and the experts' array, whole. -/
abbrev bufAt (f : S2x512x2048.Idx → Elt Bits .f32) : sProp 𝕄 := bufM.view.loc (c : Thread nD τ) ↦{fullShare} f
abbrev ysAt : sProp 𝕄 := ysM.view.loc (c : Thread nD τ) ↦{fullShare} ys

/-- The scratch buffer is its 1024 slots. -/
theorem buf_split (f : S2x512x2048.Idx → Elt Bits .f32) : bufAt c f ⊢ bigSep Finset.univ (slotOwn c) := by
  refine (Entails.of_eq (Ring.pointsTo_blocks (ℓ := bufM.view.loc (c : Thread nD τ)) (q := fullShare) slotSet slotSet_disjoint slotSet_cover f)).trans
    (BI.bigSep_mono fun t _ => ?_)
  show (bufM.view.loc (c : Thread nD τ) ↦[slotSet t]{fullShare} f : sProp 𝕄) ⊢ slotOwn c t
  unfold slotOwn; rw [slotM_set]; iintro H; iexists f; iexact H
/-- The filled slots are the scratch buffer at what was gathered. -/
theorem buf_join : bigSep Finset.univ (slotGot c i T hT ys) ⊢ bufAt c (gathered i T hT ys) := by
  refine BIBase.Entails.trans (BI.bigSep_mono fun t _ => ?_)
    (Entails.of_eq (Ring.pointsTo_blocks (ℓ := bufM.view.loc (c : Thread nD τ)) (q := fullShare) slotSet slotSet_disjoint slotSet_cover (gathered i T hT ys)).symm)
  show slotGot c i T hT ys t ⊢ (bufM.view.loc (c : Thread nD τ) ↦[slotSet t]{fullShare} gathered i T hT ys : sProp 𝕄)
  unfold slotGot; rw [slotM_set]; exact .rfl

/-- The share of the experts' array no transfer takes. -/
abbrev ysKeep : sProp 𝕄 := ysM.view.loc (c : Thread nD τ) ↦{Transfers.shareDrop fullShare 1024} ys
/-- A transfer's share of the whole array is its row at that share and the rest. -/
theorem tok_split (t : Fin 1024) :
    (ysM.view.loc (c : Thread nD τ) ↦{Transfers.shareTokN fullShare t.val} ys : sProp 𝕄) ⊣⊢ iprop(rowTok c i T hT ys t ∗ rowRest c i T hT ys t) :=
  pointsTo_split_subset (Finset.subset_univ _)
theorem toks_eq :
    (bigSep (Finset.range 1024) (fun k => (ysM.view.loc (c : Thread nD τ) ↦{Transfers.shareTokN fullShare k} ys : sProp 𝕄)))
      = bigSep Finset.univ (fun t : Fin 1024 => (ysM.view.loc (c : Thread nD τ) ↦{Transfers.shareTokN fullShare t.val} ys : sProp 𝕄)) :=
  (Ring.bigSep_fin_eq_range 1024 _ _ (fun t h => rfl)).symm
theorem ys_split : ysAt c ys ⊢ iprop(ysKeep c ys ∗ bigSep Finset.univ (rowTok c i T hT ys) ∗ bigSep Finset.univ (rowRest c i T hT ys)) := by
  refine (Transfers.pointsTo_toks_range fullShare 1024).1.trans (sep_mono .rfl ?_)
  rw [toks_eq]
  exact BIBase.Entails.trans (BI.bigSep_mono fun t _ => (tok_split c i T hT ys t).1) (Entails.of_eq (BI.bigSep_sep _ _ _))
theorem ys_join : iprop(ysKeep c ys ∗ bigSep Finset.univ (rowTok c i T hT ys) ∗ bigSep Finset.univ (rowRest c i T hT ys)) ⊢ ysAt c ys := by
  refine BIBase.Entails.trans (sep_mono .rfl ?_) (Transfers.pointsTo_toks_range fullShare 1024).2
  rw [toks_eq]
  exact BIBase.Entails.trans (Entails.of_eq (BI.bigSep_sep _ _ _).symm) (BI.bigSep_mono fun t _ => (tok_split c i T hT ys t).2)

/-- What choice `h`'s half of a scratch buffer's contents is, as the body loads it. -/
def half0 (g : S2x512x2048.Idx → Elt Bits .f32) : S1x512x2048.Idx → Elt Bits .f32 :=
  View.readAt (Elt Bits) bufM.view (Rect.unit (s := S2x512x2048) ![0, 0, 0] S1x512x2048.size inb_S2x512x2048_S1x512x2048_0_0_0).toLoadRect g
def half1 (g : S2x512x2048.Idx → Elt Bits .f32) : S1x512x2048.Idx → Elt Bits .f32 :=
  View.readAt (Elt Bits) bufM.view (Rect.unit (s := S2x512x2048) ![1, 0, 0] S1x512x2048.size inb_S2x512x2048_S1x512x2048_1_0_0).toLoadRect g

/-- The block the body leaves. -/
def step (x0 : S512x2048.Idx → Elt Bits .f32) (x1 : S512x128.Idx → Elt Bits .f32) (x2 : S1x2048.Idx → Elt Bits .f32) : S512x2048.Idx → Elt Bits .f32 :=
  k0_pay1 (F := Bits) x1 x0 (half0 (gathered i T hT ys)) (half1 (gathered i T hT ys)) x2

theorem congrArgs5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

set_option maxHeartbeats 1000000 in
/-- One run of the body: it ends, everything it reads is as it was, and the block holds `step`. -/
theorem body_run (arg2 : Memref sig .tc .vmem S512x2048 .f32) (harg2 : arg2.IsWhole) (arg3 : Memref sig .tc .vmem S512x128 .f32) (harg3 : arg3.IsWhole)
    (arg4 : Memref sig .tc .vmem S1x2048 .f32) (harg4 : arg4.IsWhole) (arg6 : Memref sig .tc .vmem S512x2048 .f32) (harg6 : arg6.IsWhole)
    (x0 : S512x2048.Idx → Elt Bits .f32) (x1 : S512x128.Idx → Elt Bits .f32) (x2 : S1x2048.Idx → Elt Bits .f32) (prev : S512x2048.Idx → Elt Bits .f32)
    (f : S2x512x2048.Idx → Elt Bits .f32) (W : Waits sig Unit) (K : PUnit → sProp 𝕄) :
    iprop((arg2.view.loc (c : Thread nD τ) ↦[arg2.view.set]{fullShare} arg2.view.rep x0)
      ∗ (arg3.view.loc (c : Thread nD τ) ↦[arg3.view.set]{fullShare} arg3.view.rep x1)
      ∗ (arg4.view.loc (c : Thread nD τ) ↦[arg4.view.set]{fullShare} arg4.view.rep x2)
      ∗ (arg6.view.loc (c : Thread nD τ) ↦[arg6.view.set]{fullShare} arg6.view.rep prev)
      ∗ tblHeld c T ∗ ysAt c ys ∗ bufAt c f ∗ semVal ((c : Thread nD τ), SemLoc.dma cc0_scratch1.sem) 0 ∗ owes (c : Thread nD τ) 0 W
      ∗ (iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ owns (c : Thread nD τ) arg6 fullShare (step i T hT ys x0 x1 x2)
          ∗ tblHeld c T ∗ ysAt c ys ∗ bufAt c (gathered i T hT ys) ∗ semVal ((c : Thread nD τ), SemLoc.dma cc0_scratch1.sem) 0
          ∗ (∃ W, owes (c : Thread nD τ) 0 W)) -∗ K ⟨⟩))
      ⊢ wp frame (wpE (defs₀ (F := Bits)) Variants.none c none) Set.univ (cc0_moe_combine i tbl (Memref.isWhole_whole _) arg2 harg2 arg3 harg3 arg4 harg4 ysM (Memref.isWhole_whole _) arg6 harg6 bufM (Memref.isWhole_whole _) cc0_scratch1) K := by
  have hb : bufM.IsWhole := Memref.isWhole_whole _
  iintro ⟨H2, H3, H4, H6, HT, HY, HS, Hc, HO, Hk⟩
  ihave HS := (buf_split c f) $$ HS
  ihave HY := (ys_split c i T hT ys) $$ HY
  icases HY with ⟨HY0, HYt, HYr⟩
  imod (Transfers.batch_alloc' (Lvl := ℕ) (countersEmb (U := UD sig nD τ)) (c : Thread nD τ) () NN (dlv c i T hT ys) (sm := .dma cc0_scratch1.sem) (E := Set.univ)) $$ Hc with HB
  ihave HP := (show iprop(bigSep Finset.univ (rowTok c i T hT ys) ∗ bigSep Finset.univ (slotOwn c)) ⊢ bigSep (Ring.rangeSet 1024 (2 * 0) 1024) (pend c i T hT ys) from by
    rw [show Ring.rangeSet 1024 (2 * 0) 1024 = Finset.univ from Ring.rangeSet_univ]; exact Entails.of_eq (BI.bigSep_sep _ _ _).symm) $$ [HYt HS]
  · isplitl [HYt]; · iexact HYt
    iexact HS
  ihave HI := (show iprop(batch c i T hT ys 0 0 ∗ bigSep (Ring.rangeSet 1024 (2 * 0) 1024) (pend c i T hT ys) ∗ tblHeld c T) ⊢ issueAt c i T hT ys 0 () from .rfl) $$ [HB HP HT]
  · isplitl [HB]; · iexact HB
    isplitl [HP]; · iexact HP
    iexact HT
  rw [cc0_moe_combine_eq_skeleton]; unfold cc0_moe_combine_skel
  rw [k0_part1_eq_skeleton]; unfold k0_part1_skel
  simp only [Idealize.SL.Sem.Prog.bind_assoc]
  sl_for (issueAt c i T hT ys) $$ [HI]
  · intro k acc; exact issue_step c i T hT ys arg2 harg2 arg3 harg3 arg4 harg4 arg6 harg6 k acc
  · iexact HI
  iintro %acc HI
  ihave HI := (show issueAt c i T hT ys k0_t1_loop.trips acc ⊢ iprop(batch c i T hT ys 1024 0 ∗ tblHeld c T) from by
    rw [trips1]; unfold issueAt; iintro ⟨HB, -, HT⟩; isplitl [HB]; · iexact HB
    iexact HT) $$ HI
  icases HI with ⟨HB, HT⟩
  sl_for (drainAt c i T hT ys) $$ [HB HT HO]
  · intro k acc; exact drain_step c i T hT ys arg2 harg2 arg3 harg3 arg4 harg4 arg6 harg6 k acc
  · unfold drainAt
    rw [if_pos (by omega)]
    isplitl [HO]; · iexists _; iexact HO
    isplitl [HT]; · iexact HT
    rw [show 2 * 0 * NN = 0 by simp]
    iexact HB
  iintro %acc2 HL
  ihave HL := (show drainAt c i T hT ys k0_t2_loop.trips acc2 ⊢ iprop((∃ W, owes (c : Thread nD τ) 0 W) ∗ tblHeld c T
      ∗ semVal ((c : Thread nD τ), SemLoc.dma cc0_scratch1.sem) 0 ∗ bigSep Finset.univ (slotGot c i T hT ys) ∗ bigSep Finset.univ (rowTok c i T hT ys)) from by
    rw [trips2]; unfold drainAt; rw [if_neg (Nat.lt_irrefl _)]
    iintro ⟨HO, HT, Hc, Hall⟩
    isplitl [HO]; · iexact HO
    isplitl [HT]; · iexact HT
    isplitl [Hc]; · iexact Hc
    iapply (show bigSep Finset.univ (dlv c i T hT ys) ⊢ iprop(bigSep Finset.univ (slotGot c i T hT ys) ∗ bigSep Finset.univ (rowTok c i T hT ys)) from Entails.of_eq (BI.bigSep_sep _ _ _))
    iexact Hall) $$ HL
  icases HL with ⟨HO, HT, Hc, HS, HYt⟩
  ihave HS := (buf_join c i T hT ys) $$ HS
  ihave HY := (ys_join c i T hT ys) $$ [HY0 HYt HYr]
  · isplitl [HY0]; · iexact HY0
    isplitl [HYt]; · iexact HYt
    iexact HYr
  sl_exec!
  sl_step
  iapply Hk
  isplitl [H2]; · iexact H2
  isplitl [H3]; · iexact H3
  isplitl [H4]; · iexact H4
  isplitl [H6]
  · unfold owns
    iexists _; isplitr; swap; · iexact H6
    ipureintro
    sl_unfold_words
    refine (View.read_writes_full arg6.view _ _ _ _).trans ?_
    exact congrArgs5 (k0_pay1 (F := Bits)) (View.readAt_rep_full arg3.view x1 _) (View.readAt_rep_full arg2.view x0 _) rfl rfl (View.readAt_rep_full arg4.view x2 _)
  isplitl [HT]; · iexact HT
  isplitl [HY]; · iexact HY
  isplitl [HS]; · iexact HS
  isplitl [Hc]; · iexact Hc
  iexact HO

end Cert.Combine.Hand

end
-- ==== Proof.CombineBitsRun.lean ====
/-
  The combining kernel's run over its whole grid, at any contents of the position table that name rows of the experts'
  array: what each point leaves, the body's obligation at each point, and what the arrays hold when the program ends.
-/
module

public import proofs.«01_k».proof.Proof.CombineBitsBody
public import Idealize.ShloMosaic.Lib.Affine
public import Idealize.ShloMosaic.Lib.Pipeline.Frame
public import Idealize.ShloMosaic.Lib.Pipeline.TableIdle
public import Idealize.ShloMosaic.Lib.Claim
public import Idealize.ShloMosaic.Adequacy
public import Idealize.ShloMosaic.Init

@[expose] public section

set_option synthInstance.maxSize 4096
set_option maxRecDepth 16384
set_option Elab.async false

noncomputable section

namespace Cert.Combine.Hand

open Cert.Combine Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

local notation "𝕄" => MT nD τ sig Unit (Elt Bits) ℕ (UD sig nD τ) ℕ

variable (a : (pcfg0 (F := Bits)).Adm)

/-- The position table's contents. -/
abbrev T0 : S16384.Idx → Elt Bits .i32 := a.1 0
abbrev cfgA : Pipeline.Cfg sig Λ₀ := cfg0 (F := Bits) a

variable (m : (ℓ : Loc nD τ sig) → Buf (Elt Bits) ℓ) (ρ : Dev nD → PrngReg)

/-- Every array as the region finds it: the host's reshape done. -/
def VM (c : Dev nD) (b : Ref sig .tc) : Buf (Elt Bits) ((c.tc : Thread nD τ).loc b) :=
  StableHlo.after (hostOps0 (F := Bits)) (fun b => m (c, b)) b

/-- The experts' rows. -/
abbrev YS (c : Dev nD) : S24576x2048.Idx → Elt Bits .f32 := VM m c main_arg3

/-- Point `t`'s coordinates, and each window's current staging buffer there. -/
abbrev crd (t : Fin (cfgA a).N) : (cfgA a).grid.Coords := (cfgA a).grid.coords t
abbrev ms0_0 (t : Fin (cfgA a).N) : Memref sig .tc .vmem S512x2048 .f32 := spec0_0.stage ((cfgA a).slots t (0 : Fin 4))
abbrev hs0_0 (t : Fin (cfgA a).N) : (ms0_0 a t).IsWhole := hstage0_0 (((cfgA a).slots t (0 : Fin 4)).cast nbuf0_0)
abbrev ms0_1 (t : Fin (cfgA a).N) : Memref sig .tc .vmem S512x128 .f32 := spec0_1.stage ((cfgA a).slots t (1 : Fin 4))
abbrev hs0_1 (t : Fin (cfgA a).N) : (ms0_1 a t).IsWhole := hstage0_1 (((cfgA a).slots t (1 : Fin 4)).cast nbuf0_1)
abbrev ms0_2 (t : Fin (cfgA a).N) : Memref sig .tc .vmem S1x2048 .f32 := spec0_2.stage ((cfgA a).slots t (2 : Fin 4))
abbrev hs0_2 (t : Fin (cfgA a).N) : (ms0_2 a t).IsWhole := hstage0_2 (((cfgA a).slots t (2 : Fin 4)).cast nbuf0_2)
abbrev ms0_3 (t : Fin (cfgA a).N) : Memref sig .tc .vmem S512x2048 .f32 := spec0_3.stage ((cfgA a).slots t (3 : Fin 4))
abbrev hs0_3 (t : Fin (cfgA a).N) : (ms0_3 a t).IsWhole := hstage0_3 (((cfgA a).slots t (3 : Fin 4)).cast nbuf0_3)

/-- Window `w`'s block at point `t`, of its array as the region finds it. -/
def iblk (c : Dev nD) (w : Fin (cfgA a).W) (t : Fin (cfgA a).N) : (((cfgA a).win w).xblock (crd a t)).Idx → Elt Bits ((cfgA a).win w).elt :=
  (((cfgA a).win w).blk t).view.read (Elt Bits) (VM m c (Pipeline.arrRef spec0 w))

variable (hT : Good (T0 a))

/-- What point `t` leaves in the result's block. -/
def step0 (c : Dev nD) (t : Fin (cfgA a).N) : S512x2048.Idx → Elt Bits .f32 :=
  step (crd a t) (T0 a) hT (YS m c) (iblk a m c (0 : Fin 4) t) (iblk a m c (1 : Fin 4) t) (iblk a m c (2 : Fin 4) t)

/-! ### The kernel's own semaphore and the array it copies rows of -/

abbrev osem0 : Fin 1 → SemLoc sig := fun _ => SemLoc.dma cc0_scratch1.sem
theorem ownSemFacts0 : Pipeline.OwnSemFacts spec0 osem0 := by decide
theorem ownSems00_eq (c : Dev nD) :
    (Pipeline.ownSems0 (Ix := Unit) (Name := ℕ) (U := UD sig nD τ) (Lvl := ℕ) (Val := Elt Bits) (τ := τ) osem0 c : sProp 𝕄)
      = semVal ((c : Thread nD τ), SemLoc.dma cc0_scratch1.sem) 0 := by
  rw [Pipeline.ownSems0_eq_of_list c osem0 [0] (by decide) (by decide)]; rfl
def H0 : Finset (Ref sig .tc) := {main_arg3}
theorem H0_sub : H0 ⊆ Pipeline.restRefsP sig pre0 spec0 := by decide
theorem hbmPts0_eq (c : Dev nD) :
    (bigSep H0 (fun b => ((c : Thread nD τ).loc b) ↦{fullShare} VM m c b) : sProp 𝕄) = ysAt c (YS m c) := by
  rw [BI.bigSep_eq_bigSepL_of_eq [main_arg3] (by decide) (by decide)]; rfl

/-- What the body keeps between points. -/
def Phi (c : Dev nD) : sProp 𝕄 := iprop(Pipeline.ΦD osem0 spec0 H0 (VM m) c ∗ tblHeld c (T0 a))
theorem Phi_eq (c : Dev nD) :
    Phi a m c = iprop(((∃ f, bufAt c f) ∗ (∃ r, prngReg c r) ∗ semVal ((c : Thread nD τ), SemLoc.dma cc0_scratch1.sem) 0 ∗ ysAt c (YS m c)) ∗ tblHeld c (T0 a)) := by
  unfold Phi
  rw [Pipeline.ΦD_eq, scopedRest0_eq, ownSems00_eq, hbmPts0_eq]; rfl

/-- The pipeline's proof data on core `c`. -/
def dats (_ : Fin 1) (c : Dev nD) : Dat τ (Elt Bits) Unit ℕ (UD sig nD τ) ℕ (cfgA a) c where
  A w := VM m c (Pipeline.arrRef spec0 w)
  after w t := match w with
    | ⟨0, _⟩ => iblk a m c (0 : Fin 4) t
    | ⟨1, _⟩ => iblk a m c (1 : Fin 4) t
    | ⟨2, _⟩ => iblk a m c (2 : Fin 4) t
    | ⟨3, _⟩ => step0 a m hT c t
  Φ _ := Phi a m c
  q _ := fullShare
  owed _ := 0

theorem after0_0 (c : Dev nD) (t : Fin (cfgA a).N) : (dats a m hT 0 c).after (0 : Fin 4) t = iblk a m c (0 : Fin 4) t := rfl
theorem after0_1 (c : Dev nD) (t : Fin (cfgA a).N) : (dats a m hT 0 c).after (1 : Fin 4) t = iblk a m c (1 : Fin 4) t := rfl
theorem after0_2 (c : Dev nD) (t : Fin (cfgA a).N) : (dats a m hT 0 c).after (2 : Fin 4) t = iblk a m c (2 : Fin 4) t := rfl
theorem after0_3 (c : Dev nD) (t : Fin (cfgA a).N) : (dats a m hT 0 c).after (3 : Fin 4) t = step0 a m hT c t := rfl

/-- An input window holds its block at every point. -/
theorem before0_0 (c : Dev nD) (t : Fin (cfgA a).N) (d) : (dats a m hT 0 c).before (0 : Fin 4) t d = iblk a m c (0 : Fin 4) t :=
  ((dats a m hT 0 c).before_in_eq_fetched (0 : Fin 4) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m hT 0 c).before (1 : Fin 4) t d = iblk a m c (1 : Fin 4) t :=
  ((dats a m hT 0 c).before_in_eq_fetched (1 : Fin 4) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m hT 0 c).before (2 : Fin 4) t d = iblk a m c (2 : Fin 4) t :=
  ((dats a m hT 0 c).before_in_eq_fetched (2 : Fin 4) rfl (fun _ => rfl) (fun _ _ _ => rfl) (fun t => by rw [after0_2]; unfold Dat.blockOf iblk; rfl) t d).trans
    (by unfold Dat.fetched Dat.blockOf iblk; rfl)

/-! ## The body's obligation -/

/-- The body at point `t` on its staging buffers. -/
abbrev bodyAt0 (t : Fin (cfgA a).N) : Prog (TpuEff nD τ sig (Elt Bits) Λ₀ .tc) PUnit :=
  cc0_moe_combine (crd a t) (Memref.whole main_arg0) (Memref.isWhole_whole _) (ms0_0 a t) (hs0_0 a t) (ms0_1 a t) (hs0_1 a t) (ms0_2 a t) (hs0_2 a t) (Memref.whole main_arg3) (Memref.isWhole_whole _) (ms0_3 a t) (hs0_3 a t) (Memref.whole cc0_scratch0) (Memref.isWhole_whole _) cc0_scratch1

set_option maxHeartbeats 4000000 in
/-- The body's obligation at point `t`. -/
theorem sound_body (c : Dev nD) (t : Fin (cfgA a).N) :
    iprop((dats a m hT 0 c).Φ t.castSucc ∗ (dats a m hT 0 c).owesAt () t.castSucc
        ∗ (∃ d, owns (c : Thread nD τ) (ms0_0 a t) fullShare ((dats a m hT 0 c).before (0 : Fin 4) t d))
        ∗ (∃ d, owns (c : Thread nD τ) (ms0_1 a t) fullShare ((dats a m hT 0 c).before (1 : Fin 4) t d))
        ∗ (∃ d, owns (c : Thread nD τ) (ms0_2 a t) fullShare ((dats a m hT 0 c).before (2 : Fin 4) t d))
        ∗ (∃ d, owns (c : Thread nD τ) (ms0_3 a t) fullShare ((dats a m hT 0 c).before (3 : Fin 4) t d)))
      ⊢ wp frame (wpE (defs₀ (F := Bits)) Variants.none c none) Set.univ (bodyAt0 a t) fun _ =>
          iprop((dats a m hT 0 c).Φ t.succ ∗ (dats a m hT 0 c).owesAt () t.succ
            ∗ owns (c : Thread nD τ) (ms0_0 a t) fullShare ((dats a m hT 0 c).after (0 : Fin 4) t)
            ∗ owns (c : Thread nD τ) (ms0_1 a t) fullShare ((dats a m hT 0 c).after (1 : Fin 4) t)
            ∗ owns (c : Thread nD τ) (ms0_2 a t) fullShare ((dats a m hT 0 c).after (2 : Fin 4) t)
            ∗ owns (c : Thread nD τ) (ms0_3 a t) fullShare ((dats a m hT 0 c).after (3 : Fin 4) t)) := by
  rewrite [show (dats a m hT 0 c).Φ t.succ = Phi a m c from rfl, show (dats a m hT 0 c).Φ t.castSucc = Phi a m c from rfl,
    show (dats a m hT 0 c).owesAt () t.succ = (dats a m hT 0 c).owesAt () t.castSucc from rfl, Phi_eq]
  unfold Dat.owesAt Pipeline.owesWithin
  rewrite [show (dats a m hT 0 c).owed t.castSucc = 0 from rfl]
  simp only [before0_0, before0_1, before0_2, after0_0, after0_1, after0_2, after0_3]
  iintro ⟨⟨⟨⟨%f, HS⟩, Hr, Hc, HY⟩, HT⟩, ⟨%W, %hW, HO⟩, ⟨%d0, H0⟩, ⟨%d1, H1⟩, ⟨%d2, H2⟩, ⟨%d3, H3⟩⟩
  iapply (body_run c (crd a t) (T0 a) hT (YS m c) (ms0_0 a t) (hs0_0 a t) (ms0_1 a t) (hs0_1 a t) (ms0_2 a t) (hs0_2 a t) (ms0_3 a t) (hs0_3 a t)
    (iblk a m c (0 : Fin 4) t) (iblk a m c (1 : Fin 4) t) (iblk a m c (2 : Fin 4) t) ((dats a m hT 0 c).before (3 : Fin 4) t d3) f W _)
  isplitl [H0]; · iapply rep_of_owns; iexact H0
  isplitl [H1]; · iapply rep_of_owns; iexact H1
  isplitl [H2]; · iapply rep_of_owns; iexact H2
  isplitl [H3]; · iapply rep_of_owns; iexact H3
  isplitl [HT]; · iexact HT
  isplitl [HY]; · iexact HY
  isplitl [HS]; · iexact HS
  isplitl [Hc]; · iexact Hc
  isplitl [HO]; · iexact HO
  iintro ⟨H0, H1, H2, H3, HT, HY, HS, Hc, ⟨%W', HO⟩⟩
  isplitl [HT HY HS Hc Hr]
  · isplitr [HT]; swap; · iexact HT
    isplitl [HS]; · iexists _; iexact HS
    isplitl [Hr]; · iexact Hr
    isplitl [Hc]; · iexact Hc
    iexact HY
  isplitl [HO]
  · iexists W'; isplitr; · ipureintro; exact fun _ _ => Or.inl trivial
    iexact HO
  isplitl [H0]; · iapply owns_of_rep; iexact H0
  isplitl [H1]; · iapply owns_of_rep; iexact H1
  isplitl [H2]; · iapply owns_of_rep; iexact H2
  iexact H3

theorem body_obligation (c : Dev nD) : BodyObligation (dats a m hT 0 c) (defs₀ (F := Bits)) Variants.none () Set.univ := fun t => by
  rw [bigSep_W0, bigSep_W0]
  exact sound_body a m hT c t

/-! ## The launch -/

/-- The table as the launch hands it to the body. -/
theorem prefHeld_eq (c : Dev nD) (q : Fin 1 → PosShare TreeShare) (v : pre0.Contents (Elt Bits)) :
    (Pipeline.prefHeld (Ix := Unit) (Name := ℕ) (U := UD sig nD τ) (Lvl := ℕ) pre0 c q v : sProp 𝕄)
      = (((c : Thread nD τ).loc main_arg0) ↦{q 0} v 0) := by
  unfold Pipeline.prefHeld
  rw [show (Finset.univ : Finset (Fin 1)) = {(0 : Fin 1)} from by decide, bigSep_singleton]
  rfl

theorem phi_intro (c : Dev nD) :
    iprop(Pipeline.ΦD osem0 spec0 H0 (VM m) c ∗ Pipeline.ΦT (Val := Elt Bits) (U := UD sig nD τ) pre0 a.1 c) ⊢ Phi a m c := by
  unfold Pipeline.ΦT Phi
  rw [prefHeld_eq]

theorem phi_exit (c : Dev nD) : Phi a m c ⊢ Pipeline.ΦD osem0 spec0 H0 (VM m) c := by
  unfold Phi
  iintro ⟨HD, -⟩
  iexact HD

/-- The host's reshape touches nothing the kernel's arguments hold. -/
theorem VM_arg0 (c : Dev nD) : VM m c main_arg0 = m ((c : Thread nD τ).loc main_arg0) := by
  unfold VM
  after_results
theorem VM_arg1 (c : Dev nD) : VM m c main_arg1 = m ((c : Thread nD τ).loc main_arg1) := by
  unfold VM
  after_results
theorem VM_arg2 (c : Dev nD) : VM m c main_arg2 = m ((c : Thread nD τ).loc main_arg2) := by
  unfold VM
  after_results
theorem VM_arg3 (c : Dev nD) : VM m c main_arg3 = m ((c : Thread nD τ).loc main_arg3) := by
  unfold VM
  after_results
theorem VM_arg4 (c : Dev nD) : VM m c main_arg4 = m ((c : Thread nD τ).loc main_arg4) := by
  unfold VM
  after_results

/-- What the program ends with: every array at what the pipeline computes, every other buffer as the region found it. -/
def QC : PUnit × MemSt nD τ sig (Elt Bits) → Prop := fun r =>
  ∀ c : Dev nD, (∀ w : Fin (cfgA a).W, r.2.mem (((cfgA a).win w).arr.view.loc (c : Thread nD τ)) = (dats a m hT 0 c).arrAt w (cfgA a).N)
    ∧ (r.2.mem ((c : Thread nD τ).loc main_arg0) = m ((c : Thread nD τ).loc main_arg0)
      ∧ r.2.mem ((c : Thread nD τ).loc main_arg3) = m ((c : Thread nD τ).loc main_arg3)
      ∧ r.2.mem ((c : Thread nD τ).loc main_arg4) = m ((c : Thread nD τ).loc main_arg4))

set_option backward.isDefEq.respectTransparency.types false in
set_option maxHeartbeats 4000000 in
/-- From any memory whose table is `a`, the program ends with the arrays at what the pipeline computes and all
    semaphores at zero. -/
theorem run_main (hp : ∀ (c : Dev nD), m ((c : Thread nD τ).loc main_arg0) = T0 a) :
    θ_run (defs (F := Bits)) (onTc (τ := τ) (main (F := Bits))) (s₀ m ρ) (fun r => QC a m hT r ∧ r.2.sem = fun _ => 0) :=
  Pipeline.θ_run_frameP_dma pcfgs (fun _ => a) (dats a m hT) (0 : Fin 1) launch0 osem0 defs₀ Variants.none ownSemFacts0 H0 H0_sub m ρ main
    (hbody := fun c => (body_obligation a m hT c).loose) (hshare := fun c => (dats a m hT 0 c).share_full fun _ => rfl) (howed := fun _ _ => rfl)
    (V := VM m)
    (hmain := Pipeline.hmainP_prefix pcfgs 0 defs₀ Variants.none m main hostOps0 hostOps0_sub rfl main_chain)
    (hA := fun _ _ => rfl) (hpf := fun c k => by
      match k with
      | ⟨0, _⟩ => exact (VM_arg0 m c).trans (hp c))
    (hin := fun c => phi_intro a m c) (hout := fun c => phi_exit a m c)
    (Q' := fun r => QC a m hT r ∧ r.2.sem = fun _ => 0)
    (hQ' := fun r h => ⟨fun c => ⟨(h.1 c).1, ((h.1 c).2 main_arg0 (show main_arg0 ∈ Pipeline.restRefs sig spec0 from by decide)).trans (VM_arg0 m c),
      ((h.1 c).2 main_arg3 (show main_arg3 ∈ Pipeline.restRefs sig spec0 from by decide)).trans (VM_arg3 m c),
      ((h.1 c).2 main_arg4 (show main_arg4 ∈ Pipeline.restRefs sig spec0 from by decide)).trans (VM_arg4 m c)⟩, h.2⟩)

include hT in
/-- The frame: every argument ends unchanged and every semaphore at zero. -/
theorem frame_of (hp : ∀ (c : Dev nD), m ((c : Thread nD τ).loc main_arg0) = T0 a) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2.1,
    (((h.1 c).1 (0 : Fin 4)).trans ((dats a m hT 0 c).arrAt_in (0 : Fin 4) rfl _)).trans (VM_arg1 m c),
    (((h.1 c).1 (1 : Fin 4)).trans ((dats a m hT 0 c).arrAt_in (1 : Fin 4) rfl _)).trans (VM_arg2 m c),
    (h.1 c).2.2.1, (h.1 c).2.2.2⟩, h.2⟩) (run_main a m ρ hT hp)

end Cert.Combine.Hand

end
-- ==== Proof.CombineBitsTab.lean ====
/-
  The combining call from any memory whose positions are in range: the table the pipeline reads, and the frame.
-/
module

public import proofs.«01_k».proof.Proof.CombineBitsRun
public import proofs.«01_k».proof.Proof.CombinePre

@[expose] public section

set_option maxRecDepth 16384

noncomputable section

namespace Cert.Combine.Hand

open Cert.Combine Cert.Combine.Gen
open Idealize.ShloMosaic Idealize.ShloMosaic.TcCoe
open Idealize.SL.Sem

variable (m : (ℓ : Loc nD τ sig) → Buf (Elt Bits) ℓ) (ρ : Dev nD → PrngReg)

/-- The position table a memory holds; no window reads it, so the pipeline admits any. -/
def admOf : (pcfg0 (F := Bits)).Adm := ⟨fun k => m (((0 : Dev nD) : Thread nD τ).loc (pre0.ref k)), trivial⟩

theorem admOf_eq (c : Dev nD) : m ((c : Thread nD τ).loc main_arg0) = T0 (admOf m) := by
  have hc : c = 0 := Subsingleton.elim _ _
  subst hc; rfl

/-- The frame from any memory with positions in range. -/
theorem frame (h : Good (m (((0 : Dev nD) : Thread nD τ).loc main_arg0))) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_of (admOf m) m ρ h (admOf_eq m)

end Cert.Combine.Hand

end
-- ==== Proof.CombineBits.lean ====
/-
  The combining call as printed, at positions in range: it runs to its end and leaves its arguments and the semaphores
  alone.
-/
module

public import proofs.«01_k».proof.Defs
public import proofs.«01_k».proof.Proof.CombineBitsTab

@[expose] public section

noncomputable section

namespace Cert.Proof

open Idealize.ShloMosaic Idealize.SL.Sem

/-- The printed combining call's frame. -/
theorem quiescent_Combine : quiescent_Combine := fun m ρ hp =>
  Cert.Combine.Hand.frame m ρ (Cert.CombinePre.good_of _ _ _ _ _ (hp 0))

end Cert.Proof

end
-- ==== Proof.lean ====
module

public import proofs.«01_k».proof.Defs
public import proofs.«01_k».proof.Proof.Gen.Tail.Frame
public import proofs.«01_k».proof.Proof.Gen.TailIdeal.Value
public import proofs.«01_k».proof.Proof.Gen.TailRefIdeal.Run
public import proofs.«01_k».proof.Proof.Tail
public import proofs.«01_k».proof.Proof.Gen.Ab.Frame
public import proofs.«01_k».proof.Proof.Gen.AbIdeal.Value
public import proofs.«01_k».proof.Proof.Gen.AbRefIdeal.Run
public import proofs.«01_k».proof.Proof.Ab
public import proofs.«01_k».proof.Proof.Gen.Small.Frame
public import proofs.«01_k».proof.Proof.Gen.SmallIdeal.Value
public import proofs.«01_k».proof.Proof.Gen.SmallRefIdeal.Run
public import proofs.«01_k».proof.Proof.Small
public import proofs.«01_k».proof.Proof.Gen.Dense.Frame
public import proofs.«01_k».proof.Proof.Gen.DenseIdeal.Value
public import proofs.«01_k».proof.Proof.Gen.DenseRefIdeal.Run
public import proofs.«01_k».proof.Proof.Dense
public import proofs.«01_k».proof.Proof.Gen.Merge.Frame
public import proofs.«01_k».proof.Proof.Gen.MergeIdeal.Value
public import proofs.«01_k».proof.Proof.Gen.MergeRefIdeal.Run
public import proofs.«01_k».proof.Proof.Merge
public import proofs.«01_k».proof.Proof.Gen.Out.Frame
public import proofs.«01_k».proof.Proof.Gen.OutIdeal.Value
public import proofs.«01_k».proof.Proof.Gen.OutRefIdeal.Run
public import proofs.«01_k».proof.Proof.Out
public import proofs.«01_k».proof.Proof.Gen.CrossO.Frame
public import proofs.«01_k».proof.Proof.Gen.CrossOIdeal.Value
public import proofs.«01_k».proof.Proof.Gen.CrossORefIdeal.Run
public import proofs.«01_k».proof.Proof.CrossO
public import proofs.«01_k».proof.Proof.Gen.CrossQ.Frame
public import proofs.«01_k».proof.Proof.Gen.CrossQIdeal.Value
public import proofs.«01_k».proof.Proof.Gen.CrossQRefIdeal.Run
public import proofs.«01_k».proof.Proof.CrossQ
public import proofs.«01_k».proof.Proof.Gen.CrossKv.Frame
public import proofs.«01_k».proof.Proof.Gen.CrossKvIdeal.Value
public import proofs.«01_k».proof.Proof.Gen.CrossKvRefIdeal.Run
public import proofs.«01_k».proof.Proof.CrossKv
public import proofs.«01_k».proof.Proof.Gen.Cross.Frame
public import proofs.«01_k».proof.Proof.Gen.CrossIdeal.Value
public import proofs.«01_k».proof.Proof.Gen.CrossRefIdeal.Run
public import proofs.«01_k».proof.Proof.Gen.Pre_queries_and_keys_finite
public import proofs.«01_k».proof.Proof.Cross
public import proofs.«01_k».proof.Proof.Gen.Norm.Frame
public import proofs.«01_k».proof.Proof.Gen.NormIdeal.Value
public import proofs.«01_k».proof.Proof.Gen.NormRefIdeal.Run
public import proofs.«01_k».proof.Proof.Norm
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal.Run
public import proofs.«01_k».proof.Proof.Gen.Pre_tables_in_range
public import proofs.«01_k».proof.Proof.Gen.On_rows_in_use
public import proofs.«01_k».proof.Proof.Moe
public import proofs.«01_k».proof.Proof.MoeBits
public import proofs.«01_k».proof.Proof.Gen.Combine
public import proofs.«01_k».proof.Proof.Gen.Combine.Skeleton
public import proofs.«01_k».proof.Proof.Gen.Combine.Launch
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineRefIdeal.Run
public import proofs.«01_k».proof.Proof.Gen.Pre_positions_in_range
public import proofs.«01_k».proof.Proof.Combine
public import proofs.«01_k».proof.Proof.CombineBits
public import Idealize.ShloMosaic.Adequacy
public import Idealize.ShloMosaic.Init
public import Idealize.ShloMosaic.Lib.Quiescent

@[expose] public section

noncomputable section

namespace Cert.Proof

open Idealize.ShloMosaic Idealize.SL.Sem

/-- Every claim of the statement. Each call, printed and idealized, runs to its end and leaves all other memory as it was; so
    does each idealized reference; and each idealized call ends with the values of its idealized reference (the expert call on
    the rows its table says are in use, from tables in range, the combining call from positions in range, the cross-attention from finite queries and keys). -/
theorem claim : Cert.Claim :=
  ⟨Cert.Tail.Gen.facts, Cert.TailIdeal.Gen.facts, Cert.TailRefIdeal.Gen.facts,
   Cert.Ab.Gen.facts, Cert.AbIdeal.Gen.facts, Cert.AbRefIdeal.Gen.facts,
   Cert.Small.Gen.facts, Cert.SmallIdeal.Gen.facts, Cert.SmallRefIdeal.Gen.facts,
   Cert.Dense.Gen.facts, Cert.DenseIdeal.Gen.facts, Cert.DenseRefIdeal.Gen.facts,
   Cert.Merge.Gen.facts, Cert.MergeIdeal.Gen.facts, Cert.MergeRefIdeal.Gen.facts,
   Cert.Out.Gen.facts, Cert.OutIdeal.Gen.facts, Cert.OutRefIdeal.Gen.facts,
   Cert.CrossO.Gen.facts, Cert.CrossOIdeal.Gen.facts, Cert.CrossORefIdeal.Gen.facts,
   Cert.CrossQ.Gen.facts, Cert.CrossQIdeal.Gen.facts, Cert.CrossQRefIdeal.Gen.facts,
   Cert.CrossKv.Gen.facts, Cert.CrossKvIdeal.Gen.facts, Cert.CrossKvRefIdeal.Gen.facts,
   Cert.Cross.Gen.facts, Cert.CrossIdeal.Gen.facts, Cert.CrossRefIdeal.Gen.facts,
   Cert.Norm.Gen.facts, Cert.NormIdeal.Gen.facts, Cert.NormRefIdeal.Gen.facts,
   Cert.Moe.Gen.facts, Cert.MoeIdeal.Gen.facts, Cert.MoeRefIdeal.Gen.facts,
   Cert.Combine.Gen.facts, Cert.CombineIdeal.Gen.facts, Cert.CombineRefIdeal.Gen.facts,
   Cert.Pre_queries_and_keys_finite.Gen.facts, Cert.Pre_tables_in_range.Gen.facts, Cert.Pre_positions_in_range.Gen.facts,
   Cert.On_rows_in_use.Gen.facts,
   fun m ρ _ => Cert.Tail.Gen.frame m ρ, fun m ρ _ => Cert.TailIdeal.Gen.frame m ρ, quiescent_TailRefIdeal,
   fun m ρ _ => Cert.Ab.Gen.frame m ρ, fun m ρ _ => Cert.AbIdeal.Gen.frame m ρ, quiescent_AbRefIdeal,
   fun m ρ _ => Cert.Small.Gen.frame m ρ, fun m ρ _ => Cert.SmallIdeal.Gen.frame m ρ, quiescent_SmallRefIdeal,
   fun m ρ _ => Cert.Dense.Gen.frame m ρ, fun m ρ _ => Cert.DenseIdeal.Gen.frame m ρ, quiescent_DenseRefIdeal,
   fun m ρ _ => Cert.Merge.Gen.frame m ρ, fun m ρ _ => Cert.MergeIdeal.Gen.frame m ρ, quiescent_MergeRefIdeal,
   fun m ρ _ => Cert.Out.Gen.frame m ρ, fun m ρ _ => Cert.OutIdeal.Gen.frame m ρ, quiescent_OutRefIdeal,
   fun m ρ _ => Cert.CrossO.Gen.frame m ρ, fun m ρ _ => Cert.CrossOIdeal.Gen.frame m ρ, quiescent_CrossORefIdeal,
   fun m ρ _ => Cert.CrossQ.Gen.frame m ρ, fun m ρ _ => Cert.CrossQIdeal.Gen.frame m ρ, quiescent_CrossQRefIdeal,
   fun m ρ _ => Cert.CrossKv.Gen.frame m ρ, fun m ρ _ => Cert.CrossKvIdeal.Gen.frame m ρ, quiescent_CrossKvRefIdeal,
   fun m ρ _ => Cert.Cross.Gen.frame m ρ, fun m ρ _ => Cert.CrossIdeal.Gen.frame m ρ, fun m ρ _ => Cert.CrossIdeal.Gen.frame m ρ, quiescent_CrossRefIdeal, fun m ρ _ => quiescent_CrossRefIdeal m ρ trivial,
   fun m ρ _ => Cert.Norm.Gen.frame m ρ, fun m ρ _ => Cert.NormIdeal.Gen.frame m ρ, quiescent_NormRefIdeal,
   quiescent_Moe, quiescent_MoeIdeal, quiescent_MoeRefIdeal,
   quiescent_Combine, quiescent_CombineIdeal, quiescent_CombineRefIdeal,
   (trivial : preserves_Tail_TailIdeal), algebraic_TailIdeal_TailRefIdeal,
   (trivial : preserves_Ab_AbIdeal), algebraic_AbIdeal_AbRefIdeal,
   (trivial : preserves_Small_SmallIdeal), algebraic_SmallIdeal_SmallRefIdeal,
   (trivial : preserves_Dense_DenseIdeal), algebraic_DenseIdeal_DenseRefIdeal,
   (trivial : preserves_Merge_MergeIdeal), algebraic_MergeIdeal_MergeRefIdeal,
   (trivial : preserves_Out_OutIdeal), algebraic_OutIdeal_OutRefIdeal,
   (trivial : preserves_CrossO_CrossOIdeal), algebraic_CrossOIdeal_CrossORefIdeal,
   (trivial : preserves_CrossQ_CrossQIdeal), algebraic_CrossQIdeal_CrossQRefIdeal,
   (trivial : preserves_CrossKv_CrossKvIdeal), algebraic_CrossKvIdeal_CrossKvRefIdeal,
   (trivial : preserves_Cross_CrossIdeal), algebraic_CrossIdeal_CrossRefIdeal,
   (trivial : preserves_Norm_NormIdeal), algebraic_NormIdeal_NormRefIdeal,
   (trivial : preserves_Moe_MoeIdeal), algebraic_MoeIdeal_MoeRefIdeal_on_rows_in_use,
   (trivial : preserves_Combine_CombineIdeal), algebraic_CombineIdeal_CombineRefIdeal⟩

end Cert.Proof
